-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_bounded [hPre_bounded : Cert.Pre_bounded.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_bounded.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_bounded.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 = (fun _ => 1#1)
    ∧ (Cert.Pre_bounded.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_bounded [hPre_bounded : Cert.Pre_bounded.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_bounded.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_bounded.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.1 = (fun _ => 1#1)
    ∧ (Cert.Pre_bounded.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_bounded [hKernel6Ideal : Cert.Kernel6Ideal.Facts] [hPre_bounded : Cert.Pre_bounded.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_bounded m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_bounded [hReference6Ideal : Cert.Reference6Ideal.Facts] [hPre_bounded : Cert.Pre_bounded.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_bounded m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)) (v4 : (c : Dev Cert.KernelIdeal.nD) → Buf (Elt Ideal) ((c.tc : Thread Cert.KernelIdeal.nD Cert.KernelIdeal.τ).loc Cert.KernelIdeal.main_v23_4)) (v5 : (c : Dev Cert.KernelIdeal.nD) → Buf (Elt Ideal) ((c.tc : Thread Cert.KernelIdeal.nD Cert.KernelIdeal.τ).loc Cert.KernelIdeal.main_v23_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_v23_4) = v4 c
          ∧ r.2.mem ((c.tc : Thread Cert.KernelIdeal.nD Cert.KernelIdeal.τ).loc Cert.KernelIdeal.main_v23_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_v87) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v35)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v35) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_v37) = v2 c
          ∧ r.2.mem ((c.tc : Thread Cert.Reference3Ideal.nD Cert.Reference3Ideal.τ).loc Cert.Reference3Ideal.main_v40) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)) (v2 : (c : Dev Cert.Kernel4Ideal.nD) → Buf (Elt Ideal) ((c.tc : Thread Cert.Kernel4Ideal.nD Cert.Kernel4Ideal.τ).loc Cert.Kernel4Ideal.main_v21_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_v21_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_v42) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_v16) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_bounded [hKernel6Ideal : Cert.Kernel6Ideal.Facts] [hReference6Ideal : Cert.Reference6Ideal.Facts] [hPre_bounded : Cert.Pre_bounded.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_bounded m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v30_0)) (v1 : (c : Dev Cert.Kernel6Ideal.nD) → Buf (Elt Ideal) ((c.tc : Thread Cert.Kernel6Ideal.nD Cert.Kernel6Ideal.τ).loc Cert.Kernel6Ideal.main_v30_1)) (v2 : (c : Dev Cert.Kernel6Ideal.nD) → Buf (Elt Ideal) ((c.tc : Thread Cert.Kernel6Ideal.nD Cert.Kernel6Ideal.τ).loc Cert.Kernel6Ideal.main_v30_2)) (v3 : (c : Dev Cert.Kernel6Ideal.nD) → Buf (Elt Ideal) ((c.tc : Thread Cert.Kernel6Ideal.nD Cert.Kernel6Ideal.τ).loc Cert.Kernel6Ideal.main_v30_3)) (v4 : (c : Dev Cert.Kernel6Ideal.nD) → Buf (Elt Ideal) ((c.tc : Thread Cert.Kernel6Ideal.nD Cert.Kernel6Ideal.τ).loc Cert.Kernel6Ideal.main_v30_4)) (v5 : (c : Dev Cert.Kernel6Ideal.nD) → Buf (Elt Ideal) ((c.tc : Thread Cert.Kernel6Ideal.nD Cert.Kernel6Ideal.τ).loc Cert.Kernel6Ideal.main_v30_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v30_0) = v0 c
          ∧ r.2.mem ((c.tc : Thread Cert.Kernel6Ideal.nD Cert.Kernel6Ideal.τ).loc Cert.Kernel6Ideal.main_v30_1) = v1 c
          ∧ r.2.mem ((c.tc : Thread Cert.Kernel6Ideal.nD Cert.Kernel6Ideal.τ).loc Cert.Kernel6Ideal.main_v30_2) = v2 c
          ∧ r.2.mem ((c.tc : Thread Cert.Kernel6Ideal.nD Cert.Kernel6Ideal.τ).loc Cert.Kernel6Ideal.main_v30_3) = v3 c
          ∧ r.2.mem ((c.tc : Thread Cert.Kernel6Ideal.nD Cert.Kernel6Ideal.τ).loc Cert.Kernel6Ideal.main_v30_4) = v4 c
          ∧ r.2.mem ((c.tc : Thread Cert.Kernel6Ideal.nD Cert.Kernel6Ideal.τ).loc Cert.Kernel6Ideal.main_v30_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v70) = v0 c
          ∧ r.2.mem ((c.tc : Thread Cert.Reference6Ideal.nD Cert.Reference6Ideal.τ).loc Cert.Reference6Ideal.main_v74) = v1 c
          ∧ r.2.mem ((c.tc : Thread Cert.Reference6Ideal.nD Cert.Reference6Ideal.τ).loc Cert.Reference6Ideal.main_v76) = v2 c
          ∧ r.2.mem ((c.tc : Thread Cert.Reference6Ideal.nD Cert.Reference6Ideal.τ).loc Cert.Reference6Ideal.main_v33) = v3 c
          ∧ r.2.mem ((c.tc : Thread Cert.Reference6Ideal.nD Cert.Reference6Ideal.τ).loc Cert.Reference6Ideal.main_v77) = v4 c
          ∧ r.2.mem ((c.tc : Thread Cert.Reference6Ideal.nD Cert.Reference6Ideal.τ).loc Cert.Reference6Ideal.main_v78) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_v36) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v14_0)) (v1 : (c : Dev Cert.Kernel8Ideal.nD) → Buf (Elt Ideal) ((c.tc : Thread Cert.Kernel8Ideal.nD Cert.Kernel8Ideal.τ).loc Cert.Kernel8Ideal.main_v14_1)) (v2 : (c : Dev Cert.Kernel8Ideal.nD) → Buf (Elt Ideal) ((c.tc : Thread Cert.Kernel8Ideal.nD Cert.Kernel8Ideal.τ).loc Cert.Kernel8Ideal.main_v14_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14_0) = v0 c
          ∧ r.2.mem ((c.tc : Thread Cert.Kernel8Ideal.nD Cert.Kernel8Ideal.τ).loc Cert.Kernel8Ideal.main_v14_1) = v1 c
          ∧ r.2.mem ((c.tc : Thread Cert.Kernel8Ideal.nD Cert.Kernel8Ideal.τ).loc Cert.Kernel8Ideal.main_v14_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v51) = v0 c
          ∧ r.2.mem ((c.tc : Thread Cert.Reference8Ideal.nD Cert.Reference8Ideal.τ).loc Cert.Reference8Ideal.main_v50) = v1 c
          ∧ r.2.mem ((c.tc : Thread Cert.Reference8Ideal.nD Cert.Reference8Ideal.τ).loc Cert.Reference8Ideal.main_v52) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_bounded : Cert.Pre_bounded.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_bounded (hKernel6Ideal := hKernel6Ideal) (hPre_bounded := hPre_bounded)
    ∧ quiescent_Reference6Ideal (hReference6Ideal := hReference6Ideal)
    ∧ quiescent_Reference6Ideal_pre_bounded (hReference6Ideal := hReference6Ideal) (hPre_bounded := hPre_bounded)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_bounded (hKernel6Ideal := hKernel6Ideal) (hReference6Ideal := hReference6Ideal) (hPre_bounded := hPre_bounded)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_bounded.lean ====
abbrev S8192x384 : Shape := ⟨2, ![8192, 384]⟩
abbrev S8192x640 : Shape := ⟨2, ![8192, 640]⟩
abbrev S384 : Shape := ⟨1, ![384]⟩
abbrev S1024x1024 : Shape := ⟨2, ![1024, 1024]⟩
abbrev S8192x1024 : Shape := ⟨2, ![8192, 1024]⟩
abbrev S_ : Shape := ⟨0, ![]⟩
abbrev S384x1024 : Shape := ⟨2, ![384, 1024]⟩

class Facts : Prop where
  bcast_S_S384 : S_.BroadcastsInDim S384 (![] : Fin 0 → Fin S384.rank)
  slices_S1024x1024_S384x1024_0_0 : S1024x1024.Slices ![0, 0] S384x1024
  bcast_S_S384x1024 : S_.BroadcastsInDim S384x1024 (![] : Fin 0 → Fin S384x1024.rank)
  bcast_S_S8192x1024 : S_.BroadcastsInDim S8192x1024 (![] : Fin 0 → Fin S8192x1024.rank)

variable [Facts]

def fn {F : FTy → Type} [FloatOps F] (main_arg0 : FVec F S8192x384 .f32) (main_arg1 : FVec F S8192x640 .f32) (main_arg2 : FVec F S384 .f32) (main_arg3 : FVec F S384 .f32) (main_arg4 : FVec F S1024x1024 .f32) (main_arg5 : FVec F S8192x1024 .f32) : IVec S384 1 × IVec S384x1024 1 × IVec S8192x1024 1 :=
  let main_v0 : FVec F S384 .f32 := Host.absf main_arg2
  let main_cst : FVec F S_ .f32 := constant S_ .f32 0x7F800000#32
  let main_v1 : FVec F S384 .f32 := broadcastInDim S384 ![] bcast_S_S384 main_cst
  let main_v2 : IVec S384 1 := cmpf .olt main_v0 main_v1
  let main_v3 : FVec F S384x1024 .f32 := (extractStridedSlice S384x1024 ![0, 0] · slices_S1024x1024_S384x1024_0_0) main_arg4
  let main_v4 : FVec F S384x1024 .f32 := Host.absf main_v3
  let main_cst_0 : FVec F S_ .f32 := constant S_ .f32 0x7F800000#32
  let main_v5 : FVec F S384x1024 .f32 := broadcastInDim S384x1024 ![] bcast_S_S384x1024 main_cst_0
  let main_v6 : IVec S384x1024 1 := cmpf .olt main_v4 main_v5
  let main_v7 : FVec F S8192x1024 .f32 := Host.absf main_arg5
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  (main_v2, main_v6, main_v9)
-- ==== Pre_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S1024 1 × IVec S1024x2816 1 × IVec S2816x1024 1 × IVec S8192x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2816 .f32 := Host.absf main_arg3
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg4
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S8192x1024 .f32 := Host.absf main_arg5
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Kernel.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S512x1024 : Shape := ⟨2, ![512, 1024]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩
abbrev S512x256 : Shape := ⟨2, ![512, 256]⟩
abbrev S256x1024 : Shape := ⟨2, ![256, 1024]⟩
abbrev S512x128 : Shape := ⟨2, ![512, 128]⟩
abbrev S128x1024 : Shape := ⟨2, ![128, 1024]⟩

abbrev nBuf : Space → Nat
  | .hbm => 38
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .bf16⟩
  | .hbm, ⟨24, _⟩ => ⟨S8192x2816, .f32⟩
  | .hbm, ⟨25, _⟩ => ⟨S8192x2816, .bf16⟩
  | .hbm, ⟨26, _⟩ => ⟨S2816x1024, .f32⟩
  | .hbm, ⟨27, _⟩ => ⟨S2816x1024, .bf16⟩
  | .hbm, ⟨28, _⟩ => ⟨S2816x1024, .f32⟩
  | .hbm, ⟨29, _⟩ => ⟨S2816x1024, .bf16⟩
  | .hbm, ⟨30, _⟩ => ⟨S2816x1024, .bf16⟩
  | .hbm, ⟨31, _⟩ => ⟨S1x1024, .f32⟩
  | .hbm, ⟨32, _⟩ => ⟨S8192x1024, .f32⟩
  | .hbm, ⟨33, _⟩ => ⟨S1x1024, .f32⟩
  | .hbm, ⟨34, _⟩ => ⟨S8192x2816, .bf16⟩
  | .hbm, ⟨35, _⟩ => ⟨S8192x2816, .bf16⟩
  | .hbm, ⟨36, _⟩ => ⟨S8192x1024, .bf16⟩
  | .hbm, ⟨37, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S1408x1024, .bf16⟩
  | .local _ .vmem, ⟨10, _⟩ => ⟨S1408x1024, .bf16⟩
  | .local _ .vmem, ⟨11, _⟩ => ⟨S1408x1024, .bf16⟩
  | .local _ .vmem, ⟨12, _⟩ => ⟨S1408x1024, .bf16⟩
  | .local _ .vmem, ⟨13, _⟩ => ⟨S1408x1024, .bf16⟩
  | .local _ .vmem, ⟨14, _⟩ => ⟨S1408x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v201 : BitVec 1 := Scalar.cmpi .eq arg1 c1_i32
  let v202 : BitVec 32 := Scalar.extui v201
  let c0_i32_106 : BitVec 32 := 0#32
  let v203 : BitVec 1 := Scalar.cmpi .ne v202 c0_i32_106
  v203

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_124 : BitVec 32 := 0#32
  let v230 : BitVec 1 := Scalar.cmpi .eq arg0 c0_i32_124
  let v231 : BitVec 32 := Scalar.extui v230
  let c0_i32_125 : BitVec 32 := 0#32
  let v232 : BitVec 1 := Scalar.cmpi .ne v231 c0_i32_125
  v232

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 141
  | .vmem => 0
  | .smem => 0
  | _ => 0

abbrev hbmTy0_0 (i : Nat) : BufTy := match i % 128 with
  | 0 => ⟨S8192x1024, .f32⟩
  | 1 => ⟨S1024, .f32⟩
  | 2 => ⟨S1024x2816, .f32⟩
  | 3 => ⟨S1024x2816, .f32⟩
  | 4 => ⟨S2816x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1024, .f32⟩
  | 18 => ⟨S8192x1024, .f32⟩
  | 19 => ⟨S1x1024, .f32⟩
  | 20 => ⟨S8192x1024, .f32⟩
  | 21 => ⟨S8192x1024, .f32⟩
  | 22 => ⟨S8192x1024, .f32⟩
  | 23 => ⟨S_, .f32⟩
  | 24 => ⟨S8192, .f32⟩
  | 25 => ⟨S8192x1, .f32⟩
  | 26 => ⟨S_, .f32⟩
  | 27 => ⟨S8192x1, .f32⟩
  | 28 => ⟨S8192x1, .f32⟩
  | 29 => ⟨S_, .f32⟩
  | 30 => ⟨S8192x1, .f32⟩
  | 31 => ⟨S8192x1, .f32⟩
  | 32 => ⟨S8192x1, .f32⟩
  | 33 => ⟨S8192x1, .f32⟩
  | 34 => ⟨S_, .f32⟩
  | 35 => ⟨S8192x1, .f32⟩
  | 36 => ⟨S8192x1, .f32⟩
  | 37 => ⟨S8192x1024, .f32⟩
  | 38 => ⟨S8192x1024, .f32⟩
  | 39 => ⟨S1x1024, .f32⟩
  | 40 => ⟨S8192x1024, .f32⟩
  | 41 => ⟨S8192x1024, .f32⟩
  | 42 => ⟨S8192x2816, .f32⟩
  | 43 => ⟨S8192x2816, .f32⟩
  | 44 => ⟨S8192x2816, .f32⟩
  | 45 => ⟨S_, .f32⟩
  | 46 => ⟨S8192x2816, .f32⟩
  | 47 => ⟨S8192x2816, .f32⟩
  | 48 => ⟨S_, .f32⟩
  | 49 => ⟨S8192x2816, .f32⟩
  | 50 => ⟨S8192x2816, .f32⟩
  | 51 => ⟨S_, .f32⟩
  | 52 => ⟨S8192x2816, .f32⟩
  | 53 => ⟨S8192x2816, .f32⟩
  | 54 => ⟨S8192x2816, .f32⟩
  | 55 => ⟨S8192x2816, .f32⟩
  | 56 => ⟨S8192x2816, .f32⟩
  | 57 => ⟨S8192x2816, .f32⟩
  | 58 => ⟨S8192x1024, .f32⟩
  | 59 => ⟨S_, .f32⟩
  | 60 => ⟨S8192x1024, .f32⟩
  | 61 => ⟨S8192x1024, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S8192x2816, .f32⟩
  | 68 => ⟨S8192x2816, .f32⟩
  | 69 => ⟨S8192x2816, .f32⟩
  | 70 => ⟨S8192x1024, .f32⟩
  | 71 => ⟨S8192x2816, .f32⟩
  | 72 => ⟨S8192x2816, .f32⟩
  | 73 => ⟨S8192x2816, .f32⟩
  | 74 => ⟨S8192x2816, .f32⟩
  | 75 => ⟨S8192x1024, .f32⟩
  | 76 => ⟨S8192x1024, .f32⟩
  | 77 => ⟨S8192x1024, .f32⟩
  | 78 => ⟨S_, .f32⟩
  | 79 => ⟨S1024, .f32⟩
  | 80 => ⟨S1x1024, .f32⟩
  | 81 => ⟨S8192x1024, .f32⟩
  | 82 => ⟨S8192x1024, .f32⟩
  | 83 => ⟨S_, .f32⟩
  | 84 => ⟨S1024, .f32⟩
  | 85 => ⟨S8192x1024, .f32⟩
  | 86 => ⟨S_, .f32⟩
  | 87 => ⟨S8192, .f32⟩
  | 88 => ⟨S8192x1, .f32⟩
  | 89 => ⟨S8192x1024, .f32⟩
  | 90 => ⟨S8192x1024, .f32⟩
  | 91 => ⟨S8192x1024, .f32⟩
  | 92 => ⟨S8192x1, .f32⟩
  | 93 => ⟨S_, .f32⟩
  | 94 => ⟨S8192x1, .f32⟩
  | 95 => ⟨S8192x1, .f32⟩
  | 96 => ⟨S_, .f32⟩
  | 97 => ⟨S8192, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x2816, .f32⟩
  | 104 => ⟨S8192x2816, .f32⟩
  | 105 => ⟨S8192x2816, .f32⟩
  | 106 => ⟨S8192x2816, .f32⟩
  | 107 => ⟨S_, .f32⟩
  | 108 => ⟨S8192x2816, .f32⟩
  | 109 => ⟨S8192x2816, .f32⟩
  | 110 => ⟨S_, .f32⟩
  | 111 => ⟨S8192x2816, .f32⟩
  | 112 => ⟨S8192x2816, .f32⟩
  | 113 => ⟨S_, .f32⟩
  | 114 => ⟨S8192x2816, .f32⟩
  | 115 => ⟨S8192x2816, .f32⟩
  | 116 => ⟨S8192x2816, .f32⟩
  | 117 => ⟨S8192x2816, .f32⟩
  | 118 => ⟨S8192x2816, .f32⟩
  | 119 => ⟨S8192x1024, .f32⟩
  | 120 => ⟨S_, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x2816, .f32⟩
  | 1 => ⟨S8192x2816, .f32⟩
  | 2 => ⟨S8192x2816, .f32⟩
  | 3 => ⟨S8192x2816, .f32⟩
  | 4 => ⟨S8192x2816, .f32⟩
  | 5 => ⟨S1x1024, .f32⟩
  | 6 => ⟨S8192x2816, .bf16⟩
  | 7 => ⟨S8192x2816, .bf16⟩
  | 8 => ⟨S8192x1024, .bf16⟩
  | 9 => ⟨S_, .f32⟩
  | 10 => ⟨S8192x1024, .f32⟩
  | 11 => ⟨S8192x1024, .f32⟩
  | 12 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v30_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v30_1 : Ref sig .tc := ⟨.hbm, 54, rfl⟩
abbrev main_v30_0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v70_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v70_1 : Ref sig .tc := ⟨.hbm, 116, rfl⟩
abbrev main_v70_0 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_15 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S3x2816x1024 : Shape := ⟨3, ![3, 2816, 1024]⟩
abbrev S2048x256 : Shape := ⟨2, ![2048, 256]⟩
abbrev S2048x1024 : Shape := ⟨2, ![2048, 1024]⟩
abbrev S3x256x1024 : Shape := ⟨3, ![3, 256, 1024]⟩
abbrev S2048x512 : Shape := ⟨2, ![2048, 512]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 71
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .bf16⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .bf16⟩
  | .hbm, ⟨64, _⟩ => ⟨S8192x2816, .bf16⟩
  | .hbm, ⟨65, _⟩ => ⟨S8192x1024, .bf16⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S8192x1024, .bf16⟩
  | .hbm, ⟨70, _⟩ => ⟨S3x2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S3x256x1024, .bf16⟩
  | .local _ .vmem, ⟨11, _⟩ => ⟨S3x256x1024, .bf16⟩
  | .local _ .vmem, ⟨12, _⟩ => ⟨S3x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_v18_2 : Ref sig .tc := ⟨.hbm, 42, rfl⟩
abbrev main_call1_cst_1 : Ref sig .tc := ⟨.hbm, 43, rfl⟩
abbrev main_call1_v6 : Ref sig .tc := ⟨.hbm, 44, rfl⟩
abbrev main_call1_v7 : Ref sig .tc := ⟨.hbm, 45, rfl⟩
abbrev main_v18_1 : Ref sig .tc := ⟨.hbm, 46, rfl⟩
abbrev main_v18_0 : Ref sig .tc := ⟨.hbm, 47, rfl⟩
abbrev main_v19 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_cst_3 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_4 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 4], ![false, false]⟩

def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_27 : BitVec 32 := 0#32
  let v38 : BitVec 1 := Scalar.cmpi .ne v37 c0_i32_27
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1x2816x1024 : Shape := ⟨3, ![1, 2816, 1024]⟩
abbrev S3x2816x1024 : Shape := ⟨3, ![3, 2816, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S1024x2816, .f32⟩
  | .hbm, ⟨47, _⟩ => ⟨S2816x1024, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S2816x1024, .f32⟩
  | .hbm, ⟨52, _⟩ => ⟨S1024x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S2816x1024, .f32⟩
  | .hbm, ⟨58, _⟩ => ⟨S1024x2816, .f32⟩
  | .hbm, ⟨59, _⟩ => ⟨S2816x1024, .f32⟩
  | .hbm, ⟨60, _⟩ => ⟨S2816x1024, .f32⟩
  | .hbm, ⟨61, _⟩ => ⟨S1x2816x1024, .f32⟩
  | .hbm, ⟨62, _⟩ => ⟨S1x2816x1024, .f32⟩
  | .hbm, ⟨63, _⟩ => ⟨S1x2816x1024, .f32⟩
  | .hbm, ⟨64, _⟩ => ⟨S3x2816x1024, .f32⟩
  | .hbm, ⟨65, _⟩ => ⟨S3x2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S128x1024 : Shape := ⟨2, ![128, 1024]⟩
abbrev S512x128 : Shape := ⟨2, ![512, 128]⟩

abbrev nBuf : Space → Nat
  | .hbm => 15
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S1x1024, .f32⟩
  | .hbm, ⟨11, _⟩ => ⟨S8192x1024, .f32⟩
  | .hbm, ⟨12, _⟩ => ⟨S8192x2816, .bf16⟩
  | .hbm, ⟨13, _⟩ => ⟨S8192x2816, .bf16⟩
  | .hbm, ⟨14, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1024, .bf16⟩
  | .local _ .vmem, ⟨18, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v140 : BitVec 1 := Scalar.cmpi .eq arg1 c1_i32
  let v141 : BitVec 32 := Scalar.extui v140
  let c0_i32_95 : BitVec 32 := 0#32
  let v142 : BitVec 1 := Scalar.cmpi .ne v141 c0_i32_95
  v142

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x2816, .bf16⟩
  | .hbm, ⟨57, _⟩ => ⟨S8192x2816, .bf16⟩
  | .hbm, ⟨58, _⟩ => ⟨S8192x2816, .f32⟩
  | .hbm, ⟨59, _⟩ => ⟨S8192x2816, .f32⟩
  | .hbm, ⟨60, _⟩ => ⟨S_, .f32⟩
  | .hbm, ⟨61, _⟩ => ⟨S8192x2816, .f32⟩
  | .hbm, ⟨62, _⟩ => ⟨S8192x2816, .f32⟩
  | .hbm, ⟨63, _⟩ => ⟨S_, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x1664 : Shape := ⟨2, ![1024, 1664]⟩
abbrev S8192x1664 : Shape := ⟨2, ![8192, 1664]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x768 : Shape := ⟨2, ![8192, 768]⟩
abbrev S8192x896 : Shape := ⟨2, ![8192, 896]⟩
abbrev S1664x1024 : Shape := ⟨2, ![1664, 1024]⟩
abbrev S512x768 : Shape := ⟨2, ![512, 768]⟩
abbrev S512x896 : Shape := ⟨2, ![512, 896]⟩
abbrev S512x1024 : Shape := ⟨2, ![512, 1024]⟩
abbrev S768x1024 : Shape := ⟨2, ![768, 1024]⟩
abbrev S896x1024 : Shape := ⟨2, ![896, 1024]⟩
abbrev S512 : Shape := ⟨1, ![512]⟩
abbrev S512x1 : Shape := ⟨2, ![512, 1]⟩

abbrev nBuf : Space → Nat
  | .hbm => 32
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1664, .f32⟩
  | .hbm, ⟨3, _⟩ => ⟨S8192x1664, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x768, .f32⟩
  | .hbm, ⟨23, _⟩ => ⟨S8192x768, .bf16⟩
  | .hbm, ⟨24, _⟩ => ⟨S8192x896, .f32⟩
  | .hbm, ⟨25, _⟩ => ⟨S8192x896, .bf16⟩
  | .hbm, ⟨26, _⟩ => ⟨S1x1024, .f32⟩
  | .hbm, ⟨27, _⟩ => ⟨S1664x1024, .f32⟩
  | .hbm, ⟨28, _⟩ => ⟨S1664x1024, .bf16⟩
  | .hbm, ⟨29, _⟩ => ⟨S8192x1024, .f32⟩
  | .hbm, ⟨30, _⟩ => ⟨S1x1024, .f32⟩
  | .hbm, ⟨31, _⟩ => ⟨S1664x1024, .f32⟩
  | .local _ .vmem, ⟨0, _⟩ => ⟨S512x768, .bf16⟩
  | .local _ .vmem, ⟨1, _⟩ => ⟨S512x768, .bf16⟩
  | .local _ .vmem, ⟨2, _⟩ => ⟨S512x896, .bf16⟩
  | .local _ .vmem, ⟨3, _⟩ => ⟨S512x896, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S1664x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1664x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1664x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1664x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S8192x1024 : Shape := ⟨2, ![8192, 1024]⟩
abbrev S1024 : Shape := ⟨1, ![1024]⟩
abbrev S1024x1664 : Shape := ⟨2, ![1024, 1664]⟩
abbrev S8192x1664 : Shape := ⟨2, ![8192, 1664]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1664x1024 : Shape := ⟨2, ![1664, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1664, .f32⟩
  | .hbm, ⟨3, _⟩ => ⟨S8192x1664, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1664, .f32⟩
  | .hbm, ⟨26, _⟩ => ⟨S1664x1024, .f32⟩
  | .hbm, ⟨27, _⟩ => ⟨S1024x1664, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S1664x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x1664 : Shape := ⟨2, ![1024, 1664]⟩
abbrev S1x1024 : Shape := ⟨2, ![1, 1024]⟩
abbrev S1664x1024 : Shape := ⟨2, ![1664, 1024]⟩
abbrev S8192x768 : Shape := ⟨2, ![8192, 768]⟩
abbrev S8192x896 : Shape := ⟨2, ![8192, 896]⟩
abbrev S512x1024 : Shape := ⟨2, ![512, 1024]⟩
abbrev S512x768 : Shape := ⟨2, ![512, 768]⟩
abbrev S512x896 : Shape := ⟨2, ![512, 896]⟩
abbrev S512 : Shape := ⟨1, ![512]⟩
abbrev S512x1 : Shape := ⟨2, ![512, 1]⟩
abbrev S768x1024 : Shape := ⟨2, ![768, 1024]⟩
abbrev S896x1024 : Shape := ⟨2, ![896, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1664, .f32⟩
  | .hbm, ⟨3, _⟩ => ⟨S1x1024, .f32⟩
  | .hbm, ⟨4, _⟩ => ⟨S1664x1024, .f32⟩
  | .hbm, ⟨5, _⟩ => ⟨S1664x1024, .bf16⟩
  | .hbm, ⟨6, _⟩ => ⟨S8192x768, .f32⟩
  | .hbm, ⟨7, _⟩ => ⟨S8192x896, .f32⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1664x1024, .bf16⟩
  | .local _ .vmem, ⟨4, _⟩ => ⟨S512x768, .f32⟩
  | .local _ .vmem, ⟨5, _⟩ => ⟨S512x768, .f32⟩
  | .local _ .vmem, ⟨6, _⟩ => ⟨S512x896, .f32⟩
  | .local _ .vmem, ⟨7, _⟩ => ⟨S512x896, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1664x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8192x1024 : Shape := ⟨2, ![8192, 1024]⟩
abbrev S1024 : Shape := ⟨1, ![1024]⟩
abbrev S1024x1664 : Shape := ⟨2, ![1024, 1664]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1664 : Shape := ⟨2, ![8192, 1664]⟩
abbrev S8192x768 : Shape := ⟨2, ![8192, 768]⟩
abbrev S8192x896 : Shape := ⟨2, ![8192, 896]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1664, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1664, .f32⟩
  | .hbm, ⟨20, _⟩ => ⟨S8192x768, .f32⟩
  | .hbm, ⟨21, _⟩ => ⟨S8192x896, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel6.lean ====
abbrev S8192x384 : Shape := ⟨2, ![8192, 384]⟩
abbrev S8192x640 : Shape := ⟨2, ![8192, 640]⟩
abbrev S384 : Shape := ⟨1, ![384]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x384 : Shape := ⟨2, ![1, 384]⟩
abbrev S16x8192 : Shape := ⟨2, ![16, 8192]⟩
abbrev S512x1024 : Shape := ⟨2, ![512, 1024]⟩
abbrev S512x384 : Shape := ⟨2, ![512, 384]⟩
abbrev S512x640 : Shape := ⟨2, ![512, 640]⟩
abbrev S16x512 : Shape := ⟨2, ![16, 512]⟩
abbrev S512 : Shape := ⟨1, ![512]⟩
abbrev S512x1 : Shape := ⟨2, ![512, 1]⟩
abbrev S512x128 : Shape := ⟨2, ![512, 128]⟩
abbrev S128x512 : Shape := ⟨2, ![128, 512]⟩

abbrev nBuf : Space → Nat
  | .hbm => 55
  | .vmem => 18
  | .smem => 0
  | _ => 0

abbrev bufTy : (tb : Table) → Fin (tcTables nBuf tb) → BufTy
  | .hbm, ⟨0, _⟩ => ⟨S8192x384, .f32⟩
  | .hbm, ⟨1, _⟩ => ⟨S8192x640, .f32⟩
  | .hbm, ⟨2, _⟩ => ⟨S384, .f32⟩
  | .hbm, ⟨3, _⟩ => ⟨S384, .f32⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x384, .f32⟩
  | .hbm, ⟨13, _⟩ => ⟨S8192x384, .f32⟩
  | .hbm, ⟨14, _⟩ => ⟨S8192x384, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x384, .f32⟩
  | .hbm, ⟨22, _⟩ => ⟨S8192x384, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x384, .f32⟩
  | .hbm, ⟨28, _⟩ => ⟨S8192x384, .f32⟩
  | .hbm, ⟨29, _⟩ => ⟨S1x384, .f32⟩
  | .hbm, ⟨30, _⟩ => ⟨S8192x384, .f32⟩
  | .hbm, ⟨31, _⟩ => ⟨S8192x384, .f32⟩
  | .hbm, ⟨32, _⟩ => ⟨S1x384, .f32⟩
  | .hbm, ⟨33, _⟩ => ⟨S8192x384, .f32⟩
  | .hbm, ⟨34, _⟩ => ⟨S8192x384, .f32⟩
  | .hbm, ⟨35, _⟩ => ⟨S8192x384, .f32⟩
  | .hbm, ⟨36, _⟩ => ⟨S8192x384, .f32⟩
  | .hbm, ⟨37, _⟩ => ⟨S_, .f32⟩
  | .hbm, ⟨38, _⟩ => ⟨S8192x384, .f32⟩
  | .hbm, ⟨39, _⟩ => ⟨S8192x384, .f32⟩
  | .hbm, ⟨40, _⟩ => ⟨S_, .f32⟩
  | .hbm, ⟨41, _⟩ => ⟨S8192x384, .f32⟩
  | .hbm, ⟨42, _⟩ => ⟨S8192x384, .f32⟩
  | .hbm, ⟨43, _⟩ => ⟨S8192x384, .f32⟩
  | .hbm, ⟨44, _⟩ => ⟨S8192x1024, .f32⟩
  | .hbm, ⟨45, _⟩ => ⟨S8192x1024, .bf16⟩
  | .hbm, ⟨46, _⟩ => ⟨S1x384, .f32⟩
  | .hbm, ⟨47, _⟩ => ⟨S1x384, .f32⟩
  | .hbm, ⟨48, _⟩ => ⟨S1024x1024, .bf16⟩
  | .hbm, ⟨49, _⟩ => ⟨S8192x384, .f32⟩
  | .hbm, ⟨50, _⟩ => ⟨S8192x640, .bf16⟩
  | .hbm, ⟨51, _⟩ => ⟨S16x8192, .f32⟩
  | .hbm, ⟨52, _⟩ => ⟨S1024x1024, .f32⟩
  | .hbm, ⟨53, _⟩ => ⟨S1x384, .f32⟩
  | .hbm, ⟨54, _⟩ => ⟨S1x384, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x384, .f32⟩
  | .local _ .vmem, ⟨5, _⟩ => ⟨S512x384, .f32⟩
  | .local _ .vmem, ⟨6, _⟩ => ⟨S1x384, .f32⟩
  | .local _ .vmem, ⟨7, _⟩ => ⟨S1x384, .f32⟩
  | .local _ .vmem, ⟨8, _⟩ => ⟨S1024x1024, .bf16⟩
  | .local _ .vmem, ⟨9, _⟩ => ⟨S512x384, .f32⟩
  | .local _ .vmem, ⟨10, _⟩ => ⟨S512x384, .f32⟩
  | .local _ .vmem, ⟨11, _⟩ => ⟨S512x640, .bf16⟩
  | .local _ .vmem, ⟨12, _⟩ => ⟨S512x640, .bf16⟩
  | .local _ .vmem, ⟨13, _⟩ => ⟨S16x512, .f32⟩
  | .local _ .vmem, ⟨14, _⟩ => ⟨S16x512, .f32⟩
  | .local _ .vmem, ⟨15, _⟩ => ⟨S1024x1024, .f32⟩
  | .local _ .vmem, ⟨16, _⟩ => ⟨S1x384, .f32⟩
  | .local _ .vmem, ⟨17, _⟩ => ⟨S1x384, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30_0 : Ref sig .tc := ⟨.hbm, 49, rfl⟩
abbrev main_v30_1 : Ref sig .tc := ⟨.hbm, 50, rfl⟩
abbrev main_v30_2 : Ref sig .tc := ⟨.hbm, 51, rfl⟩
abbrev main_v30_3 : Ref sig .tc := ⟨.hbm, 52, rfl⟩
abbrev main_v30_4 : Ref sig .tc := ⟨.hbm, 53, rfl⟩
abbrev main_v30_5 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x640 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference6Ideal.lean ====
abbrev S8192x384 : Shape := ⟨2, ![8192, 384]⟩
abbrev S8192x640 : Shape := ⟨2, ![8192, 640]⟩
abbrev S384 : Shape := ⟨1, ![384]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x384 : Shape := ⟨2, ![1, 384]⟩
abbrev S8192x10x64 : Shape := ⟨3, ![8192, 10, 64]⟩
abbrev S8192x10 : Shape := ⟨2, ![8192, 10]⟩
abbrev S8192x16 : Shape := ⟨2, ![8192, 16]⟩
abbrev S16x8192 : Shape := ⟨2, ![16, 8192]⟩

abbrev nBuf : Space → Nat
  | .hbm => 121
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x640, .f32⟩
  | .hbm, ⟨2, _⟩ => ⟨S384, .f32⟩
  | .hbm, ⟨3, _⟩ => ⟨S384, .f32⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x384, .f32⟩
  | .hbm, ⟨13, _⟩ => ⟨S8192x384, .f32⟩
  | .hbm, ⟨14, _⟩ => ⟨S8192x384, .f32⟩
  | .hbm, ⟨15, _⟩ => ⟨S_, .f32⟩
  | .hbm, ⟨16, _⟩ => ⟨S8192x384, .f32⟩
  | .hbm, ⟨17, _⟩ => ⟨S8192x384, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x384, .f32⟩
  | .hbm, ⟨25, _⟩ => ⟨S8192x384, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x384, .f32⟩
  | .hbm, ⟨35, _⟩ => ⟨S8192x384, .f32⟩
  | .hbm, ⟨36, _⟩ => ⟨S1x384, .f32⟩
  | .hbm, ⟨37, _⟩ => ⟨S8192x384, .f32⟩
  | .hbm, ⟨38, _⟩ => ⟨S8192x384, .f32⟩
  | .hbm, ⟨39, _⟩ => ⟨S1x384, .f32⟩
  | .hbm, ⟨40, _⟩ => ⟨S8192x384, .f32⟩
  | .hbm, ⟨41, _⟩ => ⟨S8192x384, .f32⟩
  | .hbm, ⟨42, _⟩ => ⟨S8192x384, .f32⟩
  | .hbm, ⟨43, _⟩ => ⟨S8192x384, .f32⟩
  | .hbm, ⟨44, _⟩ => ⟨S_, .f32⟩
  | .hbm, ⟨45, _⟩ => ⟨S8192x384, .f32⟩
  | .hbm, ⟨46, _⟩ => ⟨S8192x384, .f32⟩
  | .hbm, ⟨47, _⟩ => ⟨S_, .f32⟩
  | .hbm, ⟨48, _⟩ => ⟨S8192x384, .f32⟩
  | .hbm, ⟨49, _⟩ => ⟨S8192x384, .f32⟩
  | .hbm, ⟨50, _⟩ => ⟨S_, .f32⟩
  | .hbm, ⟨51, _⟩ => ⟨S8192x384, .f32⟩
  | .hbm, ⟨52, _⟩ => ⟨S8192x384, .f32⟩
  | .hbm, ⟨53, _⟩ => ⟨S8192x384, .f32⟩
  | .hbm, ⟨54, _⟩ => ⟨S8192x384, .f32⟩
  | .hbm, ⟨55, _⟩ => ⟨S8192x1024, .f32⟩
  | .hbm, ⟨56, _⟩ => ⟨S8192x1024, .f32⟩
  | .hbm, ⟨57, _⟩ => ⟨S1024x1024, .f32⟩
  | .hbm, ⟨58, _⟩ => ⟨S1024x1024, .f32⟩
  | .hbm, ⟨59, _⟩ => ⟨S8192x1024, .f32⟩
  | .hbm, ⟨60, _⟩ => ⟨S8192x384, .f32⟩
  | .hbm, ⟨61, _⟩ => ⟨S8192x640, .f32⟩
  | .hbm, ⟨62, _⟩ => ⟨S8192x384, .f32⟩
  | .hbm, ⟨63, _⟩ => ⟨S8192x384, .f32⟩
  | .hbm, ⟨64, _⟩ => ⟨S8192x384, .f32⟩
  | .hbm, ⟨65, _⟩ => ⟨S8192x384, .f32⟩
  | .hbm, ⟨66, _⟩ => ⟨S_, .f32⟩
  | .hbm, ⟨67, _⟩ => ⟨S384, .f32⟩
  | .hbm, ⟨68, _⟩ => ⟨S1x384, .f32⟩
  | .hbm, ⟨69, _⟩ => ⟨S_, .f32⟩
  | .hbm, ⟨70, _⟩ => ⟨S384, .f32⟩
  | .hbm, ⟨71, _⟩ => ⟨S8192x384, .f32⟩
  | .hbm, ⟨72, _⟩ => ⟨S_, .f32⟩
  | .hbm, ⟨73, _⟩ => ⟨S384, .f32⟩
  | .hbm, ⟨74, _⟩ => ⟨S1x384, .f32⟩
  | .hbm, ⟨75, _⟩ => ⟨S8192x384, .f32⟩
  | .hbm, ⟨76, _⟩ => ⟨S8192x384, .f32⟩
  | .hbm, ⟨77, _⟩ => ⟨S_, .f32⟩
  | .hbm, ⟨78, _⟩ => ⟨S384, .f32⟩
  | .hbm, ⟨79, _⟩ => ⟨S8192x384, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x384, .f32⟩
  | .hbm, ⟨84, _⟩ => ⟨S8192x384, .f32⟩
  | .hbm, ⟨85, _⟩ => ⟨S8192x1, .f32⟩
  | .hbm, ⟨86, _⟩ => ⟨S8192x384, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x384, .f32⟩
  | .hbm, ⟨96, _⟩ => ⟨S8192x384, .f32⟩
  | .hbm, ⟨97, _⟩ => ⟨S8192x384, .f32⟩
  | .hbm, ⟨98, _⟩ => ⟨S_, .f32⟩
  | .hbm, ⟨99, _⟩ => ⟨S8192, .f32⟩
  | .hbm, ⟨100, _⟩ => ⟨S8192x1, .f32⟩
  | .hbm, ⟨101, _⟩ => ⟨S8192x384, .f32⟩
  | .hbm, ⟨102, _⟩ => ⟨S8192x1, .f32⟩
  | .hbm, ⟨103, _⟩ => ⟨S_, .f32⟩
  | .hbm, ⟨104, _⟩ => ⟨S8192x1, .f32⟩
  | .hbm, ⟨105, _⟩ => ⟨S8192x1, .f32⟩
  | .hbm, ⟨106, _⟩ => ⟨S_, .f32⟩
  | .hbm, ⟨107, _⟩ => ⟨S8192, .f32⟩
  | .hbm, ⟨108, _⟩ => ⟨S8192x384, .f32⟩
  | .hbm, ⟨109, _⟩ => ⟨S8192x384, .f32⟩
  | .hbm, ⟨110, _⟩ => ⟨S8192x640, .f32⟩
  | .hbm, ⟨111, _⟩ => ⟨S8192x10x64, .f32⟩
  | .hbm, ⟨112, _⟩ => ⟨S_, .f32⟩
  | .hbm, ⟨113, _⟩ => ⟨S8192x10, .f32⟩
  | .hbm, ⟨114, _⟩ => ⟨S8192x640, .bf16⟩
  | .hbm, ⟨115, _⟩ => ⟨S_, .i32⟩
  | .hbm, ⟨116, _⟩ => ⟨S_, .f32⟩
  | .hbm, ⟨117, _⟩ => ⟨S8192x16, .f32⟩
  | .hbm, ⟨118, _⟩ => ⟨S16x8192, .f32⟩
  | .hbm, ⟨119, _⟩ => ⟨S1x384, .f32⟩
  | .hbm, ⟨120, _⟩ => ⟨S1x384, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v29_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v29_1 : Ref sig .tc := ⟨.hbm, 53, rfl⟩
abbrev main_v29_0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_cst_10 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_11 : Ref sig .tc := ⟨.hbm, 87, rfl⟩
abbrev main_v54 : Ref sig .tc := ⟨.hbm, 88, rfl⟩
abbrev main_v55 : Ref sig .tc := ⟨.hbm, 89, rfl⟩
abbrev main_cst_12 : Ref sig .tc := ⟨.hbm, 90, rfl⟩
abbrev main_v56 : Ref sig .tc := ⟨.hbm, 91, rfl⟩
abbrev main_v57 : Ref sig .tc := ⟨.hbm, 92, rfl⟩
abbrev main_cst_13 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_14 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_15 : Ref sig .tc := ⟨.hbm, 103, rfl⟩
abbrev main_v66 : Ref sig .tc := ⟨.hbm, 104, rfl⟩
abbrev main_v67 : Ref sig .tc := ⟨.hbm, 105, rfl⟩
abbrev main_cst_16 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_17 : Ref sig .tc := ⟨.hbm, 112, rfl⟩
abbrev main_v73 : Ref sig .tc := ⟨.hbm, 113, rfl⟩
abbrev main_v74 : Ref sig .tc := ⟨.hbm, 114, rfl⟩
abbrev main_c : Ref sig .tc := ⟨.hbm, 115, rfl⟩
abbrev main_call2_v0 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference7Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 23
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S1x128, .f32⟩
  | .hbm, ⟨21, _⟩ => ⟨S8192x1024, .f32⟩
  | .hbm, ⟨22, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Proof.AKit.lean ====
/-
The activation-gradient kernel: where in the grid its conditions hold, at which points each result is stored,
kept or written back, and the buffers the body is handed.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.A

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-- The first column block of a row block: the body makes the normed rows, the scaled gradient and a zero sum. -/
abbrev firstCol (i : grid0.Coords) : Prop := k0_cond1 i = 1#1

/-- The first column block is the even points. -/
theorem firstCol_iff : ∀ t : Fin cfg0.N, firstCol (grid0.coords t) ↔ t.val % 2 = 0 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [firstCol, k0_cond1, e0, e1]
    word_cmp
   : ∀ t : Fin grid0.N, firstCol (grid0.coords t) ↔ t.val % 2 = 0)

/-- The first row block: the body clears the gradient of the norm's scale there. -/
abbrev firstRow (i : grid0.Coords) : Prop := k0_cond2 i = 1#1

/-- The first row block is the first two points. -/
theorem firstRow_iff : ∀ t : Fin cfg0.N, firstRow (grid0.coords t) ↔ t.val < 2 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [firstRow, k0_cond2, e0, e1]
    word_cmp
   : ∀ t : Fin grid0.N, firstRow (grid0.coords t) ↔ t.val < 2)

/-- The last column block of a row block: the body finishes the input's gradient and adds to the scale's. -/
abbrev lastCol (i : grid0.Coords) : Prop := k0_cond3 i = 1#1

/-- The last column block is the odd points. -/
theorem lastCol_iff : ∀ t : Fin cfg0.N, lastCol (grid0.coords t) ↔ t.val % 2 = 1 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [lastCol, k0_cond3, e0, e1]
    word_cmp
   : ∀ t : Fin grid0.N, lastCol (grid0.coords t) ↔ t.val % 2 = 1)

/-- Input 0 is read at every point. -/
theorem live0 : ∀ t : Fin cfg0.N, cfg0.idle 0 (grid0.coords t) = false := fun _ => rfl
/-- Input 1 is read at every point. -/
theorem live1 : ∀ t : Fin cfg0.N, cfg0.idle 1 (grid0.coords t) = false := fun _ => rfl
/-- Input 2 is read at every point. -/
theorem live2 : ∀ t : Fin cfg0.N, cfg0.idle 2 (grid0.coords t) = false := fun _ => rfl
/-- Input 3 is read at every point. -/
theorem live3 : ∀ t : Fin cfg0.N, cfg0.idle 3 (grid0.coords t) = false := fun _ => rfl
/-- Input 4 is read at every point. -/
theorem live4 : ∀ t : Fin cfg0.N, cfg0.idle 4 (grid0.coords t) = false := fun _ => rfl
/-- Input 5 is read at every point. -/
theorem live5 : ∀ t : Fin cfg0.N, cfg0.idle 5 (grid0.coords t) = false := fun _ => rfl
/-- Input 6 is read at every point. -/
theorem live6 : ∀ t : Fin cfg0.N, cfg0.idle 6 (grid0.coords t) = false := fun _ => rfl
/-- Input 7 is read at every point. -/
theorem live7 : ∀ t : Fin cfg0.N, cfg0.idle 7 (grid0.coords t) = false := fun _ => rfl

/-- At an even point nothing is stored into the input gradient. -/
theorem idle8_even : ∀ t : Fin cfg0.N, t.val % 2 = 0 → cfg0.idle 8 (grid0.coords t) = true :=
  (by decide +kernel : ∀ t : Fin grid0.N, t.val % 2 = 0 → cfg0.idle 8 (grid0.coords t) = true)
/-- At an even point the input gradient is not written back. -/
theorem noFlush8_even : ∀ t : Fin cfg0.N, t.val % 2 = 0 → (cfg0.win 8).flush t = false :=
  (by decide +kernel : ∀ t : Fin grid0.N, t.val % 2 = 0 → (cfg0.win 8).flush t = false)
/-- At an odd point the input gradient is stored. -/
theorem live8_odd : ∀ t : Fin cfg0.N, t.val % 2 = 1 → cfg0.idle 8 (grid0.coords t) = false :=
  (by decide +kernel : ∀ t : Fin grid0.N, t.val % 2 = 1 → cfg0.idle 8 (grid0.coords t) = false)
/-- At the first point the scale gradient is cleared. -/
theorem live9_zero : ∀ t : Fin cfg0.N, t.val = 0 → cfg0.idle 9 (grid0.coords t) = false :=
  (by decide +kernel : ∀ t : Fin grid0.N, t.val = 0 → cfg0.idle 9 (grid0.coords t) = false)
/-- At a later even point nothing is stored into the scale gradient. -/
theorem idle9_even : ∀ t : Fin cfg0.N, t.val % 2 = 0 ∧ t.val ≠ 0 → cfg0.idle 9 (grid0.coords t) = true :=
  (by decide +kernel : ∀ t : Fin grid0.N, t.val % 2 = 0 ∧ t.val ≠ 0 → cfg0.idle 9 (grid0.coords t) = true)
/-- At an even point the scale gradient is not written back. -/
theorem noFlush9_even : ∀ t : Fin cfg0.N, t.val % 2 = 0 → (cfg0.win 9).flush t = false :=
  (by decide +kernel : ∀ t : Fin grid0.N, t.val % 2 = 0 → (cfg0.win 9).flush t = false)
/-- At an odd point the scale gradient is added to. -/
theorem live9_odd : ∀ t : Fin cfg0.N, t.val % 2 = 1 → cfg0.idle 9 (grid0.coords t) = false :=
  (by decide +kernel : ∀ t : Fin grid0.N, t.val % 2 = 1 → cfg0.idle 9 (grid0.coords t) = false)
/-- The gate gradient is stored at every point. -/
theorem live10 : ∀ t : Fin cfg0.N, cfg0.idle 10 (grid0.coords t) = false := fun _ => rfl
/-- The up gradient is stored at every point. -/
theorem live11 : ∀ t : Fin cfg0.N, cfg0.idle 11 (grid0.coords t) = false := fun _ => rfl
/-- At an even point the block of normed rows is stored. -/
theorem live12_even : ∀ t : Fin cfg0.N, t.val % 2 = 0 → cfg0.idle 12 (grid0.coords t) = false :=
  (by decide +kernel : ∀ t : Fin grid0.N, t.val % 2 = 0 → cfg0.idle 12 (grid0.coords t) = false)
/-- At an odd point nothing is stored into the block of normed rows. -/
theorem idle12_odd : ∀ t : Fin cfg0.N, t.val % 2 = 1 → cfg0.idle 12 (grid0.coords t) = true :=
  (by decide +kernel : ∀ t : Fin grid0.N, t.val % 2 = 1 → cfg0.idle 12 (grid0.coords t) = true)
/-- At an odd point the block of normed rows is written back. -/
theorem flush12_odd : ∀ t : Fin cfg0.N, t.val % 2 = 1 → (cfg0.win 12).flush t = true :=
  (by decide +kernel : ∀ t : Fin grid0.N, t.val % 2 = 1 → (cfg0.win 12).flush t = true)
/-- At an even point the block of scaled gradients is stored. -/
theorem live13_even : ∀ t : Fin cfg0.N, t.val % 2 = 0 → cfg0.idle 13 (grid0.coords t) = false :=
  (by decide +kernel : ∀ t : Fin grid0.N, t.val % 2 = 0 → cfg0.idle 13 (grid0.coords t) = false)
/-- At an odd point nothing is stored into the block of scaled gradients. -/
theorem idle13_odd : ∀ t : Fin cfg0.N, t.val % 2 = 1 → cfg0.idle 13 (grid0.coords t) = true :=
  (by decide +kernel : ∀ t : Fin grid0.N, t.val % 2 = 1 → cfg0.idle 13 (grid0.coords t) = true)
/-- At an odd point the block of scaled gradients is written back. -/
theorem flush13_odd : ∀ t : Fin cfg0.N, t.val % 2 = 1 → (cfg0.win 13).flush t = true :=
  (by decide +kernel : ∀ t : Fin grid0.N, t.val % 2 = 1 → (cfg0.win 13).flush t = true)

/-- Whether the scale gradient's buffer holds nothing stored since it was last written back, before each point. -/
def freshTab9 : ℕ → Bool
  | 0 => true
  | n + 1 => (0x80000000 : ℕ).testBit n

/-- The table follows the pipeline's own rule. -/
theorem freshTab9_step : ∀ t : Fin cfg0.N,
    freshTab9 (t.val + 1) = ((cfg0.win 9).flush t || (cfg0.idle 9 (cfg0.grid.coords t) && freshTab9 t.val)) := by decide +kernel

/-- The table is the pipeline's. -/
theorem fresh9_eq (t : Fin cfg0.N) : cfg0.fresh 9 t.val = freshTab9 t.val :=
  Pipeline.Cfg.fresh_tab cfg0 9 freshTab9 rfl freshTab9_step t.val (Nat.le_of_lt t.isLt)

/-- At an odd point the scale gradient's buffer holds what was stored before. -/
theorem notFresh9_odd (t : Fin cfg0.N) (h : t.val % 2 = 1) : cfg0.fresh 9 t.val = false := by
  rw [fresh9_eq t]
  exact (by decide +kernel : ∀ t : Fin cfg0.N, t.val % 2 = 1 → freshTab9 t.val = false) t h

/-- Whether the block of normed rows's buffer holds nothing stored since it was last written back, before each point. -/
def freshTab12 : ℕ → Bool
  | 0 => true
  | n + 1 => (0xaaaaaaaa : ℕ).testBit n

/-- The table follows the pipeline's own rule. -/
theorem freshTab12_step : ∀ t : Fin cfg0.N,
    freshTab12 (t.val + 1) = ((cfg0.win 12).flush t || (cfg0.idle 12 (cfg0.grid.coords t) && freshTab12 t.val)) := by decide +kernel

/-- The table is the pipeline's. -/
theorem fresh12_eq (t : Fin cfg0.N) : cfg0.fresh 12 t.val = freshTab12 t.val :=
  Pipeline.Cfg.fresh_tab cfg0 12 freshTab12 rfl freshTab12_step t.val (Nat.le_of_lt t.isLt)

/-- At an odd point the block of normed rows's buffer holds what was stored before. -/
theorem notFresh12_odd (t : Fin cfg0.N) (h : t.val % 2 = 1) : cfg0.fresh 12 t.val = false := by
  rw [fresh12_eq t]
  exact (by decide +kernel : ∀ t : Fin cfg0.N, t.val % 2 = 1 → freshTab12 t.val = false) t h

/-- Whether the block of scaled gradients's buffer holds nothing stored since it was last written back, before each point. -/
def freshTab13 : ℕ → Bool
  | 0 => true
  | n + 1 => (0xaaaaaaaa : ℕ).testBit n

/-- The table follows the pipeline's own rule. -/
theorem freshTab13_step : ∀ t : Fin cfg0.N,
    freshTab13 (t.val + 1) = ((cfg0.win 13).flush t || (cfg0.idle 13 (cfg0.grid.coords t) && freshTab13 t.val)) := by decide +kernel

/-- The table is the pipeline's. -/
theorem fresh13_eq (t : Fin cfg0.N) : cfg0.fresh 13 t.val = freshTab13 t.val :=
  Pipeline.Cfg.fresh_tab cfg0 13 freshTab13 rfl freshTab13_step t.val (Nat.le_of_lt t.isLt)

/-- At an odd point the block of scaled gradients's buffer holds what was stored before. -/
theorem notFresh13_odd (t : Fin cfg0.N) (h : t.val % 2 = 1) : cfg0.fresh 13 t.val = false := by
  rw [fresh13_eq t]
  exact (by decide +kernel : ∀ t : Fin cfg0.N, t.val % 2 = 1 → freshTab13 t.val = false) t h

/-- Window 0's buffer at a point. -/
abbrev ms0 (t : Fin cfg0.N) : Memref sig .tc .vmem S512x1024 .f32 := win0_0.stage (cfg0.slots t 0)
/-- It is a whole buffer. -/
abbrev hs0 (t : Fin cfg0.N) : (ms0 t).IsWhole := hstage0_0 ((cfg0.slots t 0).cast nbuf0_0)
/-- Window 1's buffer at a point. -/
abbrev ms1 (t : Fin cfg0.N) : Memref sig .tc .vmem S512x1024 .f32 := win0_1.stage (cfg0.slots t 1)
/-- It is a whole buffer. -/
abbrev hs1 (t : Fin cfg0.N) : (ms1 t).IsWhole := hstage0_1 ((cfg0.slots t 1).cast nbuf0_1)
/-- Window 2's buffer at a point. -/
abbrev ms2 (t : Fin cfg0.N) : Memref sig .tc .vmem S1x1024 .f32 := win0_2.stage (cfg0.slots t 2)
/-- It is a whole buffer. -/
abbrev hs2 (t : Fin cfg0.N) : (ms2 t).IsWhole := hstage0_2 ((cfg0.slots t 2).cast nbuf0_2)
/-- Window 3's buffer at a point. -/
abbrev ms3 (t : Fin cfg0.N) : Memref sig .tc .vmem S512x1408 .bf16 := win0_3.stage (cfg0.slots t 3)
/-- It is a whole buffer. -/
abbrev hs3 (t : Fin cfg0.N) : (ms3 t).IsWhole := hstage0_3 ((cfg0.slots t 3).cast nbuf0_3)
/-- Window 4's buffer at a point. -/
abbrev ms4 (t : Fin cfg0.N) : Memref sig .tc .vmem S512x1408 .bf16 := win0_4.stage (cfg0.slots t 4)
/-- It is a whole buffer. -/
abbrev hs4 (t : Fin cfg0.N) : (ms4 t).IsWhole := hstage0_4 ((cfg0.slots t 4).cast nbuf0_4)
/-- Window 5's buffer at a point. -/
abbrev ms5 (t : Fin cfg0.N) : Memref sig .tc .vmem S1408x1024 .bf16 := win0_5.stage (cfg0.slots t 5)
/-- It is a whole buffer. -/
abbrev hs5 (t : Fin cfg0.N) : (ms5 t).IsWhole := hstage0_5 ((cfg0.slots t 5).cast nbuf0_5)
/-- Window 6's buffer at a point. -/
abbrev ms6 (t : Fin cfg0.N) : Memref sig .tc .vmem S1408x1024 .bf16 := win0_6.stage (cfg0.slots t 6)
/-- It is a whole buffer. -/
abbrev hs6 (t : Fin cfg0.N) : (ms6 t).IsWhole := hstage0_6 ((cfg0.slots t 6).cast nbuf0_6)
/-- Window 7's buffer at a point. -/
abbrev ms7 (t : Fin cfg0.N) : Memref sig .tc .vmem S1408x1024 .bf16 := win0_7.stage (cfg0.slots t 7)
/-- It is a whole buffer. -/
abbrev hs7 (t : Fin cfg0.N) : (ms7 t).IsWhole := hstage0_7 ((cfg0.slots t 7).cast nbuf0_7)
/-- Window 8's buffer at a point. -/
abbrev ms8 (t : Fin cfg0.N) : Memref sig .tc .vmem S512x1024 .f32 := win0_8.stage (cfg0.slots t 8)
/-- It is a whole buffer. -/
abbrev hs8 (t : Fin cfg0.N) : (ms8 t).IsWhole := hstage0_8 ((cfg0.slots t 8).cast nbuf0_8)
/-- Window 9's buffer at a point. -/
abbrev ms9 (t : Fin cfg0.N) : Memref sig .tc .vmem S1x1024 .f32 := win0_9.stage (cfg0.slots t 9)
/-- It is a whole buffer. -/
abbrev hs9 (t : Fin cfg0.N) : (ms9 t).IsWhole := hstage0_9 ((cfg0.slots t 9).cast nbuf0_9)
/-- Window 10's buffer at a point. -/
abbrev ms10 (t : Fin cfg0.N) : Memref sig .tc .vmem S512x1408 .bf16 := win0_10.stage (cfg0.slots t 10)
/-- It is a whole buffer. -/
abbrev hs10 (t : Fin cfg0.N) : (ms10 t).IsWhole := hstage0_10 ((cfg0.slots t 10).cast nbuf0_10)
/-- Window 11's buffer at a point. -/
abbrev ms11 (t : Fin cfg0.N) : Memref sig .tc .vmem S512x1408 .bf16 := win0_11.stage (cfg0.slots t 11)
/-- It is a whole buffer. -/
abbrev hs11 (t : Fin cfg0.N) : (ms11 t).IsWhole := hstage0_11 ((cfg0.slots t 11).cast nbuf0_11)
/-- Window 12's buffer at a point. -/
abbrev ms12 (t : Fin cfg0.N) : Memref sig .tc .vmem S512x1024 .bf16 := win0_12.stage (cfg0.slots t 12)
/-- It is a whole buffer. -/
abbrev hs12 (t : Fin cfg0.N) : (ms12 t).IsWhole := hstage0_12 ((cfg0.slots t 12).cast nbuf0_12)
/-- Window 13's buffer at a point. -/
abbrev ms13 (t : Fin cfg0.N) : Memref sig .tc .vmem S512x1024 .bf16 := win0_13.stage (cfg0.slots t 13)
/-- It is a whole buffer. -/
abbrev hs13 (t : Fin cfg0.N) : (ms13 t).IsWhole := hstage0_13 ((cfg0.slots t 13).cast nbuf0_13)
/-- A buffer of the input gradient, through which its contents are stated. -/
abbrev VO8 : View sig .tc .vmem S512x1024 .f32 := (Memref.whole cc0_stg8_0 : Memref sig .tc .vmem S512x1024 .f32).view
/-- A buffer of the scale gradient, through which its contents are stated. -/
abbrev VO9 : View sig .tc .vmem S1x1024 .f32 := (Memref.whole cc0_stg9_0 : Memref sig .tc .vmem S1x1024 .f32).view
/-- A buffer of the gate gradient, through which its contents are stated. -/
abbrev VO10 : View sig .tc .vmem S512x1408 .bf16 := (Memref.whole cc0_stg10_0 : Memref sig .tc .vmem S512x1408 .bf16).view
/-- A buffer of the up gradient, through which its contents are stated. -/
abbrev VO11 : View sig .tc .vmem S512x1408 .bf16 := (Memref.whole cc0_stg11_0 : Memref sig .tc .vmem S512x1408 .bf16).view
/-- A buffer of the normed rows, through which its contents are stated. -/
abbrev VO12 : View sig .tc .vmem S512x1024 .bf16 := (Memref.whole cc0_stg12_0 : Memref sig .tc .vmem S512x1024 .bf16).view
/-- A buffer of the scaled gradients, through which its contents are stated. -/
abbrev VO13 : View sig .tc .vmem S512x1024 .bf16 := (Memref.whole cc0_stg13_0 : Memref sig .tc .vmem S512x1024 .bf16).view
/-- The running sum's buffer. -/
abbrev accM : Memref sig .tc .vmem S512x1024 .f32 := Memref.whole cc0_scratch0
/-- The running sum's buffer as a view. -/
abbrev VS : View sig .tc .vmem S512x1024 .f32 := accM.view

/-- What the region starts from: the running sum's buffer at anything and the random generator at some state. -/
theorem start_eq (c : Dev nD) :
    (Pipeline.ΦA spec0 c : sProp (MT nD τ sig Unit (Elt F) ℕ (UR sig nD τ) ℕ))
      = iprop(iprop((∃ d, owns (c : Thread nD τ) accM fullShare d)) ∗ (∃ r, prngReg c r)) := by
  unfold Pipeline.ΦA; rw [scopedRest0_eq]; simp only [accM, owns_whole]; try rfl

end Cert.KernelIdeal.A

end
-- ==== Proof.ARunA.lean ====
/-
The activation-gradient kernel's body at the first point of its grid.
-/
module

public import proofs.«01_k».proof.Proof.AKit

@[expose] public section

set_option maxRecDepth 16384

noncomputable section

namespace Cert.KernelIdeal.A

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

-- the run's proof is large
set_option maxHeartbeats 1000000 in
/-- The body at the first point, on any whole buffers: what it stores into each buffer, found by running it, together with
    the statement that it runs, gives the inputs back as they were, and leaves the buffers so stored. -/
noncomputable def runA (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .f32) (harg16 : arg16.IsWhole) (hc0 : firstCol i) (hc1 : firstRow i) (hc2 : ¬lastCol i)
    (x0 : Vec F S512x1024 .f32) (x1 : Vec F S512x1024 .f32) (x2 : Vec F S1x1024 .f32) (x3 : Vec F S512x1408 .bf16) (x4 : Vec F S512x1408 .bf16) (x5 : Vec F S1408x1024 .bf16) (x6 : Vec F S1408x1024 .bf16) (x7 : Vec F S1408x1024 .bf16)  :
    Σ' (L9 : List (View.Piece (Elt F) S1x1024 .f32)), Σ' (L10 : List (View.Piece (Elt F) S512x1408 .bf16)), Σ' (L11 : List (View.Piece (Elt F) S512x1408 .bf16)), Σ' (L12 : List (View.Piece (Elt F) S512x1024 .bf16)), Σ' (L13 : List (View.Piece (Elt F) S512x1024 .bf16)), { L16 : List (View.Piece (Elt F) S512x1024 .f32) //
      ∀ (x8 : Vec F S512x1024 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L16)) -∗ K ⟨⟩))
          ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun x8 E K => ?run⟩
  case run =>
    simp only [cc0_ffn_bwd_act_eq_skeleton]; unfold cc0_ffn_bwd_act_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d16, %f16, -, H16⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H16

end Cert.KernelIdeal.A

end
-- ==== Proof.ARunB.lean ====
/-
The activation-gradient kernel's body at an odd point of its grid.
-/
module

public import proofs.«01_k».proof.Proof.ARunA

@[expose] public section

set_option maxRecDepth 16384

noncomputable section

namespace Cert.KernelIdeal.A

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

-- the run's proof is large
set_option maxHeartbeats 1000000 in
/-- The body at an odd point, on any whole buffers: what it stores into each buffer, found by running it, together with
    the statement that it runs, gives the inputs back as they were, and leaves the buffers so stored. -/
noncomputable def runB (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .f32) (harg16 : arg16.IsWhole) (hc0 : ¬firstCol i) (hc2 : lastCol i)
    (x0 : Vec F S512x1024 .f32) (x1 : Vec F S512x1024 .f32) (x2 : Vec F S1x1024 .f32) (x3 : Vec F S512x1408 .bf16) (x4 : Vec F S512x1408 .bf16) (x5 : Vec F S1408x1024 .bf16) (x6 : Vec F S1408x1024 .bf16) (x7 : Vec F S1408x1024 .bf16) (x9 : Vec F S1x1024 .f32) (x13 : Vec F S512x1024 .bf16) (x16 : Vec F S512x1024 .f32) :
    Σ' (L8 : List (View.Piece (Elt F) S512x1024 .f32)), Σ' (L9 : List (View.Piece (Elt F) S1x1024 .f32)), Σ' (L10 : List (View.Piece (Elt F) S512x1408 .bf16)), Σ' (L11 : List (View.Piece (Elt F) S512x1408 .bf16)), { L16 : List (View.Piece (Elt F) S512x1024 .f32) //
      ∀ (x12 : Vec F S512x1024 .bf16) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare x9 ∗ (∃ d, owns (c : Thread nD τ) arg12 fullShare d) ∗ (∃ d, owns (c : Thread nD τ) arg13 fullShare d) ∗ owns (c : Thread nD τ) arg14 fullShare x12 ∗ owns (c : Thread nD τ) arg15 fullShare x13 ∗ owns (c : Thread nD τ) arg16 fullShare x16
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare x12 ∗ owns (c : Thread nD τ) arg15 fullShare x13 ∗ (∃ f, arg16.view.loc (c : Thread nD τ) ↦[arg16.view.set]{fullShare} arg16.view.writes (Elt F) f L16)) -∗ K ⟨⟩))
          ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun x12 E K => ?run⟩
  case run =>
    simp only [cc0_ffn_bwd_act_eq_skeleton]; unfold cc0_ffn_bwd_act_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%d11, %f11, -, H11⟩, ⟨%f12, %hf12, H12⟩, ⟨%f13, %hf13, H13⟩, ⟨%f16, %hf16, H16⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg14.eq_unread hf12; obtain rfl := harg15.eq_unread hf13; obtain rfl := harg16.eq_unread hf16
    sl_exec (disch := first | sl_exact hc0 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]
    · iexists _; isplitr; · ipureintro; exact harg14.read_unread _
      iexact H12
    isplitl [H13]
    · iexists _; isplitr; · ipureintro; exact harg15.read_unread _
      iexact H13
    iexists _; iexact H16

end Cert.KernelIdeal.A

end
-- ==== Proof.ARunC.lean ====
/-
The activation-gradient kernel's body at a later even point of its grid.
-/
module

public import proofs.«01_k».proof.Proof.ARunB

@[expose] public section

set_option maxRecDepth 16384

noncomputable section

namespace Cert.KernelIdeal.A

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

-- the run's proof is large
set_option maxHeartbeats 1000000 in
/-- The body at a later even point, on any whole buffers: what it stores into each buffer, found by running it, together with
    the statement that it runs, gives the inputs back as they were, and leaves the buffers so stored. -/
noncomputable def runC (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .f32) (harg16 : arg16.IsWhole) (hc0 : firstCol i) (hc1 : ¬firstRow i) (hc2 : ¬lastCol i)
    (x0 : Vec F S512x1024 .f32) (x1 : Vec F S512x1024 .f32) (x2 : Vec F S1x1024 .f32) (x3 : Vec F S512x1408 .bf16) (x4 : Vec F S512x1408 .bf16) (x5 : Vec F S1408x1024 .bf16) (x6 : Vec F S1408x1024 .bf16) (x7 : Vec F S1408x1024 .bf16)  :
    Σ' (L10 : List (View.Piece (Elt F) S512x1408 .bf16)), Σ' (L11 : List (View.Piece (Elt F) S512x1408 .bf16)), Σ' (L12 : List (View.Piece (Elt F) S512x1024 .bf16)), Σ' (L13 : List (View.Piece (Elt F) S512x1024 .bf16)), { L16 : List (View.Piece (Elt F) S512x1024 .f32) //
      ∀ (x8 : Vec F S512x1024 .f32) (x9 : Vec F S1x1024 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L16)) -∗ K ⟨⟩))
          ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun x8 x9 E K => ?run⟩
  case run =>
    simp only [cc0_ffn_bwd_act_eq_skeleton]; unfold cc0_ffn_bwd_act_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d16, %f16, -, H16⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    iexists _; iexact H16

end Cert.KernelIdeal.A

end
-- ==== Proof.AFrame.lean ====
/-
The activation-gradient kernel runs to the end, leaves its arguments as they were, and leaves in each of its six
results what the points of its grid stored there: stated point by point as `outs`.
-/
module

public import proofs.«01_k».proof.Proof.ARunC
public import Idealize.ShloMosaic.Lib.Claim

@[expose] public section

set_option maxRecDepth 16384

noncomputable section

namespace Cert.KernelIdeal.A

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-- What the results' buffers and the running sum hold after a point: the input gradient, the scale gradient, the gate
    gradient, the up gradient, the normed rows, the scaled gradients, the running sum. -/
abbrev Outs (F : FTy → Type) [FloatOps F] : Type := Vec F S512x1024 .f32 × Vec F S1x1024 .f32 × Vec F S512x1408 .bf16 × Vec F S512x1408 .bf16 × Vec F S512x1024 .bf16 × Vec F S512x1024 .bf16 × Vec F S512x1024 .f32

/-- The body's run at the first point, on that point's buffers and input blocks. -/
def atA (c : Dev nD) (t : Fin cfg0.N) (h : t.val = 0) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) accM (Memref.isWhole_whole _) ((firstCol_iff t).mpr (by omega)) ((firstRow_iff t).mpr (by omega)) (fun e => absurd ((lastCol_iff t).mp e) (by omega)) (iblk m c 0 t) (iblk m c 1 t) (iblk m c 2 t) (iblk m c 3 t) (iblk m c 4 t) (iblk m c 5 t) (iblk m c 6 t) (iblk m c 7 t)

/-- At the first point the stores into the scale gradient cover its block. -/
theorem coverA9 (c : Dev nD) (t : Fin cfg0.N) (h : t.val = 0) (y : S1x1024.Idx) : ∃ pc ∈ (atA m c t h).1, y ∈ pc.1.set :=
  View.cover_of_tiledL (atA m c t h).1 S1x1024.size (by sl_kernel_rfl) y

/-- What the first point leaves in the scale gradient. -/
def outA9 (c : Dev nD) (t : Fin cfg0.N) (h : t.val = 0) : Vec F S1x1024 .f32 :=
  VO9.read (Elt F) (VO9.writes (Elt F) VO9.junk (atA m c t h).1)

/-- At the first point the stores into the gate gradient cover its block. -/
theorem coverA10 (c : Dev nD) (t : Fin cfg0.N) (h : t.val = 0) (y : S512x1408.Idx) : ∃ pc ∈ (atA m c t h).2.1, y ∈ pc.1.set :=
  View.cover_of_tiledBy (s := S512x1408) _ ![512, 128] (by sl_kernel_rfl) y

/-- What the first point leaves in the gate gradient. -/
def outA10 (c : Dev nD) (t : Fin cfg0.N) (h : t.val = 0) : Vec F S512x1408 .bf16 :=
  VO10.read (Elt F) (VO10.writes (Elt F) VO10.junk (atA m c t h).2.1)

/-- At the first point the stores into the up gradient cover its block. -/
theorem coverA11 (c : Dev nD) (t : Fin cfg0.N) (h : t.val = 0) (y : S512x1408.Idx) : ∃ pc ∈ (atA m c t h).2.2.1, y ∈ pc.1.set :=
  View.cover_of_tiledBy (s := S512x1408) _ ![512, 128] (by sl_kernel_rfl) y

/-- What the first point leaves in the up gradient. -/
def outA11 (c : Dev nD) (t : Fin cfg0.N) (h : t.val = 0) : Vec F S512x1408 .bf16 :=
  VO11.read (Elt F) (VO11.writes (Elt F) VO11.junk (atA m c t h).2.2.1)

/-- At the first point the stores into the normed rows cover its block. -/
theorem coverA12 (c : Dev nD) (t : Fin cfg0.N) (h : t.val = 0) (y : S512x1024.Idx) : ∃ pc ∈ (atA m c t h).2.2.2.1, y ∈ pc.1.set :=
  View.cover_of_tiledL (atA m c t h).2.2.2.1 S512x1024.size (by sl_kernel_rfl) y

/-- What the first point leaves in the normed rows. -/
def outA12 (c : Dev nD) (t : Fin cfg0.N) (h : t.val = 0) : Vec F S512x1024 .bf16 :=
  VO12.read (Elt F) (VO12.writes (Elt F) VO12.junk (atA m c t h).2.2.2.1)

/-- At the first point the stores into the scaled gradients cover its block. -/
theorem coverA13 (c : Dev nD) (t : Fin cfg0.N) (h : t.val = 0) (y : S512x1024.Idx) : ∃ pc ∈ (atA m c t h).2.2.2.2.1, y ∈ pc.1.set :=
  View.cover_of_tiledL (atA m c t h).2.2.2.2.1 S512x1024.size (by sl_kernel_rfl) y

/-- What the first point leaves in the scaled gradients. -/
def outA13 (c : Dev nD) (t : Fin cfg0.N) (h : t.val = 0) : Vec F S512x1024 .bf16 :=
  VO13.read (Elt F) (VO13.writes (Elt F) VO13.junk (atA m c t h).2.2.2.2.1)

/-- At the first point the stores into the running sum cover its block. -/
theorem coverA16 (c : Dev nD) (t : Fin cfg0.N) (h : t.val = 0) (y : S512x1024.Idx) : ∃ pc ∈ (atA m c t h).2.2.2.2.2.1, y ∈ pc.1.set :=
  View.cover_of_tiledL (atA m c t h).2.2.2.2.2.1 S512x1024.size (by sl_kernel_rfl) y

/-- What the first point leaves in the running sum. -/
def outA16 (c : Dev nD) (t : Fin cfg0.N) (h : t.val = 0) : Vec F S512x1024 .f32 :=
  VS.read (Elt F) (VS.writes (Elt F) VS.junk (atA m c t h).2.2.2.2.2.1)

/-- All that the first point leaves (the input gradient is not stored there). -/
def tupA (c : Dev nD) (t : Fin cfg0.N) (h : t.val = 0) : Outs F :=
  (k0_pay8, outA9 m c t h, outA10 m c t h, outA11 m c t h, outA12 m c t h, outA13 m c t h, outA16 m c t h)

/-- The body's run at an odd point, on that point's buffers and input blocks, over what the point before left. -/
def atB (c : Dev nD) (t : Fin cfg0.N) (h : t.val % 2 = 1) (p : Outs F) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) accM (Memref.isWhole_whole _) (fun e => absurd ((firstCol_iff t).mp e) (by omega)) ((lastCol_iff t).mpr h) (iblk m c 0 t) (iblk m c 1 t) (iblk m c 2 t) (iblk m c 3 t) (iblk m c 4 t) (iblk m c 5 t) (iblk m c 6 t) (iblk m c 7 t) p.2.1 p.2.2.2.2.2.1 p.2.2.2.2.2.2

/-- At an odd point the stores into the input gradient cover its block. -/
theorem coverB8 (c : Dev nD) (t : Fin cfg0.N) (h : t.val % 2 = 1) (p : Outs F) (y : S512x1024.Idx) : ∃ pc ∈ (atB m c t h p).1, y ∈ pc.1.set :=
  View.cover_of_tiledL (atB m c t h p).1 S512x1024.size (by sl_kernel_rfl) y

/-- What an odd point leaves in the input gradient. -/
def outB8 (c : Dev nD) (t : Fin cfg0.N) (h : t.val % 2 = 1) (p : Outs F) : Vec F S512x1024 .f32 :=
  VO8.read (Elt F) (VO8.writes (Elt F) VO8.junk (atB m c t h p).1)

/-- At an odd point the stores into the scale gradient cover its block. -/
theorem coverB9 (c : Dev nD) (t : Fin cfg0.N) (h : t.val % 2 = 1) (p : Outs F) (y : S1x1024.Idx) : ∃ pc ∈ (atB m c t h p).2.1, y ∈ pc.1.set :=
  View.cover_of_tiledL (atB m c t h p).2.1 S1x1024.size (by sl_kernel_rfl) y

/-- What an odd point leaves in the scale gradient. -/
def outB9 (c : Dev nD) (t : Fin cfg0.N) (h : t.val % 2 = 1) (p : Outs F) : Vec F S1x1024 .f32 :=
  VO9.read (Elt F) (VO9.writes (Elt F) VO9.junk (atB m c t h p).2.1)

/-- At an odd point the stores into the gate gradient cover its block. -/
theorem coverB10 (c : Dev nD) (t : Fin cfg0.N) (h : t.val % 2 = 1) (p : Outs F) (y : S512x1408.Idx) : ∃ pc ∈ (atB m c t h p).2.2.1, y ∈ pc.1.set :=
  View.cover_of_tiledBy (s := S512x1408) _ ![512, 128] (by sl_kernel_rfl) y

/-- What an odd point leaves in the gate gradient. -/
def outB10 (c : Dev nD) (t : Fin cfg0.N) (h : t.val % 2 = 1) (p : Outs F) : Vec F S512x1408 .bf16 :=
  VO10.read (Elt F) (VO10.writes (Elt F) VO10.junk (atB m c t h p).2.2.1)

/-- At an odd point the stores into the up gradient cover its block. -/
theorem coverB11 (c : Dev nD) (t : Fin cfg0.N) (h : t.val % 2 = 1) (p : Outs F) (y : S512x1408.Idx) : ∃ pc ∈ (atB m c t h p).2.2.2.1, y ∈ pc.1.set :=
  View.cover_of_tiledBy (s := S512x1408) _ ![512, 128] (by sl_kernel_rfl) y

/-- What an odd point leaves in the up gradient. -/
def outB11 (c : Dev nD) (t : Fin cfg0.N) (h : t.val % 2 = 1) (p : Outs F) : Vec F S512x1408 .bf16 :=
  VO11.read (Elt F) (VO11.writes (Elt F) VO11.junk (atB m c t h p).2.2.2.1)

/-- At an odd point the stores into the running sum cover its block. -/
theorem coverB16 (c : Dev nD) (t : Fin cfg0.N) (h : t.val % 2 = 1) (p : Outs F) (y : S512x1024.Idx) : ∃ pc ∈ (atB m c t h p).2.2.2.2.1, y ∈ pc.1.set :=
  View.cover_of_tiledL (atB m c t h p).2.2.2.2.1 S512x1024.size (by sl_kernel_rfl) y

/-- What an odd point leaves in the running sum. -/
def outB16 (c : Dev nD) (t : Fin cfg0.N) (h : t.val % 2 = 1) (p : Outs F) : Vec F S512x1024 .f32 :=
  VS.read (Elt F) (VS.writes (Elt F) VS.junk (atB m c t h p).2.2.2.2.1)

/-- All that an odd point leaves. -/
def tupB (c : Dev nD) (t : Fin cfg0.N) (h : t.val % 2 = 1) (p : Outs F) : Outs F :=
  (outB8 m c t h p, outB9 m c t h p, outB10 m c t h p, outB11 m c t h p, p.2.2.2.2.1, p.2.2.2.2.2.1, outB16 m c t h p)

/-- The body's run at a later even point, on that point's buffers and input blocks, over what the point before left. -/
def atC (c : Dev nD) (t : Fin cfg0.N) (h : t.val % 2 = 0) (hz : t.val ≠ 0) :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) accM (Memref.isWhole_whole _) ((firstCol_iff t).mpr h) (fun e => absurd ((firstRow_iff t).mp e) (by omega)) (fun e => absurd ((lastCol_iff t).mp e) (by omega)) (iblk m c 0 t) (iblk m c 1 t) (iblk m c 2 t) (iblk m c 3 t) (iblk m c 4 t) (iblk m c 5 t) (iblk m c 6 t) (iblk m c 7 t)

/-- At a later even point the stores into the gate gradient cover its block. -/
theorem coverC10 (c : Dev nD) (t : Fin cfg0.N) (h : t.val % 2 = 0) (hz : t.val ≠ 0) (y : S512x1408.Idx) : ∃ pc ∈ (atC m c t h hz).1, y ∈ pc.1.set :=
  View.cover_of_tiledBy (s := S512x1408) _ ![512, 128] (by sl_kernel_rfl) y

/-- What a later even point leaves in the gate gradient. -/
def outC10 (c : Dev nD) (t : Fin cfg0.N) (h : t.val % 2 = 0) (hz : t.val ≠ 0) : Vec F S512x1408 .bf16 :=
  VO10.read (Elt F) (VO10.writes (Elt F) VO10.junk (atC m c t h hz).1)

/-- At a later even point the stores into the up gradient cover its block. -/
theorem coverC11 (c : Dev nD) (t : Fin cfg0.N) (h : t.val % 2 = 0) (hz : t.val ≠ 0) (y : S512x1408.Idx) : ∃ pc ∈ (atC m c t h hz).2.1, y ∈ pc.1.set :=
  View.cover_of_tiledBy (s := S512x1408) _ ![512, 128] (by sl_kernel_rfl) y

/-- What a later even point leaves in the up gradient. -/
def outC11 (c : Dev nD) (t : Fin cfg0.N) (h : t.val % 2 = 0) (hz : t.val ≠ 0) : Vec F S512x1408 .bf16 :=
  VO11.read (Elt F) (VO11.writes (Elt F) VO11.junk (atC m c t h hz).2.1)

/-- At a later even point the stores into the normed rows cover its block. -/
theorem coverC12 (c : Dev nD) (t : Fin cfg0.N) (h : t.val % 2 = 0) (hz : t.val ≠ 0) (y : S512x1024.Idx) : ∃ pc ∈ (atC m c t h hz).2.2.1, y ∈ pc.1.set :=
  View.cover_of_tiledL (atC m c t h hz).2.2.1 S512x1024.size (by sl_kernel_rfl) y

/-- What a later even point leaves in the normed rows. -/
def outC12 (c : Dev nD) (t : Fin cfg0.N) (h : t.val % 2 = 0) (hz : t.val ≠ 0) : Vec F S512x1024 .bf16 :=
  VO12.read (Elt F) (VO12.writes (Elt F) VO12.junk (atC m c t h hz).2.2.1)

/-- At a later even point the stores into the scaled gradients cover its block. -/
theorem coverC13 (c : Dev nD) (t : Fin cfg0.N) (h : t.val % 2 = 0) (hz : t.val ≠ 0) (y : S512x1024.Idx) : ∃ pc ∈ (atC m c t h hz).2.2.2.1, y ∈ pc.1.set :=
  View.cover_of_tiledL (atC m c t h hz).2.2.2.1 S512x1024.size (by sl_kernel_rfl) y

/-- What a later even point leaves in the scaled gradients. -/
def outC13 (c : Dev nD) (t : Fin cfg0.N) (h : t.val % 2 = 0) (hz : t.val ≠ 0) : Vec F S512x1024 .bf16 :=
  VO13.read (Elt F) (VO13.writes (Elt F) VO13.junk (atC m c t h hz).2.2.2.1)

/-- At a later even point the stores into the running sum cover its block. -/
theorem coverC16 (c : Dev nD) (t : Fin cfg0.N) (h : t.val % 2 = 0) (hz : t.val ≠ 0) (y : S512x1024.Idx) : ∃ pc ∈ (atC m c t h hz).2.2.2.2.1, y ∈ pc.1.set :=
  View.cover_of_tiledL (atC m c t h hz).2.2.2.2.1 S512x1024.size (by sl_kernel_rfl) y

/-- What a later even point leaves in the running sum. -/
def outC16 (c : Dev nD) (t : Fin cfg0.N) (h : t.val % 2 = 0) (hz : t.val ≠ 0) : Vec F S512x1024 .f32 :=
  VS.read (Elt F) (VS.writes (Elt F) VS.junk (atC m c t h hz).2.2.2.2.1)

/-- All that a later even point leaves (the input gradient is not stored there). -/
def tupC (c : Dev nD) (t : Fin cfg0.N) (h : t.val % 2 = 0) (hz : t.val ≠ 0) (p : Outs F) : Outs F :=
  (k0_pay8, p.2.1, outC10 m c t h hz, outC11 m c t h hz, outC12 m c t h hz, outC13 m c t h hz, outC16 m c t h hz)

/-- What the buffers hold after each point: each point's stores over what the point before left. -/
def outs (c : Dev nD) : (n : ℕ) → n < cfg0.N → Outs F
  | 0, hn => tupA m c ⟨0, hn⟩ rfl
  | n + 1, hn =>
    if h : (n + 1) % 2 = 0 then tupC m c ⟨n + 1, hn⟩ h (Nat.succ_ne_zero n) (outs c n (Nat.lt_of_succ_lt hn))
    else tupB m c ⟨n + 1, hn⟩ (Nat.mod_two_ne_zero.mp h) (outs c n (Nat.lt_of_succ_lt hn))

/-- The point before. -/
theorem pred_lt (t : Fin cfg0.N) : t.val - 1 < cfg0.N := Nat.lt_of_le_of_lt (Nat.sub_le _ _) t.isLt

/-- After the first point. -/
theorem outs_A (c : Dev nD) (t : Fin cfg0.N) (h : t.val = 0) : outs m c t.val t.isLt = tupA m c t h := by
  obtain ⟨n, hn⟩ := t
  cases n with
  | zero => rfl
  | succ n => exact absurd h (Nat.succ_ne_zero n)

/-- After a later even point. -/
theorem outs_C (c : Dev nD) (t : Fin cfg0.N) (h : t.val % 2 = 0) (hz : t.val ≠ 0) :
    outs m c t.val t.isLt = tupC m c t h hz (outs m c (t.val - 1) (pred_lt t)) := by
  obtain ⟨n, hn⟩ := t
  cases n with
  | zero => exact absurd rfl hz
  | succ n => exact dif_pos h

/-- After an odd point. -/
theorem outs_B (c : Dev nD) (t : Fin cfg0.N) (h : t.val % 2 = 1) :
    outs m c t.val t.isLt = tupB m c t h (outs m c (t.val - 1) (pred_lt t)) := by
  obtain ⟨n, hn⟩ := t
  cases n with
  | zero => exact absurd h (show ¬ (0 % 2 = 1) by decide)
  | succ n => exact dif_neg (by show ¬ (n + 1) % 2 = 0; have h' : (n + 1) % 2 = 1 := h; omega)

/-- What the pipeline keeps between points: the running sum at what the point before left, and the random generator. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) accM fullShare ((outs m c n hn).2.2.2.2.2.2)) ∗ (∃ r, prngReg c r))

/-- Before the first point. -/
theorem PhiS_zero (c : Dev nD) (n : ℕ) (h : n ≤ cfg0.N) (hz : n = 0) : PhiS m c n h = Pipeline.ΦA spec0 c := by
  subst hz; rfl

/-- After a point. -/
theorem PhiS_succ (c : Dev nD) (n : ℕ) (hn : n < cfg0.N) :
    PhiS m c (n + 1) hn = iprop(iprop(owns (c : Thread nD τ) accM fullShare ((outs m c n hn).2.2.2.2.2.2)) ∗ (∃ r, prngReg c r)) := rfl

/-- Before a later point. -/
theorem PhiS_pos (c : Dev nD) (n : ℕ) (h : n ≤ cfg0.N) (hz : n ≠ 0) :
    PhiS m c n h = iprop(iprop(owns (c : Thread nD τ) accM fullShare ((outs m c (n - 1) (by omega)).2.2.2.2.2.2)) ∗ (∃ r, prngReg c r)) := by
  cases n with
  | zero => exact absurd rfl hz
  | succ n => rfl

/-- The pipeline's data: the arrays as the region finds them, each input's buffer left at its block, each result's at
    what `outs` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).1
    | ⟨9, _⟩ => (outs m c t.val t.isLt).2.1
    | ⟨10, _⟩ => (outs m c t.val t.isLt).2.2.1
    | ⟨11, _⟩ => (outs m c t.val t.isLt).2.2.2.1
    | ⟨12, _⟩ => (outs m c t.val t.isLt).2.2.2.2.1
    | ⟨13, _⟩ => (outs m c t.val t.isLt).2.2.2.2.2.1
  Φ t := PhiS m c t.val (Nat.le_of_lt_succ t.isLt)
  q _ := fullShare
  owed _ := 0

/-- The arrays are those the region finds. -/
theorem A_eq (c : Dev nD) (w : Fin cfg0.W) : (dats m 0 c).A w = V m c (Pipeline.arrRef spec0 w) := by
  dsimp only [dats]

/-- What is kept before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Input 0's buffer is left at its block. -/
theorem after0 (c : Dev nD) (t : Fin cfg0.N) : (dats m 0 c).after 0 t = iblk m c 0 t := by dsimp only [dats]
/-- Input 1's buffer is left at its block. -/
theorem after1 (c : Dev nD) (t : Fin cfg0.N) : (dats m 0 c).after 1 t = iblk m c 1 t := by dsimp only [dats]
/-- Input 2's buffer is left at its block. -/
theorem after2 (c : Dev nD) (t : Fin cfg0.N) : (dats m 0 c).after 2 t = iblk m c 2 t := by dsimp only [dats]
/-- Input 3's buffer is left at its block. -/
theorem after3 (c : Dev nD) (t : Fin cfg0.N) : (dats m 0 c).after 3 t = iblk m c 3 t := by dsimp only [dats]
/-- Input 4's buffer is left at its block. -/
theorem after4 (c : Dev nD) (t : Fin cfg0.N) : (dats m 0 c).after 4 t = iblk m c 4 t := by dsimp only [dats]
/-- Input 5's buffer is left at its block. -/
theorem after5 (c : Dev nD) (t : Fin cfg0.N) : (dats m 0 c).after 5 t = iblk m c 5 t := by dsimp only [dats]
/-- Input 6's buffer is left at its block. -/
theorem after6 (c : Dev nD) (t : Fin cfg0.N) : (dats m 0 c).after 6 t = iblk m c 6 t := by dsimp only [dats]
/-- Input 7's buffer is left at its block. -/
theorem after7 (c : Dev nD) (t : Fin cfg0.N) : (dats m 0 c).after 7 t = iblk m c 7 t := by dsimp only [dats]
/-- What a point leaves in the input gradient. -/
theorem after8 (c : Dev nD) (t : Fin cfg0.N) : (dats m 0 c).after 8 t = (outs m c t.val t.isLt).1 := by dsimp only [dats]
/-- What a point leaves in the scale gradient. -/
theorem after9 (c : Dev nD) (t : Fin cfg0.N) : (dats m 0 c).after 9 t = (outs m c t.val t.isLt).2.1 := by dsimp only [dats]
/-- What a point leaves in the gate gradient. -/
theorem after10 (c : Dev nD) (t : Fin cfg0.N) : (dats m 0 c).after 10 t = (outs m c t.val t.isLt).2.2.1 := by dsimp only [dats]
/-- What a point leaves in the up gradient. -/
theorem after11 (c : Dev nD) (t : Fin cfg0.N) : (dats m 0 c).after 11 t = (outs m c t.val t.isLt).2.2.2.1 := by dsimp only [dats]
/-- What a point leaves in the normed rows. -/
theorem after12 (c : Dev nD) (t : Fin cfg0.N) : (dats m 0 c).after 12 t = (outs m c t.val t.isLt).2.2.2.2.1 := by dsimp only [dats]
/-- What a point leaves in the scaled gradients. -/
theorem after13 (c : Dev nD) (t : Fin cfg0.N) : (dats m 0 c).after 13 t = (outs m c t.val t.isLt).2.2.2.2.2.1 := by dsimp only [dats]
/-- Input 0's buffer holds its block at every point. -/
theorem before0 (c : Dev nD) (t : Fin cfg0.N) (d) : (dats m 0 c).before 0 t d = iblk m c 0 t :=
  before0_0_of m (dats m 0 c) (A_eq m c 0) (after0 m c) t d
/-- Input 1's buffer holds its block at every point. -/
theorem before1 (c : Dev nD) (t : Fin cfg0.N) (d) : (dats m 0 c).before 1 t d = iblk m c 1 t :=
  before0_1_of m (dats m 0 c) (A_eq m c 1) (after1 m c) t d
/-- Input 2's buffer holds its block at every point. -/
theorem before2 (c : Dev nD) (t : Fin cfg0.N) (d) : (dats m 0 c).before 2 t d = iblk m c 2 t :=
  before0_2_of m (dats m 0 c) (A_eq m c 2) (after2 m c) t d
/-- Input 3's buffer holds its block at every point. -/
theorem before3 (c : Dev nD) (t : Fin cfg0.N) (d) : (dats m 0 c).before 3 t d = iblk m c 3 t :=
  before0_3_of m (dats m 0 c) (A_eq m c 3) (after3 m c) t d
/-- Input 4's buffer holds its block at every point. -/
theorem before4 (c : Dev nD) (t : Fin cfg0.N) (d) : (dats m 0 c).before 4 t d = iblk m c 4 t :=
  before0_4_of m (dats m 0 c) (A_eq m c 4) (after4 m c) t d
/-- Input 5's buffer holds its block at every point. -/
theorem before5 (c : Dev nD) (t : Fin cfg0.N) (d) : (dats m 0 c).before 5 t d = iblk m c 5 t :=
  before0_5_of m (dats m 0 c) (A_eq m c 5) (after5 m c) t d
/-- Input 6's buffer holds its block at every point. -/
theorem before6 (c : Dev nD) (t : Fin cfg0.N) (d) : (dats m 0 c).before 6 t d = iblk m c 6 t :=
  before0_6_of m (dats m 0 c) (A_eq m c 6) (after6 m c) t d
/-- Input 7's buffer holds its block at every point. -/
theorem before7 (c : Dev nD) (t : Fin cfg0.N) (d) : (dats m 0 c).before 7 t d = iblk m c 7 t :=
  before0_7_of m (dats m 0 c) (A_eq m c 7) (after7 m c) t d
/-- An odd point leaves the normed rows as they were. -/
theorem tupB_12 (c : Dev nD) (t : Fin cfg0.N) (h : t.val % 2 = 1) (p : Outs F) : (tupB m c t h p).2.2.2.2.1 = p.2.2.2.2.1 := by
  unfold tupB; dsimp only
/-- An odd point leaves the scaled gradients as they were. -/
theorem tupB_13 (c : Dev nD) (t : Fin cfg0.N) (h : t.val % 2 = 1) (p : Outs F) : (tupB m c t h p).2.2.2.2.2.1 = p.2.2.2.2.2.1 := by
  unfold tupB; dsimp only

/-- The scale gradient stays through the points that do not store it. -/
theorem carry9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t hz hi _
  rw [after9, after9]
  rcases Nat.mod_two_eq_zero_or_one t.val with h | h
  · rw [outs_C m c t h hz]
    rfl
  · rw [live9_odd t h] at hi
    exact absurd hi Bool.false_ne_true

/-- The normed rows stay through the points that do not store them. -/
theorem carry12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t hz hi _
  rw [after12, after12]
  rcases Nat.mod_two_eq_zero_or_one t.val with h | h
  · rw [live12_even t h] at hi
    exact absurd hi Bool.false_ne_true
  · rw [outs_B m c t h]
    exact tupB_12 m c t h _

/-- The scaled gradients stay through the points that do not store them. -/
theorem carry13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t hz hi _
  rw [after13, after13]
  rcases Nat.mod_two_eq_zero_or_one t.val with h | h
  · rw [live13_even t h] at hi
    exact absurd hi Bool.false_ne_true
  · rw [outs_B m c t h]
    exact tupB_13 m c t h _

/-- At an odd point the buffer of the scale gradient holds what the point before left. -/
theorem before9_odd (c : Dev nD) (t : Fin cfg0.N) (h : t.val % 2 = 1) (d) :
    (dats m 0 c).before 9 t d = (outs m c (t.val - 1) (pred_lt t)).2.1 := by
  rw [Dat.before_out_traj _ 9 rfl (fun _ _ => rfl) (carry9 m c) t.val t rfl d,
    if_neg (by rw [notFresh9_odd t h]; exact Bool.false_ne_true)]
  dsimp only [dats]

/-- At an odd point the buffer of the normed rows holds what the point before left. -/
theorem before12_odd (c : Dev nD) (t : Fin cfg0.N) (h : t.val % 2 = 1) (d) :
    (dats m 0 c).before 12 t d = (outs m c (t.val - 1) (pred_lt t)).2.2.2.2.1 := by
  rw [Dat.before_out_traj _ 12 rfl (fun _ _ => rfl) (carry12 m c) t.val t rfl d,
    if_neg (by rw [notFresh12_odd t h]; exact Bool.false_ne_true)]
  dsimp only [dats]

/-- At an odd point the buffer of the scaled gradients holds what the point before left. -/
theorem before13_odd (c : Dev nD) (t : Fin cfg0.N) (h : t.val % 2 = 1) (d) :
    (dats m 0 c).before 13 t d = (outs m c (t.val - 1) (pred_lt t)).2.2.2.2.2.1 := by
  rw [Dat.before_out_traj _ 13 rfl (fun _ _ => rfl) (carry13 m c) t.val t rfl d,
    if_neg (by rw [notFresh13_odd t h]; exact Bool.false_ne_true)]
  dsimp only [dats]

/-- Where a window is live its buffer is left at what the data says. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- So it is where a window is idle but written back. -/
theorem leaves_flush (c : Dev nD) (w : Fin cfg0.W) (t : Fin cfg0.N) (h : cfg0.idle w (cfg0.grid.coords t) = true)
    (hf : (cfg0.win w).flush t = true) :
    (dats m 0 c).leavesExact w t = owns (c : Thread nD τ) ((cfg0.win w).stage (cfg0.slots t w)) fullShare ((dats m 0 c).after w t) := by
  unfold Dat.leavesExact; rw [h, hf]

/-- What the body is called with at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- What the body returns at a point. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4000000 in
/-- The body at the first point: from the buffers at what they hold to the buffers at what the data says. -/
theorem soundA (c : Dev nD) (t : Fin cfg0.N) (h : t.val = 0) :
    bodyPre m c t ⊢ wp frame (wpE (defs₀ (F := F)) Variants.none c none) Set.univ (bodyAt0 t) (fun _ => bodyPost m c t) := by
  have H0 : t.val % 2 = 0 := by rw [h]
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  rw [leaves_live m c 0 t (live0 t), leaves_live m c 1 t (live1 t), leaves_live m c 2 t (live2 t), leaves_live m c 3 t (live3 t), leaves_live m c 4 t (live4 t), leaves_live m c 5 t (live5 t), leaves_live m c 6 t (live6 t), leaves_live m c 7 t (live7 t), Dat.leavesExact_idle (dats m 0 c) 8 t (idle8_even t H0) (noFlush8_even t H0), leaves_live m c 9 t (live9_zero t h), leaves_live m c 10 t (live10 t), leaves_live m c 11 t (live11 t), leaves_live m c 12 t (live12_even t H0), leaves_live m c 13 t (live13_even t H0)]
  rw [after0, after1, after2, after3, after4, after5, after6, after7, after9, after10, after11, after12, after13]
  rw [PhiS_castSucc m c t, PhiS_zero m c _ _ h, start_eq]
  rw [outs_A m c t h]
  unfold tupA; dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((atA m c t h).2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  iintro ⟨H0, H1, H2, H3, H4, H5, H6, H7, H8, ⟨%e9, H9⟩, ⟨%e10, H10⟩, ⟨%e11, H11⟩, ⟨%e12, H12⟩, ⟨%e13, H13⟩, ⟨%es, HS0⟩⟩
  isplitl [HS0 Hg]
  · isplitl [HS0]
    · unfold owns; iexists _; isplitr
      swap; · iexact HS0
      ipureintro; exact View.read_writes_of_cover _ _ _ _ _ (coverA16 m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]
  · unfold owns; iexists _; isplitr
    swap; · iexact H9
    ipureintro; exact View.read_writes_of_cover _ _ _ _ _ (coverA9 m c t h)
  isplitl [H10]
  · unfold owns; iexists _; isplitr
    swap; · iexact H10
    ipureintro; exact View.read_writes_of_cover _ _ _ _ _ (coverA10 m c t h)
  isplitl [H11]
  · unfold owns; iexists _; isplitr
    swap; · iexact H11
    ipureintro; exact View.read_writes_of_cover _ _ _ _ _ (coverA11 m c t h)
  isplitl [H12]
  · unfold owns; iexists _; isplitr
    swap; · iexact H12
    ipureintro; exact View.read_writes_of_cover _ _ _ _ _ (coverA12 m c t h)
  unfold owns; iexists _; isplitr
  swap; · iexact H13
  ipureintro; exact View.read_writes_of_cover _ _ _ _ _ (coverA13 m c t h)

set_option maxHeartbeats 4000000 in
/-- The body at a later even point: from the buffers at what they hold to the buffers at what the data says. -/
theorem soundC (c : Dev nD) (t : Fin cfg0.N) (h : t.val % 2 = 0) (hz : t.val ≠ 0) :
    bodyPre m c t ⊢ wp frame (wpE (defs₀ (F := F)) Variants.none c none) Set.univ (bodyAt0 t) (fun _ => bodyPost m c t) := by
  have H0 : t.val % 2 = 0 := h
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  rw [leaves_live m c 0 t (live0 t), leaves_live m c 1 t (live1 t), leaves_live m c 2 t (live2 t), leaves_live m c 3 t (live3 t), leaves_live m c 4 t (live4 t), leaves_live m c 5 t (live5 t), leaves_live m c 6 t (live6 t), leaves_live m c 7 t (live7 t), Dat.leavesExact_idle (dats m 0 c) 8 t (idle8_even t H0) (noFlush8_even t H0), Dat.leavesExact_idle (dats m 0 c) 9 t (idle9_even t ⟨H0, hz⟩) (noFlush9_even t H0), leaves_live m c 10 t (live10 t), leaves_live m c 11 t (live11 t), leaves_live m c 12 t (live12_even t H0), leaves_live m c 13 t (live13_even t H0)]
  rw [after0, after1, after2, after3, after4, after5, after6, after7, after10, after11, after12, after13]
  rw [PhiS_castSucc m c t, PhiS_pos m c _ _ hz]
  rw [outs_C m c t h hz]
  unfold tupC; dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((atC m c t h hz).2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [HS0]; · iexists _; iexact HS0
  iintro ⟨H0, H1, H2, H3, H4, H5, H6, H7, H8, H9, ⟨%e10, H10⟩, ⟨%e11, H11⟩, ⟨%e12, H12⟩, ⟨%e13, H13⟩, ⟨%es, HS0⟩⟩
  isplitl [HS0 Hg]
  · isplitl [HS0]
    · unfold owns; iexists _; isplitr
      swap; · iexact HS0
      ipureintro; exact View.read_writes_of_cover _ _ _ _ _ (coverC16 m c t h hz)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]
  · unfold owns; iexists _; isplitr
    swap; · iexact H10
    ipureintro; exact View.read_writes_of_cover _ _ _ _ _ (coverC10 m c t h hz)
  isplitl [H11]
  · unfold owns; iexists _; isplitr
    swap; · iexact H11
    ipureintro; exact View.read_writes_of_cover _ _ _ _ _ (coverC11 m c t h hz)
  isplitl [H12]
  · unfold owns; iexists _; isplitr
    swap; · iexact H12
    ipureintro; exact View.read_writes_of_cover _ _ _ _ _ (coverC12 m c t h hz)
  unfold owns; iexists _; isplitr
  swap; · iexact H13
  ipureintro; exact View.read_writes_of_cover _ _ _ _ _ (coverC13 m c t h hz)

set_option maxHeartbeats 4000000 in
/-- The body at an odd point: from the buffers at what they hold to the buffers at what the data says. -/
theorem soundB (c : Dev nD) (t : Fin cfg0.N) (h : t.val % 2 = 1) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before9_odd m c t h, before12_odd m c t h, before13_odd m c t h]
  rw [show (dats m 0 c).owesAt () t.succ = (dats m 0 c).owesAt () t.castSucc from rfl]
  rw [show (dats m 0 c).Φ t.succ = PhiS m c (t.val + 1) t.isLt from rfl, PhiS_succ]
  rw [leaves_live m c 0 t (live0 t), leaves_live m c 1 t (live1 t), leaves_live m c 2 t (live2 t), leaves_live m c 3 t (live3 t), leaves_live m c 4 t (live4 t), leaves_live m c 5 t (live5 t), leaves_live m c 6 t (live6 t), leaves_live m c 7 t (live7 t), leaves_live m c 8 t (live8_odd t h), leaves_live m c 9 t (live9_odd t h), leaves_live m c 10 t (live10 t), leaves_live m c 11 t (live11 t), leaves_flush m c 12 t (idle12_odd t h) (flush12_odd t h), leaves_flush m c 13 t (idle13_odd t h) (flush13_odd t h)]
  rw [after0, after1, after2, after3, after4, after5, after6, after7, after8, after9, after10, after11, after12, after13]
  rw [PhiS_castSucc m c t, PhiS_pos m c _ _ (by omega)]
  rw [outs_B m c t h]
  unfold tupB; dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((atB m c t h (outs m c (t.val - 1) (pred_lt t))).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexists _; iexact H10
  isplitl [H11]; · iexists _; iexact H11
  isplitl [H12]; · iexact H12
  isplitl [H13]; · iexact H13
  isplitl [HS0]; · iexact HS0
  iintro ⟨H0, H1, H2, H3, H4, H5, H6, H7, ⟨%e8, H8⟩, ⟨%e9, H9⟩, ⟨%e10, H10⟩, ⟨%e11, H11⟩, H12, H13, ⟨%es, HS0⟩⟩
  isplitl [HS0 Hg]
  · isplitl [HS0]
    · unfold owns; iexists _; isplitr
      swap; · iexact HS0
      ipureintro; exact View.read_writes_of_cover _ _ _ _ _ (coverB16 m c t h (outs m c (t.val - 1) (pred_lt t)))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverB8 m c t h (outs m c (t.val - 1) (pred_lt t)))
  isplitl [H9]
  · unfold owns; iexists _; isplitr
    swap; · iexact H9
    ipureintro; exact View.read_writes_of_cover _ _ _ _ _ (coverB9 m c t h (outs m c (t.val - 1) (pred_lt t)))
  isplitl [H10]
  · unfold owns; iexists _; isplitr
    swap; · iexact H10
    ipureintro; exact View.read_writes_of_cover _ _ _ _ _ (coverB10 m c t h (outs m c (t.val - 1) (pred_lt t)))
  isplitl [H11]
  · unfold owns; iexists _; isplitr
    swap; · iexact H11
    ipureintro; exact View.read_writes_of_cover _ _ _ _ _ (coverB11 m c t h (outs m c (t.val - 1) (pred_lt t)))
  isplitl [H12]; · iexact H12
  iexact H13

/-- The body at every point. -/
theorem sound_body (c : Dev nD) (t : Fin cfg0.N) :
    bodyPre m c t ⊢ wp frame (wpE (defs₀ (F := F)) Variants.none c none) Set.univ (bodyAt0 t) (fun _ => bodyPost m c t) := by
  rcases Nat.mod_two_eq_zero_or_one t.val with h | h
  · by_cases hz : t.val = 0
    · exact soundA m c t hz
    · exact soundC m c t h hz
  · exact soundB m c t h

/-- The body the pipeline calls at a point is this one. -/
theorem defs₀_row (t : Fin cfg0.N) :
    defs₀ (F := F) .tc cfg0.body (cfg0.bodyArgs t (cfg0.slots t)) = bodyAt0 t := by
  unfold defs₀; rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the region starts from is what is kept before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- What is kept after the last point gives the region's buffers back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), start_eq]
  iintro ⟨HS0, Hg⟩
  isplitl [HS0]
  · iexists _; iexact HS0
  iexact Hg

-- the launch theorem's implicit arguments are found by unifying its conclusion with this one
set_option backward.isDefEq.respectTransparency.types false in
/-- The kernel runs to the end from any memory: every array of the pipeline ends at what the data says, every other
    buffer is as the region found it, and every counter is zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The kernel leaves its arguments as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.KernelIdeal.A

end
-- ==== Proof.ABlock.lean ====
/-
What one grid point of the activation-gradient kernel computes from the blocks before it: the gate and up gradients, put
down by column chunks, and what the running sum gains from them.
-/
module

public import proofs.«01_k».proof.Proof.AFrame
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

namespace Cert.KernelIdeal.A

open Idealize.ShloMosaic Idealize.ShloMosaic.TcCoe Idealize.ShloMosaic.Tactic Cert.KernelIdeal.Gen

/-- The logistic function, as the kernel writes it. -/
def logistic (a : EReal) : EReal := Ideal.div 1 (1 + Ideal.exp (0 - a))

/-- The up gradient: the activation's gradient `d` times the gated value of `a`. -/
def upGrad (d a : EReal) : EReal := d * (a * logistic a)

/-- The gate gradient: the activation's gradient `d` times the up value `b` times the slope of the gate at `a`. -/
def gateGrad (d a b : EReal) : EReal := d * b * (logistic a * (1 + a * (1 - logistic a)))

/-- Row `p` of a block of gradients against row `q` of a block of the output weight. -/
def rowDot (D : Vec Ideal S512x1024 .bf16) (W : Vec Ideal S1408x1024 .bf16) (p : Fin 512) (q : Fin 1408) : EReal :=
  ∑ k : Fin 1024, D (ix2 p k) * W (ix2 q k)

/-- Row `p` of a block of gradients against row `q` of a 256-row chunk of the weight. -/
def rowDot256 (D : Vec Ideal S512x1024 .bf16) (W : Vec Ideal S256x1024 .bf16) (p : Fin 512) (q : Fin 256) : EReal :=
  ∑ k : Fin 1024, D (ix2 p k) * W (ix2 q k)

/-- Row `p` of a block of gradients against row `q` of a 128-row chunk of the weight. -/
def rowDot128 (D : Vec Ideal S512x1024 .bf16) (W : Vec Ideal S128x1024 .bf16) (p : Fin 512) (q : Fin 128) : EReal :=
  ∑ k : Fin 1024, D (ix2 p k) * W (ix2 q k)

/-- A 256-row chunk of a weight block, by rows. -/
theorem ldRows256 (W : Vec Ideal S1408x1024 .bf16) (o : ℕ) (inb) (ho : o + 256 ≤ 1408) :
    View.ld W (Rect.unit ![o, 0] ![256, 1024] inb) = fun x : S256x1024.Idx => W (ix2 ⟨o + (x 0).val, by have : (x 0).val < 256 := (x 0).isLt; omega⟩ (x 1)) := by
  funext x
  refine View.ld_unit_apply_of W _ _ _ x _ fun a => ?_
  match a with
  | ⟨0, _⟩ => rfl
  | ⟨1, _⟩ => exact (Nat.zero_add _).symm

/-- A 128-row chunk of a weight block, by rows. -/
theorem ldRows128 (W : Vec Ideal S1408x1024 .bf16) (o : ℕ) (inb) (ho : o + 128 ≤ 1408) :
    View.ld W (Rect.unit ![o, 0] ![128, 1024] inb) = fun x : S128x1024.Idx => W (ix2 ⟨o + (x 0).val, by have : (x 0).val < 128 := (x 0).isLt; omega⟩ (x 1)) := by
  funext x
  refine View.ld_unit_apply_of W _ _ _ x _ fun a => ?_
  match a with
  | ⟨0, _⟩ => rfl
  | ⟨1, _⟩ => exact (Nat.zero_add _).symm

/-- A 256-column chunk of a block is the block at the chunk's place. -/
theorem ldCols256 (A : Vec Ideal S512x1408 .bf16) (o : ℕ) (inb) (x : S512x256.Idx) :
    View.ld A (Rect.unit ![0, o] ![512, 256] inb) x = A ((Rect.unit (s := S512x1408) ![0, o] ![512, 256] inb).emb x) := by
  refine View.ld_unit_apply_of A _ _ _ x _ fun a => ?_
  match a with
  | ⟨0, _⟩ => show 0 + 1 * (x 0).val = 0 + (x 0).val; omega
  | ⟨1, _⟩ => show o + 1 * (x 1).val = o + (x 1).val; omega

/-- A 128-column chunk of a block is the block at the chunk's place. -/
theorem ldCols128 (A : Vec Ideal S512x1408 .bf16) (o : ℕ) (inb) (x : S512x128.Idx) :
    View.ld A (Rect.unit ![0, o] ![512, 128] inb) x = A ((Rect.unit (s := S512x1408) ![0, o] ![512, 128] inb).emb x) := by
  refine View.ld_unit_apply_of A _ _ _ x _ fun a => ?_
  match a with
  | ⟨0, _⟩ => show 0 + 1 * (x 0).val = 0 + (x 0).val; omega
  | ⟨1, _⟩ => show o + 1 * (x 1).val = o + (x 1).val; omega

/-- The product against a 256-row chunk is the product against the weight block at the chunk's place. -/
theorem rowDot256_ld (D : Vec Ideal S512x1024 .bf16) (W : Vec Ideal S1408x1024 .bf16) (o : ℕ) (inb inb') (ho : o + 256 ≤ 1408)
    (x : S512x256.Idx) :
    rowDot256 D (View.ld W (Rect.unit ![o, 0] ![256, 1024] inb)) (x 0) (x 1)
      = rowDot D W ((Rect.unit (s := S512x1408) ![0, o] ![512, 256] inb').emb x 0) ((Rect.unit (s := S512x1408) ![0, o] ![512, 256] inb').emb x 1) := by
  rw [ldRows256 W o inb ho]
  unfold rowDot256 rowDot
  rw [show (Rect.unit (s := S512x1408) ![0, o] ![512, 256] inb').emb x 0 = x 0 from Fin.ext (by show 0 + 1 * (x 0).val = (x 0).val; omega),
    show (Rect.unit (s := S512x1408) ![0, o] ![512, 256] inb').emb x 1 = ⟨o + (x 1).val, by have : (x 1).val < 256 := (x 1).isLt; show o + (x 1).val < 1408; omega⟩ from Fin.ext (by show o + 1 * (x 1).val = o + (x 1).val; omega)]
  rfl

/-- The product against a 128-row chunk is the product against the weight block at the chunk's place. -/
theorem rowDot128_ld (D : Vec Ideal S512x1024 .bf16) (W : Vec Ideal S1408x1024 .bf16) (o : ℕ) (inb inb') (ho : o + 128 ≤ 1408)
    (x : S512x128.Idx) :
    rowDot128 D (View.ld W (Rect.unit ![o, 0] ![128, 1024] inb)) (x 0) (x 1)
      = rowDot D W ((Rect.unit (s := S512x1408) ![0, o] ![512, 128] inb').emb x 0) ((Rect.unit (s := S512x1408) ![0, o] ![512, 128] inb').emb x 1) := by
  rw [ldRows128 W o inb ho]
  unfold rowDot128 rowDot
  rw [show (Rect.unit (s := S512x1408) ![0, o] ![512, 128] inb').emb x 0 = x 0 from Fin.ext (by show 0 + 1 * (x 0).val = (x 0).val; omega),
    show (Rect.unit (s := S512x1408) ![0, o] ![512, 128] inb').emb x 1 = ⟨o + (x 1).val, by have : (x 1).val < 128 := (x 1).isLt; show o + (x 1).val < 1408; omega⟩ from Fin.ext (by show o + 1 * (x 1).val = o + (x 1).val; omega)]
  rfl

/-- Stores that tile a block and each hold what `G` says there leave `G`. -/
theorem canon_of (G : S512x1408.Idx → EReal) (L : List (View.Piece (Elt Ideal) S512x1408 .bf16))
    (h : View.PiecesOf (Val := Elt Ideal) (e := .bf16) G L) (y : S512x1408.Idx) (hc : ∃ p ∈ L, y ∈ p.1.set) :
    View.canon L y = G y := by
  have e := View.canon_append_of_piecesOf (Val := Elt Ideal) (e := .bf16) G [] L h y hc
  rwa [List.append_nil] at e

/-- The block of up gradients. -/
def upBlock (D : Vec Ideal S512x1024 .bf16) (A : Vec Ideal S512x1408 .bf16) (W : Vec Ideal S1408x1024 .bf16) : Vec Ideal S512x1408 .bf16 :=
  fun y => upGrad (rowDot D W (y 0) (y 1)) (A y)

/-- The block of gate gradients. -/
def gateBlock (D : Vec Ideal S512x1024 .bf16) (A B : Vec Ideal S512x1408 .bf16) (W : Vec Ideal S1408x1024 .bf16) : Vec Ideal S512x1408 .bf16 :=
  fun y => gateGrad (rowDot D W (y 0) (y 1)) (A y) (B y)

/-- The up gradients of the columns from 1280 on. -/
theorem up_1280 (D : Vec Ideal S512x1024 .bf16) (a : Vec Ideal S512x128 .bf16) (w : Vec Ideal S128x1024 .bf16) (x : S512x128.Idx) :
    k0_pay45 (k0_pay10 D) a w x = upGrad (rowDot128 D w (x 0) (x 1)) (a x) := by
  unfold_payloads
  pointwise
  rfl

/-- The up gradients of the columns from 1024 on. -/
theorem up_1024 (D : Vec Ideal S512x1024 .bf16) (a : Vec Ideal S512x256 .bf16) (w : Vec Ideal S256x1024 .bf16) (x : S512x256.Idx) :
    k0_pay38 (k0_pay10 D) a w x = upGrad (rowDot256 D w (x 0) (x 1)) (a x) := by
  unfold_payloads
  pointwise
  rfl

/-- The up gradients of the columns from 768 on. -/
theorem up_768 (D : Vec Ideal S512x1024 .bf16) (a : Vec Ideal S512x256 .bf16) (w : Vec Ideal S256x1024 .bf16) (x : S512x256.Idx) :
    k0_pay33 (k0_pay10 D) (k0_pay28 a) (k0_pay30 a) (k0_pay31 w) x = upGrad (rowDot256 D w (x 0) (x 1)) (a x) := by
  unfold_payloads
  pointwise
  rfl

/-- The up gradients of the columns from 512 on. -/
theorem up_512 (D : Vec Ideal S512x1024 .bf16) (a : Vec Ideal S512x256 .bf16) (w : Vec Ideal S256x1024 .bf16) (x : S512x256.Idx) :
    k0_pay26 (k0_pay10 D) (k0_pay21 a) k0_pay23 w x = upGrad (rowDot256 D w (x 0) (x 1)) (a x) := by
  unfold_payloads
  pointwise
  rfl

/-- The up gradients of the columns from 256 on. -/
theorem up_256 (D : Vec Ideal S512x1024 .bf16) (a : Vec Ideal S512x256 .bf16) (w : Vec Ideal S256x1024 .bf16) (x : S512x256.Idx) :
    k0_pay19 (k0_pay10 D) a w x = upGrad (rowDot256 D w (x 0) (x 1)) (a x) := by
  unfold_payloads
  pointwise
  rfl

/-- The up gradients of the columns from 0 on. -/
theorem up_0 (D : Vec Ideal S512x1024 .bf16) (a : Vec Ideal S512x256 .bf16) (w : Vec Ideal S256x1024 .bf16) (x : S512x256.Idx) :
    k0_pay14 D a w x = upGrad (rowDot256 D w (x 0) (x 1)) (a x) := by
  unfold_payloads
  pointwise
  rfl

/-- The gate gradients of the columns from 1280 on. -/
theorem gate_1280 (D : Vec Ideal S512x1024 .bf16) (a b : Vec Ideal S512x128 .bf16) (w : Vec Ideal S128x1024 .bf16) (x : S512x128.Idx) :
    k0_pay46 (k0_pay10 D) a b w x = gateGrad (rowDot128 D w (x 0) (x 1)) (a x) (b x) := by
  unfold_payloads
  pointwise
  rfl

/-- The gate gradients of the columns from 1024 on. -/
theorem gate_1024 (D : Vec Ideal S512x1024 .bf16) (a b : Vec Ideal S512x256 .bf16) (w : Vec Ideal S256x1024 .bf16) (x : S512x256.Idx) :
    k0_pay41 (k0_pay35 a) (k0_pay36 a) (k0_pay39 (k0_pay10 D) b w) k0_pay40 x = gateGrad (rowDot256 D w (x 0) (x 1)) (a x) (b x) := by
  unfold_payloads
  pointwise
  rfl

/-- The gate gradients of the columns from 768 on. -/
theorem gate_768 (D : Vec Ideal S512x1024 .bf16) (a b : Vec Ideal S512x256 .bf16) (w : Vec Ideal S256x1024 .bf16) (x : S512x256.Idx) :
    k0_pay34 (k0_pay10 D) (k0_pay28 a) (k0_pay29 b) (k0_pay30 a) (k0_pay31 w) x = gateGrad (rowDot256 D w (x 0) (x 1)) (a x) (b x) := by
  unfold_payloads
  pointwise
  rfl

/-- The gate gradients of the columns from 512 on. -/
theorem gate_512 (D : Vec Ideal S512x1024 .bf16) (a b : Vec Ideal S512x256 .bf16) (w : Vec Ideal S256x1024 .bf16) (x : S512x256.Idx) :
    k0_pay27 (k0_pay10 D) (k0_pay21 a) (k0_pay22 b) k0_pay23 w x = gateGrad (rowDot256 D w (x 0) (x 1)) (a x) (b x) := by
  unfold_payloads
  pointwise
  rfl

/-- The gate gradients of the columns from 256 on. -/
theorem gate_256 (D : Vec Ideal S512x1024 .bf16) (a b : Vec Ideal S512x256 .bf16) (w : Vec Ideal S256x1024 .bf16) (x : S512x256.Idx) :
    k0_pay20 (k0_pay10 D) a b w x = gateGrad (rowDot256 D w (x 0) (x 1)) (a x) (b x) := by
  unfold_payloads
  pointwise
  rfl

/-- The gate gradients of the columns from 0 on. -/
theorem gate_0 (D : Vec Ideal S512x1024 .bf16) (a b : Vec Ideal S512x256 .bf16) (w : Vec Ideal S256x1024 .bf16) (x : S512x256.Idx) :
    k0_pay15 D a b w x = gateGrad (rowDot256 D w (x 0) (x 1)) (a x) (b x) := by
  unfold_payloads
  pointwise
  rfl

/-- The six column stores of the up gradients, the last first. -/
def upPieces (D : Vec Ideal S512x1024 .bf16) (A : Vec Ideal S512x1408 .bf16) (W : Vec Ideal S1408x1024 .bf16) : List (View.Piece (Elt Ideal) S512x1408 .bf16) :=
  [⟨Rect.unit ![0, 1280] ![512, 128] inb_S512x1408_S512x128_0_1280,
      k0_pay45 (k0_pay10 D) (View.ld A (Rect.unit ![0, 1280] ![512, 128] inb_S512x1408_S512x128_0_1280)) (View.ld W (Rect.unit ![1280, 0] ![128, 1024] inb_S1408x1024_S128x1024_1280_0))⟩,
    ⟨Rect.unit ![0, 1024] ![512, 256] inb_S512x1408_S512x256_0_1024,
      k0_pay38 (k0_pay10 D) (View.ld A (Rect.unit ![0, 1024] ![512, 256] inb_S512x1408_S512x256_0_1024)) (View.ld W (Rect.unit ![1024, 0] ![256, 1024] inb_S1408x1024_S256x1024_1024_0))⟩,
    ⟨Rect.unit ![0, 768] ![512, 256] inb_S512x1408_S512x256_0_768,
      k0_pay33 (k0_pay10 D) (k0_pay28 (View.ld A (Rect.unit ![0, 768] ![512, 256] inb_S512x1408_S512x256_0_768))) (k0_pay30 (View.ld A (Rect.unit ![0, 768] ![512, 256] inb_S512x1408_S512x256_0_768))) (k0_pay31 (View.ld W (Rect.unit ![768, 0] ![256, 1024] inb_S1408x1024_S256x1024_768_0)))⟩,
    ⟨Rect.unit ![0, 512] ![512, 256] inb_S512x1408_S512x256_0_512,
      k0_pay26 (k0_pay10 D) (k0_pay21 (View.ld A (Rect.unit ![0, 512] ![512, 256] inb_S512x1408_S512x256_0_512))) k0_pay23 (View.ld W (Rect.unit ![512, 0] ![256, 1024] inb_S1408x1024_S256x1024_512_0))⟩,
    ⟨Rect.unit ![0, 256] ![512, 256] inb_S512x1408_S512x256_0_256,
      k0_pay19 (k0_pay10 D) (View.ld A (Rect.unit ![0, 256] ![512, 256] inb_S512x1408_S512x256_0_256)) (View.ld W (Rect.unit ![256, 0] ![256, 1024] inb_S1408x1024_S256x1024_256_0))⟩,
    ⟨Rect.unit ![0, 0] ![512, 256] inb_S512x1408_S512x256_0_0,
      k0_pay14 D (View.ld A (Rect.unit ![0, 0] ![512, 256] inb_S512x1408_S512x256_0_0)) (View.ld W (Rect.unit ![0, 0] ![256, 1024] inb_S1408x1024_S256x1024_0_0))⟩]

/-- The six column stores leave the block of up gradients. -/
theorem up_list (D : Vec Ideal S512x1024 .bf16) (A : Vec Ideal S512x1408 .bf16) (W : Vec Ideal S1408x1024 .bf16) :
    View.canon (upPieces D A W) = upBlock D A W := by
  funext y
  refine canon_of (upBlock D A W) _ ?_ y (View.cover_of_tiledBy (s := S512x1408) _ ![512, 128] (by sl_kernel_rfl) y)
  refine ⟨fun x => ?_, fun x => ?_, fun x => ?_, fun x => ?_, fun x => ?_, fun x => ?_, trivial⟩
  · exact (up_1280 D _ _ x).trans (by rw [rowDot128_ld D W 1280 _ inb_S512x1408_S512x128_0_1280 (by decide), ldCols128 A]; rfl)
  · exact (up_1024 D _ _ x).trans (by rw [rowDot256_ld D W 1024 _ inb_S512x1408_S512x256_0_1024 (by decide), ldCols256 A]; rfl)
  · exact (up_768 D _ _ x).trans (by rw [rowDot256_ld D W 768 _ inb_S512x1408_S512x256_0_768 (by decide), ldCols256 A]; rfl)
  · exact (up_512 D _ _ x).trans (by rw [rowDot256_ld D W 512 _ inb_S512x1408_S512x256_0_512 (by decide), ldCols256 A]; rfl)
  · exact (up_256 D _ _ x).trans (by rw [rowDot256_ld D W 256 _ inb_S512x1408_S512x256_0_256 (by decide), ldCols256 A]; rfl)
  · exact (up_0 D _ _ x).trans (by rw [rowDot256_ld D W 0 _ inb_S512x1408_S512x256_0_0 (by decide), ldCols256 A]; rfl)

/-- The six column stores of the gate gradients, the last first. -/
def gatePieces (D : Vec Ideal S512x1024 .bf16) (A B : Vec Ideal S512x1408 .bf16) (W : Vec Ideal S1408x1024 .bf16) : List (View.Piece (Elt Ideal) S512x1408 .bf16) :=
  [⟨Rect.unit ![0, 1280] ![512, 128] inb_S512x1408_S512x128_0_1280,
      k0_pay46 (k0_pay10 D) (View.ld A (Rect.unit ![0, 1280] ![512, 128] inb_S512x1408_S512x128_0_1280)) (View.ld B (Rect.unit ![0, 1280] ![512, 128] inb_S512x1408_S512x128_0_1280)) (View.ld W (Rect.unit ![1280, 0] ![128, 1024] inb_S1408x1024_S128x1024_1280_0))⟩,
    ⟨Rect.unit ![0, 1024] ![512, 256] inb_S512x1408_S512x256_0_1024,
      k0_pay41 (k0_pay35 (View.ld A (Rect.unit ![0, 1024] ![512, 256] inb_S512x1408_S512x256_0_1024))) (k0_pay36 (View.ld A (Rect.unit ![0, 1024] ![512, 256] inb_S512x1408_S512x256_0_1024))) (k0_pay39 (k0_pay10 D) (View.ld B (Rect.unit ![0, 1024] ![512, 256] inb_S512x1408_S512x256_0_1024)) (View.ld W (Rect.unit ![1024, 0] ![256, 1024] inb_S1408x1024_S256x1024_1024_0))) k0_pay40⟩,
    ⟨Rect.unit ![0, 768] ![512, 256] inb_S512x1408_S512x256_0_768,
      k0_pay34 (k0_pay10 D) (k0_pay28 (View.ld A (Rect.unit ![0, 768] ![512, 256] inb_S512x1408_S512x256_0_768))) (k0_pay29 (View.ld B (Rect.unit ![0, 768] ![512, 256] inb_S512x1408_S512x256_0_768))) (k0_pay30 (View.ld A (Rect.unit ![0, 768] ![512, 256] inb_S512x1408_S512x256_0_768))) (k0_pay31 (View.ld W (Rect.unit ![768, 0] ![256, 1024] inb_S1408x1024_S256x1024_768_0)))⟩,
    ⟨Rect.unit ![0, 512] ![512, 256] inb_S512x1408_S512x256_0_512,
      k0_pay27 (k0_pay10 D) (k0_pay21 (View.ld A (Rect.unit ![0, 512] ![512, 256] inb_S512x1408_S512x256_0_512))) (k0_pay22 (View.ld B (Rect.unit ![0, 512] ![512, 256] inb_S512x1408_S512x256_0_512))) k0_pay23 (View.ld W (Rect.unit ![512, 0] ![256, 1024] inb_S1408x1024_S256x1024_512_0))⟩,
    ⟨Rect.unit ![0, 256] ![512, 256] inb_S512x1408_S512x256_0_256,
      k0_pay20 (k0_pay10 D) (View.ld A (Rect.unit ![0, 256] ![512, 256] inb_S512x1408_S512x256_0_256)) (View.ld B (Rect.unit ![0, 256] ![512, 256] inb_S512x1408_S512x256_0_256)) (View.ld W (Rect.unit ![256, 0] ![256, 1024] inb_S1408x1024_S256x1024_256_0))⟩,
    ⟨Rect.unit ![0, 0] ![512, 256] inb_S512x1408_S512x256_0_0,
      k0_pay15 D (View.ld A (Rect.unit ![0, 0] ![512, 256] inb_S512x1408_S512x256_0_0)) (View.ld B (Rect.unit ![0, 0] ![512, 256] inb_S512x1408_S512x256_0_0)) (View.ld W (Rect.unit ![0, 0] ![256, 1024] inb_S1408x1024_S256x1024_0_0))⟩]

/-- The six column stores leave the block of gate gradients. -/
theorem gate_list (D : Vec Ideal S512x1024 .bf16) (A B : Vec Ideal S512x1408 .bf16) (W : Vec Ideal S1408x1024 .bf16) :
    View.canon (gatePieces D A B W) = gateBlock D A B W := by
  funext y
  refine canon_of (gateBlock D A B W) _ ?_ y (View.cover_of_tiledBy (s := S512x1408) _ ![512, 128] (by sl_kernel_rfl) y)
  refine ⟨fun x => ?_, fun x => ?_, fun x => ?_, fun x => ?_, fun x => ?_, fun x => ?_, trivial⟩
  · exact (gate_1280 D _ _ _ x).trans (by rw [rowDot128_ld D W 1280 _ inb_S512x1408_S512x128_0_1280 (by decide), ldCols128 A, ldCols128 B]; rfl)
  · exact (gate_1024 D _ _ _ x).trans (by rw [rowDot256_ld D W 1024 _ inb_S512x1408_S512x256_0_1024 (by decide), ldCols256 A, ldCols256 B]; rfl)
  · exact (gate_768 D _ _ _ x).trans (by rw [rowDot256_ld D W 768 _ inb_S512x1408_S512x256_0_768 (by decide), ldCols256 A, ldCols256 B]; rfl)
  · exact (gate_512 D _ _ _ x).trans (by rw [rowDot256_ld D W 512 _ inb_S512x1408_S512x256_0_512 (by decide), ldCols256 A, ldCols256 B]; rfl)
  · exact (gate_256 D _ _ _ x).trans (by rw [rowDot256_ld D W 256 _ inb_S512x1408_S512x256_0_256 (by decide), ldCols256 A, ldCols256 B]; rfl)
  · exact (gate_0 D _ _ _ x).trans (by rw [rowDot256_ld D W 0 _ inb_S512x1408_S512x256_0_0 (by decide), ldCols256 A, ldCols256 B]; rfl)

/-- Reading a whole block back after stores that cover it reads what the stores left. -/
theorem readCov_full {r : Memref sig .tc .vmem S512x1408 .bf16} (L : List (View.Piece (Elt Ideal) S512x1408 .bf16)) (inb) :
    r.view.readCov L (Rect.unit (s := S512x1408) ![0, 0] ![512, 1408] inb).toLoadRect = View.canon L := by
  funext y
  rw [View.readCov_eq_canon']
  refine congrArg (View.canon L) ?_
  funext a
  match a with
  | ⟨0, _⟩ => exact Fin.ext (by show 0 + 1 * (y 0).val = (y 0).val; omega)
  | ⟨1, _⟩ => exact Fin.ext (by show 0 + 1 * (y 1).val = (y 1).val; omega)

/-- Row `p` of a block of gradients against column `q` of a weight block. -/
def colDot (D : Vec Ideal S512x1408 .bf16) (W : Vec Ideal S1408x1024 .bf16) (p : Fin 512) (q : Fin 1024) : EReal :=
  ∑ k : Fin 1408, D (ix2 p k) * W (ix2 k q)

/-- What a point adds to the running sum: the gate gradients against the gate weight, and the up gradients against the
    up weight. -/
def addend (DA DB : Vec Ideal S512x1408 .bf16) (W1 W3 : Vec Ideal S1408x1024 .bf16) (p : Fin 512) (q : Fin 1024) : EReal :=
  colDot DA W1 p q + colDot DB W3 p q

/-- The running sum after a point: what it held before and the point's addend. -/
theorem pay1 (P : Vec Ideal S512x1024 .f32) (DA : Vec Ideal S512x1408 .bf16) (W1 : Vec Ideal S1408x1024 .bf16) (DB : Vec Ideal S512x1408 .bf16) (W3 : Vec Ideal S1408x1024 .bf16)
    (x : S512x1024.Idx) : k0_pay1 P DA W1 DB W3 x = P x + addend DA DB W1 W3 (x 0) (x 1) := by
  unfold k0_pay1
  pointwise
  rfl

/-- The zero block the running sum starts from. -/
theorem pay8 (y : S512x1024.Idx) : k0_pay8 (F := Ideal) y = 0 := by
  unfold k0_pay8
  pointwise

/-- The zero row the scale gradient starts from. -/
theorem pay9 (y : S1x1024.Idx) : k0_pay9 (F := Ideal) y = 0 := by
  unfold k0_pay9
  pointwise

/-- The scaled gradients are half the incoming ones. -/
theorem pay7 (D : Vec Ideal S512x1024 .f32) (y : S512x1024.Idx) :
    k0_pay7 D y = Ideal.ofBits .f32 0x3F000000#32 * D y := by
  unfold k0_pay7
  pointwise

/-- The reciprocal root of a row's mean square, with the small constant added to the mean. -/
def rowScale (x : Fin 1024 → EReal) : EReal :=
  Ideal.rsqrt (Ideal.div (∑ k, x k * x k) (Ideal.ofBits .f32 0x44800000#32) + Ideal.ofBits .f32 0x358637BD#32)

/-- A row of the input, normed and scaled by `g`. -/
def normed (x g : Fin 1024 → EReal) (q : Fin 1024) : EReal := x q * rowScale x * g q

/-- The mean, over a row, of the gradients of the normed row against the normed row. -/
def rowMean (x a g : Fin 1024 → EReal) : EReal :=
  Ideal.div (∑ k, a k * g k * (x k * rowScale x)) (Ideal.ofBits .f32 0x44800000#32)

/-- The gradient of a row of the input: the incoming gradient `d` and the pull-back through the norm of the gradients `a`
    of the normed row. -/
def inGrad (x a g : Fin 1024 → EReal) (d : EReal) (q : Fin 1024) : EReal :=
  d + rowScale x * (a q * g q - x q * rowScale x * rowMean x a g)

/-- The normed rows a row block's first point stores. -/
theorem pay6 (X : Vec Ideal S512x1024 .f32) (g : Vec Ideal S1x1024 .f32) (y : S512x1024.Idx) :
    k0_pay6 X g y = normed (fun k => X (ix2 (y 0) k)) (fun k => g (ix2 0 k)) (y 1) := by
  obtain ⟨p, q, rfl⟩ : ∃ p q, y = ix2 p q := ⟨y 0, y 1, eq_ix2 y⟩
  unfold_payloads
  pointwise
  rfl

/-- The input gradient a row block's last point stores. -/
theorem pay4 (X P : Vec Ideal S512x1024 .f32) (g : Vec Ideal S1x1024 .f32) (D : Vec Ideal S512x1024 .f32) (y : S512x1024.Idx) :
    k0_pay4 X P g D y = inGrad (fun k => X (ix2 (y 0) k)) (fun k => P (ix2 (y 0) k)) (fun k => g (ix2 0 k)) (D y) (y 1) := by
  obtain ⟨p, q, rfl⟩ : ∃ p q, y = ix2 p q := ⟨y 0, y 1, eq_ix2 y⟩
  unfold_payloads
  pointwise
  rfl

/-- What a row block's last point adds to the scale gradient: the gradients of the normed rows against the rows before
    scaling, summed over the block's rows. -/
def scaleAdd (X P : Vec Ideal S512x1024 .f32) (q : Fin 1024) : EReal :=
  ∑ p : Fin 512, P (ix2 p q) * (X (ix2 p q) * rowScale (fun k => X (ix2 p k)))

/-- The scale gradient a row block's last point stores. -/
theorem pay5 (X P : Vec Ideal S512x1024 .f32) (g : Vec Ideal S1x1024 .f32) (y : S1x1024.Idx) :
    k0_pay5 X P g y = g y + scaleAdd X P (y 1) := by
  unfold_payloads
  pointwise
  rfl

end Cert.KernelIdeal.A

end
-- ==== Proof.APoint.lean ====
/-
What the results' blocks and the running sum of the activation-gradient kernel hold after each point of its grid.
-/
module

public import proofs.«01_k».proof.Proof.ABlock

@[expose] public section

set_option maxRecDepth 16384

noncomputable section

namespace Cert.KernelIdeal.A

open Idealize.ShloMosaic Idealize.ShloMosaic.TcCoe Idealize.ShloMosaic.Tactic Cert.KernelIdeal.Gen

variable (m : (ℓ : Loc nD τ sig) → Buf (Elt Ideal) ℓ)

/-- The scaled gradients' block after a point. -/
abbrev dyAt (c : Dev nD) (t : Fin cfg0.N) : Vec Ideal S512x1024 .bf16 := (outs m c t.val t.isLt).2.2.2.2.2.1

/-- The running sum after a point. -/
abbrev accAt (c : Dev nD) (t : Fin cfg0.N) : Vec Ideal S512x1024 .f32 := (outs m c t.val t.isLt).2.2.2.2.2.2

/-- The normed rows after a row block's first point. -/
theorem n_even (c : Dev nD) (t : Fin cfg0.N) (h : t.val % 2 = 0) :
    (outs m c t.val t.isLt).2.2.2.2.1 = k0_pay6 (iblk m c 1 t) (iblk m c 2 t) := by
  rcases Nat.eq_zero_or_pos t.val with hz | hz
  · have h := hz
    rw [outs_A m c t h]
    first | frame_out | (unfold tupA; dsimp only; frame_out)
    unfold atA runA
    dsimp only
    try frame_out
    try simp (disch := first | decide | (intro a; fin_cases a <;> rfl)) only [↓View.readCov_skip, ↓View.readCov_fill]
    try simp only [read_unread_whole]
    try rfl
  · replace hz : t.val ≠ 0 := by omega
    rw [outs_C m c t h hz]
    first | frame_out | (unfold tupC; dsimp only; frame_out)
    unfold atC runC
    dsimp only
    try frame_out
    try simp (disch := first | decide | (intro a; fin_cases a <;> rfl)) only [↓View.readCov_skip, ↓View.readCov_fill]
    try simp only [read_unread_whole]
    try rfl

/-- The scaled gradients after a row block's first point. -/
theorem dy_even (c : Dev nD) (t : Fin cfg0.N) (h : t.val % 2 = 0) :
    dyAt m c t = k0_pay7 (iblk m c 0 t) := by
  unfold dyAt
  rcases Nat.eq_zero_or_pos t.val with hz | hz
  · have h := hz
    rw [outs_A m c t h]
    first | frame_out | (unfold tupA; dsimp only; frame_out)
    unfold atA runA
    dsimp only
    try frame_out
    try simp (disch := first | decide | (intro a; fin_cases a <;> rfl)) only [↓View.readCov_skip, ↓View.readCov_fill]
    try simp only [read_unread_whole]
    try rfl
  · replace hz : t.val ≠ 0 := by omega
    rw [outs_C m c t h hz]
    first | frame_out | (unfold tupC; dsimp only; frame_out)
    unfold atC runC
    dsimp only
    try frame_out
    try simp (disch := first | decide | (intro a; fin_cases a <;> rfl)) only [↓View.readCov_skip, ↓View.readCov_fill]
    try simp only [read_unread_whole]
    try rfl

/-- A row block's second point leaves the normed rows as they were. -/
theorem n_odd (c : Dev nD) (t : Fin cfg0.N) (h : t.val % 2 = 1) :
    (outs m c t.val t.isLt).2.2.2.2.1 = (outs m c (t.val - 1) (pred_lt t)).2.2.2.2.1 := by
  rw [outs_B m c t h]
  exact tupB_12 m c t h _

/-- A row block's second point leaves the scaled gradients as they were. -/
theorem dy_odd (c : Dev nD) (t : Fin cfg0.N) (h : t.val % 2 = 1) :
    dyAt m c t = (outs m c (t.val - 1) (pred_lt t)).2.2.2.2.2.1 := by
  unfold dyAt
  rw [outs_B m c t h]
  exact tupB_13 m c t h _

/-- The gate gradients a row block's first point writes. -/
theorem da_even (c : Dev nD) (t : Fin cfg0.N) (h : t.val % 2 = 0) :
    (outs m c t.val t.isLt).2.2.1 = gateBlock (dyAt m c t) (iblk m c 3 t) (iblk m c 4 t) (iblk m c 7 t) := by
  rw [dy_even m c t h]
  rcases Nat.eq_zero_or_pos t.val with hz | hz
  · have h := hz
    rw [outs_A m c t h]
    first | frame_out | (unfold tupA; dsimp only; frame_out)
    unfold atA runA
    dsimp only
    try frame_out
    try simp (disch := first | decide | (intro a; fin_cases a <;> rfl)) only [↓View.readCov_skip, ↓View.readCov_fill]
    try simp only [read_unread_whole]
    exact gate_list _ (iblk m c 3 t) (iblk m c 4 t) (iblk m c 7 t)
  · replace hz : t.val ≠ 0 := by omega
    rw [outs_C m c t h hz]
    first | frame_out | (unfold tupC; dsimp only; frame_out)
    unfold atC runC
    dsimp only
    try frame_out
    try simp (disch := first | decide | (intro a; fin_cases a <;> rfl)) only [↓View.readCov_skip, ↓View.readCov_fill]
    try simp only [read_unread_whole]
    exact gate_list _ (iblk m c 3 t) (iblk m c 4 t) (iblk m c 7 t)

/-- The gate gradients a row block's second point writes. -/
theorem da_odd (c : Dev nD) (t : Fin cfg0.N) (h : t.val % 2 = 1) :
    (outs m c t.val t.isLt).2.2.1 = gateBlock (dyAt m c t) (iblk m c 3 t) (iblk m c 4 t) (iblk m c 7 t) := by
  rw [dy_odd m c t h]
  rw [outs_B m c t h]
  first | frame_out | (unfold tupB; dsimp only; frame_out)
  unfold atB runB
  dsimp only
  try frame_out
  try simp (disch := first | decide | (intro a; fin_cases a <;> rfl)) only [↓View.readCov_skip, ↓View.readCov_fill]
  try simp only [read_unread_whole]
  exact gate_list _ (iblk m c 3 t) (iblk m c 4 t) (iblk m c 7 t)

/-- The gate gradients a point writes. -/
theorem da_at (c : Dev nD) (t : Fin cfg0.N) :
    (outs m c t.val t.isLt).2.2.1 = gateBlock (dyAt m c t) (iblk m c 3 t) (iblk m c 4 t) (iblk m c 7 t) :=
  (Nat.mod_two_eq_zero_or_one t.val).elim (da_even m c t) (da_odd m c t)

/-- The up gradients a row block's first point writes. -/
theorem db_even (c : Dev nD) (t : Fin cfg0.N) (h : t.val % 2 = 0) :
    (outs m c t.val t.isLt).2.2.2.1 = upBlock (dyAt m c t) (iblk m c 3 t) (iblk m c 7 t) := by
  rw [dy_even m c t h]
  rcases Nat.eq_zero_or_pos t.val with hz | hz
  · have h := hz
    rw [outs_A m c t h]
    first | frame_out | (unfold tupA; dsimp only; frame_out)
    unfold atA runA
    dsimp only
    try frame_out
    try simp (disch := first | decide | (intro a; fin_cases a <;> rfl)) only [↓View.readCov_skip, ↓View.readCov_fill]
    try simp only [read_unread_whole]
    exact up_list _ (iblk m c 3 t) (iblk m c 7 t)
  · replace hz : t.val ≠ 0 := by omega
    rw [outs_C m c t h hz]
    first | frame_out | (unfold tupC; dsimp only; frame_out)
    unfold atC runC
    dsimp only
    try frame_out
    try simp (disch := first | decide | (intro a; fin_cases a <;> rfl)) only [↓View.readCov_skip, ↓View.readCov_fill]
    try simp only [read_unread_whole]
    exact up_list _ (iblk m c 3 t) (iblk m c 7 t)

/-- The up gradients a row block's second point writes. -/
theorem db_odd (c : Dev nD) (t : Fin cfg0.N) (h : t.val % 2 = 1) :
    (outs m c t.val t.isLt).2.2.2.1 = upBlock (dyAt m c t) (iblk m c 3 t) (iblk m c 7 t) := by
  rw [dy_odd m c t h]
  rw [outs_B m c t h]
  first | frame_out | (unfold tupB; dsimp only; frame_out)
  unfold atB runB
  dsimp only
  try frame_out
  try simp (disch := first | decide | (intro a; fin_cases a <;> rfl)) only [↓View.readCov_skip, ↓View.readCov_fill]
  try simp only [read_unread_whole]
  exact up_list _ (iblk m c 3 t) (iblk m c 7 t)

/-- The up gradients a point writes. -/
theorem db_at (c : Dev nD) (t : Fin cfg0.N) :
    (outs m c t.val t.isLt).2.2.2.1 = upBlock (dyAt m c t) (iblk m c 3 t) (iblk m c 7 t) :=
  (Nat.mod_two_eq_zero_or_one t.val).elim (db_even m c t) (db_odd m c t)

/-- What a point adds to the running sum, from the blocks before it. -/
def addAt (c : Dev nD) (t : Fin cfg0.N) (p : Fin 512) (q : Fin 1024) : EReal :=
  addend (gateBlock (dyAt m c t) (iblk m c 3 t) (iblk m c 4 t) (iblk m c 7 t)) (upBlock (dyAt m c t) (iblk m c 3 t) (iblk m c 7 t)) (iblk m c 5 t) (iblk m c 6 t) p q

/-- The running sum after a row block's first point is that point's addend. -/
theorem acc_even (c : Dev nD) (t : Fin cfg0.N) (h : t.val % 2 = 0) :
    accAt m c t = fun y => 0 + addAt m c t (y 0) (y 1) := by
  unfold addAt
  rw [dy_even m c t h]
  unfold accAt
  rcases Nat.eq_zero_or_pos t.val with hz | hz
  · have h := hz
    rw [outs_A m c t h]
    first | frame_out | (unfold tupA; dsimp only; frame_out)
    unfold atA runA
    dsimp only
    try frame_out
    try simp (disch := first | decide | (intro a; fin_cases a <;> rfl)) only [↓View.readCov_skip, ↓View.readCov_fill]
    try simp only [read_unread_whole]
    have ea := gate_list (k0_pay7 (iblk m c 0 t)) (iblk m c 3 t) (iblk m c 4 t) (iblk m c 7 t)
    have eb := up_list (k0_pay7 (iblk m c 0 t)) (iblk m c 3 t) (iblk m c 7 t)
    unfold gatePieces at ea
    unfold upPieces at eb
    funext y
    rw [readCov_full, readCov_full, ea, eb, pay1, pay8]
  · replace hz : t.val ≠ 0 := by omega
    rw [outs_C m c t h hz]
    first | frame_out | (unfold tupC; dsimp only; frame_out)
    unfold atC runC
    dsimp only
    try frame_out
    try simp (disch := first | decide | (intro a; fin_cases a <;> rfl)) only [↓View.readCov_skip, ↓View.readCov_fill]
    try simp only [read_unread_whole]
    have ea := gate_list (k0_pay7 (iblk m c 0 t)) (iblk m c 3 t) (iblk m c 4 t) (iblk m c 7 t)
    have eb := up_list (k0_pay7 (iblk m c 0 t)) (iblk m c 3 t) (iblk m c 7 t)
    unfold gatePieces at ea
    unfold upPieces at eb
    funext y
    rw [readCov_full, readCov_full, ea, eb, pay1, pay8]

/-- The running sum after a row block's second point is what it was and that point's addend. -/
theorem acc_odd (c : Dev nD) (t : Fin cfg0.N) (h : t.val % 2 = 1) :
    accAt m c t = fun y => (outs m c (t.val - 1) (pred_lt t)).2.2.2.2.2.2 y + addAt m c t (y 0) (y 1) := by
  unfold addAt
  rw [dy_odd m c t h]
  unfold accAt
  rw [outs_B m c t h]
  first | frame_out | (unfold tupB; dsimp only; frame_out)
  unfold atB runB
  dsimp only
  try frame_out
  try simp (disch := first | decide | (intro a; fin_cases a <;> rfl)) only [↓View.readCov_skip, ↓View.readCov_fill]
  try simp only [read_unread_whole]
  have ea := gate_list ((outs m c (t.val - 1) (pred_lt t)).2.2.2.2.2.1) (iblk m c 3 t) (iblk m c 4 t) (iblk m c 7 t)
  have eb := up_list ((outs m c (t.val - 1) (pred_lt t)).2.2.2.2.2.1) (iblk m c 3 t) (iblk m c 7 t)
  unfold gatePieces at ea
  unfold upPieces at eb
  funext y
  rw [readCov_full, readCov_full, ea, eb, pay1]

/-- The scale gradient after the first point is zero. -/
theorem dg_zero (c : Dev nD) (t : Fin cfg0.N) (h : t.val = 0) :
    (outs m c t.val t.isLt).2.1 = k0_pay9 (F := Ideal) := by
  rw [outs_A m c t h]
  first | frame_out | (unfold tupA; dsimp only; frame_out)
  unfold atA runA
  dsimp only
  try frame_out
  try simp (disch := first | decide | (intro a; fin_cases a <;> rfl)) only [↓View.readCov_skip, ↓View.readCov_fill]
  try simp only [read_unread_whole]
  try rfl

/-- Each later row block's first point leaves the scale gradient as it was. -/
theorem dg_even (c : Dev nD) (t : Fin cfg0.N) (h : t.val % 2 = 0) (hz : t.val ≠ 0) :
    (outs m c t.val t.isLt).2.1 = (outs m c (t.val - 1) (pred_lt t)).2.1 := by
  rw [outs_C m c t h hz]
  unfold tupC
  dsimp only

/-- The input gradient a row block's second point writes, from the running sum it leaves. -/
theorem dx_odd (c : Dev nD) (t : Fin cfg0.N) (h : t.val % 2 = 1) :
    (outs m c t.val t.isLt).1 = k0_pay4 (iblk m c 1 t) (accAt m c t) (iblk m c 2 t) (iblk m c 0 t) := by
  have e : accAt m c t = outB16 m c t h (outs m c (t.val - 1) (pred_lt t)) := by
    unfold accAt
    rw [outs_B m c t h]
    unfold tupB
    dsimp only
  rw [e, outs_B m c t h]
  frame_out
  unfold atB runB
  dsimp only
  try frame_out
  try simp (disch := first | decide | (intro a; fin_cases a <;> rfl)) only [↓View.readCov_skip, ↓View.readCov_fill]
  try simp only [read_unread_whole]

/-- What a row block's second point adds to the scale gradient. -/
theorem dg_odd (c : Dev nD) (t : Fin cfg0.N) (h : t.val % 2 = 1) :
    (outs m c t.val t.isLt).2.1 = k0_pay5 (iblk m c 1 t) (accAt m c t) (outs m c (t.val - 1) (pred_lt t)).2.1 := by
  have e : accAt m c t = outB16 m c t h (outs m c (t.val - 1) (pred_lt t)) := by
    unfold accAt
    rw [outs_B m c t h]
    unfold tupB
    dsimp only
  rw [e, outs_B m c t h]
  frame_out
  unfold atB runB
  dsimp only
  try frame_out
  try simp (disch := first | decide | (intro a; fin_cases a <;> rfl)) only [↓View.readCov_skip, ↓View.readCov_fill]
  try simp only [read_unread_whole]

end Cert.KernelIdeal.A

end
-- ==== Proof.AReal.lean ====
/-
The arithmetic of the activation gradients: the kernel's form of the gate gradient is the one differentiation gives where
the activation's gradient and the up value are real numbers, and its form of the input gradient always is.
-/
module

public import proofs.«01_k».proof.Proof.ABlock

@[expose] public section

set_option maxRecDepth 16384

noncomputable section

namespace Cert.KernelIdeal.A

open Idealize.ShloMosaic

/-- A value that is a real number. -/
def IsReal (z : EReal) : Prop := ∃ r : ℝ, z = (r : EReal)

/-- A sum of two real numbers is real. -/
theorem IsReal.add {a b : EReal} (ha : IsReal a) (hb : IsReal b) : IsReal (a + b) := by
  obtain ⟨x, rfl⟩ := ha
  obtain ⟨y, rfl⟩ := hb
  exact ⟨x + y, (EReal.coe_add x y).symm⟩

/-- A product of two real numbers is real. -/
theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- The sum of real numbers, taken among the extended reals, is their sum. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A finite sum of real numbers is real. -/
theorem IsReal.sum {ι : Type} (s : Finset ι) (f : ι → EReal) (h : ∀ k, IsReal (f k)) : IsReal (∑ k ∈ s, f k) := by
  choose g hg using h
  exact ⟨∑ k ∈ s, g k, by rw [← coe_sum]; exact Finset.sum_congr rfl fun k _ => hg k⟩

/-- Division of a real number by a real number other than zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The logistic function at a real number. -/
theorem logistic_coe (x : ℝ) : logistic (x : EReal) = ((1 / (1 + Real.exp (0 - x)) : ℝ) : EReal) := by
  unfold logistic
  have e : Ideal.exp (0 - (x : EReal)) = ((Real.exp (0 - x) : ℝ) : EReal) := by
    rw [← EReal.coe_zero, ← EReal.coe_sub]
    rfl
  rw [e, ← EReal.coe_one, ← EReal.coe_add]
  exact div_coe 1 _ (by positivity)

/-- The pattern of 1024 denotes it. -/
theorem ofBits_1024 : Ideal.ofBits .f32 0x44800000#32 = ((1024 : ℝ) : EReal) := by
  simp [Ideal.ofBits, Ideal.ieee, -EReal.coe_mul, -EReal.coe_neg]
  norm_num

/-- The pattern of minus a half denotes it. -/
theorem ofBits_neg_half : Ideal.ofBits .f32 0xBF000000#32 = ((-(1 / 2) : ℝ) : EReal) := by
  simp [Ideal.ofBits, Ideal.ieee, -EReal.coe_mul, -EReal.coe_neg]
  norm_num

/-- The pattern of a half denotes it. -/
theorem ofBits_half : Ideal.ofBits .f32 0x3F000000#32 = ((1 / 2 : ℝ) : EReal) := by
  simp [Ideal.ofBits, Ideal.ieee, -EReal.coe_mul, -EReal.coe_neg]
  norm_num

/-- The small constant added to a mean square is a positive real number. -/
theorem ofBits_eps : ∃ e : ℝ, 0 < e ∧ Ideal.ofBits .f32 0x358637BD#32 = (e : EReal) := by
  refine ⟨_, ?_, by simp [Ideal.ofBits, Ideal.ieee]; rfl⟩
  norm_num

/-- The logistic function vanishes at minus infinity. -/
theorem logistic_bot : logistic ⊥ = 0 := by
  have e1 : Ideal.exp (0 - (⊥ : EReal)) = ⊤ := by
    rw [zero_sub, EReal.neg_bot]
    rfl
  unfold logistic Ideal.div
  rw [e1, EReal.add_top_of_ne_bot (by rw [← EReal.coe_one]; exact EReal.coe_ne_bot 1), if_neg (by simp), EReal.inv_top, mul_zero]

/-- The logistic function is one at infinity. -/
theorem logistic_top : logistic ⊤ = 1 := by
  have e1 : Ideal.exp (0 - (⊤ : EReal)) = 0 := by
    rw [zero_sub, EReal.neg_top]
    rfl
  unfold logistic Ideal.div
  rw [e1, add_zero, if_neg one_ne_zero, one_mul]
  rw [← EReal.coe_one, ← EReal.coe_inv, inv_one]

/-- One less one is zero. -/
theorem one_sub_one : (1 : EReal) - 1 = 0 := by
  rw [← EReal.coe_one, ← EReal.coe_sub, sub_self, EReal.coe_zero]

/-- The gate gradient, as differentiation writes it: the two terms of the product rule, added. -/
def gateGrad' (d a b : EReal) : EReal := d * b * logistic a + a * (d * b) * (logistic a * (1 - logistic a))

/-- The two forms of the gate gradient agree where the activation's gradient and the up value are real, for every gate. -/
theorem gateGrad_eq {d a b : EReal} (hd : IsReal d) (hb : IsReal b) : gateGrad d a b = gateGrad' d a b := by
  obtain ⟨d, rfl⟩ := hd
  obtain ⟨b, rfl⟩ := hb
  unfold gateGrad gateGrad'
  induction a using EReal.rec with
  | bot =>
    rw [logistic_bot]
    simp
  | top =>
    rw [logistic_top, one_sub_one]
    simp
  | coe a =>
    rw [logistic_coe]
    generalize (1 / (1 + Real.exp (0 - a)) : ℝ) = s
    rw [← EReal.coe_one]
    simp only [← EReal.coe_mul, ← EReal.coe_add, ← EReal.coe_sub]
    exact congrArg _ (by ring)

/-- A row's mean square and the small constant. -/
def meanSq (x : Fin 1024 → EReal) : EReal :=
  Ideal.div (∑ k, x k * x k) (Ideal.ofBits .f32 0x44800000#32) + Ideal.ofBits .f32 0x358637BD#32

/-- For a row of real numbers the mean square with the small constant is a positive real number. -/
theorem meanSq_pos (x : Fin 1024 → ℝ) : ∃ v : ℝ, 0 < v ∧ meanSq (fun k => (x k : EReal)) = (v : EReal) := by
  obtain ⟨e, he, hE⟩ := ofBits_eps
  refine ⟨(∑ k, x k * x k) / 1024 + e, ?_, ?_⟩
  · have : 0 ≤ ∑ k, x k * x k := Finset.sum_nonneg fun k _ => mul_self_nonneg _
    positivity
  · unfold meanSq
    simp only [← EReal.coe_mul]
    rw [coe_sum, ofBits_1024, hE, div_coe _ _ (by norm_num), ← EReal.coe_add]

/-- The reciprocal root at a positive real number. -/
theorem rsqrt_coe (v : ℝ) (hv : 0 < v) : Ideal.rsqrt (v : EReal) = (((Real.sqrt v)⁻¹ : ℝ) : EReal) := by
  show (if v < 0 then (⊥ : EReal) else if v = 0 then ⊤ else (((Real.sqrt v)⁻¹ : ℝ) : EReal)) = _
  rw [if_neg (not_lt.mpr hv.le), if_neg hv.ne']

/-- A row that holds an infinity has an infinite sum of squares. -/
theorem sq_sum_top {n : ℕ} (x : Fin n → EReal) {k : Fin n} (hk : ¬ IsReal (x k)) : ∑ k, x k * x k = (⊤ : EReal) := by
  have sq : ∀ z : EReal, 0 ≤ z * z := fun z => by
    induction z using EReal.rec with
    | bot => simp
    | top => simp
    | coe r => exact_mod_cast mul_self_nonneg r
  have h1 : x k * x k = ⊤ := by
    revert hk
    generalize x k = z
    intro hk
    induction z using EReal.rec with
    | bot => simp
    | top => simp
    | coe r => exact absurd ⟨r, rfl⟩ hk
  exact top_le_iff.mp (h1.symm.le.trans (Finset.single_le_sum (f := fun k => x k * x k) (fun k _ => sq (x k)) (Finset.mem_univ k)))

/-- A row that holds an infinity has an infinite mean square. -/
theorem meanSq_top {x : Fin 1024 → EReal} {k : Fin 1024} (hk : ¬ IsReal (x k)) : meanSq x = ⊤ := by
  obtain ⟨e, _, hE⟩ := ofBits_eps
  unfold meanSq
  rw [sq_sum_top x hk, ofBits_1024, hE]
  unfold Ideal.div
  rw [if_neg (by exact_mod_cast (by norm_num : (1024 : ℝ) ≠ 0)), ← EReal.coe_inv, EReal.top_mul_coe_of_pos (by norm_num), EReal.top_add_coe]

/-- A row that holds an infinity has row scale zero. -/
theorem rowScale_zero {x : Fin 1024 → EReal} {k : Fin 1024} (hk : ¬ IsReal (x k)) : rowScale x = 0 := by
  have h : rowScale x = Ideal.rsqrt (meanSq x) := rfl
  rw [h, meanSq_top hk]
  rfl

/-- An entry of a row, scaled by the row scale, is real. -/
theorem scaled_real (x : Fin 1024 → EReal) (q : Fin 1024) : IsReal (x q * rowScale x) := by
  by_cases hx : ∀ k, IsReal (x k)
  · refine (hx q).mul ?_
    choose X hX using hx
    obtain rfl : x = fun k => (X k : EReal) := funext hX
    obtain ⟨v, hv, hV⟩ := meanSq_pos X
    unfold meanSq at hV
    unfold rowScale
    rw [hV, rsqrt_coe v hv]
    exact ⟨_, rfl⟩
  · obtain ⟨k, hk⟩ := not_forall.mp hx
    rw [rowScale_zero hk, mul_zero]
    exact ⟨0, rfl⟩

/-- What differentiation adds to a row of the input twice over: the pull-back through the mean square. -/
def meanPull (x a g : Fin 1024 → EReal) : EReal :=
  Ideal.div ((∑ k, x k * (a k * g k)) * (Ideal.ofBits .f32 0xBF000000#32 * Ideal.div (rowScale x) (meanSq x)))
    (Ideal.ofBits .f32 0x44800000#32)

/-- The gradient of a row of the input, as differentiation writes it. -/
def inGrad' (x a g : Fin 1024 → EReal) (d : EReal) (q : Fin 1024) : EReal :=
  d + a q * g q * rowScale x + x q * meanPull x a g + meanPull x a g * x q

/-- A value added to itself is the double of it. -/
theorem add_self (z : EReal) : z + z = z * ((2 : ℝ) : EReal) := by
  induction z using EReal.rec with
  | bot => rw [EReal.bot_mul_coe_of_pos (by norm_num)]; rfl
  | top => rw [EReal.top_mul_coe_of_pos (by norm_num)]; rfl
  | coe r => rw [← EReal.coe_add, ← EReal.coe_mul, mul_two]

/-- A nonnegative real factor goes into a sum. -/
theorem sum_mul_coe {ι : Type} (s : Finset ι) (f : ι → EReal) {c : ℝ} (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- Division by a real number other than zero is multiplication by its inverse. -/
theorem div_mul_coe (z : EReal) {y : ℝ} (hy : y ≠ 0) : Ideal.div z (y : EReal) = z * ((y⁻¹ : ℝ) : EReal) := by
  unfold Ideal.div
  rw [if_neg (by exact_mod_cast hy), ← EReal.coe_inv]

/-- The two forms of the input gradient agree on a row of real numbers, for all gradients and gains. -/
theorem inGrad_eq_real (X : Fin 1024 → ℝ) (a g : Fin 1024 → EReal) (d : EReal) (q : Fin 1024) :
    inGrad (fun k => (X k : EReal)) a g d q = inGrad' (fun k => (X k : EReal)) a g d q := by
  obtain ⟨v, hv, hV⟩ := meanSq_pos X
  have hS : rowScale (fun k => (X k : EReal)) = (((Real.sqrt v)⁻¹ : ℝ) : EReal) := by
    rw [← rsqrt_coe v hv, ← hV]
    rfl
  have hs : 0 < (Real.sqrt v)⁻¹ := inv_pos.mpr (Real.sqrt_pos.mpr hv)
  have hvs : v⁻¹ = (Real.sqrt v)⁻¹ * (Real.sqrt v)⁻¹ := by rw [← mul_inv, Real.mul_self_sqrt hv.le]
  unfold inGrad inGrad' rowMean meanPull
  rw [hS, hV, ofBits_1024, ofBits_neg_half, div_mul_coe _ hv.ne', hvs]
  rw [div_mul_coe _ (by norm_num : (1024 : ℝ) ≠ 0), div_mul_coe _ (by norm_num : (1024 : ℝ) ≠ 0)]
  generalize (Real.sqrt v)⁻¹ = c at hs
  have e : (∑ k, a k * g k * ((X k : EReal) * (c : EReal))) = (∑ k, (X k : EReal) * (a k * g k)) * (c : EReal) := by
    rw [sum_mul_coe _ _ hs.le]
    exact Finset.sum_congr rfl fun k _ => by rw [← mul_assoc, mul_comm (a k * g k)]
  rw [e]
  generalize (∑ k, (X k : EReal) * (a k * g k)) = S
  rw [sub_eq_add_neg, EReal.left_distrib_of_nonneg_of_ne_top (by exact_mod_cast hs.le) (EReal.coe_ne_top c), mul_comm (c : EReal) (a q * g q),
    ← add_assoc, add_assoc (d + a q * g q * (c : EReal)), mul_comm (S * _ * _) (X q : EReal), add_self]
  refine congrArg _ ?_
  rw [mul_neg, mul_comm (c : EReal)]
  have l : ∀ (p1 p2 p3 p4 : ℝ), (p1 : EReal) * (S * (p2 : EReal) * (p3 : EReal)) * (p4 : EReal) = S * ((p2 * p3 * (p1 * p4) : ℝ) : EReal) := fun p1 p2 p3 p4 => by
    simp only [EReal.coe_mul]
    simp only [mul_assoc, mul_comm, mul_left_comm]
  simp only [← EReal.coe_mul]
  have n : ∀ (p : ℝ), -(S * (p : EReal)) = S * ((-p : ℝ) : EReal) := fun p => by rw [EReal.coe_neg, mul_neg]
  rw [l, l, n]
  exact congrArg (fun z : ℝ => S * (z : EReal)) (by ring)

/-- The two forms of the input gradient agree, with no condition: on a row that holds an infinity both are the incoming
    gradient alone. -/
theorem inGrad_eq (x a g : Fin 1024 → EReal) (d : EReal) (q : Fin 1024) : inGrad x a g d q = inGrad' x a g d q := by
  by_cases hx : ∀ k, IsReal (x k)
  · choose X hX using hx
    obtain rfl : x = fun k => (X k : EReal) := funext hX
    exact inGrad_eq_real X a g d q
  · obtain ⟨k, hk⟩ := not_forall.mp hx
    have h0 : Ideal.div (0 : EReal) ⊤ = 0 := by
      unfold Ideal.div
      rw [if_neg (by simp), zero_mul]
    unfold inGrad inGrad' meanPull
    rw [meanSq_top hk, rowScale_zero hk, h0, ofBits_1024, div_mul_coe _ (by norm_num : (1024 : ℝ) ≠ 0)]
    simp only [mul_zero, zero_mul, add_zero]

end Cert.KernelIdeal.A

end
-- ==== Proof.ASpec.lean ====
/-
The activation gradients of the feed-forward layer as sums over whole arrays: what the kernel's six result arrays are to
hold, in the kernel's forms and in those of differentiation.
-/
module

public import proofs.«01_k».proof.Proof.AReal

@[expose] public section

set_option maxRecDepth 16384

noncomputable section

namespace Cert.KernelIdeal.A

open Idealize.ShloMosaic Idealize.ShloMosaic.TcCoe Cert.KernelIdeal.Gen

/-- The layer's six arguments: the input rows, the norm's gain, the gate, up and down weights, and the gradient of the
    layer's output. -/
structure Args where
  /-- The input rows. -/
  X : S8192x1024.Idx → EReal
  /-- The norm's gain. -/
  G : S1024.Idx → EReal
  /-- The gate weight. -/
  W1 : S1024x2816.Idx → EReal
  /-- The up weight. -/
  W3 : S1024x2816.Idx → EReal
  /-- The down weight. -/
  W2 : S2816x1024.Idx → EReal
  /-- The gradient of the layer's output. -/
  D : S8192x1024.Idx → EReal

namespace Args

variable (u : Args)

/-- A row of the input. -/
def row (r : Fin 8192) (k : Fin 1024) : EReal := u.X (ix2 r k)

/-- The gain as a row. -/
def gain (k : Fin 1024) : EReal := u.G (ix1 k)

/-- The normed rows. -/
def n (r : Fin 8192) (k : Fin 1024) : EReal := normed (u.row r) u.gain k

/-- The gate values: the normed rows against the gate weight. -/
def a (r : Fin 8192) (q : Fin 2816) : EReal := ∑ k : Fin 1024, u.n r k * u.W1 (ix2 k q)

/-- The up values: the normed rows against the up weight. -/
def b (r : Fin 8192) (q : Fin 2816) : EReal := ∑ k : Fin 1024, u.n r k * u.W3 (ix2 k q)

/-- The scaled gradients: half the layer's. -/
def dy (r : Fin 8192) (k : Fin 1024) : EReal := Ideal.ofBits .f32 0x3F000000#32 * u.D (ix2 r k)

/-- The gradients of the gated activation: the scaled gradients against the down weight. -/
def dt (r : Fin 8192) (q : Fin 2816) : EReal := ∑ k : Fin 1024, u.dy r k * u.W2 (ix2 q k)

/-- The up gradients. -/
def db (r : Fin 8192) (q : Fin 2816) : EReal := upGrad (u.dt r q) (u.a r q)

/-- The gate gradients, in the kernel's form. -/
def da (r : Fin 8192) (q : Fin 2816) : EReal := gateGrad (u.dt r q) (u.a r q) (u.b r q)

/-- The gate gradients, in the form of differentiation. -/
def da' (r : Fin 8192) (q : Fin 2816) : EReal := gateGrad' (u.dt r q) (u.a r q) (u.b r q)

/-- The gradients of the normed rows, from gate gradients `e`: these against the gate weight, and the up gradients against
    the up weight. -/
def dn (e : Fin 8192 → Fin 2816 → EReal) (r : Fin 8192) (j : Fin 1024) : EReal :=
  (∑ q : Fin 2816, e r q * u.W1 (ix2 j q)) + ∑ q : Fin 2816, u.db r q * u.W3 (ix2 j q)

/-- The gradients of the input rows, in the kernel's form. -/
def dx (r : Fin 8192) (j : Fin 1024) : EReal := inGrad (u.row r) (u.dn u.da r) u.gain (u.D (ix2 r j)) j

/-- The gradients of the input rows, in the form of differentiation. -/
def dx' (r : Fin 8192) (j : Fin 1024) : EReal := inGrad' (u.row r) (u.dn u.da' r) u.gain (u.D (ix2 r j)) j

/-- The gradient of the gain, from gate gradients `e`: a sum over all rows. -/
def dg (e : Fin 8192 → Fin 2816 → EReal) (j : Fin 1024) : EReal :=
  ∑ r : Fin 8192, u.dn e r j * (u.row r j * rowScale (u.row r))

/-- The gain, the up and down weights and the output gradient hold real numbers. -/
structure Finite : Prop where
  /-- The gain is real. -/
  G : ∀ i, IsReal (u.G i)
  /-- The up weight is real. -/
  W3 : ∀ i, IsReal (u.W3 i)
  /-- The down weight is real. -/
  W2 : ∀ i, IsReal (u.W2 i)
  /-- The output gradient is real. -/
  D : ∀ i, IsReal (u.D i)

variable {u} (h : u.Finite)

include h

/-- The normed rows are real, also where the input is not. -/
theorem n_real (r : Fin 8192) (k : Fin 1024) : IsReal (u.n r k) :=
  (scaled_real _ _).mul (h.G _)

/-- The up values are real. -/
theorem b_real (r : Fin 8192) (q : Fin 2816) : IsReal (u.b r q) :=
  IsReal.sum _ _ fun k => (n_real h r k).mul (h.W3 _)

/-- The gradients of the gated activation are real. -/
theorem dt_real (r : Fin 8192) (q : Fin 2816) : IsReal (u.dt r q) :=
  IsReal.sum _ _ fun k => (IsReal.mul ⟨_, ofBits_half⟩ (h.D _)).mul (h.W2 _)

/-- The two forms of the gate gradients agree. -/
theorem da_eq : u.da = u.da' :=
  funext fun r => funext fun q => gateGrad_eq (dt_real h r q) (b_real h r q)

/-- The two forms of the input gradients agree. -/
theorem dx_eq (r : Fin 8192) (j : Fin 1024) : u.dx r j = u.dx' r j := by
  unfold dx dx'
  rw [← da_eq h]
  exact inGrad_eq _ _ _ _ j

end Args

end Cert.KernelIdeal.A

end
-- ==== Proof.ARef.lean ====
/- What each stage of the activation-gradient reference holds at an index: the layer's gradients in differentiation's form. -/
module

public import proofs.«01_k».proof.Proof.ASpec
public import proofs.«01_k».proof.Proof.Gen.ReferenceIdeal.Read

@[expose] public section

set_option maxRecDepth 16384

noncomputable section

namespace Cert.KernelIdeal.A

open Idealize.ShloMosaic Idealize.ShloMosaic.TcCoe Cert.KernelIdeal.Gen
open Cert.ReferenceIdeal.Read

variable (x0 : (⟨S8192x1024, .f32⟩ : BufTy).Contents (Elt Ideal)) (x1 : (⟨S1024, .f32⟩ : BufTy).Contents (Elt Ideal))
    (x2 x3 : (⟨S1024x2816, .f32⟩ : BufTy).Contents (Elt Ideal)) (x4 : (⟨S2816x1024, .f32⟩ : BufTy).Contents (Elt Ideal))
    (x5 : (⟨S8192x1024, .f32⟩ : BufTy).Contents (Elt Ideal))

/-- The reference's arguments as the layer's. -/
abbrev refArgs : Args := ⟨x0, x1, x2, x3, x4, x5⟩

/-- The mean square of a row, with the small constant. -/
theorem ref_meanSq (r : Fin 8192) (k : Fin 1) :
    (val_main_v19 (F := Ideal) x0 : S8192x1.Idx → EReal) (ix2 r k) = meanSq (fun k => x0 (ix2 r k)) := by
  unfold val_main_v19 val_main_v18 val_main_v17 val_main_v16 val_main_v15 val_main_v14 val_main_v13 val_main_cst_4 val_main_cst_3 val_main_cst_2
  pointwise
  unfold meanSq
  rfl

/-- The scale of a row. -/
theorem ref_scale (r : Fin 8192) (k : Fin 1) :
    (val_main_v20 (F := Ideal) x0 : S8192x1.Idx → EReal) (ix2 r k) = rowScale (fun k => x0 (ix2 r k)) := by
  have h := ref_meanSq x0 r k
  unfold val_main_v20
  generalize val_main_v19 (F := Ideal) x0 = M at h
  pointwise
  rw [h]
  rfl

/-- The scaled rows. -/
theorem ref_scaled (r : Fin 8192) (k : Fin 1024) :
    (val_main_v25 (F := Ideal) x0 : S8192x1024.Idx → EReal) (ix2 r k) = x0 (ix2 r k) * rowScale (fun k => x0 (ix2 r k)) := by
  have h := ref_scale x0 r 0
  unfold val_main_v25 val_main_v24
  generalize val_main_v20 (F := Ideal) x0 = M at h
  pointwise
  rw [← h]

/-- The normed rows. -/
theorem ref_n (r : Fin 8192) (k : Fin 1024) :
    (val_main_v28 (F := Ideal) x0 x1 : S8192x1024.Idx → EReal) (ix2 r k) = (refArgs x0 x1 x2 x3 x4 x5).n r k := by
  have h := ref_scaled x0 r k
  unfold val_main_v28 val_main_v27 val_main_v26
  generalize val_main_v25 (F := Ideal) x0 = M at h
  pointwise
  rw [h]
  try rfl

/-- The gate values. -/
theorem ref_a (i : S8192x2816.Idx) :
    (val_main_v29 (F := Ideal) x0 x1 x2 : S8192x2816.Idx → EReal) i = (refArgs x0 x1 x2 x3 x4 x5).a (i 0) (i 1) := by
  have h := ref_n x0 x1 x2 x3 x4 x5
  unfold val_main_v29
  generalize val_main_v28 (F := Ideal) x0 x1 = N at h
  pointwise
  unfold Args.a
  exact Finset.sum_congr rfl fun k _ => congrArg (fun z : EReal => z * _) (h (i 0) k)

/-- The up values. -/
theorem ref_b (i : S8192x2816.Idx) :
    (val_main_v31 (F := Ideal) x0 x1 x3 : S8192x2816.Idx → EReal) i = (refArgs x0 x1 x2 x3 x4 x5).b (i 0) (i 1) :=
  ref_a x0 x1 x3 x2 x4 x5 i

/-- The scaled gradients. -/
theorem ref_dy (r : Fin 8192) (k : Fin 1024) :
    (val_main_v39 (F := Ideal) x5 : S8192x1024.Idx → EReal) (ix2 r k) = (refArgs x0 x1 x2 x3 x4 x5).dy r k := by
  unfold val_main_v39 val_main_v38 val_main_v37 val_main_cst_7
  pointwise
  rfl

/-- The gradients of the gated activation. -/
theorem ref_dt (i : S8192x2816.Idx) :
    (val_main_v40 (F := Ideal) x4 x5 : S8192x2816.Idx → EReal) i = (refArgs x0 x1 x2 x3 x4 x5).dt (i 0) (i 1) := by
  have h := ref_dy x0 x1 x2 x3 x4 x5
  unfold val_main_v40
  generalize val_main_v39 (F := Ideal) x5 = N at h
  pointwise
  unfold Args.dt
  exact Finset.sum_congr rfl fun k _ => congrArg (fun z : EReal => z * _) (h (i 0) k)

/-- The logistic function of the gate values. -/
theorem ref_logistic (i : S8192x2816.Idx) :
    (val_main_v30_2 (F := Ideal) x0 x1 x2 : S8192x2816.Idx → EReal) i = logistic ((refArgs x0 x1 x2 x3 x4 x5).a (i 0) (i 1)) := by
  have h := ref_a x0 x1 x2 x3 x4 x5 i
  unfold val_main_v30_2 val_main_call0_v4 val_main_call0_v3 val_main_call0_v2 val_main_call0_v1 val_main_call0_v0 val_main_call0_cst val_main_call0_cst_0
  generalize val_main_v29 (F := Ideal) x0 x1 x2 = N at h
  pointwise
  unfold logistic
  rw [← h, zero_sub]
  try rfl

/-- The up gradients. -/
theorem ref_db (i : S8192x2816.Idx) :
    (val_main_v41 (F := Ideal) x0 x1 x2 x4 x5 : S8192x2816.Idx → EReal) i = (refArgs x0 x1 x2 x3 x4 x5).db (i 0) (i 1) := by
  have h1 := ref_a x0 x1 x2 x3 x4 x5 i
  have h2 := ref_logistic x0 x1 x2 x3 x4 x5 i
  have h3 := ref_dt x0 x1 x2 x3 x4 x5 i
  unfold val_main_v41 val_main_v30_0
  generalize val_main_v29 (F := Ideal) x0 x1 x2 = A at h1
  generalize val_main_v30_2 (F := Ideal) x0 x1 x2 = L at h2
  generalize val_main_v40 (F := Ideal) x4 x5 = T at h3
  pointwise
  rw [h1, h2, h3]
  unfold Args.db upGrad
  exact mul_comm _ _

/-- The gate gradients, in differentiation's form. -/
theorem ref_da (i : S8192x2816.Idx) :
    (val_main_v44 (F := Ideal) x0 x1 x2 x3 x4 x5 : S8192x2816.Idx → EReal) i = (refArgs x0 x1 x2 x3 x4 x5).da' (i 0) (i 1) := by
  have h1 := ref_a x0 x1 x2 x3 x4 x5 i
  have h2 := ref_logistic x0 x1 x2 x3 x4 x5 i
  have h3 := ref_dt x0 x1 x2 x3 x4 x5 i
  have h4 := ref_b x0 x1 x2 x3 x4 x5 i
  unfold val_main_v44 val_main_call1_v2 val_main_call1_v1 val_main_call1_v0 val_main_v42 val_main_v30_1 val_main_call0_v7 val_main_call0_v6 val_main_call0_cst_1
  generalize val_main_v29 (F := Ideal) x0 x1 x2 = A at h1
  generalize val_main_v30_2 (F := Ideal) x0 x1 x2 = L at h2
  generalize val_main_v40 (F := Ideal) x4 x5 = T at h3
  generalize val_main_v31 (F := Ideal) x0 x1 x3 = B at h4
  pointwise
  rw [h1, h2, h3, h4]
  unfold Args.da' gateGrad'
  try rfl

/-- The gradients of the normed rows. -/
theorem ref_dn (r : Fin 8192) (j : Fin 1024) :
    (val_main_v46 (F := Ideal) x0 x1 x2 x3 x4 x5 : S8192x1024.Idx → EReal) (ix2 r j) = (refArgs x0 x1 x2 x3 x4 x5).dn (refArgs x0 x1 x2 x3 x4 x5).da' r j := by
  have h1 := ref_da x0 x1 x2 x3 x4 x5
  have h2 := ref_db x0 x1 x2 x3 x4 x5
  unfold val_main_v46 val_main_v45 val_main_v43
  generalize val_main_v44 (F := Ideal) x0 x1 x2 x3 x4 x5 = A at h1
  generalize val_main_v41 (F := Ideal) x0 x1 x2 x4 x5 = B at h2
  pointwise
  unfold Args.dn
  rw [add_comm]
  exact congrArg₂ (fun y z : EReal => y + z)
    (Finset.sum_congr rfl fun q _ => congrArg (fun z : EReal => z * _) (h1 (ix2 r q)))
    (Finset.sum_congr rfl fun q _ => congrArg (fun z : EReal => z * _) (h2 (ix2 r q)))

/-- The gradient of the gain, as a vector. -/
theorem ref_dg1 (j : Fin 1024) :
    (val_main_v48 (F := Ideal) x0 x1 x2 x3 x4 x5 : S1024.Idx → EReal) (ix1 j) = (refArgs x0 x1 x2 x3 x4 x5).dg (refArgs x0 x1 x2 x3 x4 x5).da' j := by
  have h1 := ref_dn x0 x1 x2 x3 x4 x5
  have h2 := ref_scaled x0
  unfold val_main_v48 val_main_v47 val_main_cst_8
  generalize val_main_v46 (F := Ideal) x0 x1 x2 x3 x4 x5 = A at h1
  generalize val_main_v25 (F := Ideal) x0 = B at h2
  pointwise
  unfold Args.dg
  refine Finset.sum_congr rfl fun r _ => ?_
  rw [h1, h2, mul_comm]
  generalize (refArgs x0 x1 x2 x3 x4 x5).dn (refArgs x0 x1 x2 x3 x4 x5).da' r j = z
  rfl

/-- The gradient of the gain, as one row. -/
theorem ref_dg (p : Fin 1) (j : Fin 1024) :
    (val_main_v81 (F := Ideal) x0 x1 x2 x3 x4 x5 : S1x1024.Idx → EReal) (ix2 p j) = (refArgs x0 x1 x2 x3 x4 x5).dg (refArgs x0 x1 x2 x3 x4 x5).da' j := by
  have h := ref_dg1 x0 x1 x2 x3 x4 x5 j
  unfold val_main_v81 val_main_v52 val_main_v49 val_main_cst_9
  generalize val_main_v48 (F := Ideal) x0 x1 x2 x3 x4 x5 = A at h
  pointwise
  rw [← h]
  exact Fin.sum_univ_one _

/-- A row's sum against its gradients through the gain. -/
theorem ref_pull (r : Fin 8192) (k : Fin 1024) :
    (val_main_v63 (F := Ideal) x0 x1 x2 x3 x4 x5 : S8192x1024.Idx → EReal) (ix2 r k)
      = meanPull ((refArgs x0 x1 x2 x3 x4 x5).row r) ((refArgs x0 x1 x2 x3 x4 x5).dn (refArgs x0 x1 x2 x3 x4 x5).da' r) (refArgs x0 x1 x2 x3 x4 x5).gain := by
  have h1 := ref_dn x0 x1 x2 x3 x4 x5
  have h2 := fun k => ref_scale x0 r k
  have h3 := fun k => ref_meanSq x0 r k
  unfold val_main_v63 val_main_v62 val_main_v61 val_main_v60 val_main_v59 val_main_v55 val_main_v54 val_main_v53 val_main_v51 val_main_v50 val_main_v26 val_main_v23 val_main_v22 val_main_v21 val_main_cst_12 val_main_cst_11 val_main_cst_10 val_main_cst_5
  generalize val_main_v46 (F := Ideal) x0 x1 x2 x3 x4 x5 = A at h1
  generalize val_main_v20 (F := Ideal) x0 = B at h2
  generalize val_main_v19 (F := Ideal) x0 = C at h3
  pointwise
  unfold meanPull
  simp only [h1, h2, h3]
  exact Fin.sum_univ_one _

/-- The gradients of the input rows, in differentiation's form. -/
theorem ref_dx (r : Fin 8192) (k : Fin 1024) :
    (val_main_v67 (F := Ideal) x0 x1 x2 x3 x4 x5 : S8192x1024.Idx → EReal) (ix2 r k) = (refArgs x0 x1 x2 x3 x4 x5).dx' r k := by
  have h1 := ref_dn x0 x1 x2 x3 x4 x5 r k
  have h2 := ref_pull x0 x1 x2 x3 x4 x5 r k
  have h3 := ref_scale x0 r 0
  unfold val_main_v67 val_main_v66 val_main_v65 val_main_v64 val_main_v58 val_main_v57 val_main_v56 val_main_v51 val_main_v50 val_main_v26
  generalize val_main_v46 (F := Ideal) x0 x1 x2 x3 x4 x5 = A at h1
  generalize val_main_v63 (F := Ideal) x0 x1 x2 x3 x4 x5 = P at h2
  generalize val_main_v20 (F := Ideal) x0 = B at h3
  pointwise
  unfold Args.dx' inGrad'
  rw [h1, h2, h3]
  try rfl

/-- The second making of the normed rows is the first. -/
theorem ref_n2 : val_main_v12 (F := Ideal) x0 x1 = val_main_v28 (F := Ideal) x0 x1 := rfl

/-- The second making of the gate values is the first. -/
theorem ref_a2 : val_main_v68 (F := Ideal) x0 x1 x2 = val_main_v29 (F := Ideal) x0 x1 x2 := by
  unfold val_main_v68 val_main_v29
  rw [ref_n2]

/-- The second making of the up values is the first. -/
theorem ref_b2 : val_main_v69 (F := Ideal) x0 x1 x3 = val_main_v31 (F := Ideal) x0 x1 x3 := by
  unfold val_main_v69 val_main_v31
  rw [ref_n2]

/-- The second making of the logistic values is the first. -/
theorem ref_logistic2 : val_main_v70_2 (F := Ideal) x0 x1 x2 = val_main_v30_2 (F := Ideal) x0 x1 x2 := by
  unfold val_main_v70_2 val_main_v30_2 val_main_call2_v3 val_main_call0_v3 val_main_call2_v1 val_main_call0_v1 val_main_call2_v0 val_main_call0_v0
  rw [ref_a2]
  generalize val_main_v29 (F := Ideal) x0 x1 x2 = A
  rfl

/-- The second making of the scaled gradients is the first. -/
theorem ref_dy2 : val_main_v76 (F := Ideal) x5 = val_main_v39 (F := Ideal) x5 := by
  funext i
  unfold val_main_v76 val_main_v39 val_main_v75 val_main_v38 val_main_v37 val_main_cst_14 val_main_cst_7
  pointwise

/-- The second making of the gradients of the gated activation is the first. -/
theorem ref_dt2 : val_main_v77 (F := Ideal) x4 x5 = val_main_v40 (F := Ideal) x4 x5 := by
  unfold val_main_v77 val_main_v40
  rw [ref_dy2]

/-- The second making of the up gradients is the first. -/
theorem ref_db2 : val_main_v78 (F := Ideal) x0 x1 x2 x4 x5 = val_main_v41 (F := Ideal) x0 x1 x2 x4 x5 := by
  unfold val_main_v78 val_main_v41 val_main_v70_0 val_main_v30_0
  rw [ref_a2, ref_logistic2, ref_dt2]

/-- The second making of the gate gradients is the first. -/
theorem ref_da2 : val_main_v80 (F := Ideal) x0 x1 x2 x3 x4 x5 = val_main_v44 (F := Ideal) x0 x1 x2 x3 x4 x5 := by
  unfold val_main_v80 val_main_v44 val_main_call3_v2 val_main_call1_v2 val_main_call3_v1 val_main_call1_v1 val_main_call3_v0 val_main_call1_v0 val_main_v79 val_main_v42 val_main_v70_1 val_main_v30_1 val_main_call2_v7 val_main_call0_v7
  rw [ref_a2, ref_logistic2, ref_dt2, ref_b2]
  generalize val_main_v29 (F := Ideal) x0 x1 x2 = A
  generalize val_main_v30_2 (F := Ideal) x0 x1 x2 = L
  rfl

/-- The third making of the scaled gradients is the second. -/
theorem ref_dy3 : val_main_v86 (F := Ideal) x5 = val_main_v76 (F := Ideal) x5 := rfl

end Cert.KernelIdeal.A

end
-- ==== Proof.AHost.lean ====
/-
What the host operations before the activation-gradient kernel leave in its operand arrays, and what each grid point's
blocks of them are, in the layer's arguments.
-/
module

public import proofs.«01_k».proof.Proof.APoint
public import proofs.«01_k».proof.Proof.ARef
public import Idealize.ShloMosaic.Lib.StableHlo.RunRead

@[expose] public section

set_option maxRecDepth 16384

noncomputable section

namespace Cert.KernelIdeal.A

open Idealize.ShloMosaic Idealize.ShloMosaic.TcCoe Idealize.ShloMosaic.StableHlo Cert.KernelIdeal.Gen
open Cert.ReferenceIdeal.Read

variable (m : (ℓ : Loc nD τ sig) → Buf (Elt Ideal) ℓ)

/-- The layer's arguments, as the memory holds them. -/
def argsAt (c : Dev nD) : Args :=
  refArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The gate value operand. -/
theorem v14_at (c : Dev nD) (r : Fin 8192) (q : Fin 2816) : (Gen.V m c main_v14 : S8192x2816.Idx → EReal) (ix2 r q) = (argsAt m c).a r q := by
  have e : Gen.V m c main_v14 = truncf (F := Ideal) .bf16 (val_main_v29 (F := Ideal) (m ((c : Thread nD τ).loc main_arg0)) (m ((c : Thread nD τ).loc main_arg1)) (m ((c : Thread nD τ).loc main_arg2))) bitsLt_bf16_f32 := by
    unfold Gen.V
    simp only [hostOps0, List.flatten, List.cons_append, List.nil_append, List.append_nil, TRef.binary, TRef.nullary,
      TRef.unary, TRef.toBuf, TRef.ofBuf, cast_eq]
    after_reads_simp
    rfl
  rw [e]
  exact ref_a _ _ _ (m ((c : Thread nD τ).loc main_arg3)) (m ((c : Thread nD τ).loc main_arg4)) (m ((c : Thread nD τ).loc main_arg5)) (ix2 r q)

/-- The up value operand. -/
theorem v16_at (c : Dev nD) (r : Fin 8192) (q : Fin 2816) : (Gen.V m c main_v16 : S8192x2816.Idx → EReal) (ix2 r q) = (argsAt m c).b r q := by
  have e : Gen.V m c main_v16 = truncf (F := Ideal) .bf16 (val_main_v31 (F := Ideal) (m ((c : Thread nD τ).loc main_arg0)) (m ((c : Thread nD τ).loc main_arg1)) (m ((c : Thread nD τ).loc main_arg3))) bitsLt_bf16_f32 := by
    unfold Gen.V
    simp only [hostOps0, List.flatten, List.cons_append, List.nil_append, List.append_nil, TRef.binary, TRef.nullary,
      TRef.unary, TRef.toBuf, TRef.ofBuf, cast_eq]
    after_reads_simp
    rfl
  rw [e]
  exact ref_b _ _ (m ((c : Thread nD τ).loc main_arg2)) _ (m ((c : Thread nD τ).loc main_arg4)) (m ((c : Thread nD τ).loc main_arg5)) (ix2 r q)

/-- The gate weight operand is the gate weight turned over. -/
theorem v18_at (c : Dev nD) (q : Fin 2816) (k : Fin 1024) : (Gen.V m c main_v18 : S2816x1024.Idx → EReal) (ix2 q k) = (argsAt m c).W1 (ix2 k q) := by
  have e : Gen.V m c main_v18 = truncf (F := Ideal) .bf16 (transpose S2816x1024 [1, 0] (m ((c : Thread nD τ).loc main_arg2) : (⟨S1024x2816, .f32⟩ : BufTy).Contents (Elt Ideal)) transposes_S1024x2816_S2816x1024_1_0) bitsLt_bf16_f32 := by
    unfold Gen.V
    simp only [hostOps0, List.flatten, List.cons_append, List.nil_append, List.append_nil, TRef.binary, TRef.nullary,
      TRef.unary, TRef.toBuf, TRef.ofBuf, cast_eq]
    after_reads_simp
  rw [e]
  pointwise
  rfl

/-- The up weight operand is the up weight turned over. -/
theorem v20_at (c : Dev nD) (q : Fin 2816) (k : Fin 1024) : (Gen.V m c main_v20 : S2816x1024.Idx → EReal) (ix2 q k) = (argsAt m c).W3 (ix2 k q) := by
  have e : Gen.V m c main_v20 = truncf (F := Ideal) .bf16 (transpose S2816x1024 [1, 0] (m ((c : Thread nD τ).loc main_arg3) : (⟨S1024x2816, .f32⟩ : BufTy).Contents (Elt Ideal)) transposes_S1024x2816_S2816x1024_1_0) bitsLt_bf16_f32 := by
    unfold Gen.V
    simp only [hostOps0, List.flatten, List.cons_append, List.nil_append, List.append_nil, TRef.binary, TRef.nullary,
      TRef.unary, TRef.toBuf, TRef.ofBuf, cast_eq]
    after_reads_simp
  rw [e]
  pointwise
  rfl

/-- The down weight operand is the down weight. -/
theorem v21_at (c : Dev nD) (q : Fin 2816) (k : Fin 1024) : (Gen.V m c main_v21 : S2816x1024.Idx → EReal) (ix2 q k) = (argsAt m c).W2 (ix2 q k) := by
  have e : Gen.V m c main_v21 = truncf (F := Ideal) .bf16 (m ((c : Thread nD τ).loc main_arg4) : (⟨S2816x1024, .f32⟩ : BufTy).Contents (Elt Ideal)) bitsLt_bf16_f32 := by
    unfold Gen.V
    simp only [hostOps0, List.flatten, List.cons_append, List.nil_append, List.append_nil, TRef.binary, TRef.nullary,
      TRef.unary, TRef.toBuf, TRef.ofBuf, cast_eq]
    after_reads_simp
  rw [e]
  pointwise
  rfl

/-- The gain operand is the gain vector as one row. -/
theorem v22_at (c : Dev nD) (k : Fin 1024) : (Gen.V m c main_v22 : S1x1024.Idx → EReal) (ix2 0 k) = (argsAt m c).gain k := by
  have e : Gen.V m c main_v22 = broadcastInDim S1x1024 ![1] bcast_S1024_S1x1024_1 (m ((c : Thread nD τ).loc main_arg1)) := by
    unfold Gen.V
    simp only [hostOps0, List.flatten, List.cons_append, List.nil_append, List.append_nil, TRef.binary, TRef.nullary,
      TRef.unary, TRef.toBuf, TRef.ofBuf, cast_eq]
    after_reads_simp
  rw [e]
  pointwise
  rfl

/-- Point `t` takes the row block `t / 2` of the gradients and of the input, and the whole gain. -/
theorem idx_rows : ∀ t : Fin cfg0.N, win0_0.index t = ![t.val / 2, 0] ∧ win0_1.index t = ![t.val / 2, 0] ∧ win0_2.index t = ![0, 0] :=
  (by decide +kernel : ∀ t : Fin grid0.N, _)

/-- Point `t` takes the block `(t / 2, t % 2)` of the gate and up values. -/
theorem idx_blocks : ∀ t : Fin cfg0.N, win0_3.index t = ![t.val / 2, t.val % 2] ∧ win0_4.index t = ![t.val / 2, t.val % 2] :=
  (by decide +kernel : ∀ t : Fin grid0.N, _)

/-- Point `t` takes the hidden block `t % 2` of each weight. -/
theorem idx_cols : ∀ t : Fin cfg0.N, win0_5.index t = ![t.val % 2, 0] ∧ win0_6.index t = ![t.val % 2, 0] ∧ win0_7.index t = ![t.val % 2, 0] :=
  (by decide +kernel : ∀ t : Fin grid0.N, _)

/-- The block of the output gradient at point `t`. -/
theorem blk0 (c : Dev nD) (t : Fin cfg0.N) (p : Fin 512) (k : Fin 1024) (r : Fin 8192) (hr : r.val = (t.val / 2) * 512 + p.val) :
    (iblk m c 0 t : Vec Ideal S512x1024 .f32) (ix2 p k) = (argsAt m c).D (ix2 r k) := by
  obtain ⟨e, -, -⟩ := idx_rows t
  have h : (iblk m c 0 t : Vec Ideal S512x1024 .f32) (ix2 p k) = (V m c main_arg5 : Vec Ideal S8192x1024 .f32) (ix2 r k) := by
    blk_ext [iblk, V, e]
  rw [h, V_main_arg5]
  rfl

/-- The block of the input rows at point `t`. -/
theorem blk1 (c : Dev nD) (t : Fin cfg0.N) (p : Fin 512) (k : Fin 1024) (r : Fin 8192) (hr : r.val = (t.val / 2) * 512 + p.val) :
    (iblk m c 1 t : Vec Ideal S512x1024 .f32) (ix2 p k) = (argsAt m c).row r k := by
  obtain ⟨-, e, -⟩ := idx_rows t
  have h : (iblk m c 1 t : Vec Ideal S512x1024 .f32) (ix2 p k) = (V m c main_arg0 : Vec Ideal S8192x1024 .f32) (ix2 r k) := by
    blk_ext [iblk, V, e]
  rw [h, V_main_arg0]
  rfl

/-- The gain row at point `t`. -/
theorem blk2 (c : Dev nD) (t : Fin cfg0.N) (k : Fin 1024) :
    (iblk m c 2 t : Vec Ideal S1x1024 .f32) (ix2 0 k) = (argsAt m c).gain k := by
  obtain ⟨-, -, e⟩ := idx_rows t
  have h : (iblk m c 2 t : Vec Ideal S1x1024 .f32) (ix2 0 k) = (V m c main_v22 : Vec Ideal S1x1024 .f32) (ix2 0 k) := by
    blk_ext [iblk, V, e]
  exact h.trans (v22_at m c k)

/-- The block of the gate values at point `t`. -/
theorem blk3 (c : Dev nD) (t : Fin cfg0.N) (p : Fin 512) (q : Fin 1408) (r : Fin 8192) (Q : Fin 2816) (hr : r.val = (t.val / 2) * 512 + p.val) (hQ : Q.val = (t.val % 2) * 1408 + q.val) :
    (iblk m c 3 t : Vec Ideal S512x1408 .bf16) (ix2 p q) = (argsAt m c).a r Q := by
  obtain ⟨e, -⟩ := idx_blocks t
  have h : (iblk m c 3 t : Vec Ideal S512x1408 .bf16) (ix2 p q) = (V m c main_v14 : Vec Ideal S8192x2816 .bf16) (ix2 r Q) := by
    blk_ext [iblk, V, e]
  exact h.trans (v14_at m c r Q)

/-- The block of the up values at point `t`. -/
theorem blk4 (c : Dev nD) (t : Fin cfg0.N) (p : Fin 512) (q : Fin 1408) (r : Fin 8192) (Q : Fin 2816) (hr : r.val = (t.val / 2) * 512 + p.val) (hQ : Q.val = (t.val % 2) * 1408 + q.val) :
    (iblk m c 4 t : Vec Ideal S512x1408 .bf16) (ix2 p q) = (argsAt m c).b r Q := by
  obtain ⟨-, e⟩ := idx_blocks t
  have h : (iblk m c 4 t : Vec Ideal S512x1408 .bf16) (ix2 p q) = (V m c main_v16 : Vec Ideal S8192x2816 .bf16) (ix2 r Q) := by
    blk_ext [iblk, V, e]
  exact h.trans (v16_at m c r Q)

/-- The block of the gate weight at point `t`. -/
theorem blk5 (c : Dev nD) (t : Fin cfg0.N) (q : Fin 1408) (k : Fin 1024) (Q : Fin 2816) (hQ : Q.val = (t.val % 2) * 1408 + q.val) :
    (iblk m c 5 t : Vec Ideal S1408x1024 .bf16) (ix2 q k) = (argsAt m c).W1 (ix2 k Q) := by
  obtain ⟨e, -, -⟩ := idx_cols t
  have h : (iblk m c 5 t : Vec Ideal S1408x1024 .bf16) (ix2 q k) = (V m c main_v18 : Vec Ideal S2816x1024 .bf16) (ix2 Q k) := by
    blk_ext [iblk, V, e]
  exact h.trans (v18_at m c Q k)

/-- The block of the up weight at point `t`. -/
theorem blk6 (c : Dev nD) (t : Fin cfg0.N) (q : Fin 1408) (k : Fin 1024) (Q : Fin 2816) (hQ : Q.val = (t.val % 2) * 1408 + q.val) :
    (iblk m c 6 t : Vec Ideal S1408x1024 .bf16) (ix2 q k) = (argsAt m c).W3 (ix2 k Q) := by
  obtain ⟨-, e, -⟩ := idx_cols t
  have h : (iblk m c 6 t : Vec Ideal S1408x1024 .bf16) (ix2 q k) = (V m c main_v20 : Vec Ideal S2816x1024 .bf16) (ix2 Q k) := by
    blk_ext [iblk, V, e]
  exact h.trans (v20_at m c Q k)

/-- The block of the down weight at point `t`. -/
theorem blk7 (c : Dev nD) (t : Fin cfg0.N) (q : Fin 1408) (k : Fin 1024) (Q : Fin 2816) (hQ : Q.val = (t.val % 2) * 1408 + q.val) :
    (iblk m c 7 t : Vec Ideal S1408x1024 .bf16) (ix2 q k) = (argsAt m c).W2 (ix2 Q k) := by
  obtain ⟨-, -, e⟩ := idx_cols t
  have h : (iblk m c 7 t : Vec Ideal S1408x1024 .bf16) (ix2 q k) = (V m c main_v21 : Vec Ideal S2816x1024 .bf16) (ix2 Q k) := by
    blk_ext [iblk, V, e]
  exact h.trans (v21_at m c Q k)

end Cert.KernelIdeal.A

end
-- ==== Proof.ASum.lean ====
/-
What each point's blocks of the activation-gradient kernel's results are, in the layer's arguments.
-/
module

public import proofs.«01_k».proof.Proof.AHost

@[expose] public section

set_option maxRecDepth 16384

noncomputable section

namespace Cert.KernelIdeal.A

open Idealize.ShloMosaic Idealize.ShloMosaic.TcCoe Cert.KernelIdeal.Gen

variable (m : (ℓ : Loc nD τ sig) → Buf (Elt Ideal) ℓ)

/-- The point before `t`. -/
abbrev prevPt (t : Fin cfg0.N) : Fin cfg0.N := ⟨t.val - 1, pred_lt t⟩

/-- The normed rows a row block's first point stores. -/
theorem n_first (c : Dev nD) (t : Fin cfg0.N) (h : t.val % 2 = 0) (p : Fin 512) (k : Fin 1024) (r : Fin 8192)
    (hr : r.val = (t.val / 2) * 512 + p.val) :
    ((outs m c t.val t.isLt).2.2.2.2.1 : Vec Ideal S512x1024 .bf16) (ix2 p k) = (argsAt m c).n r k := by
  rw [n_even m c t h]
  refine (pay6 (iblk m c 1 t) (iblk m c 2 t) (ix2 p k)).trans ?_
  unfold Args.n
  exact congrArg₂ (fun x g => normed x g k) (funext fun j => blk1 m c t p j r hr) (funext fun j => blk2 m c t j)

/-- The normed rows held after a point. -/
theorem n_at (c : Dev nD) (t : Fin cfg0.N) (p : Fin 512) (k : Fin 1024) (r : Fin 8192) (hr : r.val = (t.val / 2) * 512 + p.val) :
    ((outs m c t.val t.isLt).2.2.2.2.1 : Vec Ideal S512x1024 .bf16) (ix2 p k) = (argsAt m c).n r k := by
  rcases Nat.mod_two_eq_zero_or_one t.val with h | h
  · exact n_first m c t h p k r hr
  · rw [n_odd m c t h]
    exact n_first m c (prevPt t) (by show (t.val - 1) % 2 = 0; omega) p k r (by show r.val = (t.val - 1) / 2 * 512 + p.val; omega)

/-- The scaled gradients a row block's first point stores. -/
theorem dy_first (c : Dev nD) (t : Fin cfg0.N) (h : t.val % 2 = 0) (p : Fin 512) (k : Fin 1024) (r : Fin 8192)
    (hr : r.val = (t.val / 2) * 512 + p.val) : dyAt m c t (ix2 p k) = (argsAt m c).dy r k := by
  rw [dy_even m c t h]
  refine (pay7 (iblk m c 0 t) (ix2 p k)).trans ?_
  exact congrArg (fun z : EReal => Ideal.ofBits .f32 0x3F000000#32 * z) (blk0 m c t p k r hr)

/-- The scaled gradients held after a point. -/
theorem dy_at (c : Dev nD) (t : Fin cfg0.N) (p : Fin 512) (k : Fin 1024) (r : Fin 8192) (hr : r.val = (t.val / 2) * 512 + p.val) :
    dyAt m c t (ix2 p k) = (argsAt m c).dy r k := by
  rcases Nat.mod_two_eq_zero_or_one t.val with h | h
  · exact dy_first m c t h p k r hr
  · rw [dy_odd m c t h]
    exact dy_first m c (prevPt t) (by show (t.val - 1) % 2 = 0; omega) p k r (by show r.val = (t.val - 1) / 2 * 512 + p.val; omega)

/-- The scaled gradients of a point against its block of the down weight. -/
theorem dt_at (c : Dev nD) (t : Fin cfg0.N) (p : Fin 512) (q : Fin 1408) (r : Fin 8192) (Q : Fin 2816)
    (hr : r.val = (t.val / 2) * 512 + p.val) (hQ : Q.val = (t.val % 2) * 1408 + q.val) :
    rowDot (dyAt m c t) (iblk m c 7 t) p q = (argsAt m c).dt r Q := by
  unfold rowDot Args.dt
  exact Finset.sum_congr rfl fun k _ => congrArg₂ (fun y z : EReal => y * z) (dy_at m c t p k r hr) (blk7 m c t q k Q hQ)

/-- The gate gradients made at a point. -/
theorem gate_at (c : Dev nD) (t : Fin cfg0.N) (p : Fin 512) (q : Fin 1408) (r : Fin 8192) (Q : Fin 2816)
    (hr : r.val = (t.val / 2) * 512 + p.val) (hQ : Q.val = (t.val % 2) * 1408 + q.val) :
    gateBlock (dyAt m c t) (iblk m c 3 t) (iblk m c 4 t) (iblk m c 7 t) (ix2 p q) = (argsAt m c).da r Q := by
  show gateGrad (rowDot (dyAt m c t) (iblk m c 7 t) p q) ((iblk m c 3 t : Vec Ideal S512x1408 .bf16) (ix2 p q)) ((iblk m c 4 t : Vec Ideal S512x1408 .bf16) (ix2 p q)) = _
  unfold Args.da
  exact congr (congrArg₂ gateGrad (dt_at m c t p q r Q hr hQ) (blk3 m c t p q r Q hr hQ)) (blk4 m c t p q r Q hr hQ)

/-- The up gradients made at a point. -/
theorem up_at (c : Dev nD) (t : Fin cfg0.N) (p : Fin 512) (q : Fin 1408) (r : Fin 8192) (Q : Fin 2816)
    (hr : r.val = (t.val / 2) * 512 + p.val) (hQ : Q.val = (t.val % 2) * 1408 + q.val) :
    upBlock (dyAt m c t) (iblk m c 3 t) (iblk m c 7 t) (ix2 p q) = (argsAt m c).db r Q := by
  show upGrad (rowDot (dyAt m c t) (iblk m c 7 t) p q) ((iblk m c 3 t : Vec Ideal S512x1408 .bf16) (ix2 p q)) = _
  unfold Args.db
  exact congrArg₂ upGrad (dt_at m c t p q r Q hr hQ) (blk3 m c t p q r Q hr hQ)

/-- Column `k` of hidden block `s`. -/
def hid (s : Fin 2) (k : Fin 1408) : Fin 2816 := ⟨s.val * 1408 + k.val, by omega⟩

/-- A point's addend: the gate and up gradients of its hidden block against the two weights. -/
theorem addAt_eq (c : Dev nD) (t : Fin cfg0.N) (p : Fin 512) (j : Fin 1024) (r : Fin 8192) (s : Fin 2)
    (hr : r.val = (t.val / 2) * 512 + p.val) (hs : s.val = t.val % 2) :
    addAt m c t p j = (∑ k : Fin 1408, (argsAt m c).da r (hid s k) * (argsAt m c).W1 (ix2 j (hid s k)))
      + ∑ k : Fin 1408, (argsAt m c).db r (hid s k) * (argsAt m c).W3 (ix2 j (hid s k)) := by
  have hQ : ∀ k : Fin 1408, (hid s k).val = (t.val % 2) * 1408 + k.val := fun k => by rw [← hs]; rfl
  unfold addAt addend colDot
  exact congrArg₂ (fun y z : EReal => y + z)
    (Finset.sum_congr rfl fun k _ => congrArg₂ (fun y z : EReal => y * z) (gate_at m c t p k r _ hr (hQ k)) (blk5 m c t k j _ (hQ k)))
    (Finset.sum_congr rfl fun k _ => congrArg₂ (fun y z : EReal => y * z) (up_at m c t p k r _ hr (hQ k)) (blk6 m c t k j _ (hQ k)))

/-- A sum over both hidden blocks is a sum over all hidden columns. -/
theorem sum_hid (f : Fin 2816 → EReal) : (∑ k : Fin 1408, f (hid 0 k)) + ∑ k : Fin 1408, f (hid 1 k) = ∑ q : Fin 2816, f q := by
  have e : (∑ s : Fin 2, ∑ k : Fin 1408, f (hid s k)) = ∑ q : Fin 2816, f q :=
    Fin.sum_mul_add_congr (S := 2) (n := 1408) fun s k hl => rfl
  rw [← e, Fin.sum_univ_two]

/-- The running sum after a row block's last point: the gradients of the normed rows. -/
theorem acc_at (c : Dev nD) (t : Fin cfg0.N) (h : t.val % 2 = 1) (p : Fin 512) (j : Fin 1024) (r : Fin 8192)
    (hr : r.val = (t.val / 2) * 512 + p.val) : accAt m c t (ix2 p j) = (argsAt m c).dn (argsAt m c).da r j := by
  have e0 : accAt m c (prevPt t) (ix2 p j) = 0 + addAt m c (prevPt t) p j :=
    congrFun (acc_even m c (prevPt t) (by show (t.val - 1) % 2 = 0; omega)) (ix2 p j)
  have e1 : accAt m c t (ix2 p j) = accAt m c (prevPt t) (ix2 p j) + addAt m c t p j := congrFun (acc_odd m c t h) (ix2 p j)
  rw [e1, e0, addAt_eq m c t p j r 1 hr h.symm,
    addAt_eq m c (prevPt t) p j r 0 (by show r.val = (t.val - 1) / 2 * 512 + p.val; omega) (by show 0 = (t.val - 1) % 2; omega),
    zero_add, add_add_add_comm]
  unfold Args.dn
  rw [← sum_hid, ← sum_hid]

/-- The input gradients a row block's last point stores. -/
theorem dx_at (c : Dev nD) (t : Fin cfg0.N) (h : t.val % 2 = 1) (p : Fin 512) (j : Fin 1024) (r : Fin 8192)
    (hr : r.val = (t.val / 2) * 512 + p.val) :
    ((outs m c t.val t.isLt).1 : Vec Ideal S512x1024 .f32) (ix2 p j) = (argsAt m c).dx r j := by
  rw [dx_odd m c t h]
  refine (pay4 (iblk m c 1 t) (accAt m c t) (iblk m c 2 t) (iblk m c 0 t) (ix2 p j)).trans ?_
  unfold Args.dx
  have e1 : (fun k => (iblk m c 1 t : Vec Ideal S512x1024 .f32) (ix2 p k)) = (argsAt m c).row r := funext fun k => blk1 m c t p k r hr
  have e2 : (fun k => accAt m c t (ix2 p k)) = (argsAt m c).dn (argsAt m c).da r := funext fun k => acc_at m c t h p k r hr
  have e3 : (fun k => (iblk m c 2 t : Vec Ideal S1x1024 .f32) (ix2 0 k)) = (argsAt m c).gain := funext fun k => blk2 m c t k
  have e4 : (iblk m c 0 t : Vec Ideal S512x1024 .f32) (ix2 p j) = (argsAt m c).D (ix2 r j) := blk0 m c t p j r hr
  rw [← e1, ← e2, ← e3, ← e4]
  rfl

/-- What row block `s` adds to the gradient of the gain. -/
def gainPart (u : Args) (s : ℕ) (j : Fin 1024) : EReal :=
  if h : s < 16 then ∑ p : Fin 512, u.dn u.da ⟨s * 512 + p.val, by omega⟩ j
    * (u.row ⟨s * 512 + p.val, by omega⟩ j * rowScale (u.row ⟨s * 512 + p.val, by omega⟩)) else 0

/-- The gain's parts over all row blocks. -/
theorem gainPart_sum (u : Args) (j : Fin 1024) : (∑ s ∈ Finset.range 16, gainPart u s j) = u.dg u.da j := by
  rw [Finset.sum_range]
  unfold Args.dg
  have e : (∑ s : Fin 16, ∑ p : Fin 512, u.dn u.da ⟨s.val * 512 + p.val, by omega⟩ j
      * (u.row ⟨s.val * 512 + p.val, by omega⟩ j * rowScale (u.row ⟨s.val * 512 + p.val, by omega⟩)))
      = ∑ r : Fin 8192, u.dn u.da r j * (u.row r j * rowScale (u.row r)) :=
    Fin.sum_mul_add_congr (S := 16) (n := 512) fun s k hl => rfl
  rw [← e]
  exact Finset.sum_congr rfl fun s _ => dif_pos s.isLt

/-- What a row block's last point adds to the gradient of the gain. -/
theorem scaleAdd_at (c : Dev nD) (t : Fin cfg0.N) (h : t.val % 2 = 1) (j : Fin 1024) :
    scaleAdd (iblk m c 1 t) (accAt m c t) j = gainPart (argsAt m c) (t.val / 2) j := by
  have hN : cfg0.N = 32 := N_0
  have hl : t.val / 2 < 16 := by have := t.isLt; omega
  unfold scaleAdd gainPart
  rw [dif_pos hl]
  refine Finset.sum_congr rfl fun p _ => ?_
  have e1 : (fun k => (iblk m c 1 t : Vec Ideal S512x1024 .f32) (ix2 p k)) = (argsAt m c).row ⟨t.val / 2 * 512 + p.val, by omega⟩ :=
    funext fun k => blk1 m c t p k ⟨t.val / 2 * 512 + p.val, by omega⟩ rfl
  rw [← acc_at m c t h p j ⟨t.val / 2 * 512 + p.val, by omega⟩ rfl, ← e1]

/-- The gain's gradient after a point: the parts of the row blocks finished so far. -/
theorem dg_upto (c : Dev nD) (j : Fin 1024) : ∀ (n : ℕ) (hn : n < cfg0.N),
    ((outs m c n hn).2.1 : Vec Ideal S1x1024 .f32) (ix2 0 j) = ∑ s ∈ Finset.range ((n + 1) / 2), gainPart (argsAt m c) s j := by
  intro n
  induction n with
  | zero =>
    intro hn
    rw [dg_zero m c ⟨0, hn⟩ rfl]
    exact pay9 _
  | succ n ih =>
    intro hn
    have hp : n < cfg0.N := Nat.lt_of_succ_lt hn
    rcases Nat.mod_two_eq_zero_or_one (n + 1) with h | h
    · have e := dg_even m c ⟨n + 1, hn⟩ h (Nat.succ_ne_zero n)
      rw [show (n + 1 + 1) / 2 = (n + 1) / 2 from by omega, ← ih hp]
      exact congrFun e (ix2 0 j)
    · have e := dg_odd m c ⟨n + 1, hn⟩ h
      rw [show (n + 1 + 1) / 2 = (n + 1) / 2 + 1 from by omega, Finset.sum_range_succ, ← ih hp, ← scaleAdd_at m c ⟨n + 1, hn⟩ h j]
      exact (congrFun e (ix2 0 j)).trans (pay5 _ _ _ _)

end Cert.KernelIdeal.A

end
-- ==== Proof.AValue.lean ====
/-
What the activation-gradient kernel's six result arrays hold after the run, and the run with those contents.
-/
module

public import proofs.«01_k».proof.Proof.ASum

@[expose] public section

set_option maxRecDepth 16384

noncomputable section

namespace Cert.KernelIdeal.A

open Idealize.ShloMosaic Idealize.ShloMosaic.TcCoe Idealize.SL.Sem Cert.KernelIdeal.Gen

variable (m : (ℓ : Loc nD τ sig) → Buf (Elt Ideal) ℓ)

/-- The input gradients' and other row arrays' block at point `t` is row block `t / 2`. -/
theorem out_rows : ∀ t : Fin cfg0.N, win0_8.index t = ![t.val / 2, 0] ∧ win0_12.index t = ![t.val / 2, 0] ∧ win0_13.index t = ![t.val / 2, 0] ∧ win0_9.index t = ![0, 0] :=
  (by decide +kernel : ∀ t : Fin grid0.N, _)

/-- The gate and up gradients' block at point `t` is block `(t / 2, t % 2)`. -/
theorem out_blocks : ∀ t : Fin cfg0.N, win0_10.index t = ![t.val / 2, t.val % 2] ∧ win0_11.index t = ![t.val / 2, t.val % 2] :=
  (by decide +kernel : ∀ t : Fin grid0.N, _)

/-- The input gradients are written back at a row block's last point only. -/
theorem flush8 : ∀ t : Fin cfg0.N, (cfg0.win 8).flush t = true ↔ t.val % 2 = 1 :=
  (by decide +kernel : ∀ t : Fin grid0.N, win0_8.flush t = true ↔ t.val % 2 = 1)

/-- The gain's gradient is written back at the last point only. -/
theorem flush9 : ∀ t : Fin cfg0.N, (cfg0.win 9).flush t = true ↔ t.val = 31 :=
  (by decide +kernel : ∀ t : Fin grid0.N, win0_9.flush t = true ↔ t.val = 31)

/-- The gate and up gradients are written back at every point. -/
theorem flush10 : ∀ t : Fin cfg0.N, (cfg0.win 10).flush t = true ∧ (cfg0.win 11).flush t = true :=
  (by decide +kernel : ∀ t : Fin grid0.N, win0_10.flush t = true ∧ win0_11.flush t = true)

/-- The input gradients as an array. -/
def G8 (c : Dev nD) : Buf (Elt Ideal) ((c : Thread nD τ).loc main_v23_0) := fun i : S8192x1024.Idx => ((argsAt m c).dx (i 0) (i 1) : EReal)

/-- A point that writes the input gradients back writes its block of them. -/
theorem flushed8 (c : Dev nD) (t : Fin cfg0.N) (hf : (cfg0.win 8).flush t = true) :
    (dats m 0 c).flushed 8 t = ((cfg0.win 8).blk t).view.read (Elt Ideal) (G8 m c) := by
  show (cfg0.win 8).cut (grid0.coords t) ((dats m 0 c).after 8 t) = _
  rw [after8]
  obtain ⟨e, -, -, -⟩ := out_rows t
  funext y
  have hb0 : (((cfg0.win 8).blk t).view.emb y 0).val = win0_8.index t (0 : Fin 2) * 512 + 1 * (y 0).val := rfl
  have hb1 : (((cfg0.win 8).blk t).view.emb y 1).val = win0_8.index t (1 : Fin 2) * 1024 + 1 * (y 1).val := rfl
  have e0 : win0_8.index t (0 : Fin 2) = t.val / 2 := congrFun e 0
  have e1 : win0_8.index t (1 : Fin 2) = 0 := congrFun e 1
  have hy0 : (y 0).val < 512 := (y 0).isLt
  have hy1 : (y 1).val < 1024 := (y 1).isLt
  show ((outs m c t.val t.isLt).1 : S512x1024.Idx → EReal) ((cfg0.win 8).xinj (grid0.coords t) y) = G8 m c (((cfg0.win 8).blk t).view.emb y)
  have hx : (cfg0.win 8).xinj (grid0.coords t) y = (ix2 ⟨(y 0).val, hy0⟩ ⟨(y 1).val, hy1⟩ : S512x1024.Idx) := by
    funext a
    match a with
    | ⟨0, _⟩ => rfl
    | ⟨1, _⟩ => rfl
  rw [hx]
  have hq : (⟨(y 1).val, hy1⟩ : Fin 1024) = ((cfg0.win 8).blk t).view.emb y 1 := Fin.ext (by show (y 1).val = (((cfg0.win 8).blk t).view.emb y 1).val; rw [hb1, e1]; omega)
  rw [hq]
  exact dx_at m c t ((flush8 t).1 hf) _ _ _ (by rw [hb0, e0]; show _ = t.val / 2 * 512 + (y 0).val; omega)

/-- The indices of point `t`'s block of the input gradients. -/
theorem mem_blk8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v23_0).slice (win0_8.rect t)).set ↔ _
  rw [View.set_slice_whole, Rect.mem_set_unit]
  exact Iff.rfl

/-- The input gradients after the run. -/
theorem final8 (c : Dev nD) : (dats m 0 c).arrAt 8 cfg0.N = G8 m c := by
  refine (dats m 0 c).arrAt_eq_of_cover 8 _ (fun t hf => flushed8 m c t hf) fun i => ?_
  have hi0 : (i 0).val < 8192 := (i 0).isLt
  have hi1 : (i 1).val < 1024 := (i 1).isLt
  have hN : cfg0.N = 32 := N_0
  obtain ⟨t, ht⟩ : ∃ t : Fin cfg0.N, t.val = 2 * ((i 0).val / 512) + 1 := ⟨⟨2 * ((i 0).val / 512) + 1, by omega⟩, rfl⟩
  obtain ⟨e, -, -, -⟩ := out_rows t
  have e0 : win0_8.index t (0 : Fin 2) = t.val / 2 := congrFun e 0
  have e1 : win0_8.index t (1 : Fin 2) = 0 := congrFun e 1
  refine ⟨t, (flush8 t).2 (by rw [ht]; omega), ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 1024 ≤ (i 1).val ∧ (i 1).val < win0_8.index t (1 : Fin 2) * 1024 + 1024; omega

/-- The gain's gradient as an array. -/
def G9 (c : Dev nD) : Buf (Elt Ideal) ((c : Thread nD τ).loc main_v23_1) := fun i : S1x1024.Idx => ((argsAt m c).dg (argsAt m c).da (i 1) : EReal)

/-- A point that writes the gain's gradient back writes its block of them. -/
theorem flushed9 (c : Dev nD) (t : Fin cfg0.N) (hf : (cfg0.win 9).flush t = true) :
    (dats m 0 c).flushed 9 t = ((cfg0.win 9).blk t).view.read (Elt Ideal) (G9 m c) := by
  show (cfg0.win 9).cut (grid0.coords t) ((dats m 0 c).after 9 t) = _
  rw [after9]
  obtain ⟨-, -, -, e⟩ := out_rows t
  funext y
  have hb0 : (((cfg0.win 9).blk t).view.emb y 0).val = win0_9.index t (0 : Fin 2) * 1 + 1 * (y 0).val := rfl
  have hb1 : (((cfg0.win 9).blk t).view.emb y 1).val = win0_9.index t (1 : Fin 2) * 1024 + 1 * (y 1).val := rfl
  have e0 : win0_9.index t (0 : Fin 2) = 0 := congrFun e 0
  have e1 : win0_9.index t (1 : Fin 2) = 0 := congrFun e 1
  have hy0 : (y 0).val < 1 := (y 0).isLt
  have hy1 : (y 1).val < 1024 := (y 1).isLt
  show ((outs m c t.val t.isLt).2.1 : S1x1024.Idx → EReal) ((cfg0.win 9).xinj (grid0.coords t) y) = G9 m c (((cfg0.win 9).blk t).view.emb y)
  have hx : (cfg0.win 9).xinj (grid0.coords t) y = (ix2 ⟨(y 0).val, hy0⟩ ⟨(y 1).val, hy1⟩ : S1x1024.Idx) := by
    funext a
    match a with
    | ⟨0, _⟩ => rfl
    | ⟨1, _⟩ => rfl
  rw [hx]
  have hz : (⟨(y 0).val, hy0⟩ : Fin 1) = 0 := Subsingleton.elim _ _
  have hq : (⟨(y 1).val, hy1⟩ : Fin 1024) = ((cfg0.win 9).blk t).view.emb y 1 := Fin.ext (by show (y 1).val = (((cfg0.win 9).blk t).view.emb y 1).val; rw [hb1, e1]; omega)
  have ht : t.val = 31 := (flush9 t).1 hf
  rw [hz, hq]
  refine (dg_upto m c _ t.val t.isLt).trans ?_
  rw [show (t.val + 1) / 2 = 16 from by omega]
  exact gainPart_sum _ _

/-- The indices of point `t`'s block of the gain's gradient. -/
theorem mem_blk9 (t : Fin cfg0.N) (i : S1x1024.Idx) :
    i ∈ ((cfg0.win 9).blk t).view.set ↔ ∀ a : Fin 2, win0_9.index t a * S1x1024.size a ≤ (i a).val ∧ (i a).val < win0_9.index t a * S1x1024.size a + S1x1024.size a := by
  show i ∈ ((View.whole main_v23_1).slice (win0_9.rect t)).set ↔ _
  rw [View.set_slice_whole, Rect.mem_set_unit]
  exact Iff.rfl

/-- The gain's gradient after the run. -/
theorem final9 (c : Dev nD) : (dats m 0 c).arrAt 9 cfg0.N = G9 m c := by
  refine (dats m 0 c).arrAt_eq_of_cover 9 _ (fun t hf => flushed9 m c t hf) fun i => ?_
  have hi0 : (i 0).val < 1 := (i 0).isLt
  have hi1 : (i 1).val < 1024 := (i 1).isLt
  have hN : cfg0.N = 32 := N_0
  obtain ⟨t, ht⟩ : ∃ t : Fin cfg0.N, t.val = 31 := ⟨⟨31, by omega⟩, rfl⟩
  obtain ⟨-, -, -, e⟩ := out_rows t
  have e0 : win0_9.index t (0 : Fin 2) = 0 := congrFun e 0
  have e1 : win0_9.index t (1 : Fin 2) = 0 := congrFun e 1
  refine ⟨t, (flush9 t).2 ht, ?_⟩
  rw [mem_blk9]
  intro a
  match a with
  | ⟨0, _⟩ => show win0_9.index t (0 : Fin 2) * 1 ≤ (i 0).val ∧ (i 0).val < win0_9.index t (0 : Fin 2) * 1 + 1; omega
  | ⟨1, _⟩ => show win0_9.index t (1 : Fin 2) * 1024 ≤ (i 1).val ∧ (i 1).val < win0_9.index t (1 : Fin 2) * 1024 + 1024; omega

/-- The gate gradients as an array. -/
def G10 (c : Dev nD) : Buf (Elt Ideal) ((c : Thread nD τ).loc main_v23_2) := fun i : S8192x2816.Idx => ((argsAt m c).da (i 0) (i 1) : EReal)

/-- A point that writes the gate gradients back writes its block of them. -/
theorem flushed10 (c : Dev nD) (t : Fin cfg0.N) (hf : (cfg0.win 10).flush t = true) :
    (dats m 0 c).flushed 10 t = ((cfg0.win 10).blk t).view.read (Elt Ideal) (G10 m c) := by
  show (cfg0.win 10).cut (grid0.coords t) ((dats m 0 c).after 10 t) = _
  rw [after10]
  obtain ⟨e, -⟩ := out_blocks t
  funext y
  have hb0 : (((cfg0.win 10).blk t).view.emb y 0).val = win0_10.index t (0 : Fin 2) * 512 + 1 * (y 0).val := rfl
  have hb1 : (((cfg0.win 10).blk t).view.emb y 1).val = win0_10.index t (1 : Fin 2) * 1408 + 1 * (y 1).val := rfl
  have e0 : win0_10.index t (0 : Fin 2) = t.val / 2 := congrFun e 0
  have e1 : win0_10.index t (1 : Fin 2) = t.val % 2 := congrFun e 1
  have hy0 : (y 0).val < 512 := (y 0).isLt
  have hy1 : (y 1).val < 1408 := (y 1).isLt
  show ((outs m c t.val t.isLt).2.2.1 : S512x1408.Idx → EReal) ((cfg0.win 10).xinj (grid0.coords t) y) = G10 m c (((cfg0.win 10).blk t).view.emb y)
  have hx : (cfg0.win 10).xinj (grid0.coords t) y = (ix2 ⟨(y 0).val, hy0⟩ ⟨(y 1).val, hy1⟩ : S512x1408.Idx) := by
    funext a
    match a with
    | ⟨0, _⟩ => rfl
    | ⟨1, _⟩ => rfl
  rw [hx]
  rw [da_at m c t]
  exact gate_at m c t _ _ _ _ (by rw [hb0, e0]; show _ = t.val / 2 * 512 + (y 0).val; omega) (by rw [hb1, e1]; show _ = t.val % 2 * 1408 + (y 1).val; omega)

/-- The indices of point `t`'s block of the gate gradients. -/
theorem mem_blk10 (t : Fin cfg0.N) (i : S8192x2816.Idx) :
    i ∈ ((cfg0.win 10).blk t).view.set ↔ ∀ a : Fin 2, win0_10.index t a * S512x1408.size a ≤ (i a).val ∧ (i a).val < win0_10.index t a * S512x1408.size a + S512x1408.size a := by
  show i ∈ ((View.whole main_v23_2).slice (win0_10.rect t)).set ↔ _
  rw [View.set_slice_whole, Rect.mem_set_unit]
  exact Iff.rfl

/-- The gate gradients after the run. -/
theorem final10 (c : Dev nD) : (dats m 0 c).arrAt 10 cfg0.N = G10 m c := by
  refine (dats m 0 c).arrAt_eq_of_cover 10 _ (fun t hf => flushed10 m c t hf) fun i => ?_
  have hi0 : (i 0).val < 8192 := (i 0).isLt
  have hi1 : (i 1).val < 2816 := (i 1).isLt
  have hN : cfg0.N = 32 := N_0
  obtain ⟨t, ht⟩ : ∃ t : Fin cfg0.N, t.val = 2 * ((i 0).val / 512) + (i 1).val / 1408 := ⟨⟨2 * ((i 0).val / 512) + (i 1).val / 1408, by omega⟩, rfl⟩
  obtain ⟨e, -⟩ := out_blocks t
  have e0 : win0_10.index t (0 : Fin 2) = t.val / 2 := congrFun e 0
  have e1 : win0_10.index t (1 : Fin 2) = t.val % 2 := congrFun e 1
  refine ⟨t, (flush10 t).1, ?_⟩
  rw [mem_blk10]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 1408 ≤ (i 1).val ∧ (i 1).val < win0_10.index t (1 : Fin 2) * 1408 + 1408; omega

/-- The up gradients as an array. -/
def G11 (c : Dev nD) : Buf (Elt Ideal) ((c : Thread nD τ).loc main_v23_3) := fun i : S8192x2816.Idx => ((argsAt m c).db (i 0) (i 1) : EReal)

/-- A point that writes the up gradients back writes its block of them. -/
theorem flushed11 (c : Dev nD) (t : Fin cfg0.N) (hf : (cfg0.win 11).flush t = true) :
    (dats m 0 c).flushed 11 t = ((cfg0.win 11).blk t).view.read (Elt Ideal) (G11 m c) := by
  show (cfg0.win 11).cut (grid0.coords t) ((dats m 0 c).after 11 t) = _
  rw [after11]
  obtain ⟨-, e⟩ := out_blocks t
  funext y
  have hb0 : (((cfg0.win 11).blk t).view.emb y 0).val = win0_11.index t (0 : Fin 2) * 512 + 1 * (y 0).val := rfl
  have hb1 : (((cfg0.win 11).blk t).view.emb y 1).val = win0_11.index t (1 : Fin 2) * 1408 + 1 * (y 1).val := rfl
  have e0 : win0_11.index t (0 : Fin 2) = t.val / 2 := congrFun e 0
  have e1 : win0_11.index t (1 : Fin 2) = t.val % 2 := congrFun e 1
  have hy0 : (y 0).val < 512 := (y 0).isLt
  have hy1 : (y 1).val < 1408 := (y 1).isLt
  show ((outs m c t.val t.isLt).2.2.2.1 : S512x1408.Idx → EReal) ((cfg0.win 11).xinj (grid0.coords t) y) = G11 m c (((cfg0.win 11).blk t).view.emb y)
  have hx : (cfg0.win 11).xinj (grid0.coords t) y = (ix2 ⟨(y 0).val, hy0⟩ ⟨(y 1).val, hy1⟩ : S512x1408.Idx) := by
    funext a
    match a with
    | ⟨0, _⟩ => rfl
    | ⟨1, _⟩ => rfl
  rw [hx]
  rw [db_at m c t]
  exact up_at m c t _ _ _ _ (by rw [hb0, e0]; show _ = t.val / 2 * 512 + (y 0).val; omega) (by rw [hb1, e1]; show _ = t.val % 2 * 1408 + (y 1).val; omega)

/-- The indices of point `t`'s block of the up gradients. -/
theorem mem_blk11 (t : Fin cfg0.N) (i : S8192x2816.Idx) :
    i ∈ ((cfg0.win 11).blk t).view.set ↔ ∀ a : Fin 2, win0_11.index t a * S512x1408.size a ≤ (i a).val ∧ (i a).val < win0_11.index t a * S512x1408.size a + S512x1408.size a := by
  show i ∈ ((View.whole main_v23_3).slice (win0_11.rect t)).set ↔ _
  rw [View.set_slice_whole, Rect.mem_set_unit]
  exact Iff.rfl

/-- The up gradients after the run. -/
theorem final11 (c : Dev nD) : (dats m 0 c).arrAt 11 cfg0.N = G11 m c := by
  refine (dats m 0 c).arrAt_eq_of_cover 11 _ (fun t hf => flushed11 m c t hf) fun i => ?_
  have hi0 : (i 0).val < 8192 := (i 0).isLt
  have hi1 : (i 1).val < 2816 := (i 1).isLt
  have hN : cfg0.N = 32 := N_0
  obtain ⟨t, ht⟩ : ∃ t : Fin cfg0.N, t.val = 2 * ((i 0).val / 512) + (i 1).val / 1408 := ⟨⟨2 * ((i 0).val / 512) + (i 1).val / 1408, by omega⟩, rfl⟩
  obtain ⟨-, e⟩ := out_blocks t
  have e0 : win0_11.index t (0 : Fin 2) = t.val / 2 := congrFun e 0
  have e1 : win0_11.index t (1 : Fin 2) = t.val % 2 := congrFun e 1
  refine ⟨t, (flush10 t).2, ?_⟩
  rw [mem_blk11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 1408 ≤ (i 1).val ∧ (i 1).val < win0_11.index t (1 : Fin 2) * 1408 + 1408; omega

/-- The normed rows as an array. -/
def G12 (c : Dev nD) : Buf (Elt Ideal) ((c : Thread nD τ).loc main_v23_4) := fun i : S8192x1024.Idx => ((argsAt m c).n (i 0) (i 1) : EReal)

/-- A point that writes the normed rows back writes its block of them. -/
theorem flushed12 (c : Dev nD) (t : Fin cfg0.N) (hf : (cfg0.win 12).flush t = true) :
    (dats m 0 c).flushed 12 t = ((cfg0.win 12).blk t).view.read (Elt Ideal) (G12 m c) := by
  show (cfg0.win 12).cut (grid0.coords t) ((dats m 0 c).after 12 t) = _
  rw [after12]
  obtain ⟨-, e, -, -⟩ := out_rows t
  funext y
  have hb0 : (((cfg0.win 12).blk t).view.emb y 0).val = win0_12.index t (0 : Fin 2) * 512 + 1 * (y 0).val := rfl
  have hb1 : (((cfg0.win 12).blk t).view.emb y 1).val = win0_12.index t (1 : Fin 2) * 1024 + 1 * (y 1).val := rfl
  have e0 : win0_12.index t (0 : Fin 2) = t.val / 2 := congrFun e 0
  have e1 : win0_12.index t (1 : Fin 2) = 0 := congrFun e 1
  have hy0 : (y 0).val < 512 := (y 0).isLt
  have hy1 : (y 1).val < 1024 := (y 1).isLt
  show ((outs m c t.val t.isLt).2.2.2.2.1 : S512x1024.Idx → EReal) ((cfg0.win 12).xinj (grid0.coords t) y) = G12 m c (((cfg0.win 12).blk t).view.emb y)
  have hx : (cfg0.win 12).xinj (grid0.coords t) y = (ix2 ⟨(y 0).val, hy0⟩ ⟨(y 1).val, hy1⟩ : S512x1024.Idx) := by
    funext a
    match a with
    | ⟨0, _⟩ => rfl
    | ⟨1, _⟩ => rfl
  rw [hx]
  have hq : (⟨(y 1).val, hy1⟩ : Fin 1024) = ((cfg0.win 12).blk t).view.emb y 1 := Fin.ext (by show (y 1).val = (((cfg0.win 12).blk t).view.emb y 1).val; rw [hb1, e1]; omega)
  rw [hq]
  exact n_at m c t _ _ _ (by rw [hb0, e0]; show _ = t.val / 2 * 512 + (y 0).val; omega)

/-- The indices of point `t`'s block of the normed rows. -/
theorem mem_blk12 (t : Fin cfg0.N) (i : S8192x1024.Idx) :
    i ∈ ((cfg0.win 12).blk t).view.set ↔ ∀ a : Fin 2, win0_12.index t a * S512x1024.size a ≤ (i a).val ∧ (i a).val < win0_12.index t a * S512x1024.size a + S512x1024.size a := by
  show i ∈ ((View.whole main_v23_4).slice (win0_12.rect t)).set ↔ _
  rw [View.set_slice_whole, Rect.mem_set_unit]
  exact Iff.rfl

/-- The normed rows after the run. -/
theorem final12 (c : Dev nD) : (dats m 0 c).arrAt 12 cfg0.N = G12 m c := by
  refine (dats m 0 c).arrAt_eq_of_cover 12 _ (fun t hf => flushed12 m c t hf) fun i => ?_
  have hi0 : (i 0).val < 8192 := (i 0).isLt
  have hi1 : (i 1).val < 1024 := (i 1).isLt
  have hN : cfg0.N = 32 := N_0
  obtain ⟨t, ht⟩ : ∃ t : Fin cfg0.N, t.val = 2 * ((i 0).val / 512) + 1 := ⟨⟨2 * ((i 0).val / 512) + 1, by omega⟩, rfl⟩
  obtain ⟨-, e, -, -⟩ := out_rows t
  have e0 : win0_12.index t (0 : Fin 2) = t.val / 2 := congrFun e 0
  have e1 : win0_12.index t (1 : Fin 2) = 0 := congrFun e 1
  refine ⟨t, flush12_odd t (by rw [ht]; omega), ?_⟩
  rw [mem_blk12]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 1024 ≤ (i 1).val ∧ (i 1).val < win0_12.index t (1 : Fin 2) * 1024 + 1024; omega

/-- The scaled gradients as an array. -/
def G13 (c : Dev nD) : Buf (Elt Ideal) ((c : Thread nD τ).loc main_v23_5) := fun i : S8192x1024.Idx => ((argsAt m c).dy (i 0) (i 1) : EReal)

/-- A point that writes the scaled gradients back writes its block of them. -/
theorem flushed13 (c : Dev nD) (t : Fin cfg0.N) (hf : (cfg0.win 13).flush t = true) :
    (dats m 0 c).flushed 13 t = ((cfg0.win 13).blk t).view.read (Elt Ideal) (G13 m c) := by
  show (cfg0.win 13).cut (grid0.coords t) ((dats m 0 c).after 13 t) = _
  rw [after13]
  obtain ⟨-, -, e, -⟩ := out_rows t
  funext y
  have hb0 : (((cfg0.win 13).blk t).view.emb y 0).val = win0_13.index t (0 : Fin 2) * 512 + 1 * (y 0).val := rfl
  have hb1 : (((cfg0.win 13).blk t).view.emb y 1).val = win0_13.index t (1 : Fin 2) * 1024 + 1 * (y 1).val := rfl
  have e0 : win0_13.index t (0 : Fin 2) = t.val / 2 := congrFun e 0
  have e1 : win0_13.index t (1 : Fin 2) = 0 := congrFun e 1
  have hy0 : (y 0).val < 512 := (y 0).isLt
  have hy1 : (y 1).val < 1024 := (y 1).isLt
  show ((outs m c t.val t.isLt).2.2.2.2.2.1 : S512x1024.Idx → EReal) ((cfg0.win 13).xinj (grid0.coords t) y) = G13 m c (((cfg0.win 13).blk t).view.emb y)
  have hx : (cfg0.win 13).xinj (grid0.coords t) y = (ix2 ⟨(y 0).val, hy0⟩ ⟨(y 1).val, hy1⟩ : S512x1024.Idx) := by
    funext a
    match a with
    | ⟨0, _⟩ => rfl
    | ⟨1, _⟩ => rfl
  rw [hx]
  have hq : (⟨(y 1).val, hy1⟩ : Fin 1024) = ((cfg0.win 13).blk t).view.emb y 1 := Fin.ext (by show (y 1).val = (((cfg0.win 13).blk t).view.emb y 1).val; rw [hb1, e1]; omega)
  rw [hq]
  exact dy_at m c t _ _ _ (by rw [hb0, e0]; show _ = t.val / 2 * 512 + (y 0).val; omega)

/-- The indices of point `t`'s block of the scaled gradients. -/
theorem mem_blk13 (t : Fin cfg0.N) (i : S8192x1024.Idx) :
    i ∈ ((cfg0.win 13).blk t).view.set ↔ ∀ a : Fin 2, win0_13.index t a * S512x1024.size a ≤ (i a).val ∧ (i a).val < win0_13.index t a * S512x1024.size a + S512x1024.size a := by
  show i ∈ ((View.whole main_v23_5).slice (win0_13.rect t)).set ↔ _
  rw [View.set_slice_whole, Rect.mem_set_unit]
  exact Iff.rfl

/-- The scaled gradients after the run. -/
theorem final13 (c : Dev nD) : (dats m 0 c).arrAt 13 cfg0.N = G13 m c := by
  refine (dats m 0 c).arrAt_eq_of_cover 13 _ (fun t hf => flushed13 m c t hf) fun i => ?_
  have hi0 : (i 0).val < 8192 := (i 0).isLt
  have hi1 : (i 1).val < 1024 := (i 1).isLt
  have hN : cfg0.N = 32 := N_0
  obtain ⟨t, ht⟩ : ∃ t : Fin cfg0.N, t.val = 2 * ((i 0).val / 512) + 1 := ⟨⟨2 * ((i 0).val / 512) + 1, by omega⟩, rfl⟩
  obtain ⟨-, -, e, -⟩ := out_rows t
  have e0 : win0_13.index t (0 : Fin 2) = t.val / 2 := congrFun e 0
  have e1 : win0_13.index t (1 : Fin 2) = 0 := congrFun e 1
  refine ⟨t, flush13_odd t (by rw [ht]; omega), ?_⟩
  rw [mem_blk13]
  intro a
  match a with
  | ⟨0, _⟩ => show win0_13.index t (0 : Fin 2) * 512 ≤ (i 0).val ∧ (i 0).val < win0_13.index t (0 : Fin 2) * 512 + 512; omega
  | ⟨1, _⟩ => show win0_13.index t (1 : Fin 2) * 1024 ≤ (i 1).val ∧ (i 1).val < win0_13.index t (1 : Fin 2) * 1024 + 1024; omega

/-- The kernel runs to the end and leaves the six result arrays, and its arguments as they were. -/
theorem run (ρ : Dev nD → PrngReg) : θ_run defs (onTc (τ := τ) (main (F := Ideal))) ⟨m, fun _ => 0, ρ⟩ fun r => ∀ c : Dev nD,
      r.2.mem ((c : Thread nD τ).loc main_v23_0) = G8 m c
      ∧ r.2.mem ((c : Thread nD τ).loc main_v23_1) = G9 m c
      ∧ r.2.mem ((c : Thread nD τ).loc main_v23_2) = G10 m c
      ∧ r.2.mem ((c : Thread nD τ).loc main_v23_3) = G11 m c
      ∧ r.2.mem ((c : Thread nD τ).loc main_v23_4) = G12 m c
      ∧ r.2.mem ((c : Thread nD τ).loc main_v23_5) = G13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 8).trans (final8 m c),
      ((h c).1 9).trans (final9 m c),
      ((h c).1 10).trans (final10 m c),
      ((h c).1 11).trans (final11 m c),
      ((h c).1 12).trans (final12 m c),
      ((h c).1 13).trans (final13 m c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 0).trans (((dats m 0 c).arrAt_in 0 rfl _).trans ((A_eq m c 0).trans (V_main_arg5 m c)))⟩)
    (run_main m ρ)

end Cert.KernelIdeal.A

end
-- ==== Proof.AEq.lean ====
/-
The kernel's six result arrays are the reference's, when the gain, the up and down weights and the output gradient hold real numbers.
-/
module

public import proofs.«01_k».proof.Proof.AValue

@[expose] public section

set_option maxRecDepth 16384

noncomputable section

namespace Cert.KernelIdeal.A

open Idealize.ShloMosaic Idealize.ShloMosaic.TcCoe Cert.KernelIdeal.Gen
open Cert.ReferenceIdeal.Read

variable (m : (ℓ : Loc nD τ sig) → Buf (Elt Ideal) ℓ) (c : Dev nD)

/-- The kernel's input gradients are the reference's. -/
theorem G8_eq (h : (argsAt m c).Finite) : G8 m c = val_main_v67 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  funext i
  refine (Args.dx_eq h (i 0) (i 1)).trans ?_
  refine (ref_dx _ _ _ _ _ _ (i 0) (i 1)).symm.trans ?_
  exact congrArg _ (ix2_eta i)

/-- The kernel's gradient of the gain is the reference's. -/
theorem G9_eq (h : (argsAt m c).Finite) : G9 m c = val_main_v81 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  funext i
  refine (congrArg (fun e => (argsAt m c).dg e (i 1)) (Args.da_eq h)).trans ?_
  refine (ref_dg _ _ _ _ _ _ (i 0) (i 1)).symm.trans ?_
  exact congrArg _ (ix2_eta i)

/-- The kernel's gate gradients are the reference's. -/
theorem G10_eq (h : (argsAt m c).Finite) : G10 m c = val_main_v82 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  funext i
  refine (congrFun (congrFun (Args.da_eq h) (i 0)) (i 1)).trans ?_
  refine (ref_da _ _ _ _ _ _ i).symm.trans ?_
  exact (congrFun (ref_da2 _ _ _ _ _ _) i).symm

/-- The kernel's up gradients are the reference's. -/
theorem G11_eq : G11 m c = val_main_v83 (F := Ideal) (m ((c : Thread nD τ).loc main_arg0)) (m ((c : Thread nD τ).loc main_arg1))
    (m ((c : Thread nD τ).loc main_arg2)) (m ((c : Thread nD τ).loc main_arg4)) (m ((c : Thread nD τ).loc main_arg5)) := by
  funext i
  refine (ref_db _ _ _ (m ((c : Thread nD τ).loc main_arg3)) _ _ i).symm.trans ?_
  exact (congrFun (ref_db2 _ _ _ _ _) i).symm

/-- The kernel's normed rows are the reference's. -/
theorem G12_eq : G12 m c = val_main_v84 (F := Ideal) (m ((c : Thread nD τ).loc main_arg0)) (m ((c : Thread nD τ).loc main_arg1)) := by
  funext i
  refine (ref_n _ _ (m ((c : Thread nD τ).loc main_arg2)) (m ((c : Thread nD τ).loc main_arg3)) (m ((c : Thread nD τ).loc main_arg4)) (m ((c : Thread nD τ).loc main_arg5)) (i 0) (i 1)).symm.trans ?_
  refine Eq.trans ?_ (congrFun (ref_n2 _ _) i).symm
  exact congrArg _ (ix2_eta i)

/-- The kernel's scaled gradients are the reference's. -/
theorem G13_eq : G13 m c = val_main_v87 (F := Ideal) (m ((c : Thread nD τ).loc main_arg5)) := by
  funext i
  refine (ref_dy (m ((c : Thread nD τ).loc main_arg0)) (m ((c : Thread nD τ).loc main_arg1)) (m ((c : Thread nD τ).loc main_arg2)) (m ((c : Thread nD τ).loc main_arg3)) (m ((c : Thread nD τ).loc main_arg4)) _ (i 0) (i 1)).symm.trans ?_
  refine Eq.trans ?_ (congrFun ((ref_dy3 _).trans (ref_dy2 _)) i).symm
  exact congrArg _ (ix2_eta i)

end Cert.KernelIdeal.A

end
-- ==== Proof.AFinite.lean ====
/-
From the stated precondition, that four of the argument arrays hold no infinity: that they hold real numbers.
-/
module

public import proofs.«01_k».proof.Defs
public import proofs.«01_k».proof.Proof.AHost
public import proofs.«01_k».proof.Proof.Gen.Pre_finite

@[expose] public section

noncomputable section

namespace Cert.KernelIdeal.A

open Idealize.ShloMosaic Idealize.ShloMosaic.TcCoe Cert.KernelIdeal.Gen

/-- The word of the infinity is the top element. -/
theorem ofBits_inf : Ideal.ofBits .f32 0x7F800000#32 = (⊤ : EReal) := by
  simp [Ideal.ofBits, Ideal.ieee]

/-- A value whose size is below the top element is real. -/
theorem real_of_lt {a : EReal} (h : max a (-a) < ⊤) : IsReal a := by
  induction a using EReal.rec with
  | bot => exact absurd h (by simp)
  | top => exact absurd h (by simp)
  | coe r => exact ⟨r, rfl⟩

/-- An array whose sizes all compare below infinity holds real numbers. -/
theorem real_of_finite {s : Shape} (x : FVec Ideal s .f32) (hb : (⟨0, ![]⟩ : Shape).BroadcastsInDim s (![] : Fin 0 → Fin s.rank))
    (h : cmpf .olt (Host.absf x) (broadcastInDim s ![] hb (constant (⟨0, ![]⟩ : Shape) .f32 0x7F800000#32)) = fun _ => 1#1)
    (i : s.Idx) : IsReal (x i) := by
  have h1 : Ideal.cmp .olt (max (x i : EReal) (-(x i))) (Ideal.ofBits .f32 0x7F800000#32) = 1#1 := congrFun h i
  rw [ofBits_inf] at h1
  refine real_of_lt ?_
  by_contra hc
  simp [Ideal.cmp, hc] at h1

/-- Under the precondition the gain, the up and down weights and the output gradient hold real numbers. -/
theorem finite_args (m : (ℓ : Loc nD τ sig) → Buf (Elt Ideal) ℓ) (h : Cert.Pre_KernelIdeal_finite m) (c : Dev nD) : (argsAt m c).Finite := by
  obtain ⟨hG, hU, hV, hD⟩ := h c
  exact ⟨real_of_finite _ _ hG, real_of_finite _ _ hU, real_of_finite _ _ hV, real_of_finite _ _ hD⟩

end Cert.KernelIdeal.A

end
-- ==== Proof.AClaim.lean ====
/-
The activation-gradient kernel: each of its programs runs to quiescence, and it leaves the results its reference leaves.
-/
module

public import proofs.«01_k».proof.Defs
public import proofs.«01_k».proof.Proof.AEq
public import proofs.«01_k».proof.Proof.AFinite
public import proofs.«01_k».proof.Proof.AFrame
public import proofs.«01_k».proof.Proof.Gen.Kernel
public import proofs.«01_k».proof.Proof.Gen.ReferenceIdeal.Run

@[expose] public section

noncomputable section

namespace Cert.KernelIdeal.A

open Idealize.ShloMosaic Idealize.ShloMosaic.TcCoe Idealize.SL.Sem Idealize.ShloMosaic.Tactic

/-- The kernel on machine words runs to quiescence and leaves its arguments. -/
theorem frame_bits : Cert.quiescent_Kernel := by
  intro m ρ _
  refine Eq.mp ?_ (frame_run (F := Bits) m ρ)
  sl_kernel_rfl

/-- The idealized kernel runs to quiescence and leaves its arguments. -/
theorem frame_ideal : Cert.quiescent_KernelIdeal := fun m ρ _ => frame_run (F := Ideal) m ρ

/-- The same under the precondition. -/
theorem frame_ideal_finite : Cert.quiescent_KernelIdeal_pre_finite := fun m ρ _ => frame_run (F := Ideal) m ρ

/-- On equal arguments, under the precondition, the kernel and the reference end with equal input gradients, gain gradient, gate and up
    gradients, normed rows and scaled output gradients, and unchanged arguments. -/
theorem algebraic : Cert.algebraic_KernelIdeal_ReferenceIdeal_pre_finite := by
  intro m g m' g' hpre h
  refine ⟨fun c => G8 m c, fun c => G9 m c, fun c => G10 m c, fun c => G11 m c, fun c => G12 m c, fun c => G13 m c, run m g, ?_⟩
  refine (θ_run Cert.ReferenceIdeal.defs _ _).mono (fun r hr c => ?_) (Cert.ReferenceIdeal.Value.run m' g')
  have hf := finite_args m hpre c
  obtain ⟨h0, h1, h2, h3, h4, h5⟩ := h c
  obtain ⟨r8, r9, r10, r11, r12, r13, rest⟩ := hr c
  refine ⟨r8.trans ?_, r9.trans ?_, r10.trans ?_, r11.trans ?_, r12.trans ?_, r13.trans ?_, rest⟩
  · refine (Cert.ReferenceIdeal.Read.val_main_v67_eq m' c).trans ?_
    rw [h0, h1, h2, h3, h4, h5]
    exact (G8_eq m c hf).symm
  · refine (Cert.ReferenceIdeal.Read.val_main_v81_eq m' c).trans ?_
    rw [h0, h1, h2, h3, h4, h5]
    exact (G9_eq m c hf).symm
  · refine (Cert.ReferenceIdeal.Read.val_main_v82_eq m' c).trans ?_
    rw [h0, h1, h2, h3, h4, h5]
    exact (G10_eq m c hf).symm
  · rw [h0, h1, h2, h4, h5]
    exact (Cert.ReferenceIdeal.Read.val_main_v83_eq _ _ _ _ _).trans (G11_eq m c).symm
  · rw [h0, h1]
    exact (Cert.ReferenceIdeal.Read.val_main_v84_eq _ _).trans (G12_eq m c).symm
  · rw [h5]
    exact (Cert.ReferenceIdeal.Read.val_main_v87_eq _).trans (G13_eq m c).symm

end Cert.KernelIdeal.A

end
-- ==== Proof.WBlock.lean ====
/- What one grid point of the weight-gradient kernel adds to its accumulator, and what the accumulator holds when a
   column block is written back: three stacked products, summed over the four row blocks. -/
module

public import proofs.«01_k».proof.Proof.Gen.Kernel2Ideal.Frame
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

namespace Cert.Kernel2Ideal.W

open Idealize.ShloMosaic Idealize.ShloMosaic.TcCoe Cert.Kernel2Ideal.Gen

variable (m : (ℓ : Loc nD τ sig) → Buf (Elt Ideal) ℓ)

/-- The product of one block of rows: the left block's column `p` against the right block's column `q`. -/
def colDot (l : Vec Ideal S2048x256 .bf16) (r : Vec Ideal S2048x1024 .bf16) (p : Fin 256) (q : Fin 1024) : EReal :=
  ∑ k : Fin 2048, l (ix2 k p) * r (ix2 k q)

/-- What one point adds at `y`: layer 0 is the gate's columns against the normed input, layer 1 the up projection's
    columns against the same, layer 2 the hidden activation's columns against the output gradient. -/
def part (x0 x1 x2 : Vec Ideal S2048x256 .bf16) (x3 x4 : Vec Ideal S2048x1024 .bf16) (y : S3x256x1024.Idx) : EReal :=
  if (y 0).val = 0 then colDot x0 x3 (y 1) (y 2) else if (y 0).val = 1 then colDot x1 x3 (y 1) (y 2) else colDot x2 x4 (y 1) (y 2)

/-- The store into layer 0: what it held plus the first product. -/
theorem pay5 (v3 v5 : Vec Ideal S2048x256 .bf16) (v8 : Vec Ideal S2048x1024 .bf16) (a : Vec Ideal S1x256x1024 .f32)
    (x : S1x256x1024.Idx) : k0_pay5 v3 v5 v8 a x = a x + colDot v3 v8 (x 1) (x 2) := by
  unfold k0_pay5 k0_pay4
  pointwise
  rfl

/-- The store into layer 1: what it held plus the second product. -/
theorem pay6 (v3 v5 : Vec Ideal S2048x256 .bf16) (v8 : Vec Ideal S2048x1024 .bf16) (a : Vec Ideal S1x256x1024 .f32)
    (x : S1x256x1024.Idx) : k0_pay6 v3 v5 v8 a x = a x + colDot v5 v8 (x 1) (x 2) := by
  unfold k0_pay6 k0_pay4
  pointwise
  rfl

/-- The store into layer 2: what it held plus the third product. -/
theorem pay1 (v3 : Vec Ideal S2048x256 .bf16) (v8 : Vec Ideal S2048x1024 .bf16) (a : Vec Ideal S1x256x1024 .f32)
    (x : S1x256x1024.Idx) : k0_pay1 (k0_pay7 a) (k0_pay8 v3) v8 x = a x + colDot v3 v8 (x 1) (x 2) := by
  unfold k0_pay1 k0_pay7 k0_pay8
  pointwise
  rfl

/-- The zero block the first point of a run stores. -/
theorem pay3 (y : S3x256x1024.Idx) : k0_pay3 (F := Ideal) y = 0 := by
  unfold k0_pay3
  pointwise

/-- A layer read out of the stacked accumulator, at the place the whole accumulator names. -/
theorem ld_layer (X : Vec Ideal S3x256x1024 .f32) (o : ℕ) (inb) (x : S1x256x1024.Idx) (y : S3x256x1024.Idx)
    (h0 : (y 0).val = o + (x 0).val) (h1 : (y 1).val = (x 1).val) (h2 : (y 2).val = (x 2).val) :
    View.ld X (Rect.unit ![o, 0, 0] ![1, 256, 1024] inb) x = X y := by
  refine View.ld_unit_apply_of X _ _ _ x y fun a => ?_
  match a with
  | ⟨0, _⟩ => exact h0
  | ⟨1, _⟩ => exact h1.trans (Nat.zero_add _).symm
  | ⟨2, _⟩ => exact h2.trans (Nat.zero_add _).symm

/-- The three stores of a point, over whatever the accumulator `X` held: `X` plus the point's addend. -/
theorem stores_eq (X : Vec Ideal S3x256x1024 .f32) (x0 x1 x2 : Vec Ideal S2048x256 .bf16) (x3 x4 : Vec Ideal S2048x1024 .bf16)
    (L : List (View.Piece (Elt Ideal) S3x256x1024 .f32)) (y : S3x256x1024.Idx) :
    View.canon ([⟨Rect.unit ![2, 0, 0] ![1, 256, 1024] inb_S3x256x1024_S1x256x1024_2_0_0,
          k0_pay1 (k0_pay7 (View.ld X (Rect.unit ![2, 0, 0] ![1, 256, 1024] inb_S3x256x1024_S1x256x1024_2_0_0))) (k0_pay8 x2) x4⟩,
        ⟨Rect.unit ![1, 0, 0] ![1, 256, 1024] inb_S3x256x1024_S1x256x1024_1_0_0,
          k0_pay6 x0 x1 x3 (View.ld X (Rect.unit ![1, 0, 0] ![1, 256, 1024] inb_S3x256x1024_S1x256x1024_1_0_0))⟩,
        ⟨Rect.unit ![0, 0, 0] ![1, 256, 1024] inb_S3x256x1024_S1x256x1024_0_0_0,
          k0_pay5 x0 x1 x3 (View.ld X (Rect.unit ![0, 0, 0] ![1, 256, 1024] inb_S3x256x1024_S1x256x1024_0_0_0))⟩] ++ L) y
      = X y + part x0 x1 x2 x3 x4 y := by
  refine View.canon_append_of_piecesOf (fun y => X y + part x0 x1 x2 x3 x4 y) L _ ?_ y ?_
  rotate_left
  · exact View.cover_of_tiledL (s := S3x256x1024) _ ![1, 256, 1024] (by sl_kernel_rfl) y
  refine ⟨fun x => ?_, fun x => ?_, fun x => ?_, trivial⟩
  · have hx : (x 0).val < 1 := (x 0).isLt
    refine (pay1 _ _ _ x).trans ?_
    refine congrArg₂ (· + ·) rfl ?_
    unfold part
    have e : ((Rect.unit (s := S3x256x1024) ![2, 0, 0] ![1, 256, 1024] inb_S3x256x1024_S1x256x1024_2_0_0).emb x 0).val = 2 + (x 0).val := Rect.idx_unit_val _ _ _ x 0
    rw [if_neg (by rw [e]; omega), if_neg (by rw [e]; omega)]
    refine congrArg₂ _ (Fin.ext ?_) (Fin.ext ?_)
    · show (x 1).val = 0 + 1 * (x 1).val; omega
    · show (x 2).val = 0 + 1 * (x 2).val; omega
  · have hx : (x 0).val < 1 := (x 0).isLt
    refine (pay6 _ _ _ _ x).trans ?_
    refine congrArg₂ (· + ·) rfl ?_
    unfold part
    have e : ((Rect.unit (s := S3x256x1024) ![1, 0, 0] ![1, 256, 1024] inb_S3x256x1024_S1x256x1024_1_0_0).emb x 0).val = 1 + (x 0).val := Rect.idx_unit_val _ _ _ x 0
    rw [if_neg (by rw [e]; omega), if_pos (by rw [e]; omega)]
    refine congrArg₂ _ (Fin.ext ?_) (Fin.ext ?_)
    · show (x 1).val = 0 + 1 * (x 1).val; omega
    · show (x 2).val = 0 + 1 * (x 2).val; omega
  · have hx : (x 0).val < 1 := (x 0).isLt
    refine (pay5 _ _ _ _ x).trans ?_
    refine congrArg₂ (· + ·) rfl ?_
    unfold part
    have e : ((Rect.unit (s := S3x256x1024) ![0, 0, 0] ![1, 256, 1024] inb_S3x256x1024_S1x256x1024_0_0_0).emb x 0).val = 0 + (x 0).val := Rect.idx_unit_val _ _ _ x 0
    rw [if_pos (by rw [e]; omega)]
    refine congrArg₂ _ (Fin.ext ?_) (Fin.ext ?_)
    · show (x 1).val = 0 + 1 * (x 1).val; omega
    · show (x 2).val = 0 + 1 * (x 2).val; omega

/-- The first point of a run leaves its own addend. -/
theorem step_reset (c : Dev nD) (t : Fin cfg0.N) (h0 : t.val % 4 = 0) (y : S3x256x1024.Idx) :
    (outsAt0 m c t.val t.isLt).2 y = 0 + part (iblk m c 0 t) (iblk m c 1 t) (iblk m c 2 t) (iblk m c 3 t) (iblk m c 4 t) y := by
  rw [outsAt0_A m c t h0 (by omega)]
  frame_out
  simp (disch := first | decide | (intro a; fin_cases a <;> rfl)) only [↓View.readCov_skip, ↓View.readCov_fill]
  exact (stores_eq (k0_pay3 (F := Ideal)) _ _ _ _ _ [_] y).trans (congrArg (· + _) (pay3 y))

/-- Every other point adds its addend to what the point before left. -/
theorem step_add (c : Dev nD) (t : Fin cfg0.N) (h0 : ¬t.val % 4 = 0) (y : S3x256x1024.Idx) :
    (outsAt0 m c t.val t.isLt).2 y = (outsAt0 m c (t.val - 1) (Nat.lt_of_le_of_lt (Nat.sub_le _ _) t.isLt)).2 y
      + part (iblk m c 0 t) (iblk m c 1 t) (iblk m c 2 t) (iblk m c 3 t) (iblk m c 4 t) y := by
  by_cases h1 : t.val % 4 = 3
  · rw [outsAt0_C m c t h0 h1]
    frame_out
    simp only [read_unread_whole]
    exact stores_eq _ _ _ _ _ _ [] y
  · rw [outsAt0_B m c t h0 h1]
    frame_out
    simp only [read_unread_whole]
    exact stores_eq _ _ _ _ _ _ [] y

/-- The last point of a run writes back what its accumulator then holds: the narrowing is the identity here. -/
theorem out_eq_acc (c : Dev nD) (t : Fin cfg0.N) (h1 : t.val % 4 = 3) (y : S3x256x1024.Idx) :
    (outsAt0 m c t.val t.isLt).1 y = (outsAt0 m c t.val t.isLt).2 y := by
  rw [step_add m c t (by omega)]
  rw [outsAt0_C m c t (by omega) h1]
  frame_out
  simp only [read_unread_whole, View.readCov_eq_canon']
  unfold k0_pay2
  pointwise
  exact stores_eq _ _ _ _ _ _ [] y

end Cert.Kernel2Ideal.W
-- ==== Proof.WValue.lean ====
/- What the weight-gradient kernel's output array holds after the run: at layer `i 0`, row `i 1`, column `i 2`, one of
   three products over all 8192 rows. -/
module

public import proofs.«01_k».proof.Proof.WBlock
public import proofs.«01_k».proof.Proof.Gen.Kernel2Ideal.Value

@[expose] public section

set_option maxRecDepth 16384

noncomputable section

namespace Cert.Kernel2Ideal.W

open Idealize.ShloMosaic Idealize.ShloMosaic.TcCoe Cert.Kernel2Ideal.Gen

variable (m : (ℓ : Loc nD τ sig) → Buf (Elt Ideal) ℓ)

/-- The product over all rows: column `p` of `L` against column `q` of `R`. -/
def rowDot (L : S8192x2816.Idx → EReal) (R : S8192x1024.Idx → EReal) (p : Fin 2816) (q : Fin 1024) : EReal :=
  ∑ r : Fin 8192, L (ix2 r p) * R (ix2 r q)

/-- The three products over all rows, stacked: `A` and `B` against `N`, and `T` against `Y`. -/
def stacked (A B T : S8192x2816.Idx → EReal) (N Y : S8192x1024.Idx → EReal) (i : S3x2816x1024.Idx) : EReal :=
  if (i 0).val = 0 then rowDot A N (i 1) (i 2)
  else if (i 0).val = 1 then rowDot B N (i 1) (i 2)
  else rowDot T Y (i 1) (i 2)

/-- Which block of the gate gradients, the up gradients and the activations each grid point reads. -/
theorem idx_left : ∀ t : Fin cfg0.N, win0_0.index t = ![t.val % 4, t.val / 4] ∧ win0_1.index t = ![t.val % 4, t.val / 4]
    ∧ win0_2.index t = ![t.val % 4, t.val / 4] :=
  (by decide +kernel : ∀ t : Fin grid0.N, _)

/-- Which block of the normed rows and of the output gradients each grid point reads. -/
theorem idx_right : ∀ t : Fin cfg0.N, win0_3.index t = ![t.val % 4, 0] ∧ win0_4.index t = ![t.val % 4, 0] :=
  (by decide +kernel : ∀ t : Fin grid0.N, _)

/-- The accumulator's contents when a column block is written back: the four row blocks' products, added. -/
theorem written (c : Dev nD) (t : Fin cfg0.N) (h3 : t.val % 4 = 3) (y : S3x256x1024.Idx) :
    (outsAt0 m c t.val t.isLt).1 y = ∑ s : Fin 4, part
      (iblk m c 0 ⟨4 * (t.val / 4) + s.val, Pipeline.run_point_lt_of_flush t h3 s⟩) (iblk m c 1 ⟨4 * (t.val / 4) + s.val, Pipeline.run_point_lt_of_flush t h3 s⟩)
      (iblk m c 2 ⟨4 * (t.val / 4) + s.val, Pipeline.run_point_lt_of_flush t h3 s⟩) (iblk m c 3 ⟨4 * (t.val / 4) + s.val, Pipeline.run_point_lt_of_flush t h3 s⟩)
      (iblk m c 4 ⟨4 * (t.val / 4) + s.val, Pipeline.run_point_lt_of_flush t h3 s⟩) y := by
  rw [out_eq_acc m c t h3 y, Pipeline.eq_sum_fin_of_reset_step_apply_of_flush (fun n h => (outsAt0 m c n h).2) 4 (fun _ => 0)
    (fun t y => part (iblk m c 0 t) (iblk m c 1 t) (iblk m c 2 t) (iblk m c 3 t) (iblk m c 4 t) y)
    (fun t h0 y => step_reset m c t h0 y) (fun t h0 y => step_add m c t h0 y) t h3 y, zero_add]

/-- Point `t` reads its block of the first operand from the row block `t % 4` and the column block `t / 4`. -/
theorem blk0 (c : Dev nD) (t : Fin cfg0.N) (k : Fin 2048) (p : Fin 256) (r : Fin 8192) (q : Fin 2816)
    (hr : r.val = (t.val % 4) * 2048 + k.val) (hq : q.val = (t.val / 4) * 256 + p.val) :
    (iblk m c 0 t : Vec Ideal S2048x256 .bf16) (ix2 k p) = (V m c main_v29 : Vec Ideal S8192x2816 .bf16) (ix2 r q) := by
  obtain ⟨e, -, -⟩ := idx_left t
  blk_ext [iblk, V, e]

/-- The second operand's block, likewise. -/
theorem blk1 (c : Dev nD) (t : Fin cfg0.N) (k : Fin 2048) (p : Fin 256) (r : Fin 8192) (q : Fin 2816)
    (hr : r.val = (t.val % 4) * 2048 + k.val) (hq : q.val = (t.val / 4) * 256 + p.val) :
    (iblk m c 1 t : Vec Ideal S2048x256 .bf16) (ix2 k p) = (V m c main_v30 : Vec Ideal S8192x2816 .bf16) (ix2 r q) := by
  obtain ⟨-, e, -⟩ := idx_left t
  blk_ext [iblk, V, e]

/-- The third operand's block, likewise. -/
theorem blk2 (c : Dev nD) (t : Fin cfg0.N) (k : Fin 2048) (p : Fin 256) (r : Fin 8192) (q : Fin 2816)
    (hr : r.val = (t.val % 4) * 2048 + k.val) (hq : q.val = (t.val / 4) * 256 + p.val) :
    (iblk m c 2 t : Vec Ideal S2048x256 .bf16) (ix2 k p) = (V m c main_v17 : Vec Ideal S8192x2816 .bf16) (ix2 r q) := by
  obtain ⟨-, -, e⟩ := idx_left t
  blk_ext [iblk, V, e]

/-- The normed input's block: the row block `t % 4`, all columns. -/
theorem blk3 (c : Dev nD) (t : Fin cfg0.N) (k : Fin 2048) (q : Fin 1024) (r : Fin 8192)
    (hr : r.val = (t.val % 4) * 2048 + k.val) :
    (iblk m c 3 t : Vec Ideal S2048x1024 .bf16) (ix2 k q) = (V m c main_v31 : Vec Ideal S8192x1024 .bf16) (ix2 r q) := by
  obtain ⟨e, -⟩ := idx_right t
  blk_ext [iblk, V, e]

/-- The output gradient's block, likewise. -/
theorem blk4 (c : Dev nD) (t : Fin cfg0.N) (k : Fin 2048) (q : Fin 1024) (r : Fin 8192)
    (hr : r.val = (t.val % 4) * 2048 + k.val) :
    (iblk m c 4 t : Vec Ideal S2048x1024 .bf16) (ix2 k q) = (V m c main_v34 : Vec Ideal S8192x1024 .bf16) (ix2 r q) := by
  obtain ⟨-, e⟩ := idx_right t
  blk_ext [iblk, V, e]

/-- The four row blocks' products of operands 0 and 3 are the product over all rows. -/
theorem rows03 (c : Dev nD) (t : Fin cfg0.N) (h3 : t.val % 4 = 3) (p : Fin 256) (q : Fin 1024) (P : Fin 2816)
    (hP : P.val = (t.val / 4) * 256 + p.val) :
    (∑ s : Fin 4, colDot (iblk m c 0 ⟨4 * (t.val / 4) + s.val, Pipeline.run_point_lt_of_flush t h3 s⟩)
      (iblk m c 3 ⟨4 * (t.val / 4) + s.val, Pipeline.run_point_lt_of_flush t h3 s⟩) p q)
      = rowDot (V m c main_v29) (V m c main_v31) P q := by
  unfold colDot rowDot
  refine Fin.sum_mul_add_congr (S := 4) (n := 2048) fun s k hl => ?_
  have hs := s.isLt
  rw [blk0 m c ⟨4 * (t.val / 4) + s.val, Pipeline.run_point_lt_of_flush t h3 s⟩ k p ⟨s.val * 2048 + k.val, hl⟩ P
      (by simp only []; omega) (by simp only []; omega),
    blk3 m c ⟨4 * (t.val / 4) + s.val, Pipeline.run_point_lt_of_flush t h3 s⟩ k q ⟨s.val * 2048 + k.val, hl⟩
      (by simp only []; omega)]

/-- The four row blocks' products of operands 1 and 3 are the product over all rows. -/
theorem rows13 (c : Dev nD) (t : Fin cfg0.N) (h3 : t.val % 4 = 3) (p : Fin 256) (q : Fin 1024) (P : Fin 2816)
    (hP : P.val = (t.val / 4) * 256 + p.val) :
    (∑ s : Fin 4, colDot (iblk m c 1 ⟨4 * (t.val / 4) + s.val, Pipeline.run_point_lt_of_flush t h3 s⟩)
      (iblk m c 3 ⟨4 * (t.val / 4) + s.val, Pipeline.run_point_lt_of_flush t h3 s⟩) p q)
      = rowDot (V m c main_v30) (V m c main_v31) P q := by
  unfold colDot rowDot
  refine Fin.sum_mul_add_congr (S := 4) (n := 2048) fun s k hl => ?_
  have hs := s.isLt
  rw [blk1 m c ⟨4 * (t.val / 4) + s.val, Pipeline.run_point_lt_of_flush t h3 s⟩ k p ⟨s.val * 2048 + k.val, hl⟩ P
      (by simp only []; omega) (by simp only []; omega),
    blk3 m c ⟨4 * (t.val / 4) + s.val, Pipeline.run_point_lt_of_flush t h3 s⟩ k q ⟨s.val * 2048 + k.val, hl⟩
      (by simp only []; omega)]

/-- The four row blocks' products of operands 2 and 4 are the product over all rows. -/
theorem rows24 (c : Dev nD) (t : Fin cfg0.N) (h3 : t.val % 4 = 3) (p : Fin 256) (q : Fin 1024) (P : Fin 2816)
    (hP : P.val = (t.val / 4) * 256 + p.val) :
    (∑ s : Fin 4, colDot (iblk m c 2 ⟨4 * (t.val / 4) + s.val, Pipeline.run_point_lt_of_flush t h3 s⟩)
      (iblk m c 4 ⟨4 * (t.val / 4) + s.val, Pipeline.run_point_lt_of_flush t h3 s⟩) p q)
      = rowDot (V m c main_v17) (V m c main_v34) P q := by
  unfold colDot rowDot
  refine Fin.sum_mul_add_congr (S := 4) (n := 2048) fun s k hl => ?_
  have hs := s.isLt
  rw [blk2 m c ⟨4 * (t.val / 4) + s.val, Pipeline.run_point_lt_of_flush t h3 s⟩ k p ⟨s.val * 2048 + k.val, hl⟩ P
      (by simp only []; omega) (by simp only []; omega),
    blk4 m c ⟨4 * (t.val / 4) + s.val, Pipeline.run_point_lt_of_flush t h3 s⟩ k q ⟨s.val * 2048 + k.val, hl⟩
      (by simp only []; omega)]

/-- The output array at any index: the stacked products over all rows of the five operand arrays. -/
theorem G5_apply (c : Dev nD) (i : S3x2816x1024.Idx) :
    (Value.G5 m c : S3x2816x1024.Idx → EReal) i
      = stacked (V m c main_v29) (V m c main_v30) (V m c main_v17) (V m c main_v31) (V m c main_v34) i := by
  have b0 : (i 0).val < 3 := (i 0).isLt
  have b1 : (i 1).val < 2816 := (i 1).isLt
  have b2 : (i 2).val < 1024 := (i 2).isLt
  have hN : cfg0.N = 44 := N_0
  have hpe : Value.pt5Of i = 4 * ((i 1).val / 256) + 3 := by
    show 4 * (11 * ((i 0).val / 3 - 0) + 1 * ((i 1).val / 256 - 0) + 1 * ((i 2).val / 1024 - 0)) + 3 = _
    omega
  have hp : Value.pt5Of i < cfg0.N := by omega
  unfold Value.G5
  rw [dif_pos hp, ← Value.outsAt0_sweep m c (Value.pt5Of i) hp]
  have h0 : (Value.loc5Of i 0).val = (i 0).val := Nat.mod_eq_of_lt b0
  have h1 : (Value.loc5Of i 1).val = (i 1).val % 256 := rfl
  have h2 : Value.loc5Of i 2 = i 2 := Fin.ext (Nat.mod_eq_of_lt b2)
  generalize Value.loc5Of i = y at h0 h1 h2
  generalize Value.pt5Of i = n at hpe hp
  have hmod : n % 4 = 3 := by omega
  have hdiv : (i 1).val = n / 4 * 256 + (y 1).val := by omega
  refine (written m c ⟨n, hp⟩ hmod y).trans ?_
  unfold part stacked
  rw [h0, h2]
  split_ifs
  · exact rows03 m c ⟨n, hp⟩ hmod (y 1) (i 2) (i 1) hdiv
  · exact rows13 m c ⟨n, hp⟩ hmod (y 1) (i 2) (i 1) hdiv
  · exact rows24 m c ⟨n, hp⟩ hmod (y 1) (i 2) (i 1) hdiv

end Cert.Kernel2Ideal.W
-- ==== Proof.WHost.lean ====
/- What the host operations before the weight-gradient kernel leave in its five operand arrays, in the values the
   reference's own operations compute. -/
module

public import proofs.«01_k».proof.Proof.Gen.Kernel2Ideal.Frame
public import proofs.«01_k».proof.Proof.Gen.Reference2Ideal.Read
public import Idealize.ShloMosaic.Lib.StableHlo.RunRead

@[expose] public section

set_option maxRecDepth 16384

noncomputable section

namespace Cert.Kernel2Ideal.W

open Idealize.ShloMosaic Idealize.ShloMosaic.TcCoe Idealize.ShloMosaic.StableHlo Cert.Kernel2Ideal.Gen
open Cert.Reference2Ideal.Read

variable {F : FTy → Type} [FloatOps F] (m : (ℓ : Loc nD τ sig) → Buf (Elt F) ℓ)

/-- The kernel's gate gradient operand is the reference's, rounded to bf16. -/
theorem V_v29 (c : Dev nD) : Gen.V m c main_v29 = truncf .bf16 (val_main_v30 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) bitsLt_bf16_f32 := by
  unfold Gen.V
  simp only [hostOps0, hostOps0_1, hostOps0_2, hostOps0_3, hostOps0_4, hostOps0_5, hostOps0_6, List.flatten,
    List.cons_append, List.nil_append, List.append_nil, TRef.binary, TRef.nullary, TRef.unary, TRef.toBuf, TRef.ofBuf,
    cast_eq]
  after_reads_simp
  rfl

/-- The kernel's up gradient operand is the reference's, rounded to bf16. -/
theorem V_v30 (c : Dev nD) : Gen.V m c main_v30 = truncf .bf16 (val_main_v26 (F := F) (m ((c : Thread nD τ).loc main_arg0)) (m ((c : Thread nD τ).loc main_arg1)) (m ((c : Thread nD τ).loc main_arg2)) (m ((c : Thread nD τ).loc main_arg4)) (m ((c : Thread nD τ).loc main_arg5))) bitsLt_bf16_f32 := by
  unfold Gen.V
  simp only [hostOps0, hostOps0_1, hostOps0_2, hostOps0_3, hostOps0_4, hostOps0_5, hostOps0_6, List.flatten,
    List.cons_append, List.nil_append, List.append_nil, TRef.binary, TRef.nullary, TRef.unary, TRef.toBuf, TRef.ofBuf,
    cast_eq]
  after_reads_simp
  rfl

/-- The kernel's hidden activation operand is the reference's, rounded to bf16. -/
theorem V_v17 (c : Dev nD) : Gen.V m c main_v17 = truncf .bf16 (val_main_v16 (F := F) (m ((c : Thread nD τ).loc main_arg0)) (m ((c : Thread nD τ).loc main_arg1)) (m ((c : Thread nD τ).loc main_arg2)) (m ((c : Thread nD τ).loc main_arg3))) bitsLt_bf16_f32 := by
  unfold Gen.V
  simp only [hostOps0, hostOps0_1, hostOps0_2, hostOps0_3, hostOps0_4, hostOps0_5, hostOps0_6, List.flatten,
    List.cons_append, List.nil_append, List.append_nil, TRef.binary, TRef.nullary, TRef.unary, TRef.toBuf, TRef.ofBuf,
    cast_eq]
  after_reads_simp
  rfl

/-- The kernel's normed input operand is the reference's, rounded to bf16. -/
theorem V_v31 (c : Dev nD) : Gen.V m c main_v31 = truncf .bf16 (val_main_v12 (F := F) (m ((c : Thread nD τ).loc main_arg0)) (m ((c : Thread nD τ).loc main_arg1))) bitsLt_bf16_f32 := by
  unfold Gen.V
  simp only [hostOps0, hostOps0_1, hostOps0_2, hostOps0_3, hostOps0_4, hostOps0_5, hostOps0_6, List.flatten,
    List.cons_append, List.nil_append, List.append_nil, TRef.binary, TRef.nullary, TRef.unary, TRef.toBuf, TRef.ofBuf,
    cast_eq]
  after_reads_simp
  rfl

/-- The kernel's halved output gradient operand is the reference's, rounded to bf16. -/
theorem V_v34 (c : Dev nD) : Gen.V m c main_v34 = truncf .bf16 (val_main_v22 (F := F) (m ((c : Thread nD τ).loc main_arg5))) bitsLt_bf16_f32 := by
  unfold Gen.V
  simp only [hostOps0, hostOps0_1, hostOps0_2, hostOps0_3, hostOps0_4, hostOps0_5, hostOps0_6, List.flatten,
    List.cons_append, List.nil_append, List.append_nil, TRef.binary, TRef.nullary, TRef.unary, TRef.toBuf, TRef.ofBuf,
    cast_eq]
  after_reads_simp
  rfl

end Cert.Kernel2Ideal.W
-- ==== Proof.WRef.lean ====
/- What the reference's stacked weight gradients are at an index, and that the kernel's output array is them. -/
module

public import proofs.«01_k».proof.Proof.WValue
public import proofs.«01_k».proof.Proof.WHost
public import proofs.«01_k».proof.Proof.Gen.Reference2Ideal.Run

@[expose] public section

set_option maxRecDepth 16384

noncomputable section

namespace Cert.Kernel2Ideal.W

open Idealize.ShloMosaic Idealize.ShloMosaic.TcCoe Cert.Kernel2Ideal.Gen
open Cert.Reference2Ideal.Read

/-- The reference's result at any index: the same three products over all rows, stacked. -/
theorem ref_apply (x0 : (⟨S8192x1024, .f32⟩ : BufTy).Contents (Elt Ideal)) (x1 : (⟨S1024, .f32⟩ : BufTy).Contents (Elt Ideal))
    (x2 x3 : (⟨S1024x2816, .f32⟩ : BufTy).Contents (Elt Ideal)) (x4 : (⟨S2816x1024, .f32⟩ : BufTy).Contents (Elt Ideal))
    (x5 : (⟨S8192x1024, .f32⟩ : BufTy).Contents (Elt Ideal)) (i : S3x2816x1024.Idx) :
    (val_main_v39 (F := Ideal) x0 x1 x2 x3 x4 x5 : S3x2816x1024.Idx → EReal) i
      = stacked (val_main_v30 (F := Ideal) x0 x1 x2 x3 x4 x5) (val_main_v26 (F := Ideal) x0 x1 x2 x4 x5)
          (val_main_v16 (F := Ideal) x0 x1 x2 x3) (val_main_v12 (F := Ideal) x0 x1) (val_main_v22 (F := Ideal) x5) i := by
  unfold val_main_v39 val_main_v38 val_main_v37 val_main_v36 val_main_v35 val_main_v34 val_main_v33 val_main_v24 val_main_v32 val_main_v29
  unfold val_main_v31 val_main_v28 val_main_v23
  generalize val_main_v30 (F := Ideal) x0 x1 x2 x3 x4 x5 = A
  generalize val_main_v26 (F := Ideal) x0 x1 x2 x4 x5 = B
  generalize val_main_v16 (F := Ideal) x0 x1 x2 x3 = T
  generalize val_main_v12 (F := Ideal) x0 x1 = N
  generalize val_main_v22 (F := Ideal) x5 = Y
  pointwise
  unfold stacked rowDot
  have b0 : (i 0).val < 3 := (i 0).isLt
  split_ifs <;> first | rfl | (exfalso; omega) | exact Finset.sum_congr rfl fun r _ => mul_comm _ _

/-- The kernel's output array is the reference's result on the same arguments. -/
theorem G5_eq (m : (ℓ : Loc nD τ sig) → Buf (Elt Ideal) ℓ) (c : Dev nD) :
    Value.G5 m c = val_main_v39 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  funext i
  refine (G5_apply m c i).trans ?_
  rw [V_v29, V_v30, V_v17, V_v31, V_v34]
  exact (ref_apply _ _ _ _ _ _ i).symm

end Cert.Kernel2Ideal.W
-- ==== Proof.WClaim.lean ====
/- The weight-gradient kernel and its reference leave equal results: the value claim of the second pair of programs. -/
module

public import proofs.«01_k».proof.Defs
public import proofs.«01_k».proof.Proof.WRef

@[expose] public section

noncomputable section

namespace Cert.Kernel2Ideal.W

open Idealize.ShloMosaic Idealize.ShloMosaic.TcCoe Cert.Kernel2Ideal.Gen

/-- On equal arguments the kernel and the reference end with equal stacked weight gradients and unchanged arguments. -/
theorem algebraic : Cert.algebraic_Kernel2Ideal_Reference2Ideal := by
  intro m g m' g' _ h
  refine ⟨fun c => Value.G5 m c, Value.run m g, ?_⟩
  refine (θ_run Cert.Reference2Ideal.defs _ _).mono (fun r hr c => ⟨(hr c).1.trans ?_, (hr c).2⟩) (Cert.Reference2Ideal.Value.run m' g')
  obtain ⟨h0, h1, h2, h3, h4, h5⟩ := h c
  rw [Cert.Reference2Ideal.Read.val_main_v39_eq m' c, h0, h1, h2, h3, h4, h5]
  exact (G5_eq m c).symm

end Cert.Kernel2Ideal.W
-- ==== Proof.FBlock.lean ====
/- What one grid point of the feed-forward kernel computes: the gates, the ups and the activations of its block. -/
module

public import proofs.«01_k».proof.Proof.Gen.Kernel3Ideal.Frame
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

namespace Cert.Kernel3Ideal.W

open Idealize.ShloMosaic Idealize.ShloMosaic.TcCoe Cert.Kernel3Ideal.Gen

variable (m : (ℓ : Loc nD τ sig) → Buf (Elt Ideal) ℓ)

/-- Row `p` of the normed input against row `q` of a weight block. -/
def rowDot (n : Vec Ideal S512x1024 .bf16) (w : Vec Ideal S1408x1024 .bf16) (p : Fin 512) (q : Fin 1408) : EReal :=
  ∑ k : Fin 1024, n (ix2 p k) * w (ix2 q k)

/-- 256 rows of a weight block from row `o` on, entry by entry. -/
theorem ld256 (W : Vec Ideal S1408x1024 .bf16) (o : ℕ) (inb) (ho : o + 256 ≤ 1408) :
    View.ld W (Rect.unit ![o, 0] ![256, 1024] inb) = fun x : S256x1024.Idx => W (ix2 ⟨o + (x 0).val, by have : (x 0).val < 256 := (x 0).isLt; omega⟩ (x 1)) := by
  funext x
  refine View.ld_unit_apply_of W _ _ _ x _ fun a => ?_
  match a with
  | ⟨0, _⟩ => rfl
  | ⟨1, _⟩ => exact (Nat.zero_add _).symm

/-- 128 rows of a weight block from row `o` on, entry by entry. -/
theorem ld128 (W : Vec Ideal S1408x1024 .bf16) (o : ℕ) (inb) (ho : o + 128 ≤ 1408) :
    View.ld W (Rect.unit ![o, 0] ![128, 1024] inb) = fun x : S128x1024.Idx => W (ix2 ⟨o + (x 0).val, by have : (x 0).val < 128 := (x 0).isLt; omega⟩ (x 1)) := by
  funext x
  refine View.ld_unit_apply_of W _ _ _ x _ fun a => ?_
  match a with
  | ⟨0, _⟩ => rfl
  | ⟨1, _⟩ => exact (Nat.zero_add _).symm

/-- Stores that tile a block and each hold what `G` says there leave `G`. -/
theorem canon_of (G : S512x1408.Idx → EReal) (L : List (View.Piece (Elt Ideal) S512x1408 .bf16))
    (h : View.PiecesOf (Val := Elt Ideal) (e := .bf16) G L) (y : S512x1408.Idx) (hc : ∃ p ∈ L, y ∈ p.1.set) :
    View.canon L y = G y := by
  have e := View.canon_append_of_piecesOf (Val := Elt Ideal) (e := .bf16) G [] L h y hc
  rwa [List.append_nil] at e

/-- The gated activation of a gate value `a` and an up value `b`: `a` times the logistic of `a`, times `b`. -/
def gate (a b : EReal) : EReal := a * Ideal.div 1 (1 + Ideal.exp (0 - a)) * b

/-- The six column stores of the gate block, together. -/
theorem a_list (N : Vec Ideal S512x1024 .bf16) (W1 : Vec Ideal S1408x1024 .bf16) (y : S512x1408.Idx) :
    View.canon ([⟨Rect.unit ![0, 1280] ![512, 128] inb_S512x1408_S512x128_0_1280,
          k0_pay36 N (View.ld W1 (Rect.unit ![1280, 0] ![128, 1024] inb_S1408x1024_S128x1024_1280_0))⟩,
        ⟨Rect.unit ![0, 1024] ![512, 256] inb_S512x1408_S512x256_0_1024,
          k0_pay31 N (View.ld W1 (Rect.unit ![1024, 0] ![256, 1024] inb_S1408x1024_S256x1024_1024_0))⟩,
        ⟨Rect.unit ![0, 768] ![512, 256] inb_S512x1408_S512x256_0_768,
          k0_pay26 N (View.ld W1 (Rect.unit ![768, 0] ![256, 1024] inb_S1408x1024_S256x1024_768_0))⟩,
        ⟨Rect.unit ![0, 512] ![512, 256] inb_S512x1408_S512x256_0_512,
          k0_pay19 N (View.ld W1 (Rect.unit ![512, 0] ![256, 1024] inb_S1408x1024_S256x1024_512_0))⟩,
        ⟨Rect.unit ![0, 256] ![512, 256] inb_S512x1408_S512x256_0_256,
          k0_pay14 (k0_pay11 N (View.ld W1 (Rect.unit ![256, 0] ![256, 1024] inb_S1408x1024_S256x1024_256_0)))⟩,
        ⟨Rect.unit ![0, 0] ![512, 256] inb_S512x1408_S512x256_0_0,
          k0_pay8 N (View.ld W1 (Rect.unit ![0, 0] ![256, 1024] inb_S1408x1024_S256x1024_0_0))⟩] : List (View.Piece (Elt Ideal) S512x1408 .bf16)) y
      = rowDot N W1 (y 0) (y 1) := by
  refine canon_of (fun y => rowDot N W1 (y 0) (y 1)) _ ?_ y ?_
  rotate_left
  · exact View.cover_of_tiledBy (s := S512x1408) _ ![512, 128] (by sl_kernel_rfl) y
  refine ⟨fun x => ?_, fun x => ?_, fun x => ?_, fun x => ?_, fun x => ?_, fun x => ?_, trivial⟩
  · rw [ld128 W1 1280 _ (by decide)]
    unfold_payloads
    pointwise
    unfold rowDot
    rw [show (Rect.unit (s := S512x1408) ![0, 1280] ![512, 128] inb_S512x1408_S512x128_0_1280).emb x 0 = x 0 from Fin.ext (by show 0 + 1 * (x 0).val = (x 0).val; omega),
      show (Rect.unit (s := S512x1408) ![0, 1280] ![512, 128] inb_S512x1408_S512x128_0_1280).emb x 1 = ⟨1280 + (x 1).val, by have : (x 1).val < 128 := (x 1).isLt; show 1280 + (x 1).val < 1408; omega⟩ from Fin.ext (by show 1280 + 1 * (x 1).val = 1280 + (x 1).val; omega)]
    rfl
  · rw [ld256 W1 1024 _ (by decide)]
    unfold_payloads
    pointwise
    unfold rowDot
    rw [show (Rect.unit (s := S512x1408) ![0, 1024] ![512, 256] inb_S512x1408_S512x256_0_1024).emb x 0 = x 0 from Fin.ext (by show 0 + 1 * (x 0).val = (x 0).val; omega),
      show (Rect.unit (s := S512x1408) ![0, 1024] ![512, 256] inb_S512x1408_S512x256_0_1024).emb x 1 = ⟨1024 + (x 1).val, by have : (x 1).val < 256 := (x 1).isLt; show 1024 + (x 1).val < 1408; omega⟩ from Fin.ext (by show 1024 + 1 * (x 1).val = 1024 + (x 1).val; omega)]
    rfl
  · rw [ld256 W1 768 _ (by decide)]
    unfold_payloads
    pointwise
    unfold rowDot
    rw [show (Rect.unit (s := S512x1408) ![0, 768] ![512, 256] inb_S512x1408_S512x256_0_768).emb x 0 = x 0 from Fin.ext (by show 0 + 1 * (x 0).val = (x 0).val; omega),
      show (Rect.unit (s := S512x1408) ![0, 768] ![512, 256] inb_S512x1408_S512x256_0_768).emb x 1 = ⟨768 + (x 1).val, by have : (x 1).val < 256 := (x 1).isLt; show 768 + (x 1).val < 1408; omega⟩ from Fin.ext (by show 768 + 1 * (x 1).val = 768 + (x 1).val; omega)]
    rfl
  · rw [ld256 W1 512 _ (by decide)]
    unfold_payloads
    pointwise
    unfold rowDot
    rw [show (Rect.unit (s := S512x1408) ![0, 512] ![512, 256] inb_S512x1408_S512x256_0_512).emb x 0 = x 0 from Fin.ext (by show 0 + 1 * (x 0).val = (x 0).val; omega),
      show (Rect.unit (s := S512x1408) ![0, 512] ![512, 256] inb_S512x1408_S512x256_0_512).emb x 1 = ⟨512 + (x 1).val, by have : (x 1).val < 256 := (x 1).isLt; show 512 + (x 1).val < 1408; omega⟩ from Fin.ext (by show 512 + 1 * (x 1).val = 512 + (x 1).val; omega)]
    rfl
  · rw [ld256 W1 256 _ (by decide)]
    unfold_payloads
    pointwise
    unfold rowDot
    rw [show (Rect.unit (s := S512x1408) ![0, 256] ![512, 256] inb_S512x1408_S512x256_0_256).emb x 0 = x 0 from Fin.ext (by show 0 + 1 * (x 0).val = (x 0).val; omega),
      show (Rect.unit (s := S512x1408) ![0, 256] ![512, 256] inb_S512x1408_S512x256_0_256).emb x 1 = ⟨256 + (x 1).val, by have : (x 1).val < 256 := (x 1).isLt; show 256 + (x 1).val < 1408; omega⟩ from Fin.ext (by show 256 + 1 * (x 1).val = 256 + (x 1).val; omega)]
    rfl
  · rw [ld256 W1 0 _ (by decide)]
    unfold_payloads
    pointwise
    unfold rowDot
    rw [show (Rect.unit (s := S512x1408) ![0, 0] ![512, 256] inb_S512x1408_S512x256_0_0).emb x 0 = x 0 from Fin.ext (by show 0 + 1 * (x 0).val = (x 0).val; omega),
      show (Rect.unit (s := S512x1408) ![0, 0] ![512, 256] inb_S512x1408_S512x256_0_0).emb x 1 = ⟨(x 1).val, by have : (x 1).val < 256 := (x 1).isLt; show (x 1).val < 1408; omega⟩ from Fin.ext (by show 0 + 1 * (x 1).val = (x 1).val; omega)]
    rfl

/-- The six column stores of the up block, together. -/
theorem b_list (N : Vec Ideal S512x1024 .bf16) (W3 : Vec Ideal S1408x1024 .bf16) (y : S512x1408.Idx) :
    View.canon ([⟨Rect.unit ![0, 1280] ![512, 128] inb_S512x1408_S512x128_0_1280,
          k0_pay37 N (View.ld W3 (Rect.unit ![1280, 0] ![128, 1024] inb_S1408x1024_S128x1024_1280_0))⟩,
        ⟨Rect.unit ![0, 1024] ![512, 256] inb_S512x1408_S512x256_0_1024,
          k0_pay32 (k0_pay30 N (View.ld W3 (Rect.unit ![1024, 0] ![256, 1024] inb_S1408x1024_S256x1024_1024_0)))⟩,
        ⟨Rect.unit ![0, 768] ![512, 256] inb_S512x1408_S512x256_0_768,
          k0_pay27 N (View.ld W3 (Rect.unit ![768, 0] ![256, 1024] inb_S1408x1024_S256x1024_768_0))⟩,
        ⟨Rect.unit ![0, 512] ![512, 256] inb_S512x1408_S512x256_0_512,
          k0_pay20 N (View.ld W3 (Rect.unit ![512, 0] ![256, 1024] inb_S1408x1024_S256x1024_512_0))⟩,
        ⟨Rect.unit ![0, 256] ![512, 256] inb_S512x1408_S512x256_0_256,
          k0_pay15 N (k0_pay12 (View.ld W3 (Rect.unit ![256, 0] ![256, 1024] inb_S1408x1024_S256x1024_256_0)))⟩,
        ⟨Rect.unit ![0, 0] ![512, 256] inb_S512x1408_S512x256_0_0,
          k0_pay9 N (View.ld W3 (Rect.unit ![0, 0] ![256, 1024] inb_S1408x1024_S256x1024_0_0))⟩] : List (View.Piece (Elt Ideal) S512x1408 .bf16)) y
      = rowDot N W3 (y 0) (y 1) := by
  refine canon_of (fun y => rowDot N W3 (y 0) (y 1)) _ ?_ y ?_
  rotate_left
  · exact View.cover_of_tiledBy (s := S512x1408) _ ![512, 128] (by sl_kernel_rfl) y
  refine ⟨fun x => ?_, fun x => ?_, fun x => ?_, fun x => ?_, fun x => ?_, fun x => ?_, trivial⟩
  · rw [ld128 W3 1280 _ (by decide)]
    unfold_payloads
    pointwise
    unfold rowDot
    rw [show (Rect.unit (s := S512x1408) ![0, 1280] ![512, 128] inb_S512x1408_S512x128_0_1280).emb x 0 = x 0 from Fin.ext (by show 0 + 1 * (x 0).val = (x 0).val; omega),
      show (Rect.unit (s := S512x1408) ![0, 1280] ![512, 128] inb_S512x1408_S512x128_0_1280).emb x 1 = ⟨1280 + (x 1).val, by have : (x 1).val < 128 := (x 1).isLt; show 1280 + (x 1).val < 1408; omega⟩ from Fin.ext (by show 1280 + 1 * (x 1).val = 1280 + (x 1).val; omega)]
    rfl
  · rw [ld256 W3 1024 _ (by decide)]
    unfold_payloads
    pointwise
    unfold rowDot
    rw [show (Rect.unit (s := S512x1408) ![0, 1024] ![512, 256] inb_S512x1408_S512x256_0_1024).emb x 0 = x 0 from Fin.ext (by show 0 + 1 * (x 0).val = (x 0).val; omega),
      show (Rect.unit (s := S512x1408) ![0, 1024] ![512, 256] inb_S512x1408_S512x256_0_1024).emb x 1 = ⟨1024 + (x 1).val, by have : (x 1).val < 256 := (x 1).isLt; show 1024 + (x 1).val < 1408; omega⟩ from Fin.ext (by show 1024 + 1 * (x 1).val = 1024 + (x 1).val; omega)]
    rfl
  · rw [ld256 W3 768 _ (by decide)]
    unfold_payloads
    pointwise
    unfold rowDot
    rw [show (Rect.unit (s := S512x1408) ![0, 768] ![512, 256] inb_S512x1408_S512x256_0_768).emb x 0 = x 0 from Fin.ext (by show 0 + 1 * (x 0).val = (x 0).val; omega),
      show (Rect.unit (s := S512x1408) ![0, 768] ![512, 256] inb_S512x1408_S512x256_0_768).emb x 1 = ⟨768 + (x 1).val, by have : (x 1).val < 256 := (x 1).isLt; show 768 + (x 1).val < 1408; omega⟩ from Fin.ext (by show 768 + 1 * (x 1).val = 768 + (x 1).val; omega)]
    rfl
  · rw [ld256 W3 512 _ (by decide)]
    unfold_payloads
    pointwise
    unfold rowDot
    rw [show (Rect.unit (s := S512x1408) ![0, 512] ![512, 256] inb_S512x1408_S512x256_0_512).emb x 0 = x 0 from Fin.ext (by show 0 + 1 * (x 0).val = (x 0).val; omega),
      show (Rect.unit (s := S512x1408) ![0, 512] ![512, 256] inb_S512x1408_S512x256_0_512).emb x 1 = ⟨512 + (x 1).val, by have : (x 1).val < 256 := (x 1).isLt; show 512 + (x 1).val < 1408; omega⟩ from Fin.ext (by show 512 + 1 * (x 1).val = 512 + (x 1).val; omega)]
    rfl
  · rw [ld256 W3 256 _ (by decide)]
    unfold_payloads
    pointwise
    unfold rowDot
    rw [show (Rect.unit (s := S512x1408) ![0, 256] ![512, 256] inb_S512x1408_S512x256_0_256).emb x 0 = x 0 from Fin.ext (by show 0 + 1 * (x 0).val = (x 0).val; omega),
      show (Rect.unit (s := S512x1408) ![0, 256] ![512, 256] inb_S512x1408_S512x256_0_256).emb x 1 = ⟨256 + (x 1).val, by have : (x 1).val < 256 := (x 1).isLt; show 256 + (x 1).val < 1408; omega⟩ from Fin.ext (by show 256 + 1 * (x 1).val = 256 + (x 1).val; omega)]
    rfl
  · rw [ld256 W3 0 _ (by decide)]
    unfold_payloads
    pointwise
    unfold rowDot
    rw [show (Rect.unit (s := S512x1408) ![0, 0] ![512, 256] inb_S512x1408_S512x256_0_0).emb x 0 = x 0 from Fin.ext (by show 0 + 1 * (x 0).val = (x 0).val; omega),
      show (Rect.unit (s := S512x1408) ![0, 0] ![512, 256] inb_S512x1408_S512x256_0_0).emb x 1 = ⟨(x 1).val, by have : (x 1).val < 256 := (x 1).isLt; show (x 1).val < 1408; omega⟩ from Fin.ext (by show 0 + 1 * (x 1).val = (x 1).val; omega)]
    rfl

/-- The six column stores of the activation block. -/
def tPieces (N : Vec Ideal S512x1024 .bf16) (W1 W3 : Vec Ideal S1408x1024 .bf16) :
    List (View.Piece (Elt Ideal) S512x1408 .bf16) :=
  [⟨Rect.unit ![0, 1280] ![512, 128] inb_S512x1408_S512x128_0_1280,
          k0_pay1 (k0_pay38 N (View.ld W1 (Rect.unit ![1280, 0] ![128, 1024] inb_S1408x1024_S128x1024_1280_0)) (View.ld W3 (Rect.unit ![1280, 0] ![128, 1024] inb_S1408x1024_S128x1024_1280_0)))⟩,
        ⟨Rect.unit ![0, 1024] ![512, 256] inb_S512x1408_S512x256_0_1024,
          k0_pay33 (k0_pay29 N (View.ld W1 (Rect.unit ![1024, 0] ![256, 1024] inb_S1408x1024_S256x1024_1024_0))) (k0_pay30 N (View.ld W3 (Rect.unit ![1024, 0] ![256, 1024] inb_S1408x1024_S256x1024_1024_0)))⟩,
        ⟨Rect.unit ![0, 768] ![512, 256] inb_S512x1408_S512x256_0_768,
          k0_pay28 N (View.ld W1 (Rect.unit ![768, 0] ![256, 1024] inb_S1408x1024_S256x1024_768_0)) (View.ld W3 (Rect.unit ![768, 0] ![256, 1024] inb_S1408x1024_S256x1024_768_0))⟩,
        ⟨Rect.unit ![0, 512] ![512, 256] inb_S512x1408_S512x256_0_512,
          k0_pay23 (k0_pay17 N (View.ld W1 (Rect.unit ![512, 0] ![256, 1024] inb_S1408x1024_S256x1024_512_0))) (k0_pay18 N (View.ld W3 (Rect.unit ![512, 0] ![256, 1024] inb_S1408x1024_S256x1024_512_0))) (k0_pay21 N (View.ld W1 (Rect.unit ![512, 0] ![256, 1024] inb_S1408x1024_S256x1024_512_0))) k0_pay22⟩,
        ⟨Rect.unit ![0, 256] ![512, 256] inb_S512x1408_S512x256_0_256,
          k0_pay16 N (k0_pay11 N (View.ld W1 (Rect.unit ![256, 0] ![256, 1024] inb_S1408x1024_S256x1024_256_0))) (k0_pay12 (View.ld W3 (Rect.unit ![256, 0] ![256, 1024] inb_S1408x1024_S256x1024_256_0)))⟩,
        ⟨Rect.unit ![0, 0] ![512, 256] inb_S512x1408_S512x256_0_0,
          k0_pay10 N (View.ld W1 (Rect.unit ![0, 0] ![256, 1024] inb_S1408x1024_S256x1024_0_0)) (View.ld W3 (Rect.unit ![0, 0] ![256, 1024] inb_S1408x1024_S256x1024_0_0))⟩]

/-- The six column stores of the activation block, together. -/
theorem t_list (N : Vec Ideal S512x1024 .bf16) (W1 W3 : Vec Ideal S1408x1024 .bf16) (y : S512x1408.Idx) :
    View.canon (tPieces N W1 W3) y
      = gate (rowDot N W1 (y 0) (y 1)) (rowDot N W3 (y 0) (y 1)) := by
  unfold tPieces
  refine canon_of (fun y => gate (rowDot N W1 (y 0) (y 1)) (rowDot N W3 (y 0) (y 1))) _ ?_ y ?_
  rotate_left
  · exact View.cover_of_tiledBy (s := S512x1408) _ ![512, 128] (by sl_kernel_rfl) y
  refine ⟨fun x => ?_, fun x => ?_, fun x => ?_, fun x => ?_, fun x => ?_, fun x => ?_, trivial⟩
  · rw [ld128 W1 1280 _ (by decide), ld128 W3 1280 _ (by decide)]
    unfold_payloads
    pointwise
    unfold gate rowDot
    rw [show (Rect.unit (s := S512x1408) ![0, 1280] ![512, 128] inb_S512x1408_S512x128_0_1280).emb x 0 = x 0 from Fin.ext (by show 0 + 1 * (x 0).val = (x 0).val; omega),
      show (Rect.unit (s := S512x1408) ![0, 1280] ![512, 128] inb_S512x1408_S512x128_0_1280).emb x 1 = ⟨1280 + (x 1).val, by have : (x 1).val < 128 := (x 1).isLt; show 1280 + (x 1).val < 1408; omega⟩ from Fin.ext (by show 1280 + 1 * (x 1).val = 1280 + (x 1).val; omega)]
    rfl
  · rw [ld256 W1 1024 _ (by decide), ld256 W3 1024 _ (by decide)]
    unfold_payloads
    pointwise
    unfold gate rowDot
    rw [show (Rect.unit (s := S512x1408) ![0, 1024] ![512, 256] inb_S512x1408_S512x256_0_1024).emb x 0 = x 0 from Fin.ext (by show 0 + 1 * (x 0).val = (x 0).val; omega),
      show (Rect.unit (s := S512x1408) ![0, 1024] ![512, 256] inb_S512x1408_S512x256_0_1024).emb x 1 = ⟨1024 + (x 1).val, by have : (x 1).val < 256 := (x 1).isLt; show 1024 + (x 1).val < 1408; omega⟩ from Fin.ext (by show 1024 + 1 * (x 1).val = 1024 + (x 1).val; omega)]
    rfl
  · rw [ld256 W1 768 _ (by decide), ld256 W3 768 _ (by decide)]
    unfold_payloads
    pointwise
    unfold gate rowDot
    rw [show (Rect.unit (s := S512x1408) ![0, 768] ![512, 256] inb_S512x1408_S512x256_0_768).emb x 0 = x 0 from Fin.ext (by show 0 + 1 * (x 0).val = (x 0).val; omega),
      show (Rect.unit (s := S512x1408) ![0, 768] ![512, 256] inb_S512x1408_S512x256_0_768).emb x 1 = ⟨768 + (x 1).val, by have : (x 1).val < 256 := (x 1).isLt; show 768 + (x 1).val < 1408; omega⟩ from Fin.ext (by show 768 + 1 * (x 1).val = 768 + (x 1).val; omega)]
    rfl
  · rw [ld256 W1 512 _ (by decide), ld256 W3 512 _ (by decide)]
    unfold_payloads
    pointwise
    unfold gate rowDot
    rw [show (Rect.unit (s := S512x1408) ![0, 512] ![512, 256] inb_S512x1408_S512x256_0_512).emb x 0 = x 0 from Fin.ext (by show 0 + 1 * (x 0).val = (x 0).val; omega),
      show (Rect.unit (s := S512x1408) ![0, 512] ![512, 256] inb_S512x1408_S512x256_0_512).emb x 1 = ⟨512 + (x 1).val, by have : (x 1).val < 256 := (x 1).isLt; show 512 + (x 1).val < 1408; omega⟩ from Fin.ext (by show 512 + 1 * (x 1).val = 512 + (x 1).val; omega)]
    rfl
  · rw [ld256 W1 256 _ (by decide), ld256 W3 256 _ (by decide)]
    unfold_payloads
    pointwise
    unfold gate rowDot
    rw [show (Rect.unit (s := S512x1408) ![0, 256] ![512, 256] inb_S512x1408_S512x256_0_256).emb x 0 = x 0 from Fin.ext (by show 0 + 1 * (x 0).val = (x 0).val; omega),
      show (Rect.unit (s := S512x1408) ![0, 256] ![512, 256] inb_S512x1408_S512x256_0_256).emb x 1 = ⟨256 + (x 1).val, by have : (x 1).val < 256 := (x 1).isLt; show 256 + (x 1).val < 1408; omega⟩ from Fin.ext (by show 256 + 1 * (x 1).val = 256 + (x 1).val; omega)]
    rfl
  · rw [ld256 W1 0 _ (by decide), ld256 W3 0 _ (by decide)]
    unfold_payloads
    pointwise
    unfold gate rowDot
    rw [show (Rect.unit (s := S512x1408) ![0, 0] ![512, 256] inb_S512x1408_S512x256_0_0).emb x 0 = x 0 from Fin.ext (by show 0 + 1 * (x 0).val = (x 0).val; omega),
      show (Rect.unit (s := S512x1408) ![0, 0] ![512, 256] inb_S512x1408_S512x256_0_0).emb x 1 = ⟨(x 1).val, by have : (x 1).val < 256 := (x 1).isLt; show (x 1).val < 1408; omega⟩ from Fin.ext (by show 0 + 1 * (x 1).val = (x 1).val; omega)]
    rfl

end Cert.Kernel3Ideal.W
-- ==== Proof.FAcc.lean ====
/- The running sum of the feed-forward kernel: the normed rows it keeps, and what each column block adds. -/
module

public import proofs.«01_k».proof.Proof.FBlock
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

namespace Cert.Kernel3Ideal.W

open Idealize.ShloMosaic Idealize.ShloMosaic.TcCoe Cert.Kernel3Ideal.Gen

variable (m : (ℓ : Loc nD τ sig) → Buf (Elt Ideal) ℓ)

/-- At the first column block the normed rows are made. -/
theorem n_even (c : Dev nD) (t : Fin cfg0.N) (h0 : t.val % 2 = 0) :
    (outsAt0 m c t.val t.isLt).2.2.2.2.1 = k0_pay4 (iblk m c 0 t) (iblk m c 1 t) := by
  rw [outsAt0_A m c t h0 (by omega)]
  frame_out

/-- At the second column block the normed rows are those of the point before. -/
theorem n_odd (c : Dev nD) (t : Fin cfg0.N) (h0 : ¬t.val % 2 = 0) :
    (outsAt0 m c t.val t.isLt).2.2.2.2.1
      = (outsAt0 m c (t.val - 1) (Nat.lt_of_le_of_lt (Nat.sub_le _ _) t.isLt)).2.2.2.2.1 := by
  rw [outsAt0_B m c t h0 (by omega)]
  unfold sout0_B_0
  rfl

/-- The gate block every point writes. -/
theorem a_at (c : Dev nD) (t : Fin cfg0.N) (y : S512x1408.Idx) :
    (outsAt0 m c t.val t.isLt).2.1 y = rowDot (outsAt0 m c t.val t.isLt).2.2.2.2.1 (iblk m c 2 t) (y 0) (y 1) := by
  by_cases h0 : t.val % 2 = 0
  · rw [n_even m c t h0, outsAt0_A m c t h0 (by omega)]
    frame_out
    exact a_list _ _ y
  · rw [n_odd m c t h0, outsAt0_B m c t h0 (by omega)]
    frame_out
    try simp only [read_unread_whole]
    exact a_list _ _ y

/-- The up block every point writes. -/
theorem b_at (c : Dev nD) (t : Fin cfg0.N) (y : S512x1408.Idx) :
    (outsAt0 m c t.val t.isLt).2.2.1 y = rowDot (outsAt0 m c t.val t.isLt).2.2.2.2.1 (iblk m c 3 t) (y 0) (y 1) := by
  by_cases h0 : t.val % 2 = 0
  · rw [n_even m c t h0, outsAt0_A m c t h0 (by omega)]
    frame_out
    exact b_list _ _ y
  · rw [n_odd m c t h0, outsAt0_B m c t h0 (by omega)]
    frame_out
    try simp only [read_unread_whole]
    exact b_list _ _ y

/-- The activation block every point writes. -/
theorem t_at (c : Dev nD) (t : Fin cfg0.N) (y : S512x1408.Idx) :
    (outsAt0 m c t.val t.isLt).2.2.2.1 y = gate (rowDot (outsAt0 m c t.val t.isLt).2.2.2.2.1 (iblk m c 2 t) (y 0) (y 1)) (rowDot (outsAt0 m c t.val t.isLt).2.2.2.2.1 (iblk m c 3 t) (y 0) (y 1)) := by
  by_cases h0 : t.val % 2 = 0
  · rw [n_even m c t h0, outsAt0_A m c t h0 (by omega)]
    frame_out
    exact t_list _ _ _ y
  · rw [n_odd m c t h0, outsAt0_B m c t h0 (by omega)]
    frame_out
    try simp only [read_unread_whole]
    exact t_list _ _ _ y

/-- What a point adds to the accumulator: its activation block against its block of the output weight. -/
def colDot (a : Vec Ideal S512x1408 .bf16) (w : Vec Ideal S1408x1024 .bf16) (p : Fin 512) (q : Fin 1024) : EReal :=
  ∑ k : Fin 1408, a (ix2 p k) * w (ix2 k q)

/-- One step of the running sum: the old entry and the product of the activations with the output weights. -/
theorem pay2 (A : Vec Ideal S512x1024 .f32) (T : Vec Ideal S512x1408 .bf16) (W : Vec Ideal S1408x1024 .bf16) (x : S512x1024.Idx) :
    k0_pay2 A T W x = A x + colDot T W (x 0) (x 1) := by
  unfold k0_pay2
  pointwise
  rfl

/-- The activation block, from the normed rows and the two weight blocks. -/
def actOf (N : Vec Ideal S512x1024 .bf16) (W1 W3 : Vec Ideal S1408x1024 .bf16) : Vec Ideal S512x1408 .bf16 :=
  fun y => gate (rowDot N W1 (y 0) (y 1)) (rowDot N W3 (y 0) (y 1))

/-- Reading a whole block back after stores that cover it reads what the stores left. -/
theorem readCov_full {r : Memref sig .tc .vmem S512x1408 .bf16} (L : List (View.Piece (Elt Ideal) S512x1408 .bf16)) (inb) :
    r.view.readCov L (Rect.unit (s := S512x1408) ![0, 0] ![512, 1408] inb).toLoadRect = View.canon L := by
  funext y
  rw [View.readCov_eq_canon']
  refine congrArg (View.canon L) ?_
  funext a
  match a with
  | ⟨0, _⟩ => exact Fin.ext (by show 0 + 1 * (y 0).val = (y 0).val; omega)
  | ⟨1, _⟩ => exact Fin.ext (by show 0 + 1 * (y 1).val = (y 1).val; omega)

/-- The store into the accumulator: what it held plus the activation block against the output weight. -/
theorem acc_list (A : Vec Ideal S512x1024 .f32) (N : Vec Ideal S512x1024 .bf16) (W1 W3 W2 : Vec Ideal S1408x1024 .bf16)
    (y : S512x1024.Idx) :
    k0_pay2 A (View.canon (tPieces N W1 W3)) W2 y = A y + colDot (actOf N W1 W3) W2 (y 0) (y 1) := by
  have e : View.canon (tPieces N W1 W3) = actOf N W1 W3 := funext fun y => t_list N W1 W3 y
  rw [e]
  exact pay2 _ _ _ y

/-- The zero block the first point of a run stores. -/
theorem pay5 (y : S512x1024.Idx) : k0_pay5 (F := Ideal) y = 0 := by
  unfold k0_pay5
  pointwise

/-- The running sum after the first column block. -/
theorem acc_list0 (N : Vec Ideal S512x1024 .bf16) (W1 W3 W2 : Vec Ideal S1408x1024 .bf16) (y : S512x1024.Idx) :
    k0_pay2 (k0_pay5 (F := Ideal)) (View.canon (tPieces N W1 W3)) W2 y = 0 + colDot (actOf N W1 W3) W2 (y 0) (y 1) := by
  rw [acc_list, pay5]

/-- At the first column block the accumulator holds that block's addend. -/
theorem acc_even (c : Dev nD) (t : Fin cfg0.N) (h0 : t.val % 2 = 0) (y : S512x1024.Idx) :
    (outsAt0 m c t.val t.isLt).2.2.2.2.2 y
      = 0 + colDot (actOf (k0_pay4 (iblk m c 0 t) (iblk m c 1 t)) (iblk m c 2 t) (iblk m c 3 t)) (iblk m c 4 t) (y 0) (y 1) := by
  rw [outsAt0_A m c t h0 (by omega)]
  frame_out
  simp (disch := first | decide | (intro a; fin_cases a <;> rfl)) only [↓View.readCov_skip, ↓View.readCov_fill, readCov_full]
  exact acc_list0 _ _ _ _ y

/-- At the second column block the accumulator gains that block's addend. -/
theorem acc_odd (c : Dev nD) (t : Fin cfg0.N) (h0 : ¬t.val % 2 = 0) (y : S512x1024.Idx) :
    (outsAt0 m c t.val t.isLt).2.2.2.2.2 y
      = (outsAt0 m c (t.val - 1) (Nat.lt_of_le_of_lt (Nat.sub_le _ _) t.isLt)).2.2.2.2.2 y
        + colDot (actOf (outsAt0 m c (t.val - 1) (Nat.lt_of_le_of_lt (Nat.sub_le _ _) t.isLt)).2.2.2.2.1 (iblk m c 2 t) (iblk m c 3 t))
          (iblk m c 4 t) (y 0) (y 1) := by
  rw [outsAt0_B m c t h0 (by omega)]
  frame_out
  simp only [read_unread_whole, readCov_full]
  exact acc_list _ _ _ _ _ y

/-- A block plus half of another. -/
def halfAdd (x a : Vec Ideal S512x1024 .f32) (y : S512x1024.Idx) : EReal := x y + Ideal.ofBits .f32 0x3F000000#32 * a y

/-- The result block: the input rows plus half of what the accumulator then holds. -/
theorem h_odd (c : Dev nD) (t : Fin cfg0.N) (h0 : ¬t.val % 2 = 0) (y : S512x1024.Idx) :
    (outsAt0 m c t.val t.isLt).1 y = halfAdd (iblk m c 0 t) (outsAt0 m c t.val t.isLt).2.2.2.2.2 y := by
  rw [outsAt0_B m c t h0 (by omega)]
  frame_out
  simp only [read_unread_whole]
  unfold k0_pay3
  pointwise
  rfl

end Cert.Kernel3Ideal.W
-- ==== Proof.FHost.lean ====
/- What the host operations before the feed-forward kernel leave in its five operand arrays, and what each grid point's
   blocks of them are, in the argument arrays. -/
module

public import proofs.«01_k».proof.Proof.FAcc
public import Idealize.ShloMosaic.Lib.StableHlo.RunRead

@[expose] public section

set_option maxRecDepth 16384

noncomputable section

namespace Cert.Kernel3Ideal.W

open Idealize.ShloMosaic Idealize.ShloMosaic.TcCoe Idealize.ShloMosaic.StableHlo Cert.Kernel3Ideal.Gen

variable (m : (ℓ : Loc nD τ sig) → Buf (Elt Ideal) ℓ)

/-- The input rows. -/
def argX (c : Dev nD) : S8192x1024.Idx → EReal := m ((c : Thread nD τ).loc main_arg0)
/-- The gain vector. -/
def argG (c : Dev nD) : S1024.Idx → EReal := m ((c : Thread nD τ).loc main_arg1)
/-- The gate weight. -/
def argW1 (c : Dev nD) : S1024x2816.Idx → EReal := m ((c : Thread nD τ).loc main_arg2)
/-- The up weight. -/
def argW3 (c : Dev nD) : S1024x2816.Idx → EReal := m ((c : Thread nD τ).loc main_arg3)
/-- The down weight. -/
def argW2 (c : Dev nD) : S2816x1024.Idx → EReal := m ((c : Thread nD τ).loc main_arg4)

/-- The gate operand is the gate weight turned over. -/
theorem v1_at (c : Dev nD) (q : Fin 2816) (k : Fin 1024) : (Gen.V m c main_v1 : S2816x1024.Idx → EReal) (ix2 q k) = argW1 m c (ix2 k q) := by
  have e : Gen.V m c main_v1 = truncf (F := Ideal) .bf16 (transpose S2816x1024 [1, 0] (m ((c : Thread nD τ).loc main_arg2) : (⟨S1024x2816, .f32⟩ : BufTy).Contents (Elt Ideal)) transposes_S1024x2816_S2816x1024_1_0) bitsLt_bf16_f32 := by
    unfold Gen.V
    simp only [hostOps0, List.flatten, List.cons_append, List.nil_append, List.append_nil, TRef.binary, TRef.nullary,
      TRef.unary, TRef.toBuf, TRef.ofBuf, cast_eq]
    after_reads_simp
  rw [e]
  pointwise
  rfl

/-- The up operand is the up weight turned over. -/
theorem v3_at (c : Dev nD) (q : Fin 2816) (k : Fin 1024) : (Gen.V m c main_v3 : S2816x1024.Idx → EReal) (ix2 q k) = argW3 m c (ix2 k q) := by
  have e : Gen.V m c main_v3 = truncf (F := Ideal) .bf16 (transpose S2816x1024 [1, 0] (m ((c : Thread nD τ).loc main_arg3) : (⟨S1024x2816, .f32⟩ : BufTy).Contents (Elt Ideal)) transposes_S1024x2816_S2816x1024_1_0) bitsLt_bf16_f32 := by
    unfold Gen.V
    simp only [hostOps0, List.flatten, List.cons_append, List.nil_append, List.append_nil, TRef.binary, TRef.nullary,
      TRef.unary, TRef.toBuf, TRef.ofBuf, cast_eq]
    after_reads_simp
  rw [e]
  pointwise
  rfl

/-- The down operand is the down weight. -/
theorem v4_at (c : Dev nD) (q : Fin 2816) (k : Fin 1024) : (Gen.V m c main_v4 : S2816x1024.Idx → EReal) (ix2 q k) = argW2 m c (ix2 q k) := by
  have e : Gen.V m c main_v4 = truncf (F := Ideal) .bf16 (m ((c : Thread nD τ).loc main_arg4) : (⟨S2816x1024, .f32⟩ : BufTy).Contents (Elt Ideal)) bitsLt_bf16_f32 := by
    unfold Gen.V
    simp only [hostOps0, List.flatten, List.cons_append, List.nil_append, List.append_nil, TRef.binary, TRef.nullary,
      TRef.unary, TRef.toBuf, TRef.ofBuf, cast_eq]
    after_reads_simp
  rw [e]
  pointwise
  rfl

/-- The gain operand is the gain vector as one row. -/
theorem v5_at (c : Dev nD) (k : Fin 1024) : (Gen.V m c main_v5 : S1x1024.Idx → EReal) (ix2 0 k) = argG m c (ix1 k) := by
  have e : Gen.V m c main_v5 = broadcastInDim S1x1024 ![1] bcast_S1024_S1x1024_1 (m ((c : Thread nD τ).loc main_arg1)) := by
    unfold Gen.V
    simp only [hostOps0, List.flatten, List.cons_append, List.nil_append, List.append_nil, TRef.binary, TRef.nullary,
      TRef.unary, TRef.toBuf, TRef.ofBuf, cast_eq]
    after_reads_simp
  rw [e]
  pointwise
  rfl

/-- Point `t` takes the row block `t / 2` of the input and the whole gain. -/
theorem idx_rows : ∀ t : Fin cfg0.N, win0_0.index t = ![t.val / 2, 0] ∧ win0_1.index t = ![0, 0] :=
  (by decide +kernel : ∀ t : Fin grid0.N, _)

/-- Point `t` takes the column block `t % 2` of each weight. -/
theorem idx_cols : ∀ t : Fin cfg0.N, win0_2.index t = ![t.val % 2, 0] ∧ win0_3.index t = ![t.val % 2, 0] ∧ win0_4.index t = ![t.val % 2, 0] :=
  (by decide +kernel : ∀ t : Fin grid0.N, _)

/-- The input block of point `t`. -/
theorem blk0 (c : Dev nD) (t : Fin cfg0.N) (p : Fin 512) (k : Fin 1024) (r : Fin 8192) (hr : r.val = (t.val / 2) * 512 + p.val) :
    (iblk m c 0 t : Vec Ideal S512x1024 .f32) (ix2 p k) = argX m c (ix2 r k) := by
  obtain ⟨e, -⟩ := idx_rows t
  have h : (iblk m c 0 t : Vec Ideal S512x1024 .f32) (ix2 p k) = (V m c main_arg0 : Vec Ideal S8192x1024 .f32) (ix2 r k) := by
    blk_ext [iblk, V, e]
  rw [h, V_main_arg0]
  rfl

/-- The gain block of point `t`. -/
theorem blk1 (c : Dev nD) (t : Fin cfg0.N) (k : Fin 1024) :
    (iblk m c 1 t : Vec Ideal S1x1024 .f32) (ix2 0 k) = argG m c (ix1 k) := by
  obtain ⟨-, e⟩ := idx_rows t
  have h : (iblk m c 1 t : Vec Ideal S1x1024 .f32) (ix2 0 k) = (V m c main_v5 : Vec Ideal S1x1024 .f32) (ix2 0 k) := by
    blk_ext [iblk, V, e]
  exact h.trans (v5_at m c k)

/-- The block of operand 2 at point `t`. -/
theorem blk2 (c : Dev nD) (t : Fin cfg0.N) (q : Fin 1408) (k : Fin 1024) (Q : Fin 2816) (hQ : Q.val = (t.val % 2) * 1408 + q.val) :
    (iblk m c 2 t : Vec Ideal S1408x1024 .bf16) (ix2 q k) = argW1 m c (ix2 k Q) := by
  obtain ⟨e, -, -⟩ := idx_cols t
  have h : (iblk m c 2 t : Vec Ideal S1408x1024 .bf16) (ix2 q k) = (V m c main_v1 : Vec Ideal S2816x1024 .bf16) (ix2 Q k) := by
    blk_ext [iblk, V, e]
  exact h.trans (v1_at m c Q k)

/-- The block of operand 3 at point `t`. -/
theorem blk3 (c : Dev nD) (t : Fin cfg0.N) (q : Fin 1408) (k : Fin 1024) (Q : Fin 2816) (hQ : Q.val = (t.val % 2) * 1408 + q.val) :
    (iblk m c 3 t : Vec Ideal S1408x1024 .bf16) (ix2 q k) = argW3 m c (ix2 k Q) := by
  obtain ⟨-, e, -⟩ := idx_cols t
  have h : (iblk m c 3 t : Vec Ideal S1408x1024 .bf16) (ix2 q k) = (V m c main_v3 : Vec Ideal S2816x1024 .bf16) (ix2 Q k) := by
    blk_ext [iblk, V, e]
  exact h.trans (v3_at m c Q k)

/-- The block of operand 4 at point `t`. -/
theorem blk4 (c : Dev nD) (t : Fin cfg0.N) (q : Fin 1408) (k : Fin 1024) (Q : Fin 2816) (hQ : Q.val = (t.val % 2) * 1408 + q.val) :
    (iblk m c 4 t : Vec Ideal S1408x1024 .bf16) (ix2 q k) = argW2 m c (ix2 Q k) := by
  obtain ⟨-, -, e⟩ := idx_cols t
  have h : (iblk m c 4 t : Vec Ideal S1408x1024 .bf16) (ix2 q k) = (V m c main_v4 : Vec Ideal S2816x1024 .bf16) (ix2 Q k) := by
    blk_ext [iblk, V, e]
  exact h.trans (v4_at m c Q k)

end Cert.Kernel3Ideal.W
-- ==== Proof.FValue.lean ====
/- What the feed-forward kernel's four output arrays hold after the run, as sums over the argument arrays. -/
module

public import proofs.«01_k».proof.Proof.FHost
public import proofs.«01_k».proof.Proof.Gen.Kernel3Ideal.Value

@[expose] public section

set_option maxRecDepth 16384

noncomputable section

namespace Cert.Kernel3Ideal.W

open Idealize.ShloMosaic Idealize.ShloMosaic.TcCoe Cert.Kernel3Ideal.Gen

/-- The normed rows: each entry over the root of its row's mean square, times the gain. -/
def nrm (X : S8192x1024.Idx → EReal) (G : S1024.Idx → EReal) (r : Fin 8192) (k : Fin 1024) : EReal :=
  X (ix2 r k) * Ideal.rsqrt (Ideal.div (∑ j : Fin 1024, X (ix2 r j) * X (ix2 r j)) (Ideal.ofBits .f32 1149239296)
    + Ideal.ofBits .f32 897988541) * G (ix1 k)

/-- The normed rows against a weight. -/
def up (X : S8192x1024.Idx → EReal) (G : S1024.Idx → EReal) (W : S1024x2816.Idx → EReal) (r : Fin 8192) (q : Fin 2816) : EReal :=
  ∑ k : Fin 1024, nrm X G r k * W (ix2 k q)

/-- The gated hidden activation. -/
def act (X : S8192x1024.Idx → EReal) (G : S1024.Idx → EReal) (W1 W3 : S1024x2816.Idx → EReal) (r : Fin 8192) (q : Fin 2816) : EReal :=
  gate (up X G W1 r q) (up X G W3 r q)

/-- The activation against the down weight, over all hidden columns. -/
def down (X : S8192x1024.Idx → EReal) (G : S1024.Idx → EReal) (W1 W3 : S1024x2816.Idx → EReal) (W2 : S2816x1024.Idx → EReal)
    (r : Fin 8192) (j : Fin 1024) : EReal := ∑ q : Fin 2816, act X G W1 W3 r q * W2 (ix2 q j)

/-- The layer's output: the input plus half of the feed-forward value. -/
def hOut (X : S8192x1024.Idx → EReal) (G : S1024.Idx → EReal) (W1 W3 : S1024x2816.Idx → EReal) (W2 : S2816x1024.Idx → EReal)
    (r : Fin 8192) (j : Fin 1024) : EReal := X (ix2 r j) + Ideal.ofBits .f32 0x3F000000#32 * down X G W1 W3 W2 r j

/-- The block of normed rows, from an input block and the gain row. -/
theorem pay4 (X : Vec Ideal S512x1024 .f32) (G : Vec Ideal S1x1024 .f32) (x : S512x1024.Idx) :
    (k0_pay4 X G : Vec Ideal S512x1024 .bf16) x = (X x : EReal) * Ideal.rsqrt (Ideal.div (∑ k : Fin 1024, (X (ix2 (x 0) k) : EReal) * X (ix2 (x 0) k))
      (Ideal.ofBits .f32 1149239296) + Ideal.ofBits .f32 897988541) * G (ix2 0 (x 1)) := by
  unfold k0_pay4
  pointwise
  rfl

variable (m : (ℓ : Loc nD τ sig) → Buf (Elt Ideal) ℓ)

/-- The normed rows made from the blocks of point `t` are those of row block `t / 2`. -/
theorem pay4_at (c : Dev nD) (t : Fin cfg0.N) (p : Fin 512) (k : Fin 1024) (r : Fin 8192) (hr : r.val = (t.val / 2) * 512 + p.val) :
    (k0_pay4 (iblk m c 0 t) (iblk m c 1 t) : Vec Ideal S512x1024 .bf16) (ix2 p k) = nrm (argX m c) (argG m c) r k := by
  refine (pay4 (iblk m c 0 t) (iblk m c 1 t) (ix2 p k)).trans ?_
  unfold nrm
  rw [blk0 m c t p k r hr, show (ix2 p k : S512x1024.Idx) 0 = p from rfl, show (ix2 p k : S512x1024.Idx) 1 = k from rfl, blk1 m c t k]
  rw [Finset.sum_congr rfl fun j _ => by rw [blk0 m c t p j r hr]]

/-- The normed rows held at point `t`. -/
theorem n_at (c : Dev nD) (t : Fin cfg0.N) (p : Fin 512) (k : Fin 1024) (r : Fin 8192) (hr : r.val = (t.val / 2) * 512 + p.val) :
    ((outsAt0 m c t.val t.isLt).2.2.2.2.1 : Vec Ideal S512x1024 .bf16) (ix2 p k) = nrm (argX m c) (argG m c) r k := by
  by_cases h0 : t.val % 2 = 0
  · rw [n_even m c t h0]
    exact pay4_at m c t p k r hr
  · rw [n_odd m c t h0, n_even m c ⟨t.val - 1, Nat.lt_of_le_of_lt (Nat.sub_le _ _) t.isLt⟩ (by simp only []; omega)]
    exact pay4_at m c ⟨t.val - 1, Nat.lt_of_le_of_lt (Nat.sub_le _ _) t.isLt⟩ p k r (by simp only []; omega)

/-- A block of normed rows against a gate block. -/
theorem up1 (c : Dev nD) (t : Fin cfg0.N) (N : Vec Ideal S512x1024 .bf16) (p : Fin 512) (q : Fin 1408) (r : Fin 8192) (Q : Fin 2816)
    (hN : ∀ k, (N (ix2 p k) : EReal) = nrm (argX m c) (argG m c) r k) (hQ : Q.val = (t.val % 2) * 1408 + q.val) :
    rowDot N (iblk m c 2 t) p q = up (argX m c) (argG m c) (argW1 m c) r Q := by
  unfold rowDot up
  refine Finset.sum_congr rfl fun k _ => ?_
  rw [hN k, blk2 m c t q k Q hQ]

/-- A block of normed rows against an up block. -/
theorem up3 (c : Dev nD) (t : Fin cfg0.N) (N : Vec Ideal S512x1024 .bf16) (p : Fin 512) (q : Fin 1408) (r : Fin 8192) (Q : Fin 2816)
    (hN : ∀ k, (N (ix2 p k) : EReal) = nrm (argX m c) (argG m c) r k) (hQ : Q.val = (t.val % 2) * 1408 + q.val) :
    rowDot N (iblk m c 3 t) p q = up (argX m c) (argG m c) (argW3 m c) r Q := by
  unfold rowDot up
  refine Finset.sum_congr rfl fun k _ => ?_
  rw [hN k, blk3 m c t q k Q hQ]

/-- The gate array at any index. -/
theorem G6_apply (c : Dev nD) (i : S8192x2816.Idx) :
    (Value.G6 m c : S8192x2816.Idx → EReal) i = up (argX m c) (argG m c) (argW1 m c) (i 0) (i 1) := by
  have b0 : (i 0).val < 8192 := (i 0).isLt
  have b1 : (i 1).val < 2816 := (i 1).isLt
  have hN : cfg0.N = 32 := N_0
  have hpe : Value.pt6Of i = 2 * ((i 0).val / 512) + (i 1).val / 1408 := by
    show 2 * ((i 0).val / 512 - 0) + 1 * ((i 1).val / 1408 - 0) = _
    omega
  have hp : Value.pt6Of i < cfg0.N := by omega
  unfold Value.G6
  rw [dif_pos hp, ← Value.outsAt0_sweep m c (Value.pt6Of i) hp]
  have h0 : (Value.loc6Of i 0).val = (i 0).val % 512 := rfl
  have h1 : (Value.loc6Of i 1).val = (i 1).val % 1408 := rfl
  generalize Value.loc6Of i = y at h0 h1
  generalize Value.pt6Of i = n at hpe hp
  refine (a_at m c ⟨n, hp⟩ y).trans ?_
  exact up1 m c ⟨n, hp⟩ _ (y 0) (y 1) (i 0) (i 1) (fun k => n_at m c ⟨n, hp⟩ (y 0) k (i 0) (by simp only []; omega)) (by simp only []; omega)

/-- The up array at any index. -/
theorem G7_apply (c : Dev nD) (i : S8192x2816.Idx) :
    (Value.G7 m c : S8192x2816.Idx → EReal) i = up (argX m c) (argG m c) (argW3 m c) (i 0) (i 1) := by
  have b0 : (i 0).val < 8192 := (i 0).isLt
  have b1 : (i 1).val < 2816 := (i 1).isLt
  have hN : cfg0.N = 32 := N_0
  have hpe : Value.pt7Of i = 2 * ((i 0).val / 512) + (i 1).val / 1408 := by
    show 2 * ((i 0).val / 512 - 0) + 1 * ((i 1).val / 1408 - 0) = _
    omega
  have hp : Value.pt7Of i < cfg0.N := by omega
  unfold Value.G7
  rw [dif_pos hp, ← Value.outsAt0_sweep m c (Value.pt7Of i) hp]
  have h0 : (Value.loc7Of i 0).val = (i 0).val % 512 := rfl
  have h1 : (Value.loc7Of i 1).val = (i 1).val % 1408 := rfl
  generalize Value.loc7Of i = y at h0 h1
  generalize Value.pt7Of i = n at hpe hp
  refine (b_at m c ⟨n, hp⟩ y).trans ?_
  exact up3 m c ⟨n, hp⟩ _ (y 0) (y 1) (i 0) (i 1) (fun k => n_at m c ⟨n, hp⟩ (y 0) k (i 0) (by simp only []; omega)) (by simp only []; omega)

/-- The activation array at any index. -/
theorem G8_apply (c : Dev nD) (i : S8192x2816.Idx) :
    (Value.G8 m c : S8192x2816.Idx → EReal) i = act (argX m c) (argG m c) (argW1 m c) (argW3 m c) (i 0) (i 1) := by
  have b0 : (i 0).val < 8192 := (i 0).isLt
  have b1 : (i 1).val < 2816 := (i 1).isLt
  have hN : cfg0.N = 32 := N_0
  have hpe : Value.pt8Of i = 2 * ((i 0).val / 512) + (i 1).val / 1408 := by
    show 2 * ((i 0).val / 512 - 0) + 1 * ((i 1).val / 1408 - 0) = _
    omega
  have hp : Value.pt8Of i < cfg0.N := by omega
  unfold Value.G8
  rw [dif_pos hp, ← Value.outsAt0_sweep m c (Value.pt8Of i) hp]
  have h0 : (Value.loc8Of i 0).val = (i 0).val % 512 := rfl
  have h1 : (Value.loc8Of i 1).val = (i 1).val % 1408 := rfl
  generalize Value.loc8Of i = y at h0 h1
  generalize Value.pt8Of i = n at hpe hp
  refine (t_at m c ⟨n, hp⟩ y).trans ?_
  unfold act
  rw [up1 m c ⟨n, hp⟩ _ (y 0) (y 1) (i 0) (i 1) (fun k => n_at m c ⟨n, hp⟩ (y 0) k (i 0) (by simp only []; omega)) (by simp only []; omega),
    up3 m c ⟨n, hp⟩ _ (y 0) (y 1) (i 0) (i 1) (fun k => n_at m c ⟨n, hp⟩ (y 0) k (i 0) (by simp only []; omega)) (by simp only []; omega)]

/-- What point `t` adds to the accumulator: the products over its own 1408 hidden columns. -/
theorem addend (c : Dev nD) (t : Fin cfg0.N) (N : Vec Ideal S512x1024 .bf16) (p : Fin 512) (j : Fin 1024) (r : Fin 8192)
    (hN : ∀ k, (N (ix2 p k) : EReal) = nrm (argX m c) (argG m c) r k) :
    colDot (actOf N (iblk m c 2 t) (iblk m c 3 t)) (iblk m c 4 t) p j
      = ∑ q : Fin 1408, act (argX m c) (argG m c) (argW1 m c) (argW3 m c) r ⟨(t.val % 2) * 1408 + q.val, by omega⟩
          * argW2 m c (ix2 ⟨(t.val % 2) * 1408 + q.val, by omega⟩ j) := by
  unfold colDot
  refine Finset.sum_congr rfl fun q _ => ?_
  rw [blk4 m c t q j ⟨(t.val % 2) * 1408 + q.val, by omega⟩ rfl]
  unfold act
  rw [← up1 m c t N p q r ⟨(t.val % 2) * 1408 + q.val, by omega⟩ hN rfl, ← up3 m c t N p q r ⟨(t.val % 2) * 1408 + q.val, by omega⟩ hN rfl]
  rfl

/-- The accumulator at the second column block of a row block: the products over all hidden columns. -/
theorem acc_at (c : Dev nD) (t : Fin cfg0.N) (h1 : t.val % 2 = 1) (y : S512x1024.Idx) (r : Fin 8192) (hr : r.val = (t.val / 2) * 512 + (y 0).val) :
    ((outsAt0 m c t.val t.isLt).2.2.2.2.2 : Vec Ideal S512x1024 .f32) y = down (argX m c) (argG m c) (argW1 m c) (argW3 m c) (argW2 m c) r (y 1) := by
  have hlt : t.val - 1 < cfg0.N := Nat.lt_of_le_of_lt (Nat.sub_le _ _) t.isLt
  have hm : (t.val - 1) % 2 = 0 := by omega
  have hd : (t.val - 1) / 2 = t.val / 2 := by omega
  refine (acc_odd m c t (by omega) y).trans ?_
  rw [acc_even m c ⟨t.val - 1, hlt⟩ hm y,
    addend m c t _ (y 0) (y 1) r (fun k => n_at m c ⟨t.val - 1, hlt⟩ (y 0) k r (by simp only []; omega)),
    addend m c ⟨t.val - 1, hlt⟩ _ (y 0) (y 1) r (fun k => pay4_at m c ⟨t.val - 1, hlt⟩ (y 0) k r (by simp only []; omega)), zero_add]
  unfold down
  have e : (∑ s : Fin 2, ∑ k : Fin 1408, act (argX m c) (argG m c) (argW1 m c) (argW3 m c) r ⟨s.val * 1408 + k.val, by omega⟩
        * argW2 m c (ix2 ⟨s.val * 1408 + k.val, by omega⟩ (y 1)))
      = ∑ q : Fin 2816, act (argX m c) (argG m c) (argW1 m c) (argW3 m c) r q * argW2 m c (ix2 q (y 1)) :=
    Fin.sum_mul_add_congr (S := 2) (n := 1408) fun s k hl => rfl
  rw [← e, Fin.sum_univ_two]
  simp only [hm, h1]
  rfl

/-- The layer output array at any index. -/
theorem G5_apply (c : Dev nD) (i : S8192x1024.Idx) :
    (Value.G5 m c : S8192x1024.Idx → EReal) i = hOut (argX m c) (argG m c) (argW1 m c) (argW3 m c) (argW2 m c) (i 0) (i 1) := by
  have b0 : (i 0).val < 8192 := (i 0).isLt
  have b1 : (i 1).val < 1024 := (i 1).isLt
  have hN : cfg0.N = 32 := N_0
  have hpe : Value.pt5Of i = 2 * ((i 0).val / 512) + 1 := by
    show 2 * (1 * ((i 0).val / 512 - 0) + 1 * ((i 1).val / 1024 - 0)) + 1 = _
    omega
  have hp : Value.pt5Of i < cfg0.N := by omega
  unfold Value.G5
  rw [dif_pos hp, ← Value.outsAt0_sweep m c (Value.pt5Of i) hp]
  have h0 : (Value.loc5Of i 0).val = (i 0).val % 512 := rfl
  have h1 : Value.loc5Of i 1 = i 1 := Fin.ext (Nat.mod_eq_of_lt b1)
  generalize Value.loc5Of i = y at h0 h1
  generalize Value.pt5Of i = n at hpe hp
  refine (h_odd m c ⟨n, hp⟩ (by simp only []; omega) y).trans ?_
  unfold halfAdd hOut
  have ey : y = ix2 (y 0) (i 1) := by rw [← h1]; exact (ix2_eta y).symm
  have ex : (iblk m c 0 ⟨n, hp⟩ : Vec Ideal S512x1024 .f32) y = argX m c (ix2 (i 0) (i 1)) := by
    rw [ey]
    exact blk0 m c ⟨n, hp⟩ (y 0) (i 1) (i 0) (by simp only []; omega)
  rw [acc_at m c ⟨n, hp⟩ (by simp only []; omega) y (i 0) (by simp only []; omega), h1]
  exact congrArg (fun z : EReal => z + _) ex

end Cert.Kernel3Ideal.W
-- ==== Proof.FRef.lean ====
/- What the feed-forward reference's four results are at an index, and that the kernel's output arrays are them. -/
module

public import proofs.«01_k».proof.Proof.FValue
public import proofs.«01_k».proof.Proof.Gen.Reference3Ideal.Run
public import proofs.«01_k».proof.Proof.Gen.Reference3Ideal.Read

@[expose] public section

set_option maxRecDepth 16384

noncomputable section

namespace Cert.Kernel3Ideal.W

open Idealize.ShloMosaic Idealize.ShloMosaic.TcCoe Cert.Kernel3Ideal.Gen
open Cert.Reference3Ideal.Read

variable (x0 : (⟨S8192x1024, .f32⟩ : BufTy).Contents (Elt Ideal)) (x1 : (⟨S1024, .f32⟩ : BufTy).Contents (Elt Ideal))
    (x2 x3 : (⟨S1024x2816, .f32⟩ : BufTy).Contents (Elt Ideal)) (x4 : (⟨S2816x1024, .f32⟩ : BufTy).Contents (Elt Ideal))

/-- The reference's normed rows. -/
theorem ref_nrm (r : Fin 8192) (k : Fin 1024) : (val_main_v12 (F := Ideal) x0 x1 : S8192x1024.Idx → EReal) (ix2 r k) = nrm x0 x1 r k := by
  unfold val_main_v12 val_main_v11 val_main_v10 val_main_v9 val_main_v8 val_main_v7 val_main_v6 val_main_v5 val_main_v4 val_main_v3 val_main_v2 val_main_v1 val_main_v0 val_main_cst_1 val_main_cst_0 val_main_cst
  pointwise
  unfold nrm
  rfl

/-- The reference makes the normed rows twice, alike. -/
theorem ref_nrm2 : val_main_v27 (F := Ideal) x0 x1 = val_main_v12 (F := Ideal) x0 x1 := rfl

/-- The gate product. -/
theorem ref_up1 (i : S8192x2816.Idx) : (val_main_v13 (F := Ideal) x0 x1 x2 : S8192x2816.Idx → EReal) i = up x0 x1 x2 (i 0) (i 1) := by
  have h := ref_nrm x0 x1
  unfold val_main_v13
  generalize val_main_v12 (F := Ideal) x0 x1 = N at h
  pointwise
  unfold up
  exact Finset.sum_congr rfl fun k _ => congrArg (fun z : EReal => z * _) (h (i 0) k)

/-- The up product. -/
theorem ref_up3 (i : S8192x2816.Idx) : (val_main_v14 (F := Ideal) x0 x1 x3 : S8192x2816.Idx → EReal) i = up x0 x1 x3 (i 0) (i 1) :=
  ref_up1 x0 x1 x3 i

/-- The gated activation. -/
theorem ref_act (i : S8192x2816.Idx) : (val_main_v39 (F := Ideal) x0 x1 x2 x3 : S8192x2816.Idx → EReal) i = act x0 x1 x2 x3 (i 0) (i 1) := by
  have h1 := ref_up1 x0 x1 x2 i
  have h3 := ref_up3 x0 x1 x3 i
  unfold val_main_v39 val_main_v38 val_main_call1_v5 val_main_call1_v4 val_main_call1_v3 val_main_call1_v2 val_main_call1_v1 val_main_call1_v0 val_main_call1_cst val_main_call1_cst_0
  generalize val_main_v13 (F := Ideal) x0 x1 x2 = A at h1
  generalize val_main_v14 (F := Ideal) x0 x1 x3 = B at h3
  pointwise
  unfold act gate
  rw [← h1, ← h3, zero_sub]
  try rfl

/-- The gated activation, as the product with the down weight uses it. -/
theorem ref_act2 : val_main_v31 (F := Ideal) x0 x1 x2 x3 = val_main_v39 (F := Ideal) x0 x1 x2 x3 := rfl

/-- The layer output at row `r`, column `j`. -/
theorem ref_out (r : Fin 8192) (j : Fin 1024) :
    (val_main_v35 (F := Ideal) x0 x1 x2 x3 x4 : S8192x1024.Idx → EReal) (ix2 r j) = hOut x0 x1 x2 x3 x4 r j := by
  have h := ref_act x0 x1 x2 x3
  unfold val_main_v35 val_main_v34 val_main_v33 val_main_v32 val_main_cst_5
  rw [ref_act2]
  generalize val_main_v39 (F := Ideal) x0 x1 x2 x3 = T at h
  pointwise
  unfold hOut down
  have e : (∑ q : Fin 2816, (T (ix2 r q) : EReal) * x4 (ix2 q j)) = ∑ q : Fin 2816, act x0 x1 x2 x3 r q * x4 (ix2 q j) :=
    Finset.sum_congr rfl fun q _ => congrArg (fun z : EReal => z * _) (h (ix2 r q))
  rw [← e]

variable (m : (ℓ : Loc nD τ sig) → Buf (Elt Ideal) ℓ) (c : Dev nD)

/-- The kernel's layer output array is the reference's. -/
theorem G5_eq : Value.G5 m c = val_main_v35 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  funext i
  refine (G5_apply m c i).trans ?_
  refine (ref_out _ _ _ _ _ (i 0) (i 1)).symm.trans ?_
  exact congrArg _ (ix2_eta i)

/-- The kernel's gate array is the reference's. -/
theorem G6_eq : Value.G6 m c = val_main_v36 (F := Ideal) (m ((c : Thread nD τ).loc main_arg0)) (m ((c : Thread nD τ).loc main_arg1))
    (m ((c : Thread nD τ).loc main_arg2)) := by
  funext i
  exact (G6_apply m c i).trans (ref_up1 _ _ _ i).symm

/-- The kernel's up array is the reference's. -/
theorem G7_eq : Value.G7 m c = val_main_v37 (F := Ideal) (m ((c : Thread nD τ).loc main_arg0)) (m ((c : Thread nD τ).loc main_arg1))
    (m ((c : Thread nD τ).loc main_arg3)) := by
  funext i
  exact (G7_apply m c i).trans (ref_up3 _ _ _ i).symm

/-- The kernel's activation array is the reference's. -/
theorem G8_eq : Value.G8 m c = val_main_v40 (F := Ideal) (m ((c : Thread nD τ).loc main_arg0)) (m ((c : Thread nD τ).loc main_arg1))
    (m ((c : Thread nD τ).loc main_arg2)) (m ((c : Thread nD τ).loc main_arg3)) := by
  funext i
  exact (G8_apply m c i).trans (ref_act _ _ _ _ i).symm

end Cert.Kernel3Ideal.W
-- ==== Proof.FClaim.lean ====
/- The feed-forward kernel and its reference leave equal results: the value claim of the third pair of programs. -/
module

public import proofs.«01_k».proof.Defs
public import proofs.«01_k».proof.Proof.FRef

@[expose] public section

noncomputable section

namespace Cert.Kernel3Ideal.W

open Idealize.ShloMosaic Idealize.ShloMosaic.TcCoe Cert.Kernel3Ideal.Gen

/-- On equal arguments the kernel and the reference end with equal outputs, gates, ups and activations, and unchanged
    arguments. -/
theorem algebraic : Cert.algebraic_Kernel3Ideal_Reference3Ideal := by
  intro m g m' g' _ h
  refine ⟨fun c => Value.G5 m c, fun c => Value.G6 m c, fun c => Value.G7 m c, fun c => Value.G8 m c, Value.run m g, ?_⟩
  refine (θ_run Cert.Reference3Ideal.defs _ _).mono (fun r hr c => ?_) (Cert.Reference3Ideal.Value.run m' g')
  obtain ⟨h0, h1, h2, h3, h4⟩ := h c
  obtain ⟨r5, r6, r7, r8, rest⟩ := hr c
  refine ⟨r5.trans ?_, r6.trans ?_, r7.trans ?_, r8.trans ?_, rest⟩
  · rw [h0, h1, h2, h3, h4]
    exact (Cert.Reference3Ideal.Read.val_main_v35_eq _ _ _ _ _).trans (G5_eq m c).symm
  · rw [h0, h1, h2]
    exact (Cert.Reference3Ideal.Read.val_main_v36_eq _ _ _).trans (G6_eq m c).symm
  · rw [h0, h1, h3]
    exact (Cert.Reference3Ideal.Read.val_main_v37_eq _ _ _).trans (G7_eq m c).symm
  · rw [h0, h1, h2, h3]
    exact (Cert.Reference3Ideal.Read.val_main_v40_eq _ _ _ _).trans (G8_eq m c).symm

end Cert.Kernel3Ideal.W
-- ==== Proof.PBlock.lean ====
/-
What one grid point of the input projection's backward kernel computes from the blocks before it: the gradients of its
normed rows, the gradients of its input rows, and what it adds to the gain gradient and to the weight gradient.
-/
module

public import proofs.«01_k».proof.Proof.ABlock
public import proofs.«01_k».proof.Proof.Gen.Kernel4Ideal.Frame

@[expose] public section

set_option maxRecDepth 16384

noncomputable section

namespace Cert.Kernel4Ideal.P

open Idealize.ShloMosaic Idealize.ShloMosaic.TcCoe Cert.Kernel4Ideal.Gen
open Cert.KernelIdeal.A (rowScale normed inGrad)

variable (m : (ℓ : Loc nD τ sig) → Buf (Elt Ideal) ℓ)

/-- The gradients of a block of normed rows: the two parts of the projection's gradients, each against its part of the
    weight. -/
def dnBlock (U : Vec Ideal S512x768 .bf16) (H : Vec Ideal S512x896 .bf16) (W : Vec Ideal S1664x1024 .bf16) (p : Fin 512) (j : Fin 1024) : EReal :=
  (∑ k : Fin 768, U (ix2 p k) * W (ix2 ⟨k.val, by omega⟩ j)) + ∑ k : Fin 896, H (ix2 p k) * W (ix2 ⟨768 + k.val, by omega⟩ j)

/-- A part of the weight block, by rows. -/
theorem ldRows {φ : EltTy} (W : Vec Ideal S1664x1024 φ) (o n : ℕ) (inb) (ho : o + n ≤ 1664) (x : (Shape.mk 2 ![n, 1024] : Shape).Idx) :
    View.ld W (Rect.unit ![o, 0] ![n, 1024] inb) x = W (ix2 ⟨o + (x 0).val, by have : (x 0).val < n := (x 0).isLt; omega⟩ (x 1)) := by
  refine View.ld_unit_apply_of W _ _ _ x _ fun a => ?_
  match a with
  | ⟨0, _⟩ => rfl
  | ⟨1, _⟩ => exact (Nat.zero_add _).symm

/-- The two products the body adds are the gradients of the normed rows. -/
theorem pay10 (U : Vec Ideal S512x768 .bf16) (H : Vec Ideal S512x896 .bf16) (W : Vec Ideal S1664x1024 .bf16) (x : S512x1024.Idx) :
    (k0_pay10 U H (View.ld W (Rect.unit ![0, 0] ![768, 1024] inb_S1664x1024_S768x1024_0_0))
      (View.ld W (Rect.unit ![768, 0] ![896, 1024] inb_S1664x1024_S896x1024_768_0)) : Vec Ideal S512x1024 .f32) x
      = dnBlock U H W (x 0) (x 1) := by
  have hA := fun k => ldRows W 0 768 inb_S1664x1024_S768x1024_0_0 (by decide) (ix2 k (x 1))
  have hB := fun k => ldRows W 768 896 inb_S1664x1024_S896x1024_768_0 (by decide) (ix2 k (x 1))
  generalize View.ld W (Rect.unit ![0, 0] ![768, 1024] inb_S1664x1024_S768x1024_0_0) = A at hA ⊢
  generalize View.ld W (Rect.unit ![768, 0] ![896, 1024] inb_S1664x1024_S896x1024_768_0) = B at hB ⊢
  unfold k0_pay10 k0_pay7 k0_pay8
  pointwise
  refine congrArg₂ (fun y z : EReal => y + z) (Finset.sum_congr rfl fun k _ => ?_) (Finset.sum_congr rfl fun k _ => ?_)
  · refine congrArg (fun z : EReal => U (ix2 (x 0) k) * z) ((hA k).trans (congrArg (fun i => W (ix2 i (x 1))) (Fin.ext (Nat.zero_add _))))
  · exact congrArg (fun z : EReal => H (ix2 (x 0) k) * z) (hB k)

/-- The input gradient a point stores. -/
theorem pay3 (D X : Vec Ideal S512x1024 .f32) (G : Vec Ideal S1x1024 .f32) (E : Vec Ideal S512x1024 .f32) (y : S512x1024.Idx) :
    (k0_pay3 D X (k0_pay13 X) G E : Vec Ideal S512x1024 .f32) y
      = inGrad (fun k => X (ix2 (y 0) k)) (fun k => D (ix2 (y 0) k)) (fun k => G (ix2 0 k)) (E y) (y 1) := by
  obtain ⟨p, q, rfl⟩ : ∃ p q, y = ix2 p q := ⟨y 0, y 1, eq_ix2 y⟩
  unfold k0_pay3 k0_pay2 k0_pay1 k0_pay13
  pointwise
  rfl

/-- What a point adds to the gain gradient: the gradients of the normed rows against the rows before scaling, summed over
    the block's rows. -/
def gainAdd (D X : Vec Ideal S512x1024 .f32) (q : Fin 1024) : EReal :=
  ∑ p : Fin 512, D (ix2 p q) * (X (ix2 p q) * rowScale (fun k => X (ix2 p k)))

/-- The gain gradient a point stores. -/
theorem pay4 (D X : Vec Ideal S512x1024 .f32) (g : Vec Ideal S1x1024 .f32) (y : S1x1024.Idx) :
    (k0_pay4 D X (k0_pay13 X) g : Vec Ideal S1x1024 .f32) y = g y + gainAdd D X (y 1) := by
  unfold k0_pay4 k0_pay2 k0_pay1 k0_pay13
  pointwise
  rfl

/-- The zero row the gain gradient starts from. -/
theorem pay5 (y : S1x1024.Idx) : k0_pay5 (F := Ideal) y = 0 := by
  unfold k0_pay5
  pointwise

/-- The zero block the weight gradient starts from. -/
theorem pay6 (y : S1664x1024.Idx) : k0_pay6 (F := Ideal) y = 0 := by
  unfold k0_pay6
  pointwise

/-- The first part of the weight gradient a point stores. -/
theorem pay11 (U : Vec Ideal S512x768 .bf16) (N : Vec Ideal S512x1024 .bf16) (v : Vec Ideal S768x1024 .f32) (x : S768x1024.Idx) :
    (k0_pay11 U N v : Vec Ideal S768x1024 .f32) x = v x + ∑ p : Fin 512, U (ix2 p (x 0)) * N (ix2 p (x 1)) := by
  unfold k0_pay11 k0_pay7 k0_pay9
  pointwise

/-- The second part of the weight gradient a point stores. -/
theorem pay12 (H : Vec Ideal S512x896 .bf16) (N : Vec Ideal S512x1024 .bf16) (v : Vec Ideal S896x1024 .f32) (x : S896x1024.Idx) :
    (k0_pay12 H N v : Vec Ideal S896x1024 .f32) x = v x + ∑ p : Fin 512, H (ix2 p (x 0)) * N (ix2 p (x 1)) := by
  unfold k0_pay12 k0_pay8 k0_pay9
  pointwise

/-- Row `q` of the projection's gradients of a block, in the two parts side by side. -/
def side (U : Vec Ideal S512x768 .bf16) (H : Vec Ideal S512x896 .bf16) (p : Fin 512) (q : Fin 1664) : EReal :=
  if h : q.val < 768 then U (ix2 p ⟨q.val, h⟩) else H (ix2 p ⟨q.val - 768, by omega⟩)

/-- What a point adds to the weight gradient: the projection's gradients against the normed rows, summed over the block's
    rows. -/
def wAdd (U : Vec Ideal S512x768 .bf16) (H : Vec Ideal S512x896 .bf16) (N : Vec Ideal S512x1024 .bf16) (y : S1664x1024.Idx) : EReal :=
  ∑ p : Fin 512, side U H p (y 0) * N (ix2 p (y 1))

/-- The two stores of a point, over a weight gradient that held `X`, leave `X` and the point's addend. -/
theorem stores_eq (X : Vec Ideal S1664x1024 .f32) (U : Vec Ideal S512x768 .bf16) (H : Vec Ideal S512x896 .bf16) (N : Vec Ideal S512x1024 .bf16)
    (L : List (View.Piece (Elt Ideal) S1664x1024 .f32)) (y : S1664x1024.Idx) :
    View.canon ([⟨Rect.unit ![768, 0] ![896, 1024] inb_S1664x1024_S896x1024_768_0,
          k0_pay12 H N (View.ld X (Rect.unit ![768, 0] ![896, 1024] inb_S1664x1024_S896x1024_768_0))⟩,
        ⟨Rect.unit ![0, 0] ![768, 1024] inb_S1664x1024_S768x1024_0_0,
          k0_pay11 U N (View.ld X (Rect.unit ![0, 0] ![768, 1024] inb_S1664x1024_S768x1024_0_0))⟩] ++ L) y
      = X y + wAdd U H N y := by
  refine View.canon_append_of_piecesOf (fun y => X y + wAdd U H N y) L _ ?_ y ?_
  rotate_left
  · exact View.cover_of_tiledBy (s := S1664x1024) _ ![128, 1024] (by sl_kernel_rfl) y
  refine ⟨fun x => ?_, fun x => ?_, trivial⟩
  · refine (pay12 H N _ x).trans (congrArg₂ (· + ·) rfl (Finset.sum_congr rfl fun p _ => ?_))
    have e0 : ((Rect.unit (s := S1664x1024) ![768, 0] ![896, 1024] inb_S1664x1024_S896x1024_768_0).emb x 0).val = 768 + (x 0).val := Rect.idx_unit_val _ _ _ x 0
    have e1 : ((Rect.unit (s := S1664x1024) ![768, 0] ![896, 1024] inb_S1664x1024_S896x1024_768_0).emb x 1).val = 0 + (x 1).val := Rect.idx_unit_val _ _ _ x 1
    unfold side
    rw [dif_neg (by rw [e0]; omega)]
    refine congrArg₂ (fun i j => H (ix2 p i) * N (ix2 p j)) (Fin.ext ?_) (Fin.ext ?_)
    · show (x 0).val = _ - 768
      rw [e0]; omega
    · rw [e1]; omega
  · refine (pay11 U N _ x).trans (congrArg₂ (· + ·) rfl (Finset.sum_congr rfl fun p _ => ?_))
    have hx : (x 0).val < 768 := (x 0).isLt
    have e0 : ((Rect.unit (s := S1664x1024) ![0, 0] ![768, 1024] inb_S1664x1024_S768x1024_0_0).emb x 0).val = 0 + (x 0).val := Rect.idx_unit_val _ _ _ x 0
    have e1 : ((Rect.unit (s := S1664x1024) ![0, 0] ![768, 1024] inb_S1664x1024_S768x1024_0_0).emb x 1).val = 0 + (x 1).val := Rect.idx_unit_val _ _ _ x 1
    unfold side
    rw [dif_pos (by rw [e0]; omega)]
    refine congrArg₂ (fun i j => U (ix2 p i) * N (ix2 p j)) (Fin.ext ?_) (Fin.ext ?_)
    · show (x 0).val = _
      rw [e0]; omega
    · rw [e1]; omega

/-- The gradients of the normed rows of point `t`. -/
def dnAt (c : Dev nD) (t : Fin cfg0.N) : Vec Ideal S512x1024 .f32 := fun x =>
  dnBlock (iblk m c 0 t) (iblk m c 1 t) (iblk m c 6 t) (x 0) (x 1)

/-- What the body computes first at point `t`, from whole blocks. -/
theorem dn_eq (c : Dev nD) (t : Fin cfg0.N) :
    (k0_pay10 (iblk m c 0 t) (iblk m c 1 t) (View.ld (iblk m c 6 t) (Rect.unit ![0, 0] ![768, 1024] inb_S1664x1024_S768x1024_0_0))
      (View.ld (iblk m c 6 t) (Rect.unit ![768, 0] ![896, 1024] inb_S1664x1024_S896x1024_768_0)) : Vec Ideal S512x1024 .f32) = dnAt m c t :=
  funext fun x => pay10 (iblk m c 0 t) (iblk m c 1 t) (iblk m c 6 t) x

/-- Every point leaves the gradients of its input rows in the first output's block. -/
theorem step_in (c : Dev nD) (t : Fin cfg0.N) (y : S512x1024.Idx) :
    (outsAt0 m c t.val t.isLt).1 y = inGrad (fun k => (iblk m c 2 t : Vec Ideal S512x1024 .f32) (ix2 (y 0) k)) (fun k => dnAt m c t (ix2 (y 0) k))
      (fun k => (iblk m c 4 t : Vec Ideal S1x1024 .f32) (ix2 0 k)) ((iblk m c 3 t : Vec Ideal S512x1024 .f32) y) (y 1) := by
  by_cases h0 : t.val % 16 = 0
  · rw [outsAt0_A m c t h0]
    frame_out
    exact (congrArg (fun D : FVec Ideal S512x1024 .f32 => k0_pay3 D (iblk m c 2 t) (k0_pay13 (iblk m c 2 t)) (iblk m c 4 t) (iblk m c 3 t) y) (dn_eq m c t)).trans
      (pay3 (dnAt m c t) (iblk m c 2 t) (iblk m c 4 t) (iblk m c 3 t) y)
  · rw [outsAt0_B m c t h0]
    frame_out
    exact (congrArg (fun D : FVec Ideal S512x1024 .f32 => k0_pay3 D (iblk m c 2 t) (k0_pay13 (iblk m c 2 t)) (iblk m c 4 t) (iblk m c 3 t) y) (dn_eq m c t)).trans
      (pay3 (dnAt m c t) (iblk m c 2 t) (iblk m c 4 t) (iblk m c 3 t) y)

/-- The first point leaves its own addend in the gain gradient. -/
theorem gain_reset (c : Dev nD) (t : Fin cfg0.N) (h0 : t.val % 16 = 0) (y : S1x1024.Idx) :
    (outsAt0 m c t.val t.isLt).2.1 y = 0 + gainAdd (dnAt m c t) (iblk m c 2 t) (y 1) := by
  rw [outsAt0_A m c t h0]
  frame_out
  exact (congrArg (fun D : FVec Ideal S512x1024 .f32 => k0_pay4 D (iblk m c 2 t) (k0_pay13 (iblk m c 2 t)) (k0_pay5 (F := Ideal)) y) (dn_eq m c t)).trans
    ((pay4 (dnAt m c t) (iblk m c 2 t) (k0_pay5 (F := Ideal)) y).trans (congrArg (· + _) (pay5 y)))

/-- Every other point adds its addend to the gain gradient the point before left. -/
theorem gain_add (c : Dev nD) (t : Fin cfg0.N) (h0 : ¬t.val % 16 = 0) (y : S1x1024.Idx) :
    (outsAt0 m c t.val t.isLt).2.1 y = (outsAt0 m c (t.val - 1) (Nat.lt_of_le_of_lt (Nat.sub_le _ _) t.isLt)).2.1 y
      + gainAdd (dnAt m c t) (iblk m c 2 t) (y 1) := by
  rw [outsAt0_B m c t h0]
  frame_out
  exact (congrArg (fun D : FVec Ideal S512x1024 .f32 => k0_pay4 D (iblk m c 2 t) (k0_pay13 (iblk m c 2 t)) _ y) (dn_eq m c t)).trans
    (pay4 (dnAt m c t) (iblk m c 2 t) _ y)

/-- The first point leaves its own addend in the weight gradient. -/
theorem w_reset (c : Dev nD) (t : Fin cfg0.N) (h0 : t.val % 16 = 0) (y : S1664x1024.Idx) :
    (outsAt0 m c t.val t.isLt).2.2 y = 0 + wAdd (iblk m c 0 t) (iblk m c 1 t) (iblk m c 5 t) y := by
  rw [outsAt0_A m c t h0]
  frame_out
  simp (disch := first | decide | (intro a; fin_cases a <;> rfl)) only [↓View.readCov_skip, ↓View.readCov_fill]
  exact (stores_eq (k0_pay6 (F := Ideal)) _ _ _ [_] y).trans (congrArg (· + _) (pay6 y))

/-- Every other point adds its addend to the weight gradient the point before left. -/
theorem w_add (c : Dev nD) (t : Fin cfg0.N) (h0 : ¬t.val % 16 = 0) (y : S1664x1024.Idx) :
    (outsAt0 m c t.val t.isLt).2.2 y = (outsAt0 m c (t.val - 1) (Nat.lt_of_le_of_lt (Nat.sub_le _ _) t.isLt)).2.2 y
      + wAdd (iblk m c 0 t) (iblk m c 1 t) (iblk m c 5 t) y := by
  rw [outsAt0_B m c t h0]
  frame_out
  exact stores_eq _ _ _ _ [] y

end Cert.Kernel4Ideal.P

end
-- ==== Proof.PHost.lean ====
/-
What the backward input-projection kernel's operand blocks hold at each grid point, in terms of the program's arguments.
-/
module

public import proofs.«01_k».proof.Proof.PBlock
public import Idealize.ShloMosaic.Lib.StableHlo.RunRead

@[expose] public section

set_option maxRecDepth 16384

noncomputable section

namespace Cert.Kernel4Ideal.P

open Idealize.ShloMosaic Idealize.ShloMosaic.TcCoe Idealize.ShloMosaic.StableHlo Cert.Kernel4Ideal.Gen
open Cert.KernelIdeal.A (rowScale normed)

/-- The normed rows. -/
def nrm (X : S8192x1024.Idx → EReal) (G : S1024.Idx → EReal) (r : Fin 8192) (k : Fin 1024) : EReal :=
  normed (fun k => X (ix2 r k)) (fun k => G (ix1 k)) k

variable (m : (ℓ : Loc nD τ sig) → Buf (Elt Ideal) ℓ) (c : Dev nD)

/-- The input rows. -/
def argX : S8192x1024.Idx → EReal := m ((c : Thread nD τ).loc main_arg0)
/-- The gain vector. -/
def argG : S1024.Idx → EReal := m ((c : Thread nD τ).loc main_arg1)
/-- The weight. -/
def argW : S1024x1664.Idx → EReal := m ((c : Thread nD τ).loc main_arg2)
/-- The gradients of the projection. -/
def argD : S8192x1664.Idx → EReal := m ((c : Thread nD τ).loc main_arg3)
/-- The gradients the input rows already have. -/
def argE : S8192x1024.Idx → EReal := m ((c : Thread nD τ).loc main_arg4)

/-- The weight operand is the weight turned over. -/
theorem v20_at (q : Fin 1664) (k : Fin 1024) : (Gen.V m c main_v20 : S1664x1024.Idx → EReal) (ix2 q k) = argW m c (ix2 k q) := by
  have e : Gen.V m c main_v20 = truncf (F := Ideal) .bf16 (transpose S1664x1024 [1, 0] (m ((c : Thread nD τ).loc main_arg2) : (⟨S1024x1664, .f32⟩ : BufTy).Contents (Elt Ideal)) transposes_S1024x1664_S1664x1024_1_0) bitsLt_bf16_f32 := by
    unfold Gen.V
    simp only [hostOps0, List.flatten, List.cons_append, List.nil_append, List.append_nil, TRef.binary, TRef.nullary,
      TRef.unary, TRef.toBuf, TRef.ofBuf, cast_eq]
    after_reads_simp
  rw [e]
  pointwise
  rfl

/-- The gain operand is the gain vector as one row. -/
theorem v18_at (k : Fin 1024) : (Gen.V m c main_v18 : S1x1024.Idx → EReal) (ix2 0 k) = argG m c (ix1 k) := by
  have e : Gen.V m c main_v18 = broadcastInDim S1x1024 ![1] bcast_S1024_S1x1024_1 (m ((c : Thread nD τ).loc main_arg1)) := by
    unfold Gen.V
    simp only [hostOps0, List.flatten, List.cons_append, List.nil_append, List.append_nil, TRef.binary, TRef.nullary,
      TRef.unary, TRef.toBuf, TRef.ofBuf, cast_eq]
    after_reads_simp
  rw [e]
  pointwise
  rfl

/-- The first gradient operand is the first 768 columns of the projection's gradients. -/
theorem v15_at (r : Fin 8192) (k : Fin 768) : (Gen.V m c main_v15 : S8192x768.Idx → EReal) (ix2 r k) = argD m c (ix2 r ⟨k.val, by omega⟩) := by
  have e : Gen.V m c main_v15 = truncf (F := Ideal) .bf16 (extractStridedSlice S8192x768 ![0, 0] (m ((c : Thread nD τ).loc main_arg3) : (⟨S8192x1664, .f32⟩ : BufTy).Contents (Elt Ideal)) slices_S8192x1664_S8192x768_0_0) bitsLt_bf16_f32 := by
    unfold Gen.V
    simp only [hostOps0, List.flatten, List.cons_append, List.nil_append, List.append_nil, TRef.binary, TRef.nullary,
      TRef.unary, TRef.toBuf, TRef.ofBuf, cast_eq]
    after_reads_simp
  rw [e]
  pointwise
  rfl

/-- The second gradient operand is the other 896 columns of the projection's gradients. -/
theorem v17_at (r : Fin 8192) (k : Fin 896) : (Gen.V m c main_v17 : S8192x896.Idx → EReal) (ix2 r k) = argD m c (ix2 r ⟨768 + k.val, by omega⟩) := by
  have e : Gen.V m c main_v17 = truncf (F := Ideal) .bf16 (extractStridedSlice S8192x896 ![0, 768] (m ((c : Thread nD τ).loc main_arg3) : (⟨S8192x1664, .f32⟩ : BufTy).Contents (Elt Ideal)) slices_S8192x1664_S8192x896_0_768) bitsLt_bf16_f32 := by
    unfold Gen.V
    simp only [hostOps0, List.flatten, List.cons_append, List.nil_append, List.append_nil, TRef.binary, TRef.nullary,
      TRef.unary, TRef.toBuf, TRef.ofBuf, cast_eq]
    after_reads_simp
  rw [e]
  pointwise
  rfl

/-- The operand of normed rows holds them. -/
theorem v13_at (r : Fin 8192) (k : Fin 1024) : (Gen.V m c main_v13 : S8192x1024.Idx → EReal) (ix2 r k) = nrm (argX m c) (argG m c) r k := by
  unfold Gen.V
  simp only [hostOps0, List.flatten, List.cons_append, List.nil_append, List.append_nil, TRef.binary, TRef.nullary,
    TRef.unary, TRef.toBuf, TRef.ofBuf, cast_eq]
  after_reads_simp
  pointwise
  unfold nrm normed rowScale
  rfl

/-- The blocks point `t` takes: its own rows of the gradients, of the input and of the normed rows, the whole gain and the
    whole weight. -/
theorem idx_at : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

/-- The first part of the projection's gradients at point `t`. -/
theorem blk0 (t : Fin cfg0.N) (p : Fin 512) (k : Fin 768) (r : Fin 8192) (hr : r.val = t.val * 512 + p.val) :
    (iblk m c 0 t : Vec Ideal S512x768 .bf16) (ix2 p k) = argD m c (ix2 r ⟨k.val, by omega⟩) := by
  obtain ⟨e, -⟩ := idx_at t
  have h : (iblk m c 0 t : Vec Ideal S512x768 .bf16) (ix2 p k) = (V m c main_v15 : Vec Ideal S8192x768 .bf16) (ix2 r k) := by
    blk_ext [iblk, V, e]
  exact h.trans (v15_at m c r k)

/-- The second part of the projection's gradients at point `t`. -/
theorem blk1 (t : Fin cfg0.N) (p : Fin 512) (k : Fin 896) (r : Fin 8192) (hr : r.val = t.val * 512 + p.val) :
    (iblk m c 1 t : Vec Ideal S512x896 .bf16) (ix2 p k) = argD m c (ix2 r ⟨768 + k.val, by omega⟩) := by
  obtain ⟨-, e, -⟩ := idx_at t
  have h : (iblk m c 1 t : Vec Ideal S512x896 .bf16) (ix2 p k) = (V m c main_v17 : Vec Ideal S8192x896 .bf16) (ix2 r k) := by
    blk_ext [iblk, V, e]
  exact h.trans (v17_at m c r k)

/-- The input rows at point `t`. -/
theorem blk2 (t : Fin cfg0.N) (p : Fin 512) (k : Fin 1024) (r : Fin 8192) (hr : r.val = t.val * 512 + p.val) :
    (iblk m c 2 t : Vec Ideal S512x1024 .f32) (ix2 p k) = argX m c (ix2 r k) := by
  obtain ⟨-, -, e, -⟩ := idx_at t
  have h : (iblk m c 2 t : Vec Ideal S512x1024 .f32) (ix2 p k) = (V m c main_arg0 : Vec Ideal S8192x1024 .f32) (ix2 r k) := by
    blk_ext [iblk, V, e]
  rw [h, V_main_arg0]
  rfl

/-- The gradients the input rows already have, at point `t`. -/
theorem blk3 (t : Fin cfg0.N) (p : Fin 512) (k : Fin 1024) (r : Fin 8192) (hr : r.val = t.val * 512 + p.val) :
    (iblk m c 3 t : Vec Ideal S512x1024 .f32) (ix2 p k) = argE m c (ix2 r k) := by
  obtain ⟨-, -, -, e, -⟩ := idx_at t
  have h : (iblk m c 3 t : Vec Ideal S512x1024 .f32) (ix2 p k) = (V m c main_arg4 : Vec Ideal S8192x1024 .f32) (ix2 r k) := by
    blk_ext [iblk, V, e]
  rw [h, V_main_arg4]
  rfl

/-- The gain row at point `t`. -/
theorem blk4 (t : Fin cfg0.N) (k : Fin 1024) : (iblk m c 4 t : Vec Ideal S1x1024 .f32) (ix2 0 k) = argG m c (ix1 k) := by
  obtain ⟨-, -, -, -, e, -⟩ := idx_at t
  have h : (iblk m c 4 t : Vec Ideal S1x1024 .f32) (ix2 0 k) = (V m c main_v18 : Vec Ideal S1x1024 .f32) (ix2 0 k) := by
    blk_ext [iblk, V, e]
  exact h.trans (v18_at m c k)

/-- The normed rows at point `t`. -/
theorem blk5 (t : Fin cfg0.N) (p : Fin 512) (k : Fin 1024) (r : Fin 8192) (hr : r.val = t.val * 512 + p.val) :
    (iblk m c 5 t : Vec Ideal S512x1024 .bf16) (ix2 p k) = nrm (argX m c) (argG m c) r k := by
  obtain ⟨-, -, -, -, -, e, -⟩ := idx_at t
  have h : (iblk m c 5 t : Vec Ideal S512x1024 .bf16) (ix2 p k) = (V m c main_v13 : Vec Ideal S8192x1024 .bf16) (ix2 r k) := by
    blk_ext [iblk, V, e]
  exact h.trans (v13_at m c r k)

/-- The weight block at point `t`. -/
theorem blk6 (t : Fin cfg0.N) (q : Fin 1664) (k : Fin 1024) :
    (iblk m c 6 t : Vec Ideal S1664x1024 .bf16) (ix2 q k) = argW m c (ix2 k q) := by
  obtain ⟨-, -, -, -, -, -, e⟩ := idx_at t
  have h : (iblk m c 6 t : Vec Ideal S1664x1024 .bf16) (ix2 q k) = (V m c main_v20 : Vec Ideal S1664x1024 .bf16) (ix2 q k) := by
    blk_ext [iblk, V, e]
  exact h.trans (v20_at m c q k)

end Cert.Kernel4Ideal.P

end
-- ==== Proof.PValue.lean ====
/-
What the backward input-projection kernel's three output arrays hold after the run: the gradients of the input rows, of the
gain and of the weight.
-/
module

public import proofs.«01_k».proof.Proof.PHost
public import proofs.«01_k».proof.Proof.Gen.Kernel4Ideal.Value

@[expose] public section

set_option maxRecDepth 16384

noncomputable section

namespace Cert.Kernel4Ideal.P

open Idealize.ShloMosaic Idealize.ShloMosaic.TcCoe Cert.Kernel4Ideal.Gen Idealize.SL.Sem
open Cert.KernelIdeal.A (rowScale normed inGrad)

/-- The gradients of the normed rows: the projection's gradients against the weight. -/
def dnrm (D : S8192x1664.Idx → EReal) (W : S1024x1664.Idx → EReal) (r : Fin 8192) (j : Fin 1024) : EReal :=
  ∑ k : Fin 1664, D (ix2 r k) * W (ix2 j k)

/-- The gradient of the gain. -/
def gainGrad (X : S8192x1024.Idx → EReal) (D : S8192x1664.Idx → EReal) (W : S1024x1664.Idx → EReal) (j : Fin 1024) : EReal :=
  ∑ r : Fin 8192, dnrm D W r j * (X (ix2 r j) * rowScale (fun k => X (ix2 r k)))

/-- The gradient of the weight, at row `q` of the weight turned over. -/
def wGrad (X : S8192x1024.Idx → EReal) (G : S1024.Idx → EReal) (D : S8192x1664.Idx → EReal) (q : Fin 1664) (j : Fin 1024) : EReal :=
  ∑ r : Fin 8192, D (ix2 r q) * nrm X G r j

variable (m : (ℓ : Loc nD τ sig) → Buf (Elt Ideal) ℓ) (c : Dev nD)

/-- The gradients of the normed rows of point `t`: the two parts of the contraction are one. -/
theorem dn_at (t : Fin cfg0.N) (p : Fin 512) (j : Fin 1024) (r : Fin 8192) (hr : r.val = t.val * 512 + p.val) :
    dnAt m c t (ix2 p j) = dnrm (argD m c) (argW m c) r j := by
  refine Eq.trans ?_ (Fin.sum_univ_add (fun k : Fin (768 + 896) => argD m c (ix2 r k) * argW m c (ix2 j k))).symm
  exact congrArg₂ (fun y z : EReal => y + z)
    (Finset.sum_congr rfl fun k _ => congrArg₂ (fun y z : EReal => y * z) (blk0 m c t p k r hr) (blk6 m c t _ j))
    (Finset.sum_congr rfl fun k _ => congrArg₂ (fun y z : EReal => y * z) (blk1 m c t p k r hr) (blk6 m c t _ j))

/-- The projection's gradients of point `t`, in the two parts side by side. -/
theorem side_at (t : Fin cfg0.N) (p : Fin 512) (q : Fin 1664) (r : Fin 8192) (hr : r.val = t.val * 512 + p.val) :
    side (iblk m c 0 t) (iblk m c 1 t) p q = argD m c (ix2 r q) := by
  unfold side
  split_ifs with h
  · exact blk0 m c t p ⟨q.val, h⟩ r hr
  · refine (blk1 m c t p ⟨q.val - 768, by omega⟩ r hr).trans (congrArg (fun i => argD m c (ix2 r i)) (Fin.ext ?_))
    show 768 + (q.val - 768) = q.val
    omega

/-- The gain gradient after the last point. -/
theorem gain_last (t : Fin cfg0.N) (h : t.val = 15) (y : S1x1024.Idx) :
    (outsAt0 m c t.val t.isLt).2.1 y = gainGrad (argX m c) (argD m c) (argW m c) (y 1) := by
  have h3 : t.val % 16 = 15 := by omega
  rw [Pipeline.eq_sum_fin_of_reset_step_apply_of_flush (fun n h => (outsAt0 m c n h).2.1) 16 (fun _ => 0)
    (fun t y => gainAdd (dnAt m c t) (iblk m c 2 t) (y 1))
    (fun t h0 y => gain_reset m c t h0 y) (fun t h0 y => gain_add m c t h0 y) t h3 y, zero_add]
  unfold gainAdd gainGrad
  refine Fin.sum_mul_add_congr (S := 16) (n := 512) fun s p hl => ?_
  have hr : (⟨s.val * 512 + p.val, hl⟩ : Fin 8192).val = (⟨16 * (t.val / 16) + s.val, Pipeline.run_point_lt_of_flush t h3 s⟩ : Fin cfg0.N).val * 512 + p.val := by
    show s.val * 512 + p.val = (16 * (t.val / 16) + s.val) * 512 + p.val
    omega
  refine congrArg₂ (fun y z : EReal => y * z) (dn_at m c _ p (y 1) _ hr) (congrArg₂ (fun y z : EReal => y * z) (blk2 m c _ p (y 1) _ hr) ?_)
  exact congrArg rowScale (funext fun k => blk2 m c _ p k _ hr)

/-- The weight gradient after the last point. -/
theorem w_last (t : Fin cfg0.N) (h : t.val = 15) (y : S1664x1024.Idx) :
    (outsAt0 m c t.val t.isLt).2.2 y = wGrad (argX m c) (argG m c) (argD m c) (y 0) (y 1) := by
  have h3 : t.val % 16 = 15 := by omega
  rw [Pipeline.eq_sum_fin_of_reset_step_apply_of_flush (fun n h => (outsAt0 m c n h).2.2) 16 (fun _ => 0)
    (fun t y => wAdd (iblk m c 0 t) (iblk m c 1 t) (iblk m c 5 t) y)
    (fun t h0 y => w_reset m c t h0 y) (fun t h0 y => w_add m c t h0 y) t h3 y, zero_add]
  unfold wAdd wGrad
  refine Fin.sum_mul_add_congr (S := 16) (n := 512) fun s p hl => ?_
  have hr : (⟨s.val * 512 + p.val, hl⟩ : Fin 8192).val = (⟨16 * (t.val / 16) + s.val, Pipeline.run_point_lt_of_flush t h3 s⟩ : Fin cfg0.N).val * 512 + p.val := by
    show s.val * 512 + p.val = (16 * (t.val / 16) + s.val) * 512 + p.val
    omega
  exact congrArg₂ (fun y z : EReal => y * z) (side_at m c _ p (y 0) _ hr) (blk5 m c _ p (y 1) _ hr)

/-- The gradients of the input rows, as an array. -/
def G7 : Buf (Elt Ideal) ((c : Thread nD τ).loc main_v21_0) := fun i : S8192x1024.Idx =>
  (inGrad (fun k => argX m c (ix2 (i 0) k)) (dnrm (argD m c) (argW m c) (i 0)) (fun k => argG m c (ix1 k)) (argE m c (ix2 (i 0) (i 1))) (i 1) : EReal)

/-- The gradient of the gain, as an array. -/
def G8 : Buf (Elt Ideal) ((c : Thread nD τ).loc main_v21_1) := fun i : S1x1024.Idx => (gainGrad (argX m c) (argD m c) (argW m c) (i 1) : EReal)

/-- The gradient of the weight, as an array. -/
def G9 : Buf (Elt Ideal) ((c : Thread nD τ).loc main_v21_2) := fun i : S1664x1024.Idx => (wGrad (argX m c) (argG m c) (argD m c) (i 0) (i 1) : EReal)

/-- The blocks point `t` writes: its own rows of the input gradients, the whole gain gradient and the whole weight
    gradient. -/
theorem out_at : ∀ t : Fin cfg0.N, win0_7.index t = ![t.val, 0] ∧ win0_8.index t = ![0, 0] ∧ win0_9.index t = ![0, 0] :=
  (by decide +kernel : ∀ t : Fin grid0.N, _)

/-- Every point writes its input gradients back. -/
theorem flush7 : ∀ t : Fin cfg0.N, (cfg0.win 7).flush t = true :=
  (by decide +kernel : ∀ t : Fin grid0.N, _)

/-- The last point alone writes the gain gradient back. -/
theorem flush8 : ∀ t : Fin cfg0.N, (cfg0.win 8).flush t = true ↔ t.val = 15 :=
  (by decide +kernel : ∀ t : Fin grid0.N, win0_8.flush t = true ↔ t.val = 15)

/-- The last point alone writes the weight gradient back. -/
theorem flush9 : ∀ t : Fin cfg0.N, (cfg0.win 9).flush t = true ↔ t.val = 15 :=
  (by decide +kernel : ∀ t : Fin grid0.N, win0_9.flush t = true ↔ t.val = 15)

/-- The input gradients after the run. -/
theorem final7 : (dats m 0 c).arrAt 7 cfg0.N = G7 m c := by
  funext i
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by omega⟩, rfl⟩
  have e : win0_7.index t = ![t.val, 0] := (out_at t).1
  have e0 : win0_7.index t (0 : Fin 2) = t.val := congrFun e 0
  have e1 : win0_7.index t (1 : Fin 2) = 0 := congrFun e 1
  have hb := congrFun (Value.blocks7 m c t (flush7 t)) (ix2 ⟨(i 0).val % 512, Nat.mod_lt _ (by decide)⟩ ⟨(i 1).val, hi1⟩ : S512x1024.Idx)
  have hemb : ((cfg0.win 7).blk t).view.emb (ix2 ⟨(i 0).val % 512, Nat.mod_lt _ (by decide)⟩ ⟨(i 1).val, hi1⟩ : S512x1024.Idx) = i := by
    funext a
    match a with
    | ⟨0, _⟩ => exact Fin.ext (by show win0_7.index t (0 : Fin 2) * 512 + 1 * ((i 0).val % 512) = (i 0).val; omega)
    | ⟨1, _⟩ => exact Fin.ext (by show win0_7.index t (1 : Fin 2) * 1024 + 1 * (i 1).val = (i 1).val; omega)
  have hl : (dats m 0 c).arrAt 7 cfg0.N (((cfg0.win 7).blk t).view.emb (ix2 ⟨(i 0).val % 512, Nat.mod_lt _ (by decide)⟩ ⟨(i 1).val, hi1⟩ : S512x1024.Idx)) = _ := hb
  rw [hemb, Value.flushed7] at hl
  refine hl.trans ?_
  have hr : (i 0).val = t.val * 512 + (i 0).val % 512 := by omega
  refine (step_in m c t (ix2 ⟨(i 0).val % 512, Nat.mod_lt _ (by decide)⟩ ⟨(i 1).val, hi1⟩)).trans ?_
  have q1 : (fun k => (iblk m c 2 t : Vec Ideal S512x1024 .f32) (ix2 ⟨(i 0).val % 512, Nat.mod_lt _ (by decide)⟩ k)) = fun k => argX m c (ix2 (i 0) k) :=
    funext fun k => blk2 m c t _ k (i 0) hr
  have q2 : (fun k => dnAt m c t (ix2 ⟨(i 0).val % 512, Nat.mod_lt _ (by decide)⟩ k)) = dnrm (argD m c) (argW m c) (i 0) :=
    funext fun k => dn_at m c t _ k (i 0) hr
  have q3 : (fun k => (iblk m c 4 t : Vec Ideal S1x1024 .f32) (ix2 0 k)) = fun k => argG m c (ix1 k) := funext fun k => blk4 m c t k
  have q4 : (iblk m c 3 t : Vec Ideal S512x1024 .f32) (ix2 ⟨(i 0).val % 512, Nat.mod_lt _ (by decide)⟩ ⟨(i 1).val, hi1⟩) = argE m c (ix2 (i 0) (i 1)) :=
    blk3 m c t _ _ (i 0) hr
  show inGrad (fun k => (iblk m c 2 t : Vec Ideal S512x1024 .f32) (ix2 ⟨(i 0).val % 512, Nat.mod_lt _ (by decide)⟩ k))
    (fun k => dnAt m c t (ix2 ⟨(i 0).val % 512, Nat.mod_lt _ (by decide)⟩ k)) (fun k => (iblk m c 4 t : Vec Ideal S1x1024 .f32) (ix2 0 k))
    ((iblk m c 3 t : Vec Ideal S512x1024 .f32) (ix2 ⟨(i 0).val % 512, Nat.mod_lt _ (by decide)⟩ ⟨(i 1).val, hi1⟩)) (i 1) = _
  rw [q1, q2, q3, q4]
  rfl

/-- The point that writes the gain gradient back writes all of it. -/
theorem flushed8 (t : Fin cfg0.N) (hf : (cfg0.win 8).flush t = true) :
    (dats m 0 c).flushed 8 t = ((cfg0.win 8).blk t).view.read (Elt Ideal) (G8 m c) := by
  rw [Value.flushed8]
  have e : win0_8.index t = ![0, 0] := (out_at t).2.1
  have e1 : win0_8.index t (1 : Fin 2) = 0 := congrFun e 1
  funext y
  refine (gain_last m c t ((flush8 t).1 hf) ((cfg0.win 8).xinj (grid0.coords t) y)).trans ?_
  show gainGrad _ _ _ _ = gainGrad _ _ _ _
  refine congrArg _ (Fin.ext ?_)
  show (y 1).val = win0_8.index t (1 : Fin 2) * 1024 + 1 * (y 1).val
  omega

/-- The point that writes the weight gradient back writes all of it. -/
theorem flushed9 (t : Fin cfg0.N) (hf : (cfg0.win 9).flush t = true) :
    (dats m 0 c).flushed 9 t = ((cfg0.win 9).blk t).view.read (Elt Ideal) (G9 m c) := by
  rw [Value.flushed9]
  have e : win0_9.index t = ![0, 0] := (out_at t).2.2
  have e0 : win0_9.index t (0 : Fin 2) = 0 := congrFun e 0
  have e1 : win0_9.index t (1 : Fin 2) = 0 := congrFun e 1
  funext y
  refine (w_last m c t ((flush9 t).1 hf) ((cfg0.win 9).xinj (grid0.coords t) y)).trans ?_
  show wGrad _ _ _ _ _ = wGrad _ _ _ _ _
  refine congrArg₂ _ (Fin.ext ?_) (Fin.ext ?_)
  · show (y 0).val = win0_9.index t (0 : Fin 2) * 1664 + 1 * (y 0).val
    omega
  · show (y 1).val = win0_9.index t (1 : Fin 2) * 1024 + 1 * (y 1).val
    omega

/-- The indices of point `t`'s block of the gain gradient. -/
theorem mem_blk8 (t : Fin cfg0.N) (i : S1x1024.Idx) :
    i ∈ ((cfg0.win 8).blk t).view.set ↔ ∀ a : Fin 2, win0_8.index t a * S1x1024.size a ≤ (i a).val ∧ (i a).val < win0_8.index t a * S1x1024.size a + S1x1024.size a := by
  show i ∈ ((View.whole main_v21_1).slice (win0_8.rect t)).set ↔ _
  rw [View.set_slice_whole, Rect.mem_set_unit]
  exact Iff.rfl

/-- The indices of point `t`'s block of the weight gradient. -/
theorem mem_blk9 (t : Fin cfg0.N) (i : S1664x1024.Idx) :
    i ∈ ((cfg0.win 9).blk t).view.set ↔ ∀ a : Fin 2, win0_9.index t a * S1664x1024.size a ≤ (i a).val ∧ (i a).val < win0_9.index t a * S1664x1024.size a + S1664x1024.size a := by
  show i ∈ ((View.whole main_v21_2).slice (win0_9.rect t)).set ↔ _
  rw [View.set_slice_whole, Rect.mem_set_unit]
  exact Iff.rfl

/-- The gain gradient after the run. -/
theorem final8 : (dats m 0 c).arrAt 8 cfg0.N = G8 m c := by
  refine (dats m 0 c).arrAt_eq_of_cover 8 _ (fun t hf => flushed8 m c t hf) fun i => ?_
  have hi0 : (i 0).val < 1 := (i 0).isLt
  have hi1 : (i 1).val < 1024 := (i 1).isLt
  have hN : cfg0.N = 16 := N_0
  obtain ⟨t, ht⟩ : ∃ t : Fin cfg0.N, t.val = 15 := ⟨⟨15, by omega⟩, rfl⟩
  have e : win0_8.index t = ![0, 0] := (out_at t).2.1
  have e0 : win0_8.index t (0 : Fin 2) = 0 := congrFun e 0
  have e1 : win0_8.index t (1 : Fin 2) = 0 := congrFun e 1
  refine ⟨t, (flush8 t).2 ht, ?_⟩
  rw [mem_blk8]
  intro a
  match a with
  | ⟨0, _⟩ => show win0_8.index t (0 : Fin 2) * 1 ≤ (i 0).val ∧ (i 0).val < win0_8.index t (0 : Fin 2) * 1 + 1; omega
  | ⟨1, _⟩ => show win0_8.index t (1 : Fin 2) * 1024 ≤ (i 1).val ∧ (i 1).val < win0_8.index t (1 : Fin 2) * 1024 + 1024; omega

/-- The weight gradient after the run. -/
theorem final9 : (dats m 0 c).arrAt 9 cfg0.N = G9 m c := by
  refine (dats m 0 c).arrAt_eq_of_cover 9 _ (fun t hf => flushed9 m c t hf) fun i => ?_
  have hi0 : (i 0).val < 1664 := (i 0).isLt
  have hi1 : (i 1).val < 1024 := (i 1).isLt
  have hN : cfg0.N = 16 := N_0
  obtain ⟨t, ht⟩ : ∃ t : Fin cfg0.N, t.val = 15 := ⟨⟨15, by omega⟩, rfl⟩
  have e : win0_9.index t = ![0, 0] := (out_at t).2.2
  have e0 : win0_9.index t (0 : Fin 2) = 0 := congrFun e 0
  have e1 : win0_9.index t (1 : Fin 2) = 0 := congrFun e 1
  refine ⟨t, (flush9 t).2 ht, ?_⟩
  rw [mem_blk9]
  intro a
  match a with
  | ⟨0, _⟩ => show win0_9.index t (0 : Fin 2) * 1664 ≤ (i 0).val ∧ (i 0).val < win0_9.index t (0 : Fin 2) * 1664 + 1664; omega
  | ⟨1, _⟩ => show win0_9.index t (1 : Fin 2) * 1024 ≤ (i 1).val ∧ (i 1).val < win0_9.index t (1 : Fin 2) * 1024 + 1024; omega

/-- The run with the three output arrays named, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v21_0) = G7 m c
      ∧ r.2.mem ((c : Thread nD τ).loc main_v21_1) = G8 m c
      ∧ r.2.mem ((c : Thread nD τ).loc main_v21_2) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final7 m c), (h c).2.1.trans (final8 m c), (h c).2.2.1.trans (final9 m c), (h c).2.2.2⟩)
    (Value.run_blocks m ρ)

end Cert.Kernel4Ideal.P

end
-- ==== Proof.PRef.lean ====
/-
What the backward input-projection reference's three results hold at an index: the gradients of the input rows, of the gain
and of the weight, in differentiation's form.
-/
module

public import proofs.«01_k».proof.Proof.AReal
public import proofs.«01_k».proof.Proof.PValue
public import proofs.«01_k».proof.Proof.Gen.Reference4Ideal.Read

@[expose] public section

set_option maxRecDepth 16384

noncomputable section

namespace Cert.Kernel4Ideal.P

open Idealize.ShloMosaic Idealize.ShloMosaic.TcCoe Cert.Kernel4Ideal.Gen
open Cert.KernelIdeal.A (rowScale normed inGrad inGrad' inGrad_eq meanSq meanPull)
open Cert.Reference4Ideal.Read

variable (x0 : (⟨S8192x1024, .f32⟩ : BufTy).Contents (Elt Ideal)) (x1 : (⟨S1024, .f32⟩ : BufTy).Contents (Elt Ideal))
    (x2 : (⟨S1024x1664, .f32⟩ : BufTy).Contents (Elt Ideal)) (x3 : (⟨S8192x1664, .f32⟩ : BufTy).Contents (Elt Ideal))
    (x4 : (⟨S8192x1024, .f32⟩ : BufTy).Contents (Elt Ideal))

/-- The mean square of a row, with the small constant. -/
theorem ref_meanSq (r : Fin 8192) (k : Fin 1) :
    (val_main_v6 (F := Ideal) x0 : S8192x1.Idx → EReal) (ix2 r k) = meanSq (fun k => x0 (ix2 r k)) := by
  unfold val_main_v6 val_main_v5 val_main_v4 val_main_v3 val_main_v2 val_main_v1 val_main_v0 val_main_cst_1 val_main_cst_0 val_main_cst
  pointwise
  unfold meanSq
  rfl

/-- The scale of a row. -/
theorem ref_scale (r : Fin 8192) (k : Fin 1) :
    (val_main_v7 (F := Ideal) x0 : S8192x1.Idx → EReal) (ix2 r k) = rowScale (fun k => x0 (ix2 r k)) := by
  have h := ref_meanSq x0 r k
  unfold val_main_v7
  generalize val_main_v6 (F := Ideal) x0 = M at h
  pointwise
  rw [h]
  rfl

/-- The scaled rows. -/
theorem ref_scaled (r : Fin 8192) (k : Fin 1024) :
    (val_main_v12 (F := Ideal) x0 : S8192x1024.Idx → EReal) (ix2 r k) = x0 (ix2 r k) * rowScale (fun k => x0 (ix2 r k)) := by
  have h := ref_scale x0 r 0
  unfold val_main_v12 val_main_v11
  generalize val_main_v7 (F := Ideal) x0 = M at h
  pointwise
  rw [← h]

/-- The normed rows. -/
theorem ref_nrm (r : Fin 8192) (k : Fin 1024) :
    (val_main_v15 (F := Ideal) x0 x1 : S8192x1024.Idx → EReal) (ix2 r k) = nrm x0 x1 r k := by
  have h := ref_scaled x0 r k
  unfold val_main_v15 val_main_v14 val_main_v13
  generalize val_main_v12 (F := Ideal) x0 = M at h
  pointwise
  rw [h]
  rfl

/-- The gradient of the weight turned over. -/
theorem ref_w (q : Fin 1664) (j : Fin 1024) :
    (val_main_v42 (F := Ideal) x0 x1 x3 : S1664x1024.Idx → EReal) (ix2 q j) = wGrad x0 x1 x3 q j := by
  have h := ref_nrm x0 x1
  unfold val_main_v42 val_main_v18 val_main_v17
  generalize val_main_v15 (F := Ideal) x0 x1 = N at h
  pointwise
  unfold wGrad
  exact Finset.sum_congr rfl fun r _ => congrArg (fun z : EReal => x3 (ix2 r q) * z) (h r j)

/-- The gradients of the normed rows. -/
theorem ref_dn (r : Fin 8192) (j : Fin 1024) :
    (val_main_v19 (F := Ideal) x2 x3 : S8192x1024.Idx → EReal) (ix2 r j) = dnrm x3 x2 r j := by
  unfold val_main_v19
  pointwise
  rfl

/-- The gradient of the gain, as one row. -/
theorem ref_gain (p : Fin 1) (j : Fin 1024) :
    (val_main_v41 (F := Ideal) x0 x2 x3 : S1x1024.Idx → EReal) (ix2 p j) = gainGrad x0 x3 x2 j := by
  have h1 := ref_dn x2 x3
  have h2 := ref_scaled x0
  have h : (val_main_v21 (F := Ideal) x0 x2 x3 : S1024.Idx → EReal) (ix1 j) = gainGrad x0 x3 x2 j := by
    unfold val_main_v21 val_main_v20 val_main_cst_3
    generalize val_main_v19 (F := Ideal) x2 x3 = A at h1
    generalize val_main_v12 (F := Ideal) x0 = B at h2
    pointwise
    unfold gainGrad
    refine Finset.sum_congr rfl fun r _ => ?_
    rw [h1, h2, mul_comm]
  unfold val_main_v41 val_main_v25 val_main_v22 val_main_cst_4
  generalize val_main_v21 (F := Ideal) x0 x2 x3 = A at h
  pointwise
  rw [← h]
  exact Fin.sum_univ_one _

/-- A row's sum against its gradients through the gain. -/
theorem ref_pull (r : Fin 8192) (k : Fin 1024) :
    (val_main_v36 (F := Ideal) x0 x1 x2 x3 : S8192x1024.Idx → EReal) (ix2 r k)
      = meanPull (fun k => x0 (ix2 r k)) (dnrm x3 x2 r) (fun k => x1 (ix1 k)) := by
  have h1 := ref_dn x2 x3
  have h2 := fun k => ref_scale x0 r k
  have h3 := fun k => ref_meanSq x0 r k
  unfold val_main_v36 val_main_v35 val_main_v34 val_main_v33 val_main_v32 val_main_v28 val_main_v27 val_main_v26 val_main_v24 val_main_v23 val_main_v13 val_main_v10 val_main_v9 val_main_v8 val_main_cst_2 val_main_cst_5 val_main_cst_6 val_main_cst_7
  generalize val_main_v19 (F := Ideal) x2 x3 = A at h1
  generalize val_main_v7 (F := Ideal) x0 = B at h2
  generalize val_main_v6 (F := Ideal) x0 = C at h3
  pointwise
  unfold meanPull
  simp only [h1, h2, h3]
  exact Fin.sum_univ_one _

/-- The gradients of the input rows, in differentiation's form. -/
theorem ref_in (r : Fin 8192) (k : Fin 1024) :
    (val_main_v40 (F := Ideal) x0 x1 x2 x3 x4 : S8192x1024.Idx → EReal) (ix2 r k)
      = inGrad' (fun k => x0 (ix2 r k)) (dnrm x3 x2 r) (fun k => x1 (ix1 k)) (x4 (ix2 r k)) k := by
  have h1 := ref_dn x2 x3 r k
  have h2 := ref_pull x0 x1 x2 x3 r k
  have h3 := ref_scale x0 r 0
  unfold val_main_v40 val_main_v39 val_main_v38 val_main_v37 val_main_v31 val_main_v30 val_main_v29 val_main_v24 val_main_v23 val_main_v13
  generalize val_main_v19 (F := Ideal) x2 x3 = A at h1
  generalize val_main_v36 (F := Ideal) x0 x1 x2 x3 = P at h2
  generalize val_main_v7 (F := Ideal) x0 = B at h3
  pointwise
  unfold inGrad'
  rw [h1, h2, h3]

end Cert.Kernel4Ideal.P

end
-- ==== Proof.PClaim.lean ====
/-
The backward input-projection kernel and its reference leave equal gradients: the value claim of the fourth pair of programs.
-/
module

public import proofs.«01_k».proof.Defs
public import proofs.«01_k».proof.Proof.PRef
public import proofs.«01_k».proof.Proof.Gen.Reference4Ideal.Run

@[expose] public section

set_option maxRecDepth 16384

noncomputable section

namespace Cert.Kernel4Ideal.P

open Idealize.ShloMosaic Idealize.ShloMosaic.TcCoe Idealize.SL.Sem Cert.Kernel4Ideal.Gen
open Cert.KernelIdeal.A (inGrad_eq)
open Cert.Reference4Ideal.Read

variable (m : (ℓ : Loc nD τ sig) → Buf (Elt Ideal) ℓ) (c : Dev nD)

/-- The kernel's input gradients are the reference's. -/
theorem G7_eq : G7 m c = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  refine (inGrad_eq _ _ _ _ _).trans ((ref_in _ _ _ _ _ (i 0) (i 1)).symm.trans ?_)
  exact congrArg _ (ix2_eta i)

/-- The kernel's gain gradient is the reference's. -/
theorem G8_eq : G8 m c = val_main_v41 (F := Ideal) (m ((c : Thread nD τ).loc main_arg0)) (m ((c : Thread nD τ).loc main_arg2)) (m ((c : Thread nD τ).loc main_arg3)) := by
  funext i
  refine (ref_gain _ _ _ (i 0) (i 1)).symm.trans ?_
  exact congrArg _ (ix2_eta i)

/-- The kernel's weight gradient is the reference's. -/
theorem G9_eq : G9 m c = val_main_v42 (F := Ideal) (m ((c : Thread nD τ).loc main_arg0)) (m ((c : Thread nD τ).loc main_arg1)) (m ((c : Thread nD τ).loc main_arg3)) := by
  funext i
  refine (ref_w _ _ _ (i 0) (i 1)).symm.trans ?_
  exact congrArg _ (ix2_eta i)

/-- On equal arguments the kernel and the reference end with equal gradients, and unchanged arguments. -/
theorem algebraic : Cert.algebraic_Kernel4Ideal_Reference4Ideal := by
  intro m g m' g' _ h
  refine ⟨fun c => G7 m c, fun c => G8 m c, fun c => G9 m c, run m g, ?_⟩
  refine (θ_run Cert.Reference4Ideal.defs _ _).mono (fun r hr c => ?_) (Cert.Reference4Ideal.Value.run m' g')
  obtain ⟨h0, h1, h2, h3, h4⟩ := h c
  obtain ⟨r7, r8, r9, rest⟩ := hr c
  refine ⟨r7.trans ?_, r8.trans ?_, r9.trans ?_, rest⟩
  · refine (val_main_v40_eq m' c).trans ?_
    rw [h0, h1, h2, h3, h4]
    exact (G7_eq m c).symm
  · rw [h0, h2, h3]
    exact (val_main_v41_eq _ _ _).trans (G8_eq m c).symm
  · rw [h0, h1, h3]
    exact (val_main_v42_eq _ _ _).trans (G9_eq m c).symm

end Cert.Kernel4Ideal.P

end
-- ==== Proof.QBlock.lean ====
/-
What one grid point of the input-projection kernel computes from the blocks before it: its rows normed, and these against
the two parts of the weight.
-/
module

public import proofs.«01_k».proof.Proof.ABlock
public import proofs.«01_k».proof.Proof.Gen.Kernel5Ideal.Frame

@[expose] public section

set_option maxRecDepth 16384

noncomputable section

namespace Cert.Kernel5Ideal.Q

open Idealize.ShloMosaic Idealize.ShloMosaic.TcCoe Cert.Kernel5Ideal.Gen
open Cert.KernelIdeal.A (rowScale normed)

/-- The block of normed rows, from a block of rows and the gain row. -/
def nBlock (X : Vec Ideal S512x1024 .f32) (G : Vec Ideal S1x1024 .f32) (p : Fin 512) (k : Fin 1024) : EReal :=
  normed (fun k => X (ix2 p k)) (fun k => G (ix2 0 k)) k

/-- The stored normed rows. -/
theorem pay1 (X : Vec Ideal S512x1024 .f32) (G : Vec Ideal S1x1024 .f32) (x : S512x1024.Idx) :
    (k0_pay1 X G : Vec Ideal S512x1024 .bf16) x = nBlock X G (x 0) (x 1) := by
  unfold k0_pay1
  pointwise
  unfold nBlock normed rowScale
  exact congrArg (fun z : EReal => z * _ * _) (congrArg X (ix2_eta x).symm)

/-- The normed rows against a part of the weight with 768 rows. -/
theorem pay2 (X : Vec Ideal S512x1024 .f32) (G : Vec Ideal S1x1024 .f32) (W : Vec Ideal S768x1024 .bf16) (x : S512x768.Idx) :
    (k0_pay2 X G W : Vec Ideal S512x768 .f32) x = ∑ k : Fin 1024, nBlock X G (x 0) k * W (ix2 (x 1) k) := by
  have h := fun k => pay1 X G (ix2 (x 0) k)
  unfold k0_pay2
  generalize (k0_pay1 X G : Vec Ideal S512x1024 .bf16) = N at h
  pointwise
  exact Finset.sum_congr rfl fun k _ => congrArg (fun z : EReal => z * _) (h k)

/-- The normed rows against a part of the weight with 896 rows. -/
theorem pay3 (X : Vec Ideal S512x1024 .f32) (G : Vec Ideal S1x1024 .f32) (W : Vec Ideal S896x1024 .bf16) (x : S512x896.Idx) :
    (k0_pay3 X G W : Vec Ideal S512x896 .f32) x = ∑ k : Fin 1024, nBlock X G (x 0) k * W (ix2 (x 1) k) := by
  have h := fun k => pay1 X G (ix2 (x 0) k)
  unfold k0_pay3
  generalize (k0_pay1 X G : Vec Ideal S512x1024 .bf16) = N at h
  pointwise
  exact Finset.sum_congr rfl fun k _ => congrArg (fun z : EReal => z * _) (h k)

/-- A part of the weight block, by rows. -/
theorem ldRows (W : Vec Ideal S1664x1024 .bf16) (o n : ℕ) (inb) (ho : o + n ≤ 1664) (x : (Shape.mk 2 ![n, 1024] : Shape).Idx) :
    View.ld W (Rect.unit ![o, 0] ![n, 1024] inb) x = W (ix2 ⟨o + (x 0).val, by have : (x 0).val < n := (x 0).isLt; omega⟩ (x 1)) := by
  refine View.ld_unit_apply_of W _ _ _ x _ fun a => ?_
  match a with
  | ⟨0, _⟩ => rfl
  | ⟨1, _⟩ => exact (Nat.zero_add _).symm

/-- What a point leaves in its block of the first part of the projection. -/
theorem out3 (X : Vec Ideal S512x1024 .f32) (G : Vec Ideal S1x1024 .f32) (W : Vec Ideal S1664x1024 .bf16) (p : Fin 512) (q : Fin 768) :
    (out0_3 X G W : Vec Ideal S512x768 .f32) (ix2 p q) = ∑ k : Fin 1024, nBlock X G p k * W (ix2 ⟨q.val, by omega⟩ k) := by
  unfold out0_3
  rw [View.canon_cons_unit_lit _ _ _ (by decide), View.ld_unit_lit _ X (by decide), View.ld_unit_lit _ G (by decide)]
  refine (pay2 X G _ (ix2 p q)).trans (Finset.sum_congr rfl fun k _ => congrArg (fun z : EReal => nBlock X G p k * z) ?_)
  exact (ldRows W 0 768 _ (by decide) _).trans (congrArg (fun i => W (ix2 i k)) (Fin.ext (Nat.zero_add _)))

/-- What a point leaves in its block of the second part of the projection. -/
theorem out4 (X : Vec Ideal S512x1024 .f32) (G : Vec Ideal S1x1024 .f32) (W : Vec Ideal S1664x1024 .bf16) (p : Fin 512) (q : Fin 896) :
    (out0_4 X G W : Vec Ideal S512x896 .f32) (ix2 p q) = ∑ k : Fin 1024, nBlock X G p k * W (ix2 ⟨768 + q.val, by omega⟩ k) := by
  unfold out0_4
  rw [View.canon_cons_unit_lit _ _ _ (by decide), View.ld_unit_lit _ X (by decide), View.ld_unit_lit _ G (by decide)]
  refine (pay3 X G _ (ix2 p q)).trans (Finset.sum_congr rfl fun k _ => congrArg (fun z : EReal => nBlock X G p k * z) ?_)
  exact ldRows W 768 896 _ (by decide) _

/-- What a point leaves in its block of the normed rows. -/
theorem out5 (X : Vec Ideal S512x1024 .f32) (G : Vec Ideal S1x1024 .f32) (W : Vec Ideal S1664x1024 .bf16) (p : Fin 512) (k : Fin 1024) :
    (out0_5 X G W : Vec Ideal S512x1024 .bf16) (ix2 p k) = nBlock X G p k := by
  unfold out0_5
  rw [View.canon_cons_unit_lit _ _ _ (by decide), View.ld_unit_lit _ X (by decide), View.ld_unit_lit _ G (by decide)]
  exact pay1 X G (ix2 p k)

end Cert.Kernel5Ideal.Q

end
-- ==== Proof.QValue.lean ====
/-
What the input-projection kernel's three output arrays hold after the run: the normed rows, and these against the two parts
of the weight.
-/
module

public import proofs.«01_k».proof.Proof.QBlock
public import proofs.«01_k».proof.Proof.Gen.Kernel5Ideal.Value
public import Idealize.ShloMosaic.Lib.StableHlo.RunRead

@[expose] public section

set_option maxRecDepth 16384

noncomputable section

namespace Cert.Kernel5Ideal.Q

open Idealize.ShloMosaic Idealize.ShloMosaic.TcCoe Idealize.ShloMosaic.StableHlo Cert.Kernel5Ideal.Gen Idealize.SL.Sem
open Cert.KernelIdeal.A (rowScale normed)

/-- The normed rows. -/
def nrm (X : S8192x1024.Idx → EReal) (G : S1024.Idx → EReal) (r : Fin 8192) (k : Fin 1024) : EReal :=
  normed (fun k => X (ix2 r k)) (fun k => G (ix1 k)) k

/-- The normed rows against the weight. -/
def proj (X : S8192x1024.Idx → EReal) (G : S1024.Idx → EReal) (W : S1024x1664.Idx → EReal) (r : Fin 8192) (q : Fin 1664) : EReal :=
  ∑ k : Fin 1024, nrm X G r k * W (ix2 k q)

variable (m : (ℓ : Loc nD τ sig) → Buf (Elt Ideal) ℓ) (c : Dev nD)

/-- The input rows. -/
def argX : S8192x1024.Idx → EReal := m ((c : Thread nD τ).loc main_arg0)
/-- The gain vector. -/
def argG : S1024.Idx → EReal := m ((c : Thread nD τ).loc main_arg1)
/-- The weight. -/
def argW : S1024x1664.Idx → EReal := m ((c : Thread nD τ).loc main_arg2)

/-- The weight operand is the weight turned over. -/
theorem v2_at (q : Fin 1664) (k : Fin 1024) : (Gen.V m c main_v2 : S1664x1024.Idx → EReal) (ix2 q k) = argW m c (ix2 k q) := by
  have e : Gen.V m c main_v2 = truncf (F := Ideal) .bf16 (transpose S1664x1024 [1, 0] (m ((c : Thread nD τ).loc main_arg2) : (⟨S1024x1664, .f32⟩ : BufTy).Contents (Elt Ideal)) transposes_S1024x1664_S1664x1024_1_0) bitsLt_bf16_f32 := by
    unfold Gen.V
    simp only [hostOps0, List.flatten, List.cons_append, List.nil_append, List.append_nil, TRef.binary, TRef.nullary,
      TRef.unary, TRef.toBuf, TRef.ofBuf, cast_eq]
    after_reads_simp
  rw [e]
  pointwise
  rfl

/-- The gain operand is the gain vector as one row. -/
theorem v0_at (k : Fin 1024) : (Gen.V m c main_v0 : S1x1024.Idx → EReal) (ix2 0 k) = argG m c (ix1 k) := by
  have e : Gen.V m c main_v0 = broadcastInDim S1x1024 ![1] bcast_S1024_S1x1024_1 (m ((c : Thread nD τ).loc main_arg1)) := by
    unfold Gen.V
    simp only [hostOps0, List.flatten, List.cons_append, List.nil_append, List.append_nil, TRef.binary, TRef.nullary,
      TRef.unary, TRef.toBuf, TRef.ofBuf, cast_eq]
    after_reads_simp
  rw [e]
  pointwise
  rfl

/-- The blocks point `t` takes: its own rows, the whole gain and the whole weight; and those it writes: its own rows. -/
theorem idx_at : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- Every point writes its three blocks back. -/
theorem flush_at : ∀ t : Fin cfg0.N, (cfg0.win 3).flush t = true ∧ (cfg0.win 4).flush t = true ∧ (cfg0.win 5).flush t = true :=
  (by decide +kernel : ∀ t : Fin grid0.N, _)

/-- The block of rows at point `t`. -/
theorem blk0 (t : Fin cfg0.N) (p : Fin 512) (k : Fin 1024) (r : Fin 8192) (hr : r.val = t.val * 512 + p.val) :
    (iblk m c 0 t : Vec Ideal S512x1024 .f32) (ix2 p k) = argX m c (ix2 r k) := by
  obtain ⟨e, -⟩ := idx_at t
  have h : (iblk m c 0 t : Vec Ideal S512x1024 .f32) (ix2 p k) = (V m c main_arg0 : Vec Ideal S8192x1024 .f32) (ix2 r k) := by
    blk_ext [iblk, V, e]
  rw [h, V_main_arg0]
  rfl

/-- The gain row at point `t`. -/
theorem blk1 (t : Fin cfg0.N) (k : Fin 1024) : (iblk m c 1 t : Vec Ideal S1x1024 .f32) (ix2 0 k) = argG m c (ix1 k) := by
  obtain ⟨-, e, -⟩ := idx_at t
  have h : (iblk m c 1 t : Vec Ideal S1x1024 .f32) (ix2 0 k) = (V m c main_v0 : Vec Ideal S1x1024 .f32) (ix2 0 k) := by
    blk_ext [iblk, V, e]
  exact h.trans (v0_at m c k)

/-- The weight block at point `t`. -/
theorem blk2 (t : Fin cfg0.N) (q : Fin 1664) (k : Fin 1024) :
    (iblk m c 2 t : Vec Ideal S1664x1024 .bf16) (ix2 q k) = argW m c (ix2 k q) := by
  obtain ⟨-, -, e, -⟩ := idx_at t
  have h : (iblk m c 2 t : Vec Ideal S1664x1024 .bf16) (ix2 q k) = (V m c main_v2 : Vec Ideal S1664x1024 .bf16) (ix2 q k) := by
    blk_ext [iblk, V, e]
  exact h.trans (v2_at m c q k)

/-- The normed rows made from point `t`'s blocks. -/
theorem n_at (t : Fin cfg0.N) (p : Fin 512) (k : Fin 1024) (r : Fin 8192) (hr : r.val = t.val * 512 + p.val) :
    nBlock (iblk m c 0 t) (iblk m c 1 t) p k = nrm (argX m c) (argG m c) r k := by
  unfold nBlock nrm
  exact congrFun (congrArg₂ normed (funext fun k => blk0 m c t p k r hr) (funext fun k => blk1 m c t k)) k

/-- The normed rows made from point `t`'s blocks against its weight block. -/
theorem proj_at (t : Fin cfg0.N) (p : Fin 512) (q : Fin 1664) (r : Fin 8192) (hr : r.val = t.val * 512 + p.val) :
    (∑ k : Fin 1024, nBlock (iblk m c 0 t) (iblk m c 1 t) p k * (iblk m c 2 t : Vec Ideal S1664x1024 .bf16) (ix2 q k))
      = proj (argX m c) (argG m c) (argW m c) r q :=
  Finset.sum_congr rfl fun k _ => congrArg₂ (fun y z : EReal => y * z) (n_at m c t p k r hr) (blk2 m c t q k)

/-- The first part of the projection, as an array. -/
def G3 : Buf (Elt Ideal) ((c : Thread nD τ).loc main_v3_0) := fun i : S8192x768.Idx =>
  (proj (argX m c) (argG m c) (argW m c) (i 0) ⟨(i 1).val, Nat.lt_trans (i 1).isLt (by decide)⟩ : EReal)

/-- The second part of the projection, as an array. -/
def G4 : Buf (Elt Ideal) ((c : Thread nD τ).loc main_v3_1) := fun i : S8192x896.Idx =>
  (proj (argX m c) (argG m c) (argW m c) (i 0) ⟨768 + (i 1).val, Nat.add_lt_add_left (i 1).isLt 768⟩ : EReal)

/-- The normed rows, as an array. -/
def G5 : Buf (Elt Ideal) ((c : Thread nD τ).loc main_v3_2) := fun i : S8192x1024.Idx => (nrm (argX m c) (argG m c) (i 0) (i 1) : EReal)

/-- The first part of the projection after the run. -/
theorem final3 : (dats m 0 c).arrAt 3 cfg0.N = G3 m c := by
  funext i
  have hi0 : (i 0).val < 8192 := (i 0).isLt
  have hi1 : (i 1).val < 768 := (i 1).isLt
  have hN : cfg0.N = 16 := N_0
  obtain ⟨t, ht⟩ : ∃ t : Fin cfg0.N, t.val = (i 0).val / 512 := ⟨⟨(i 0).val / 512, by omega⟩, rfl⟩
  have e : win0_3.index t = ![t.val, 0] := (idx_at t).2.2.2.1
  have e0 : win0_3.index t (0 : Fin 2) = t.val := congrFun e 0
  have e1 : win0_3.index t (1 : Fin 2) = 0 := congrFun e 1
  have hb := congrFun (Value.blocks3 m c t (flush_at t).1) (ix2 ⟨(i 0).val % 512, Nat.mod_lt _ (by decide)⟩ ⟨(i 1).val, hi1⟩ : S512x768.Idx)
  have hemb : ((cfg0.win 3).blk t).view.emb (ix2 ⟨(i 0).val % 512, Nat.mod_lt _ (by decide)⟩ ⟨(i 1).val, hi1⟩ : S512x768.Idx) = i := by
    funext a
    match a with
    | ⟨0, _⟩ => exact Fin.ext (by show win0_3.index t (0 : Fin 2) * 512 + 1 * ((i 0).val % 512) = (i 0).val; omega)
    | ⟨1, _⟩ => exact Fin.ext (by show win0_3.index t (1 : Fin 2) * 768 + 1 * (i 1).val = (i 1).val; omega)
  have hl : (dats m 0 c).arrAt 3 cfg0.N (((cfg0.win 3).blk t).view.emb (ix2 ⟨(i 0).val % 512, Nat.mod_lt _ (by decide)⟩ ⟨(i 1).val, hi1⟩ : S512x768.Idx)) = _ := hb
  rw [hemb, Value.flushed3] at hl
  refine hl.trans ?_
  refine (out3 (iblk m c 0 t) (iblk m c 1 t) (iblk m c 2 t) ⟨(i 0).val % 512, Nat.mod_lt _ (by decide)⟩ ⟨(i 1).val, hi1⟩).trans ?_
  exact proj_at m c t _ _ (i 0) (by show (i 0).val = t.val * 512 + (i 0).val % 512; omega)

/-- The second part of the projection after the run. -/
theorem final4 : (dats m 0 c).arrAt 4 cfg0.N = G4 m c := by
  funext i
  have hi0 : (i 0).val < 8192 := (i 0).isLt
  have hi1 : (i 1).val < 896 := (i 1).isLt
  have hN : cfg0.N = 16 := N_0
  obtain ⟨t, ht⟩ : ∃ t : Fin cfg0.N, t.val = (i 0).val / 512 := ⟨⟨(i 0).val / 512, by omega⟩, rfl⟩
  have e : win0_4.index t = ![t.val, 0] := (idx_at t).2.2.2.2.1
  have e0 : win0_4.index t (0 : Fin 2) = t.val := congrFun e 0
  have e1 : win0_4.index t (1 : Fin 2) = 0 := congrFun e 1
  have hb := congrFun (Value.blocks4 m c t (flush_at t).2.1) (ix2 ⟨(i 0).val % 512, Nat.mod_lt _ (by decide)⟩ ⟨(i 1).val, hi1⟩ : S512x896.Idx)
  have hemb : ((cfg0.win 4).blk t).view.emb (ix2 ⟨(i 0).val % 512, Nat.mod_lt _ (by decide)⟩ ⟨(i 1).val, hi1⟩ : S512x896.Idx) = i := by
    funext a
    match a with
    | ⟨0, _⟩ => exact Fin.ext (by show win0_4.index t (0 : Fin 2) * 512 + 1 * ((i 0).val % 512) = (i 0).val; omega)
    | ⟨1, _⟩ => exact Fin.ext (by show win0_4.index t (1 : Fin 2) * 896 + 1 * (i 1).val = (i 1).val; omega)
  have hl : (dats m 0 c).arrAt 4 cfg0.N (((cfg0.win 4).blk t).view.emb (ix2 ⟨(i 0).val % 512, Nat.mod_lt _ (by decide)⟩ ⟨(i 1).val, hi1⟩ : S512x896.Idx)) = _ := hb
  rw [hemb, Value.flushed4] at hl
  refine hl.trans ?_
  refine (out4 (iblk m c 0 t) (iblk m c 1 t) (iblk m c 2 t) ⟨(i 0).val % 512, Nat.mod_lt _ (by decide)⟩ ⟨(i 1).val, hi1⟩).trans ?_
  exact proj_at m c t _ _ (i 0) (by show (i 0).val = t.val * 512 + (i 0).val % 512; omega)

/-- The normed rows after the run. -/
theorem final5 : (dats m 0 c).arrAt 5 cfg0.N = G5 m c := by
  funext i
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by omega⟩, rfl⟩
  have e : win0_5.index t = ![t.val, 0] := (idx_at t).2.2.2.2.2
  have e0 : win0_5.index t (0 : Fin 2) = t.val := congrFun e 0
  have e1 : win0_5.index t (1 : Fin 2) = 0 := congrFun e 1
  have hb := congrFun (Value.blocks5 m c t (flush_at t).2.2) (ix2 ⟨(i 0).val % 512, Nat.mod_lt _ (by decide)⟩ ⟨(i 1).val, hi1⟩ : S512x1024.Idx)
  have hemb : ((cfg0.win 5).blk t).view.emb (ix2 ⟨(i 0).val % 512, Nat.mod_lt _ (by decide)⟩ ⟨(i 1).val, hi1⟩ : S512x1024.Idx) = i := by
    funext a
    match a with
    | ⟨0, _⟩ => exact Fin.ext (by show win0_5.index t (0 : Fin 2) * 512 + 1 * ((i 0).val % 512) = (i 0).val; omega)
    | ⟨1, _⟩ => exact Fin.ext (by show win0_5.index t (1 : Fin 2) * 1024 + 1 * (i 1).val = (i 1).val; omega)
  have hl : (dats m 0 c).arrAt 5 cfg0.N (((cfg0.win 5).blk t).view.emb (ix2 ⟨(i 0).val % 512, Nat.mod_lt _ (by decide)⟩ ⟨(i 1).val, hi1⟩ : S512x1024.Idx)) = _ := hb
  rw [hemb, Value.flushed5] at hl
  refine hl.trans ?_
  refine (out5 (iblk m c 0 t) (iblk m c 1 t) (iblk m c 2 t) ⟨(i 0).val % 512, Nat.mod_lt _ (by decide)⟩ ⟨(i 1).val, hi1⟩).trans ?_
  exact n_at m c t _ _ (i 0) (by show (i 0).val = t.val * 512 + (i 0).val % 512; omega)

/-- The run with the three output arrays named, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3_0) = G3 m c
      ∧ r.2.mem ((c : Thread nD τ).loc main_v3_1) = G4 m c
      ∧ r.2.mem ((c : Thread nD τ).loc main_v3_2) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2.1.trans (final5 m c), (h c).2.2.2⟩)
    (Value.run_blocks m ρ)

end Cert.Kernel5Ideal.Q

end
-- ==== Proof.QClaim.lean ====
/-
What the input-projection reference's three results are at an index, and that the kernel and its reference leave equal
results: the value claim of the fifth pair of programs.
-/
module

public import proofs.«01_k».proof.Defs
public import proofs.«01_k».proof.Proof.QValue
public import proofs.«01_k».proof.Proof.Gen.Reference5Ideal.Run
public import proofs.«01_k».proof.Proof.Gen.Reference5Ideal.Read

@[expose] public section

set_option maxRecDepth 16384

noncomputable section

namespace Cert.Kernel5Ideal.Q

open Idealize.ShloMosaic Idealize.ShloMosaic.TcCoe Idealize.SL.Sem Cert.Kernel5Ideal.Gen
open Cert.KernelIdeal.A (rowScale normed)
open Cert.Reference5Ideal.Read

section Reference

variable (x0 : (⟨S8192x1024, .f32⟩ : BufTy).Contents (Elt Ideal)) (x1 : (⟨S1024, .f32⟩ : BufTy).Contents (Elt Ideal))
    (x2 : (⟨S1024x1664, .f32⟩ : BufTy).Contents (Elt Ideal))

/-- The reference's normed rows. -/
theorem ref_nrm (r : Fin 8192) (k : Fin 1024) : (val_main_v12 (F := Ideal) x0 x1 : S8192x1024.Idx → EReal) (ix2 r k) = nrm x0 x1 r k := by
  unfold val_main_v12 val_main_v11 val_main_v10 val_main_v9 val_main_v8 val_main_v7 val_main_v6 val_main_v5 val_main_v4 val_main_v3 val_main_v2 val_main_v1 val_main_v0 val_main_cst_1 val_main_cst_0 val_main_cst
  pointwise
  unfold nrm normed rowScale
  rfl

/-- The reference's projection. -/
theorem ref_proj (i : Cert.Reference5Ideal.S8192x1664.Idx) : (val_main_v13 (F := Ideal) x0 x1 x2 : Cert.Reference5Ideal.S8192x1664.Idx → EReal) i = proj x0 x1 x2 (i 0) (i 1) := by
  have h := ref_nrm x0 x1
  unfold val_main_v13
  generalize val_main_v12 (F := Ideal) x0 x1 = N at h
  pointwise
  unfold proj
  exact Finset.sum_congr rfl fun k _ => congrArg (fun z : EReal => z * _) (h (i 0) k)

end Reference

variable (m : (ℓ : Loc nD τ sig) → Buf (Elt Ideal) ℓ) (c : Dev nD)

/-- The first part of the kernel's projection is the reference's. -/
theorem G3_eq : G3 m c = val_main_v14 (F := Ideal) (m ((c : Thread nD τ).loc main_arg0)) (m ((c : Thread nD τ).loc main_arg1)) (m ((c : Thread nD τ).loc main_arg2)) := by
  funext i
  exact (ref_proj _ _ _ (idx_main_v14 i)).symm.trans (val_main_v14_apply (F := Ideal) (m ((c : Thread nD τ).loc main_arg0)) (m ((c : Thread nD τ).loc main_arg1)) (m ((c : Thread nD τ).loc main_arg2)) i).symm

/-- The second part of the kernel's projection is the reference's. -/
theorem G4_eq : G4 m c = val_main_v15 (F := Ideal) (m ((c : Thread nD τ).loc main_arg0)) (m ((c : Thread nD τ).loc main_arg1)) (m ((c : Thread nD τ).loc main_arg2)) := by
  funext i
  exact (ref_proj _ _ _ (idx_main_v15 i)).symm.trans (val_main_v15_apply (F := Ideal) (m ((c : Thread nD τ).loc main_arg0)) (m ((c : Thread nD τ).loc main_arg1)) (m ((c : Thread nD τ).loc main_arg2)) i).symm

/-- The kernel's normed rows are the reference's. -/
theorem G5_eq : G5 m c = val_main_v16 (F := Ideal) (m ((c : Thread nD τ).loc main_arg0)) (m ((c : Thread nD τ).loc main_arg1)) := by
  funext i
  refine (ref_nrm _ _ (i 0) (i 1)).symm.trans ?_
  refine Eq.trans ?_ (val_main_v16_apply (F := Ideal) (m ((c : Thread nD τ).loc main_arg0)) (m ((c : Thread nD τ).loc main_arg1)) i).symm
  exact congrArg _ (ix2_eta i)

/-- On equal arguments the kernel and the reference end with equal projections and normed rows, and unchanged arguments. -/
theorem algebraic : Cert.algebraic_Kernel5Ideal_Reference5Ideal := by
  intro m g m' g' _ h
  refine ⟨fun c => G3 m c, fun c => G4 m c, fun c => G5 m c, run m g, ?_⟩
  refine (θ_run Cert.Reference5Ideal.defs _ _).mono (fun r hr c => ?_) (Cert.Reference5Ideal.Value.run m' g')
  obtain ⟨h0, h1, h2⟩ := h c
  obtain ⟨r3, r4, r5, rest⟩ := hr c
  refine ⟨r3.trans ?_, r4.trans ?_, r5.trans ?_, rest⟩
  · rw [h0, h1, h2]
    exact (val_main_v14_eq _ _ _).trans (G3_eq m c).symm
  · rw [h0, h1, h2]
    exact (val_main_v15_eq _ _ _).trans (G4_eq m c).symm
  · rw [h0, h1]
    exact (val_main_v16_eq _ _).trans (G5_eq m c).symm

end Cert.Kernel5Ideal.Q

end
-- ==== Proof.OReal.lean ====
/-
The arithmetic of the layer norm's gradient: the kernel's form is the one differentiation gives where the gradient of the
scaled row is real, for every row.
-/
module

public import proofs.«01_k».proof.Proof.AReal
public import proofs.«01_k».proof.Proof.ABlock

@[expose] public section

set_option maxRecDepth 16384

noncomputable section

namespace Cert.Kernel6Ideal.O

open Idealize.ShloMosaic
open Cert.KernelIdeal.A (IsReal coe_sum div_coe logistic_coe logistic_bot logistic_top one_sub_one ofBits_neg_half ofBits_eps gateGrad rsqrt_coe)

/-- The mean of a row of 384 channels. -/
def mean (x : Fin 384 → EReal) : EReal := Ideal.div (∑ k, x k) (Ideal.ofBits .f32 0x43C00000#32)

/-- A row less its mean. -/
def dev (x : Fin 384 → EReal) (q : Fin 384) : EReal := x q - mean x

/-- A row's variance, with the small constant. -/
def var (x : Fin 384 → EReal) : EReal := mean (fun k => dev x k * dev x k) + Ideal.ofBits .f32 0x358637BD#32

/-- The reciprocal root of a row's variance. -/
def scale (x : Fin 384 → EReal) : EReal := Ideal.rsqrt (var x)

/-- A row less its mean, scaled by its scale. -/
def std (x : Fin 384 → EReal) (q : Fin 384) : EReal := dev x q * scale x

/-- The layer norm of a row: the scaled row through gain and shift. -/
def layer (x g b : Fin 384 → EReal) (q : Fin 384) : EReal := std x q * g q + b q

/-- The gradient of a layer-normed row: the gradient `d` after the activation times the activation's slope. -/
def normGrad (x g b d : Fin 384 → EReal) (q : Fin 384) : EReal := gateGrad (d q) (layer x g b q) 1

/-- The gradient of a row before the layer norm, from the gradient `e` of the scaled row. -/
def rowGrad (x e : Fin 384 → EReal) (q : Fin 384) : EReal :=
  scale x * (e q - mean e - std x q * mean (fun k => e k * std x k))

/-- The pattern of 384 denotes it. -/
theorem ofBits_384 : Ideal.ofBits .f32 0x43C00000#32 = ((384 : ℝ) : EReal) := by
  simp [Ideal.ofBits, Ideal.ieee, -EReal.coe_mul, -EReal.coe_neg]
  norm_num

/-- The pattern of two denotes it. -/
theorem ofBits_two : Ideal.ofBits .f32 0x40000000#32 = ((2 : ℝ) : EReal) := by
  simp [Ideal.ofBits, Ideal.ieee, -EReal.coe_mul, -EReal.coe_neg]
  norm_num

/-- The mean of a row of real numbers. -/
theorem mean_coe (x : Fin 384 → ℝ) : mean (fun k => (x k : EReal)) = (((∑ k, x k) / 384 : ℝ) : EReal) := by
  unfold mean
  rw [coe_sum, ofBits_384, div_coe _ _ (by norm_num)]

/-- A row of real numbers less its mean. -/
theorem dev_coe (x : Fin 384 → ℝ) (q : Fin 384) : dev (fun k => (x k : EReal)) q = ((x q - (∑ k, x k) / 384 : ℝ) : EReal) := by
  unfold dev
  rw [mean_coe, ← EReal.coe_sub]

/-- For a row of real numbers the variance with the small constant is a positive real number. -/
theorem var_pos (x : Fin 384 → ℝ) : ∃ v : ℝ, 0 < v ∧ var (fun k => (x k : EReal)) = (v : EReal) := by
  obtain ⟨e, he, hE⟩ := ofBits_eps
  refine ⟨(∑ k, (x k - (∑ k, x k) / 384) * (x k - (∑ k, x k) / 384)) / 384 + e, ?_, ?_⟩
  · have : 0 ≤ ∑ k, (x k - (∑ k, x k) / 384) * (x k - (∑ k, x k) / 384) := Finset.sum_nonneg fun k _ => mul_self_nonneg _
    positivity
  · unfold var
    simp only [dev_coe, ← EReal.coe_mul]
    rw [mean_coe (fun k => (x k - (∑ k, x k) / 384) * (x k - (∑ k, x k) / 384)), hE, ← EReal.coe_add]

/-- A row that holds an infinity holds one less its mean too. -/
theorem dev_inf {x : Fin 384 → EReal} {k : Fin 384} (hk : ¬ IsReal (x k)) : ¬ IsReal (dev x k) := by
  rintro ⟨r, hr⟩
  unfold dev at hr
  generalize mean x = μ at hr
  revert hk hr
  generalize x k = z
  intro hk hr
  induction z using EReal.rec with
  | bot => rw [sub_eq_add_neg, EReal.bot_add] at hr; exact EReal.coe_ne_bot r hr.symm
  | coe a => exact hk ⟨a, rfl⟩
  | top =>
    induction μ using EReal.rec with
    | bot => rw [EReal.top_sub_bot] at hr; exact EReal.coe_ne_top r hr.symm
    | coe a => rw [EReal.top_sub_coe] at hr; exact EReal.coe_ne_top r hr.symm
    | top => rw [sub_eq_add_neg, EReal.neg_top, EReal.add_bot] at hr; exact EReal.coe_ne_bot r hr.symm

/-- A row that holds an infinity has an infinite variance. -/
theorem var_top {x : Fin 384 → EReal} {k : Fin 384} (hk : ¬ IsReal (x k)) : var x = ⊤ := by
  obtain ⟨e, _, hE⟩ := ofBits_eps
  have hd := dev_inf hk
  unfold var mean
  rw [(Cert.KernelIdeal.A.sq_sum_top (dev x) hd), ofBits_384, hE]
  unfold Ideal.div
  rw [if_neg (by exact_mod_cast (by norm_num : (384 : ℝ) ≠ 0)), ← EReal.coe_inv, EReal.top_mul_coe_of_pos (by norm_num), EReal.top_add_coe]

/-- A row that holds an infinity has scale zero. -/
theorem scale_zero {x : Fin 384 → EReal} {k : Fin 384} (hk : ¬ IsReal (x k)) : scale x = 0 := by
  unfold scale
  rw [var_top hk]
  rfl

/-- What differentiation adds to a row: the pull-back through the variance. -/
def varPull (x e : Fin 384 → EReal) : EReal :=
  Ideal.div ((∑ k, dev x k * e k) * (Ideal.ofBits .f32 0xBF000000#32 * Ideal.div (scale x) (var x))) (Ideal.ofBits .f32 0x43C00000#32)

/-- The gradient of a row before the layer norm, as differentiation writes it: through the row itself, through the variance
    and through the mean. -/
def rowGrad' (x e : Fin 384 → EReal) (q : Fin 384) : EReal :=
  e q * scale x + varPull x e * (Ideal.ofBits .f32 0x40000000#32 * dev x q)
    + Ideal.div ((∑ k, -(e k * scale x)) + ∑ k, -(varPull x e * (Ideal.ofBits .f32 0x40000000#32 * dev x k))) (Ideal.ofBits .f32 0x43C00000#32)

/-- The two forms agree on a row of real numbers. -/
theorem rowGrad_eq_real (X E : Fin 384 → ℝ) (q : Fin 384) :
    rowGrad (fun k => (X k : EReal)) (fun k => (E k : EReal)) q = rowGrad' (fun k => (X k : EReal)) (fun k => (E k : EReal)) q := by
  obtain ⟨v, hv, hV⟩ := var_pos X
  have hS : scale (fun k => (X k : EReal)) = (((Real.sqrt v)⁻¹ : ℝ) : EReal) := by
    rw [← rsqrt_coe v hv, ← hV]
    rfl
  have hvs : v⁻¹ = (Real.sqrt v)⁻¹ * (Real.sqrt v)⁻¹ := by rw [← mul_inv, Real.mul_self_sqrt hv.le]
  have hd := dev_coe X
  have h0 : ∑ k, (X k - (∑ k, X k) / 384) = 0 := by
    rw [Finset.sum_sub_distrib, Finset.sum_const, Finset.card_univ, Fintype.card_fin, nsmul_eq_mul]
    norm_num
    ring
  unfold rowGrad rowGrad' varPull std
  simp only [hS, hV, hd, ofBits_384, ofBits_two, ofBits_neg_half, div_coe _ _ hv.ne', ← EReal.coe_mul, mean_coe, ← EReal.coe_sub, coe_sum,
    div_coe _ _ (by norm_num : (384 : ℝ) ≠ 0), ← EReal.coe_neg, ← EReal.coe_add]
  generalize hD : (fun k => X k - (∑ k, X k) / 384) = D at h0
  have hD' : ∀ k, X k - (∑ k, X k) / 384 = D k := fun k => congrFun hD k
  simp only [hD'] at h0 ⊢
  have e1 : ∑ k, E k * (D k * (Real.sqrt v)⁻¹) = (∑ k, D k * E k) * (Real.sqrt v)⁻¹ := by
    rw [Finset.sum_mul]
    exact Finset.sum_congr rfl fun k _ => by ring
  have e2 : ∑ k, -(E k * (Real.sqrt v)⁻¹) = -((∑ k, E k) * (Real.sqrt v)⁻¹) := by
    rw [Finset.sum_mul, Finset.sum_neg_distrib]
  have e3 : ∀ P : ℝ, ∑ k, -(P * (2 * D k)) = 0 := fun P => by
    rw [Finset.sum_neg_distrib, ← Finset.mul_sum, ← Finset.mul_sum, h0, mul_zero, mul_zero, neg_zero]
  rw [e1, e2, e3, div_eq_mul_inv _ v, hvs]
  refine congrArg _ ?_
  ring

/-- The two forms agree where the gradient of the scaled row is real, for every row: on a row that holds an infinity both
    vanish. -/
theorem rowGrad_eq (x e : Fin 384 → EReal) (he : ∀ k, IsReal (e k)) (q : Fin 384) : rowGrad x e q = rowGrad' x e q := by
  by_cases hx : ∀ k, IsReal (x k)
  · choose X hX using hx
    choose E hE using he
    obtain rfl : x = fun k => (X k : EReal) := funext hX
    obtain rfl : e = fun k => (E k : EReal) := funext hE
    exact rowGrad_eq_real X E q
  · obtain ⟨k, hk⟩ := not_forall.mp hx
    have h0 : Ideal.div (0 : EReal) ⊤ = 0 := by
      unfold Ideal.div
      rw [if_neg (by simp), zero_mul]
    have h1 : Ideal.div (0 : EReal) ((384 : ℝ) : EReal) = 0 := by
      unfold Ideal.div
      rw [if_neg (by exact_mod_cast (by norm_num : (384 : ℝ) ≠ 0)), zero_mul]
    unfold rowGrad rowGrad' varPull
    rw [var_top hk, scale_zero hk, h0, ofBits_384]
    simp only [mul_zero, zero_mul, add_zero, neg_zero, Finset.sum_const_zero, h1]

/-- The gradient of a layer-normed row is real where the gradient after the activation is, for every row. -/
theorem gate_real {d : EReal} (hd : IsReal d) (a : EReal) : IsReal (gateGrad d a 1) := by
  obtain ⟨d, rfl⟩ := hd
  unfold gateGrad
  induction a using EReal.rec with
  | bot =>
    rw [logistic_bot]
    exact ⟨0, by simp⟩
  | top =>
    rw [logistic_top, one_sub_one]
    exact ⟨d, by simp⟩
  | coe a =>
    rw [logistic_coe, ← EReal.coe_one]
    simp only [← EReal.coe_mul, ← EReal.coe_add, ← EReal.coe_sub]
    exact ⟨_, rfl⟩

end Cert.Kernel6Ideal.O

end
-- ==== Proof.OBlock.lean ====
/-
What one grid point of the mixer output's backward kernel computes from the blocks before it: the gradients of its rows of
the mixer's output, the gradients of its rows before the layer norm, and what it adds to the gradients of
the output weight, of the gain and of the shift.
-/
module

public import proofs.«01_k».proof.Proof.OReal
public import proofs.«01_k».proof.Proof.Gen.Kernel6Ideal.Frame

@[expose] public section

set_option maxRecDepth 16384

noncomputable section

namespace Cert.Kernel6Ideal.O

open Idealize.ShloMosaic Idealize.ShloMosaic.TcCoe Cert.Kernel6Ideal.Gen
open Cert.KernelIdeal.A (gateGrad)

variable (m : (ℓ : Loc nD τ sig) → Buf (Elt Ideal) ℓ)

/-- The gradients of a block of rows of the mixer's output: the block's incoming gradients against the weight. -/
def dyBlock (D : Vec Ideal S512x1024 .f32) (W : Vec Ideal S1024x1024 .bf16) (p : Fin 512) (j : Fin 1024) : EReal :=
  ∑ k : Fin 1024, D (ix2 p k) * W (ix2 j k)

/-- The gradients of a block's layer-normed rows: those of the first 384 columns, back through the activation. -/
def lnBlock (D : Vec Ideal S512x1024 .f32) (W : Vec Ideal S1024x1024 .bf16) (X : Vec Ideal S512x384 .f32) (G B : Vec Ideal S1x384 .f32)
    (p : Fin 512) (q : Fin 384) : EReal :=
  normGrad (fun k => X (ix2 p k)) (fun k => G (ix2 0 k)) (fun k => B (ix2 0 k)) (fun k => dyBlock D W p ⟨k.val, by omega⟩) q

/-- The gradients of the mixer's output, from whole blocks. -/
theorem pay7 (D : Vec Ideal S512x1024 .f32) (W : Vec Ideal S1024x1024 .bf16) :
    (k0_pay7 D W : FVec Ideal S512x1024 .f32) = fun x => dyBlock D W (x 0) (x 1) := by
  funext x
  unfold k0_pay7 k0_pay5
  pointwise
  rfl

/-- The scales of a block's rows. -/
theorem pay10 (X : Vec Ideal S512x384 .f32) : (k0_pay10 X : FVec Ideal S512x1 .f32) = fun x => scale (fun k => X (ix2 (x 0) k)) := by
  funext x
  obtain ⟨p, q, rfl⟩ : ∃ p q, x = ix2 p q := ⟨x 0, x 1, eq_ix2 x⟩
  unfold k0_pay10 k0_pay9
  pointwise
  rfl

/-- A block's rows less their means, scaled. -/
theorem pay11 (X : Vec Ideal S512x384 .f32) : (k0_pay11 X : FVec Ideal S512x384 .f32) = fun x => std (fun k => X (ix2 (x 0) k)) (x 1) := by
  funext x
  obtain ⟨p, q, rfl⟩ : ∃ p q, x = ix2 p q := ⟨x 0, x 1, eq_ix2 x⟩
  unfold k0_pay11
  rw [pay10]
  unfold k0_pay9
  pointwise
  rfl

/-- The gradients of a block's layer-normed rows. -/
theorem pay13 (D : Vec Ideal S512x1024 .f32) (W : Vec Ideal S1024x1024 .bf16) (X : Vec Ideal S512x384 .f32) (G B : Vec Ideal S1x384 .f32) :
    (k0_pay13 (k0_pay7 D W) (k0_pay11 X) (k0_pay12 G) B : FVec Ideal S512x384 .f32) = fun x => lnBlock D W X G B (x 0) (x 1) := by
  funext x
  obtain ⟨p, q, rfl⟩ : ∃ p q, x = ix2 p q := ⟨x 0, x 1, eq_ix2 x⟩
  rw [pay7, pay11]
  unfold k0_pay13 k0_pay12
  pointwise
  unfold lnBlock normGrad gateGrad
  rw [mul_one]
  rfl

/-- The gradients of the rows before the layer norm. -/
theorem pay17 (D : Vec Ideal S512x1024 .f32) (W : Vec Ideal S1024x1024 .bf16) (X : Vec Ideal S512x384 .f32) (G B : Vec Ideal S1x384 .f32) (x : S512x384.Idx) :
    (k0_pay17 (k0_pay10 X) (k0_pay11 X) (k0_pay16 (k0_pay7 D W) (k0_pay11 X) (k0_pay12 G) B G) : FVec Ideal S512x384 .f32) x
      = rowGrad (fun k => X (ix2 (x 0) k)) (fun k => lnBlock D W X G B (x 0) k * G (ix2 0 k)) (x 1) := by
  obtain ⟨p, q, rfl⟩ : ∃ p q, x = ix2 p q := ⟨x 0, x 1, eq_ix2 x⟩
  unfold k0_pay16
  rw [pay13, pay11, pay10]
  unfold k0_pay17
  pointwise
  rfl

/-- The gradients of the other 640 columns of the mixer's output. -/
theorem pay18 (D : Vec Ideal S512x1024 .f32) (W : Vec Ideal S1024x1024 .bf16) (x : S512x640.Idx) :
    (k0_pay18 (k0_pay7 D W) : FVec Ideal S512x640 .bf16) x
      = dyBlock D W (x 0) ⟨384 + (x 1).val, by have : (x 1).val < 640 := (x 1).isLt; omega⟩ := by
  obtain ⟨p, q, rfl⟩ : ∃ p q, x = ix2 p q := ⟨x 0, x 1, eq_ix2 x⟩
  rw [pay7]
  unfold k0_pay18
  pointwise

/-- What a point adds to the weight gradient: the mixer's output against the incoming gradients, summed over the block's
    rows. -/
def wAdd (Y : Vec Ideal S512x1024 .bf16) (D : Vec Ideal S512x1024 .f32) (x : S1024x1024.Idx) : EReal :=
  ∑ p : Fin 512, Y (ix2 p (x 0)) * D (ix2 p (x 1))

/-- The weight gradient a point stores. -/
theorem pay8 (D : Vec Ideal S512x1024 .f32) (Y : Vec Ideal S512x1024 .bf16) (A : Vec Ideal S1024x1024 .f32) (x : S1024x1024.Idx) :
    (k0_pay8 D Y A : FVec Ideal S1024x1024 .f32) x = A x + wAdd Y D x := by
  unfold wAdd k0_pay8 k0_pay6 k0_pay5
  pointwise

/-- The gain gradient a point stores. -/
theorem pay14 (D : Vec Ideal S512x1024 .f32) (W : Vec Ideal S1024x1024 .bf16) (X : Vec Ideal S512x384 .f32) (G B A : Vec Ideal S1x384 .f32) (x : S1x384.Idx) :
    (k0_pay14 (k0_pay7 D W) (k0_pay11 X) (k0_pay12 G) B A : FVec Ideal S1x384 .f32) x
      = A x + ∑ p : Fin 512, lnBlock D W X G B p (x 1) * std (fun k => X (ix2 p k)) (x 1) := by
  unfold k0_pay14
  rw [pay13, pay11]
  pointwise

/-- The shift gradient a point stores. -/
theorem pay15 (D : Vec Ideal S512x1024 .f32) (W : Vec Ideal S1024x1024 .bf16) (X : Vec Ideal S512x384 .f32) (G B A : Vec Ideal S1x384 .f32) (x : S1x384.Idx) :
    (k0_pay15 (k0_pay7 D W) (k0_pay11 X) (k0_pay12 G) B A : FVec Ideal S1x384 .f32) x
      = A x + ∑ p : Fin 512, lnBlock D W X G B p (x 1) := by
  unfold k0_pay15
  rw [pay13]
  pointwise

/-- The zero block the weight gradient starts from. -/
theorem pay2 (y : S1024x1024.Idx) : k0_pay2 (F := Ideal) y = 0 := by
  unfold k0_pay2
  pointwise

/-- The zero row the gain gradient starts from. -/
theorem pay3 (y : S1x384.Idx) : k0_pay3 (F := Ideal) y = 0 := by
  unfold k0_pay3
  pointwise

/-- The zero row the shift gradient starts from. -/
theorem pay4 (y : S1x384.Idx) : k0_pay4 (F := Ideal) y = 0 := by
  unfold k0_pay4
  pointwise

/-- Every point leaves the gradients of its rows before the layer norm in the first output's block. -/
theorem step_row (c : Dev nD) (t : Fin cfg0.N) (y : S512x384.Idx) :
    (outsAt0 m c t.val t.isLt).1 y = rowGrad (fun k => (iblk m c 2 t : Vec Ideal S512x384 .f32) (ix2 (y 0) k))
      (fun k => lnBlock (iblk m c 0 t) (iblk m c 5 t) (iblk m c 2 t) (iblk m c 3 t) (iblk m c 4 t) (y 0) k * (iblk m c 3 t : Vec Ideal S1x384 .f32) (ix2 0 k)) (y 1) := by
  by_cases h0 : t.val % 16 = 0
  · rw [outsAt0_A m c t h0]
    frame_out
    exact pay17 _ _ _ _ _ y
  · rw [outsAt0_B m c t h0]
    frame_out
    exact pay17 _ _ _ _ _ y

/-- Every point leaves the gradients of the other columns in the second output's block. -/
theorem step_att (c : Dev nD) (t : Fin cfg0.N) (y : S512x640.Idx) :
    (outsAt0 m c t.val t.isLt).2.1 y = dyBlock (iblk m c 0 t) (iblk m c 5 t) (y 0) ⟨384 + (y 1).val, by have : (y 1).val < 640 := (y 1).isLt; omega⟩ := by
  by_cases h0 : t.val % 16 = 0
  · rw [outsAt0_A m c t h0]
    frame_out
    exact pay18 _ _ y
  · rw [outsAt0_B m c t h0]
    frame_out
    exact pay18 _ _ y

/-- The first point leaves its own addend in the weight gradient. -/
theorem w_reset (c : Dev nD) (t : Fin cfg0.N) (h0 : t.val % 16 = 0) (y : S1024x1024.Idx) :
    (outsAt0 m c t.val t.isLt).2.2.2.1 y = 0 + wAdd (iblk m c 1 t) (iblk m c 0 t) y := by
  rw [outsAt0_A m c t h0]
  frame_out
  exact (pay8 _ _ (k0_pay2 (F := Ideal)) y).trans (congrArg (· + _) (pay2 y))

/-- Every other point adds its addend to the weight gradient the point before left. -/
theorem w_add (c : Dev nD) (t : Fin cfg0.N) (h0 : ¬t.val % 16 = 0) (y : S1024x1024.Idx) :
    (outsAt0 m c t.val t.isLt).2.2.2.1 y = (outsAt0 m c (t.val - 1) (Nat.lt_of_le_of_lt (Nat.sub_le _ _) t.isLt)).2.2.2.1 y
      + wAdd (iblk m c 1 t) (iblk m c 0 t) y := by
  rw [outsAt0_B m c t h0]
  frame_out
  exact pay8 _ _ _ y

/-- The gradients of the layer-normed rows of point `t`. -/
def lnAt (c : Dev nD) (t : Fin cfg0.N) (p : Fin 512) (q : Fin 384) : EReal :=
  lnBlock (iblk m c 0 t) (iblk m c 5 t) (iblk m c 2 t) (iblk m c 3 t) (iblk m c 4 t) p q

/-- The first point leaves its own addend in the gain gradient. -/
theorem gain_reset (c : Dev nD) (t : Fin cfg0.N) (h0 : t.val % 16 = 0) (y : S1x384.Idx) :
    (outsAt0 m c t.val t.isLt).2.2.2.2.1 y
      = 0 + ∑ p : Fin 512, lnAt m c t p (y 1) * std (fun k => (iblk m c 2 t : Vec Ideal S512x384 .f32) (ix2 p k)) (y 1) := by
  rw [outsAt0_A m c t h0]
  frame_out
  exact (pay14 _ _ _ _ _ (k0_pay3 (F := Ideal)) y).trans (congrArg (· + _) (pay3 y))

/-- Every other point adds its addend to the gain gradient the point before left. -/
theorem gain_add (c : Dev nD) (t : Fin cfg0.N) (h0 : ¬t.val % 16 = 0) (y : S1x384.Idx) :
    (outsAt0 m c t.val t.isLt).2.2.2.2.1 y = (outsAt0 m c (t.val - 1) (Nat.lt_of_le_of_lt (Nat.sub_le _ _) t.isLt)).2.2.2.2.1 y
      + ∑ p : Fin 512, lnAt m c t p (y 1) * std (fun k => (iblk m c 2 t : Vec Ideal S512x384 .f32) (ix2 p k)) (y 1) := by
  rw [outsAt0_B m c t h0]
  frame_out
  exact pay14 _ _ _ _ _ _ y

/-- The first point leaves its own addend in the shift gradient. -/
theorem shift_reset (c : Dev nD) (t : Fin cfg0.N) (h0 : t.val % 16 = 0) (y : S1x384.Idx) :
    (outsAt0 m c t.val t.isLt).2.2.2.2.2 y = 0 + ∑ p : Fin 512, lnAt m c t p (y 1) := by
  rw [outsAt0_A m c t h0]
  frame_out
  exact (pay15 _ _ _ _ _ (k0_pay4 (F := Ideal)) y).trans (congrArg (· + _) (pay4 y))

/-- Every other point adds its addend to the shift gradient the point before left. -/
theorem shift_add (c : Dev nD) (t : Fin cfg0.N) (h0 : ¬t.val % 16 = 0) (y : S1x384.Idx) :
    (outsAt0 m c t.val t.isLt).2.2.2.2.2 y = (outsAt0 m c (t.val - 1) (Nat.lt_of_le_of_lt (Nat.sub_le _ _) t.isLt)).2.2.2.2.2 y
      + ∑ p : Fin 512, lnAt m c t p (y 1) := by
  rw [outsAt0_B m c t h0]
  frame_out
  exact pay15 _ _ _ _ _ _ y

end Cert.Kernel6Ideal.O

end
-- ==== Proof.OHead.lean ====
/-
The sums over the heads that one grid point of the mixer output's backward kernel leaves: for each row and each of the ten
heads, the gradients of the head's 64 columns against the columns themselves.
-/
module

public import proofs.«01_k».proof.Proof.OBlock

@[expose] public section

set_option maxRecDepth 16384

noncomputable section

namespace Cert.Kernel6Ideal.O

open Idealize.ShloMosaic Idealize.ShloMosaic.TcCoe Cert.Kernel6Ideal.Gen

variable (m : (ℓ : Loc nD τ sig) → Buf (Elt Ideal) ℓ)

/-- The sum of head `h` of row `p`: the gradients of the head's columns against the columns. -/
def head (D : FVec Ideal S512x1024 .f32) (Y : FVec Ideal S512x1024 .bf16) (p : Fin 512) (h : Fin 10) : EReal :=
  ∑ j : Fin 64, D (ix2 p ⟨384 + (64 * h.val + j.val), by omega⟩) * Y (ix2 p ⟨384 + (64 * h.val + j.val), by omega⟩)

/-- The sums of row `p`, ten heads in sixteen lanes. -/
def lanes (D : FVec Ideal S512x1024 .f32) (Y : FVec Ideal S512x1024 .bf16) (p : Fin 512) (h : Fin 16) : EReal :=
  if hh : h.val < 10 then head D Y p ⟨h.val, hh⟩ else 0

/-- Which lanes the body takes for the lower half of a pair of heads. -/
theorem lane_lt : ∀ x : Fin 128, IntOp.cmpi CmpIPredicate.slt (BitVec.ofNat 32 x.val) 64#32 = if x.val < 64 then 1#1 else 0#1 := by
  decide +kernel

/-- Which lane the body puts a sum into. -/
theorem lane_eq : ∀ p c : Fin 16, IntOp.cmpi CmpIPredicate.eq (BitVec.ofNat 32 p.val) (BitVec.ofNat 32 c.val) = if p = c then 1#1 else 0#1 := by
  decide +kernel

/-- Choosing by a lane. -/
theorem select_eq (p c : Fin 16) (a b : EReal) :
    Scalar.select (IntOp.cmpi CmpIPredicate.eq (BitVec.ofNat 32 p.val) (BitVec.ofNat 32 c.val)) a b = if p = c then a else b := by
  rw [lane_eq]
  split_ifs <;> rfl

/-- The sum over the lower half of a pair of heads is the lower head's. -/
theorem pair_low (D : FVec Ideal S512x1024 .f32) (Y : FVec Ideal S512x1024 .bf16) (p : Fin 512) (h : Fin 10) (o : ℕ)
    (ho : o = 384 + 64 * h.val) (hb : ∀ x : Fin 128, o + x.val < 1024) :
    (∑ x : Fin 128, Scalar.select (IntOp.cmpi CmpIPredicate.slt (BitVec.ofNat 32 x.val) 64#32)
        (D (ix2 p ⟨o + x.val, hb x⟩) * Y (ix2 p ⟨o + x.val, hb x⟩) : EReal) 0) = head D Y p h := by
  refine (Fin.sum_univ_add (a := 64) (b := 64) _).trans ?_
  have hz : ∀ j : Fin 64, Scalar.select (IntOp.cmpi CmpIPredicate.slt (BitVec.ofNat 32 (Fin.natAdd 64 j : Fin (64 + 64)).val) 64#32)
      (D (ix2 p ⟨o + (Fin.natAdd 64 j : Fin (64 + 64)).val, hb (Fin.natAdd 64 j)⟩) * Y (ix2 p ⟨o + (Fin.natAdd 64 j : Fin (64 + 64)).val, hb (Fin.natAdd 64 j)⟩) : EReal) 0 = 0 := fun j => by
    rw [lane_lt (Fin.natAdd 64 j), if_neg (by rw [Fin.val_natAdd]; omega)]
    rfl
  rw [Finset.sum_eq_zero fun j _ => hz j, add_zero]
  refine Finset.sum_congr rfl fun j _ => ?_
  rw [lane_lt (Fin.castAdd 64 j), if_pos (by rw [Fin.val_castAdd]; omega)]
  refine congrArg (fun i : Fin 1024 => D (ix2 p i) * Y (ix2 p i)) (Fin.ext ?_)
  show o + j.val = 384 + (64 * h.val + j.val)
  omega

/-- The sum over the upper half of a pair of heads is the upper head's. -/
theorem pair_high (D : FVec Ideal S512x1024 .f32) (Y : FVec Ideal S512x1024 .bf16) (p : Fin 512) (h : Fin 10) (o : ℕ)
    (ho : o + 64 = 384 + 64 * h.val) (hb : ∀ x : Fin 128, o + x.val < 1024) :
    (∑ x : Fin 128, Scalar.select (IntOp.cmpi CmpIPredicate.slt (BitVec.ofNat 32 x.val) 64#32) 0
        (D (ix2 p ⟨o + x.val, hb x⟩) * Y (ix2 p ⟨o + x.val, hb x⟩) : EReal)) = head D Y p h := by
  refine (Fin.sum_univ_add (a := 64) (b := 64) _).trans ?_
  have hz : ∀ j : Fin 64, Scalar.select (IntOp.cmpi CmpIPredicate.slt (BitVec.ofNat 32 (Fin.castAdd 64 j : Fin (64 + 64)).val) 64#32) 0
      (D (ix2 p ⟨o + (Fin.castAdd 64 j : Fin (64 + 64)).val, hb (Fin.castAdd 64 j)⟩) * Y (ix2 p ⟨o + (Fin.castAdd 64 j : Fin (64 + 64)).val, hb (Fin.castAdd 64 j)⟩) : EReal) = 0 := fun j => by
    rw [lane_lt (Fin.castAdd 64 j), if_pos (by rw [Fin.val_castAdd]; omega)]
    rfl
  rw [Finset.sum_eq_zero fun j _ => hz j, zero_add]
  refine Finset.sum_congr rfl fun j _ => ?_
  rw [lane_lt (Fin.natAdd 64 j), if_neg (by rw [Fin.val_natAdd]; omega)]
  refine congrArg (fun i : Fin 1024 => D (ix2 p i) * Y (ix2 p i)) (Fin.ext ?_)
  show o + (64 + j.val) = 384 + (64 * h.val + j.val)
  omega

/-- The lanes of the first two pairs of heads. -/
theorem pay25 (Y : FVec Ideal S512x1024 .bf16) (D : FVec Ideal S512x1024 .f32) (p : Fin 512) (q : Fin 16) :
    (k0_pay25 Y D (iota .tc S512x128 32 [1] iota_S512x128_d1_w32) k0_pay19 (k0_pay21 Y D) (k0_pay22 Y D) k0_pay23 k0_pay24 : FVec Ideal S512x128 .f32)
        (ix2 p ⟨q.val, by omega⟩)
      = if q = 2 then head D Y p 2 else if q = 3 then head D Y p 3 else if q = 0 then head D Y p 0 else if q = 1 then head D Y p 1 else 0 := by
  unfold k0_pay25 k0_pay24 k0_pay23 k0_pay22 k0_pay21 k0_pay20 k0_pay19
  pointwise
  rw [pair_low D Y p 2 512 rfl, pair_high D Y p 3 512 rfl, pair_low D Y p 0 384 rfl, pair_high D Y p 1 384 rfl]
  exact (select_eq q 2 _ _).trans (congrArg _ ((select_eq q 3 _ _).trans (congrArg _ ((select_eq q 0 _ _).trans (congrArg _ (select_eq q 1 _ _))))))

/-- The lanes of the first four pairs of heads, over those of the first two. -/
theorem pay29 (Y : FVec Ideal S512x1024 .bf16) (D : FVec Ideal S512x1024 .f32) (N : FVec Ideal S512x128 .f32) (p : Fin 512) (q : Fin 16) :
    (k0_pay29 Y D (iota .tc S512x128 32 [1] iota_S512x128_d1_w32) N (k0_pay27 Y D (iota .tc S512x128 32 [1] iota_S512x128_d1_w32))
        (k0_pay28 Y D (iota .tc S512x128 32 [1] iota_S512x128_d1_w32)) : FVec Ideal S512x128 .f32) (ix2 p ⟨q.val, by omega⟩)
      = if q = 6 then head D Y p 6 else if q = 7 then head D Y p 7 else if q = 4 then head D Y p 4 else if q = 5 then head D Y p 5
          else N (ix2 p ⟨q.val, by omega⟩) := by
  unfold k0_pay29 k0_pay28 k0_pay27 k0_pay26
  pointwise
  rw [pair_low D Y p 6 768 rfl, pair_high D Y p 7 768 rfl, pair_low D Y p 4 640 rfl, pair_high D Y p 5 640 rfl]
  exact (select_eq q 6 _ _).trans (congrArg _ ((select_eq q 7 _ _).trans (congrArg _ ((select_eq q 4 _ _).trans (congrArg _ (select_eq q 5 _ _))))))

/-- The lanes of all five pairs, over those of the first four, turned over. -/
theorem pay1 (Y : FVec Ideal S512x1024 .bf16) (D : FVec Ideal S512x1024 .f32) (N : FVec Ideal S512x128 .f32) (q : Fin 16) (p : Fin 512) :
    (k0_pay1 (iota .tc S512x128 32 [1] iota_S512x128_d1_w32) N (k0_pay30 Y D) (k0_pay31 Y D (iota .tc S512x128 32 [1] iota_S512x128_d1_w32)) : FVec Ideal S16x512 .f32) (ix2 q p)
      = if q = 8 then head D Y p 8 else if q = 9 then head D Y p 9 else N (ix2 p ⟨q.val, by omega⟩) := by
  unfold k0_pay1 k0_pay31 k0_pay30
  pointwise
  rw [pair_low D Y p 8 896 rfl, pair_high D Y p 9 896 rfl]
  exact (select_eq q 8 _ _).trans (congrArg _ (select_eq q 9 _ _))

/-- The choices by lane come to the sums of the ten heads and zero above them. -/
theorem choose_eq (f : Fin 10 → EReal) (q : Fin 16) :
    (if q = 8 then f 8 else if q = 9 then f 9 else if q = 6 then f 6 else if q = 7 then f 7 else if q = 4 then f 4 else if q = 5 then f 5
      else if q = 2 then f 2 else if q = 3 then f 3 else if q = 0 then f 0 else if q = 1 then f 1 else 0)
      = if hh : q.val < 10 then f ⟨q.val, hh⟩ else 0 := by
  fin_cases q <;> rfl

/-- The sums a point stores, from whole blocks. -/
theorem delta_block (Y : FVec Ideal S512x1024 .bf16) (D : FVec Ideal S512x1024 .f32) (y : S16x512.Idx) :
    (k0_pay1 (iota .tc S512x128 32 [1] iota_S512x128_d1_w32)
      (k0_pay29 Y D (iota .tc S512x128 32 [1] iota_S512x128_d1_w32)
        (k0_pay25 Y D (iota .tc S512x128 32 [1] iota_S512x128_d1_w32) k0_pay19 (k0_pay21 Y D) (k0_pay22 Y D) k0_pay23 k0_pay24)
        (k0_pay27 Y D (iota .tc S512x128 32 [1] iota_S512x128_d1_w32)) (k0_pay28 Y D (iota .tc S512x128 32 [1] iota_S512x128_d1_w32)))
      (k0_pay30 Y D) (k0_pay31 Y D (iota .tc S512x128 32 [1] iota_S512x128_d1_w32)) : FVec Ideal S16x512 .f32) y = lanes D Y (y 1) (y 0) := by
  obtain ⟨q, p, rfl⟩ : ∃ q p, y = ix2 q p := ⟨y 0, y 1, eq_ix2 y⟩
  refine (pay1 Y D _ q p).trans (Eq.trans ?_ (choose_eq (head D Y p) q))
  refine congrArg (fun z : EReal => if q = 8 then head D Y p 8 else if q = 9 then head D Y p 9 else z) ((pay29 Y D _ p q).trans ?_)
  exact congrArg (fun z : EReal => if q = 6 then head D Y p 6 else if q = 7 then head D Y p 7 else if q = 4 then head D Y p 4
    else if q = 5 then head D Y p 5 else z) (pay25 Y D p q)

/-- The block of the mixer's output is taken as it is. -/
theorem pay6 (Y : Vec Ideal S512x1024 .bf16) : (k0_pay6 Y : FVec Ideal S512x1024 .bf16) = Y := by
  funext x
  unfold k0_pay6
  pointwise

/-- The gradients of the mixer's output at point `t`. -/
def dyAt (c : Dev nD) (t : Fin cfg0.N) : FVec Ideal S512x1024 .f32 := fun x => dyBlock (iblk m c 0 t) (iblk m c 5 t) (x 0) (x 1)

/-- The sums a point stores, from its operand blocks. -/
theorem delta_at (c : Dev nD) (t : Fin cfg0.N) (y : S16x512.Idx) :
    lanes (k0_pay7 (iblk m c 0 t) (iblk m c 5 t)) (k0_pay6 (iblk m c 1 t)) (y 1) (y 0) = lanes (dyAt m c t) (iblk m c 1 t) (y 1) (y 0) :=
  congrArg₂ (fun (D : FVec Ideal S512x1024 .f32) (Y : FVec Ideal S512x1024 .bf16) => lanes D Y (y 1) (y 0))
    (pay7 (iblk m c 0 t) (iblk m c 5 t)) (pay6 (iblk m c 1 t))

/-- Every point leaves the sums of its rows' heads in the third output's block. -/
theorem step_delta (c : Dev nD) (t : Fin cfg0.N) (y : S16x512.Idx) :
    (outsAt0 m c t.val t.isLt).2.2.1 y = lanes (dyAt m c t) (iblk m c 1 t) (y 1) (y 0) := by
  by_cases h0 : t.val % 16 = 0
  · rw [outsAt0_A m c t h0]
    frame_out
    exact (delta_block (k0_pay6 (iblk m c 1 t)) (k0_pay7 (iblk m c 0 t) (iblk m c 5 t)) y).trans (delta_at m c t y)
  · rw [outsAt0_B m c t h0]
    frame_out
    exact (delta_block (k0_pay6 (iblk m c 1 t)) (k0_pay7 (iblk m c 0 t) (iblk m c 5 t)) y).trans (delta_at m c t y)

end Cert.Kernel6Ideal.O

end
-- ==== Proof.OHost.lean ====
/-
What the operand blocks of the mixer output's backward kernel hold at each grid point, in terms of the program's arguments.
-/
module

public import proofs.«01_k».proof.Proof.OHead
public import Idealize.ShloMosaic.Lib.StableHlo.RunRead

@[expose] public section

set_option maxRecDepth 16384

noncomputable section

namespace Cert.Kernel6Ideal.O

open Idealize.ShloMosaic Idealize.ShloMosaic.TcCoe Idealize.ShloMosaic.StableHlo Cert.Kernel6Ideal.Gen
open Cert.KernelIdeal.A (logistic)

/-- A row of the mixer's output: the layer norm of the convolution's row through the activation, and the attention's row. -/
def mix (x g b : Fin 384 → EReal) (a : Fin 640 → EReal) (j : Fin 1024) : EReal :=
  if h : j.val < 384 then layer x g b ⟨j.val, h⟩ * logistic (layer x g b ⟨j.val, h⟩) else a ⟨j.val - 384, by omega⟩

/-- Past the first 384 columns the mixer's output is the attention's row. -/
theorem mix_att (x g b : Fin 384 → EReal) (a : Fin 640 → EReal) (k : Fin 640) (j : Fin 1024) (hj : j.val = 384 + k.val) : mix x g b a j = a k := by
  unfold mix
  rw [dif_neg (by omega)]
  exact congrArg a (Fin.ext (by show j.val - 384 = k.val; omega))

/-- The mixer's output. -/
def mixed (X : S8192x384.Idx → EReal) (A : S8192x640.Idx → EReal) (G B : S384.Idx → EReal) (r : Fin 8192) (j : Fin 1024) : EReal :=
  mix (fun k => X (ix2 r k)) (fun k => G (ix1 k)) (fun k => B (ix1 k)) (fun k => A (ix2 r k)) j

variable (m : (ℓ : Loc nD τ sig) → Buf (Elt Ideal) ℓ) (c : Dev nD)

/-- The convolution's rows. -/
def argX : S8192x384.Idx → EReal := m ((c : Thread nD τ).loc main_arg0)
/-- The attention's rows. -/
def argA : S8192x640.Idx → EReal := m ((c : Thread nD τ).loc main_arg1)
/-- The gain. -/
def argG : S384.Idx → EReal := m ((c : Thread nD τ).loc main_arg2)
/-- The shift. -/
def argB : S384.Idx → EReal := m ((c : Thread nD τ).loc main_arg3)
/-- The output weight. -/
def argW : S1024x1024.Idx → EReal := m ((c : Thread nD τ).loc main_arg4)
/-- The incoming gradients. -/
def argD : S8192x1024.Idx → EReal := m ((c : Thread nD τ).loc main_arg5)

/-- The weight operand is the weight. -/
theorem v29_at (i : S1024x1024.Idx) : (Gen.V m c main_v29 : S1024x1024.Idx → EReal) i = argW m c i := by
  have e : Gen.V m c main_v29 = truncf (F := Ideal) .bf16 (m ((c : Thread nD τ).loc main_arg4) : (⟨S1024x1024, .f32⟩ : BufTy).Contents (Elt Ideal)) bitsLt_bf16_f32 := by
    unfold Gen.V
    simp only [hostOps0, hostOps0_1, hostOps0_2, List.flatten, List.cons_append, List.nil_append, List.append_nil, TRef.binary, TRef.nullary,
      TRef.unary, TRef.toBuf, TRef.ofBuf, cast_eq]
    after_reads_simp
  rw [e]
  pointwise
  rfl

/-- The gain operand is the gain as one row. -/
theorem v27_at (k : Fin 384) : (Gen.V m c main_v27 : S1x384.Idx → EReal) (ix2 0 k) = argG m c (ix1 k) := by
  have e : Gen.V m c main_v27 = broadcastInDim S1x384 ![1] bcast_S384_S1x384_1 (m ((c : Thread nD τ).loc main_arg2)) := by
    unfold Gen.V
    simp only [hostOps0, hostOps0_1, hostOps0_2, List.flatten, List.cons_append, List.nil_append, List.append_nil, TRef.binary, TRef.nullary,
      TRef.unary, TRef.toBuf, TRef.ofBuf, cast_eq]
    after_reads_simp
  rw [e]
  pointwise
  rfl

/-- The shift operand is the shift as one row. -/
theorem v28_at (k : Fin 384) : (Gen.V m c main_v28 : S1x384.Idx → EReal) (ix2 0 k) = argB m c (ix1 k) := by
  have e : Gen.V m c main_v28 = broadcastInDim S1x384 ![1] bcast_S384_S1x384_1 (m ((c : Thread nD τ).loc main_arg3)) := by
    unfold Gen.V
    simp only [hostOps0, hostOps0_1, hostOps0_2, List.flatten, List.cons_append, List.nil_append, List.append_nil, TRef.binary, TRef.nullary,
      TRef.unary, TRef.toBuf, TRef.ofBuf, cast_eq]
    after_reads_simp
  rw [e]
  pointwise
  rfl

/-- The layer norm of the convolution's rows through the activation. -/
theorem v24_at (r : Fin 8192) (j : Fin 384) :
    (Gen.V m c main_v24 : S8192x384.Idx → EReal) (ix2 r j)
      = layer (fun k => argX m c (ix2 r k)) (fun k => argG m c (ix1 k)) (fun k => argB m c (ix1 k)) j
        * logistic (layer (fun k => argX m c (ix2 r k)) (fun k => argG m c (ix1 k)) (fun k => argB m c (ix1 k)) j) := by
  unfold Gen.V
  simp only [hostOps0, hostOps0_1, hostOps0_2, List.flatten, List.cons_append, List.nil_append, List.append_nil, TRef.binary, TRef.nullary,
    TRef.unary, TRef.toBuf, TRef.ofBuf, cast_eq]
  after_reads_simp
  pointwise
  unfold Cert.KernelIdeal.A.logistic
  rw [zero_sub]
  rfl

/-- The operand of the mixer's output is those rows beside the attention's. -/
theorem v26_cat : Gen.V m c main_v26 = truncf (F := Ideal) .bf16 (concatenate S8192x1024 1
      [⟨S8192x384, (Gen.V m c main_v24 : (⟨S8192x384, .f32⟩ : BufTy).Contents (Elt Ideal))⟩, ⟨S8192x640, (Gen.V m c main_arg1 : (⟨S8192x640, .f32⟩ : BufTy).Contents (Elt Ideal))⟩]
      concatenates_S8192x384_S8192x640_S8192x1024_d1) bitsLt_bf16_f32 := by
  unfold Gen.V
  simp only [hostOps0, hostOps0_1, hostOps0_2, List.flatten, List.cons_append, List.nil_append, List.append_nil, TRef.binary, TRef.nullary,
    TRef.unary, TRef.toBuf, TRef.ofBuf, cast_eq]
  after_reads_simp
  rfl

/-- The operand of the mixer's output holds it. -/
theorem v26_at (r : Fin 8192) (j : Fin 1024) :
    (Gen.V m c main_v26 : S8192x1024.Idx → EReal) (ix2 r j) = mixed (argX m c) (argA m c) (argG m c) (argB m c) r j := by
  have h := v24_at m c r
  rw [v26_cat, V_main_arg1]
  generalize Gen.V m c main_v24 = L at h
  pointwise
  unfold mixed mix
  split_ifs with hj h1
  · exact h ⟨j.val, hj⟩
  · rfl
  · exact absurd rfl h1

/-- The blocks point `t` takes: its own rows of the incoming gradients, of the mixer's output and of the convolution's rows,
    the whole gain, shift and weight. -/
theorem idx_at : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] :=
  (by decide +kernel : ∀ t : Fin grid0.N, _)

/-- The incoming gradients at point `t`. -/
theorem blk0 (t : Fin cfg0.N) (p : Fin 512) (k : Fin 1024) (r : Fin 8192) (hr : r.val = t.val * 512 + p.val) :
    (iblk m c 0 t : Vec Ideal S512x1024 .f32) (ix2 p k) = argD m c (ix2 r k) := by
  obtain ⟨e, -⟩ := idx_at t
  have h : (iblk m c 0 t : Vec Ideal S512x1024 .f32) (ix2 p k) = (V m c main_arg5 : Vec Ideal S8192x1024 .f32) (ix2 r k) := by
    blk_ext [iblk, V, e]
  rw [h, V_main_arg5]
  rfl

/-- The mixer's output at point `t`. -/
theorem blk1 (t : Fin cfg0.N) (p : Fin 512) (k : Fin 1024) (r : Fin 8192) (hr : r.val = t.val * 512 + p.val) :
    (iblk m c 1 t : Vec Ideal S512x1024 .bf16) (ix2 p k) = mixed (argX m c) (argA m c) (argG m c) (argB m c) r k := by
  obtain ⟨-, e, -⟩ := idx_at t
  have h : (iblk m c 1 t : Vec Ideal S512x1024 .bf16) (ix2 p k) = (V m c main_v26 : Vec Ideal S8192x1024 .bf16) (ix2 r k) := by
    blk_ext [iblk, V, e]
  exact h.trans (v26_at m c r k)

/-- The convolution's rows at point `t`. -/
theorem blk2 (t : Fin cfg0.N) (p : Fin 512) (k : Fin 384) (r : Fin 8192) (hr : r.val = t.val * 512 + p.val) :
    (iblk m c 2 t : Vec Ideal S512x384 .f32) (ix2 p k) = argX m c (ix2 r k) := by
  obtain ⟨-, -, e, -⟩ := idx_at t
  have h : (iblk m c 2 t : Vec Ideal S512x384 .f32) (ix2 p k) = (V m c main_arg0 : Vec Ideal S8192x384 .f32) (ix2 r k) := by
    blk_ext [iblk, V, e]
  rw [h, V_main_arg0]
  rfl

/-- The gain row at point `t`. -/
theorem blk3 (t : Fin cfg0.N) (k : Fin 384) : (iblk m c 3 t : Vec Ideal S1x384 .f32) (ix2 0 k) = argG m c (ix1 k) := by
  obtain ⟨-, -, -, e, -⟩ := idx_at t
  have h : (iblk m c 3 t : Vec Ideal S1x384 .f32) (ix2 0 k) = (V m c main_v27 : Vec Ideal S1x384 .f32) (ix2 0 k) := by
    blk_ext [iblk, V, e]
  exact h.trans (v27_at m c k)

/-- The shift row at point `t`. -/
theorem blk4 (t : Fin cfg0.N) (k : Fin 384) : (iblk m c 4 t : Vec Ideal S1x384 .f32) (ix2 0 k) = argB m c (ix1 k) := by
  obtain ⟨-, -, -, -, e, -⟩ := idx_at t
  have h : (iblk m c 4 t : Vec Ideal S1x384 .f32) (ix2 0 k) = (V m c main_v28 : Vec Ideal S1x384 .f32) (ix2 0 k) := by
    blk_ext [iblk, V, e]
  exact h.trans (v28_at m c k)

/-- The weight block at point `t`. -/
theorem blk5 (t : Fin cfg0.N) (q k : Fin 1024) : (iblk m c 5 t : Vec Ideal S1024x1024 .bf16) (ix2 q k) = argW m c (ix2 q k) := by
  obtain ⟨-, -, -, -, -, e⟩ := idx_at t
  have h : (iblk m c 5 t : Vec Ideal S1024x1024 .bf16) (ix2 q k) = (V m c main_v29 : Vec Ideal S1024x1024 .bf16) (ix2 q k) := by
    blk_ext [iblk, V, e]
  exact h.trans (v29_at m c (ix2 q k))

end Cert.Kernel6Ideal.O

end
-- ==== Proof.OValue.lean ====
/-
What the six output arrays of the mixer output's backward kernel hold after the run: the gradients of the convolution's rows
and of the attention's, the sums over the heads, and the gradients of the output weight, of the gain and of the shift.
-/
module

public import proofs.«01_k».proof.Proof.OHost
public import proofs.«01_k».proof.Proof.Gen.Kernel6Ideal.Value

@[expose] public section

set_option maxRecDepth 16384

noncomputable section

namespace Cert.Kernel6Ideal.O

open Idealize.ShloMosaic Idealize.ShloMosaic.TcCoe Cert.Kernel6Ideal.Gen Idealize.SL.Sem

/-- The gradients of the mixer's output: the incoming gradients against the weight. -/
def dmix (D : S8192x1024.Idx → EReal) (W : S1024x1024.Idx → EReal) (r : Fin 8192) (j : Fin 1024) : EReal :=
  ∑ k : Fin 1024, D (ix2 r k) * W (ix2 j k)

/-- The gradients of the layer-normed rows. -/
def dln (X : S8192x384.Idx → EReal) (G B : S384.Idx → EReal) (W : S1024x1024.Idx → EReal) (D : S8192x1024.Idx → EReal) (r : Fin 8192) (q : Fin 384) : EReal :=
  normGrad (fun k => X (ix2 r k)) (fun k => G (ix1 k)) (fun k => B (ix1 k)) (fun k => dmix D W r ⟨k.val, by omega⟩) q

/-- The sums over the heads: for each of the ten heads and each row, the gradients of the head's 64 columns of the
    attention's row against the columns; zero in the six lanes past the heads. -/
def headSum (A : S8192x640.Idx → EReal) (W : S1024x1024.Idx → EReal) (D : S8192x1024.Idx → EReal) (h : Fin 16) (r : Fin 8192) : EReal :=
  if hh : h.val < 10 then ∑ j : Fin 64, dmix D W r ⟨384 + (64 * h.val + j.val), by omega⟩ * A (ix2 r ⟨64 * h.val + j.val, by omega⟩) else 0

variable (m : (ℓ : Loc nD τ sig) → Buf (Elt Ideal) ℓ) (c : Dev nD)

/-- The mixer's output of the arguments. -/
def mixAt (r : Fin 8192) (j : Fin 1024) : EReal := mixed (argX m c) (argA m c) (argG m c) (argB m c) r j

/-- The gradients of the layer-normed rows of the arguments. -/
def dlnAt (r : Fin 8192) (q : Fin 384) : EReal := dln (argX m c) (argG m c) (argB m c) (argW m c) (argD m c) r q

/-- The gradients of the mixer's output at point `t`. -/
theorem dy_at (t : Fin cfg0.N) (p : Fin 512) (j : Fin 1024) (r : Fin 8192) (hr : r.val = t.val * 512 + p.val) :
    dyBlock (iblk m c 0 t) (iblk m c 5 t) p j = dmix (argD m c) (argW m c) r j :=
  Finset.sum_congr rfl fun k _ => congrArg₂ (fun y z : EReal => y * z) (blk0 m c t p k r hr) (blk5 m c t j k)

/-- The convolution's row at point `t`. -/
theorem row_at (t : Fin cfg0.N) (p : Fin 512) (r : Fin 8192) (hr : r.val = t.val * 512 + p.val) :
    (fun k => (iblk m c 2 t : Vec Ideal S512x384 .f32) (ix2 p k)) = fun k => argX m c (ix2 r k) :=
  funext fun k => blk2 m c t p k r hr

/-- The gradients of the layer-normed rows at point `t`. -/
theorem ln_at (t : Fin cfg0.N) (p : Fin 512) (q : Fin 384) (r : Fin 8192) (hr : r.val = t.val * 512 + p.val) :
    lnAt m c t p q = dlnAt m c r q := by
  have e1 : (fun k => (iblk m c 3 t : Vec Ideal S1x384 .f32) (ix2 0 k)) = fun k => argG m c (ix1 k) := funext fun k => blk3 m c t k
  have e2 : (fun k => (iblk m c 4 t : Vec Ideal S1x384 .f32) (ix2 0 k)) = fun k => argB m c (ix1 k) := funext fun k => blk4 m c t k
  have e3 : (fun k : Fin 384 => dyBlock (iblk m c 0 t) (iblk m c 5 t) p ⟨k.val, by omega⟩) = fun k => dmix (argD m c) (argW m c) r ⟨k.val, by omega⟩ :=
    funext fun k => dy_at m c t p _ r hr
  unfold lnAt lnBlock dlnAt dln
  rw [row_at m c t p r hr, e1, e2, e3]

/-- The sums over the heads at point `t`. -/
theorem lanes_at (t : Fin cfg0.N) (p : Fin 512) (h : Fin 16) (r : Fin 8192) (hr : r.val = t.val * 512 + p.val) :
    lanes (dyAt m c t) (iblk m c 1 t) p h = headSum (argA m c) (argW m c) (argD m c) h r := by
  unfold lanes headSum head
  split_ifs with hh
  · refine Finset.sum_congr rfl fun j _ => congrArg₂ (fun y z : EReal => y * z) (dy_at m c t p _ r hr) ?_
    exact (blk1 m c t p _ r hr).trans (mix_att _ _ _ _ _ _ rfl)
  · rfl

/-- The row a point and a row of its block stand for, in a run of sixteen points. -/
theorem run_row (t : Fin cfg0.N) (h3 : t.val % 16 = 15) (s : Fin 16) (p : Fin 512) (hN : t.val / 16 = 0) :
    s.val * 512 + p.val = (⟨16 * (t.val / 16) + s.val, Pipeline.run_point_lt_of_flush t h3 s⟩ : Fin cfg0.N).val * 512 + p.val := by
  show s.val * 512 + p.val = (16 * (t.val / 16) + s.val) * 512 + p.val
  omega

/-- The weight gradient after the last point. -/
theorem w_last (t : Fin cfg0.N) (h : t.val = 15) (y : S1024x1024.Idx) :
    (outsAt0 m c t.val t.isLt).2.2.2.1 y = ∑ r : Fin 8192, mixAt m c r (y 0) * argD m c (ix2 r (y 1)) := by
  have h3 : t.val % 16 = 15 := by omega
  rw [Pipeline.eq_sum_fin_of_reset_step_apply_of_flush (fun n h => (outsAt0 m c n h).2.2.2.1) 16 (fun _ => 0)
    (fun t y => wAdd (iblk m c 1 t) (iblk m c 0 t) y)
    (fun t h0 y => w_reset m c t h0 y) (fun t h0 y => w_add m c t h0 y) t h3 y, zero_add]
  unfold wAdd
  refine Fin.sum_mul_add_congr (S := 16) (n := 512) fun s p hl => ?_
  have hr := run_row t h3 s p (by omega)
  exact congrArg₂ (fun y z : EReal => y * z) (blk1 m c _ p (y 0) ⟨s.val * 512 + p.val, hl⟩ hr) (blk0 m c _ p (y 1) ⟨s.val * 512 + p.val, hl⟩ hr)

/-- The gain gradient after the last point. -/
theorem gain_last (t : Fin cfg0.N) (h : t.val = 15) (y : S1x384.Idx) :
    (outsAt0 m c t.val t.isLt).2.2.2.2.1 y = ∑ r : Fin 8192, dlnAt m c r (y 1) * std (fun k => argX m c (ix2 r k)) (y 1) := by
  have h3 : t.val % 16 = 15 := by omega
  rw [Pipeline.eq_sum_fin_of_reset_step_apply_of_flush (fun n h => (outsAt0 m c n h).2.2.2.2.1) 16 (fun _ => 0)
    (fun t y => ∑ p : Fin 512, lnAt m c t p (y 1) * std (fun k => (iblk m c 2 t : Vec Ideal S512x384 .f32) (ix2 p k)) (y 1))
    (fun t h0 y => gain_reset m c t h0 y) (fun t h0 y => gain_add m c t h0 y) t h3 y, zero_add]
  refine Fin.sum_mul_add_congr (S := 16) (n := 512) fun s p hl => ?_
  have hr := run_row t h3 s p (by omega)
  exact congrArg₂ (fun y z : EReal => y * z) (ln_at m c _ p (y 1) ⟨s.val * 512 + p.val, hl⟩ hr)
    (congrArg (fun x => std x (y 1)) (row_at m c _ p ⟨s.val * 512 + p.val, hl⟩ hr))

/-- The shift gradient after the last point. -/
theorem shift_last (t : Fin cfg0.N) (h : t.val = 15) (y : S1x384.Idx) :
    (outsAt0 m c t.val t.isLt).2.2.2.2.2 y = ∑ r : Fin 8192, dlnAt m c r (y 1) := by
  have h3 : t.val % 16 = 15 := by omega
  rw [Pipeline.eq_sum_fin_of_reset_step_apply_of_flush (fun n h => (outsAt0 m c n h).2.2.2.2.2) 16 (fun _ => 0)
    (fun t y => ∑ p : Fin 512, lnAt m c t p (y 1))
    (fun t h0 y => shift_reset m c t h0 y) (fun t h0 y => shift_add m c t h0 y) t h3 y, zero_add]
  refine Fin.sum_mul_add_congr (S := 16) (n := 512) fun s p hl => ?_
  exact ln_at m c _ p (y 1) ⟨s.val * 512 + p.val, hl⟩ (run_row t h3 s p (by omega))

/-- The gradients of the convolution's rows, as an array. -/
def G6 : Buf (Elt Ideal) ((c : Thread nD τ).loc main_v30_0) := fun i : S8192x384.Idx =>
  (rowGrad (fun k => argX m c (ix2 (i 0) k)) (fun k => dlnAt m c (i 0) k * argG m c (ix1 k)) (i 1) : EReal)

/-- The gradients of the attention's rows, as an array. -/
def G7 : Buf (Elt Ideal) ((c : Thread nD τ).loc main_v30_1) := fun i : S8192x640.Idx =>
  (dmix (argD m c) (argW m c) (i 0) ⟨384 + (i 1).val, by have : (i 1).val < 640 := (i 1).isLt; omega⟩ : EReal)

/-- The sums over the heads, as an array. -/
def G8 : Buf (Elt Ideal) ((c : Thread nD τ).loc main_v30_2) := fun i : S16x8192.Idx => (headSum (argA m c) (argW m c) (argD m c) (i 0) (i 1) : EReal)

/-- The gradient of the output weight, as an array. -/
def G9 : Buf (Elt Ideal) ((c : Thread nD τ).loc main_v30_3) := fun i : S1024x1024.Idx => (∑ r : Fin 8192, mixAt m c r (i 0) * argD m c (ix2 r (i 1)) : EReal)

/-- The gradient of the gain, as an array. -/
def G10 : Buf (Elt Ideal) ((c : Thread nD τ).loc main_v30_4) := fun i : S1x384.Idx =>
  (∑ r : Fin 8192, dlnAt m c r (i 1) * std (fun k => argX m c (ix2 r k)) (i 1) : EReal)

/-- The gradient of the shift, as an array. -/
def G11 : Buf (Elt Ideal) ((c : Thread nD τ).loc main_v30_5) := fun i : S1x384.Idx => (∑ r : Fin 8192, dlnAt m c r (i 1) : EReal)

/-- The blocks point `t` writes: its own rows of the first two arrays, its own columns of the third, the whole of the other
    three. -/
theorem out_at : ∀ t : Fin cfg0.N, win0_6.index t = ![t.val, 0] ∧ win0_7.index t = ![t.val, 0] ∧ win0_8.index t = ![0, t.val]
    ∧ win0_9.index t = ![0, 0] ∧ win0_10.index t = ![0, 0] ∧ win0_11.index t = ![0, 0] :=
  (by decide +kernel : ∀ t : Fin grid0.N, _)

/-- Every point writes its blocks of the first three arrays back. -/
theorem flush_all : ∀ t : Fin cfg0.N, (cfg0.win 6).flush t = true ∧ (cfg0.win 7).flush t = true ∧ (cfg0.win 8).flush t = true :=
  (by decide +kernel : ∀ t : Fin grid0.N, _)

/-- The last point alone writes the other three arrays back. -/
theorem flush_last : ∀ t : Fin cfg0.N, ((cfg0.win 9).flush t = true ↔ t.val = 15) ∧ ((cfg0.win 10).flush t = true ↔ t.val = 15)
    ∧ ((cfg0.win 11).flush t = true ↔ t.val = 15) :=
  (by decide +kernel : ∀ t : Fin grid0.N, (win0_9.flush t = true ↔ t.val = 15) ∧ (win0_10.flush t = true ↔ t.val = 15) ∧ (win0_11.flush t = true ↔ t.val = 15))

/-- The gradients of the convolution's rows after the run. -/
theorem final6 : (dats m 0 c).arrAt 6 cfg0.N = G6 m c := by
  funext i
  have hi0 : (i 0).val < 8192 := (i 0).isLt
  have hi1 : (i 1).val < 384 := (i 1).isLt
  have hN : cfg0.N = 16 := N_0
  obtain ⟨t, ht⟩ : ∃ t : Fin cfg0.N, t.val = (i 0).val / 512 := ⟨⟨(i 0).val / 512, by omega⟩, rfl⟩
  have e0 : win0_6.index t (0 : Fin 2) = t.val := congrFun (out_at t).1 0
  have e1 : win0_6.index t (1 : Fin 2) = 0 := congrFun (out_at t).1 1
  generalize hp : (⟨(i 0).val % 512, Nat.mod_lt _ (by decide)⟩ : Fin 512) = p
  have hpv : p.val = (i 0).val % 512 := by rw [← hp]
  have hb := congrFun (Value.blocks6 m c t (flush_all t).1) (ix2 p ⟨(i 1).val, hi1⟩ : S512x384.Idx)
  have hemb : ((cfg0.win 6).blk t).view.emb (ix2 p ⟨(i 1).val, hi1⟩ : S512x384.Idx) = i := by
    funext a
    match a with
    | ⟨0, _⟩ => exact Fin.ext (by show win0_6.index t (0 : Fin 2) * 512 + 1 * p.val = (i 0).val; omega)
    | ⟨1, _⟩ => exact Fin.ext (by show win0_6.index t (1 : Fin 2) * 384 + 1 * (i 1).val = (i 1).val; omega)
  have hl : (dats m 0 c).arrAt 6 cfg0.N (((cfg0.win 6).blk t).view.emb (ix2 p ⟨(i 1).val, hi1⟩ : S512x384.Idx)) = _ := hb
  rw [hemb, Value.flushed6] at hl
  have hr : (i 0).val = t.val * 512 + p.val := by omega
  refine hl.trans ((step_row m c t (ix2 p ⟨(i 1).val, hi1⟩)).trans ?_)
  have q1 := row_at m c t p (i 0) hr
  have q2 : (fun k => lnAt m c t p k * (iblk m c 3 t : Vec Ideal S1x384 .f32) (ix2 0 k)) = fun k => dlnAt m c (i 0) k * argG m c (ix1 k) :=
    funext fun k => congrArg₂ (fun y z : EReal => y * z) (ln_at m c t p k (i 0) hr) (blk3 m c t k)
  show rowGrad (fun k => (iblk m c 2 t : Vec Ideal S512x384 .f32) (ix2 p k)) (fun k => lnAt m c t p k * (iblk m c 3 t : Vec Ideal S1x384 .f32) (ix2 0 k)) (i 1) = _
  rw [q1, q2]
  rfl

/-- The gradients of the attention's rows after the run. -/
theorem final7 : (dats m 0 c).arrAt 7 cfg0.N = G7 m c := by
  funext i
  have hi0 : (i 0).val < 8192 := (i 0).isLt
  have hi1 : (i 1).val < 640 := (i 1).isLt
  have hN : cfg0.N = 16 := N_0
  obtain ⟨t, ht⟩ : ∃ t : Fin cfg0.N, t.val = (i 0).val / 512 := ⟨⟨(i 0).val / 512, by omega⟩, rfl⟩
  have e0 : win0_7.index t (0 : Fin 2) = t.val := congrFun (out_at t).2.1 0
  have e1 : win0_7.index t (1 : Fin 2) = 0 := congrFun (out_at t).2.1 1
  generalize hp : (⟨(i 0).val % 512, Nat.mod_lt _ (by decide)⟩ : Fin 512) = p
  have hpv : p.val = (i 0).val % 512 := by rw [← hp]
  have hb := congrFun (Value.blocks7 m c t (flush_all t).2.1) (ix2 p ⟨(i 1).val, hi1⟩ : S512x640.Idx)
  have hemb : ((cfg0.win 7).blk t).view.emb (ix2 p ⟨(i 1).val, hi1⟩ : S512x640.Idx) = i := by
    funext a
    match a with
    | ⟨0, _⟩ => exact Fin.ext (by show win0_7.index t (0 : Fin 2) * 512 + 1 * p.val = (i 0).val; omega)
    | ⟨1, _⟩ => exact Fin.ext (by show win0_7.index t (1 : Fin 2) * 640 + 1 * (i 1).val = (i 1).val; omega)
  have hl : (dats m 0 c).arrAt 7 cfg0.N (((cfg0.win 7).blk t).view.emb (ix2 p ⟨(i 1).val, hi1⟩ : S512x640.Idx)) = _ := hb
  rw [hemb, Value.flushed7] at hl
  exact hl.trans ((step_att m c t (ix2 p ⟨(i 1).val, hi1⟩)).trans (dy_at m c t p _ (i 0) (by omega)))

/-- The sums over the heads after the run. -/
theorem final8 : (dats m 0 c).arrAt 8 cfg0.N = G8 m c := by
  funext i
  have hi0 : (i 0).val < 16 := (i 0).isLt
  have hi1 : (i 1).val < 8192 := (i 1).isLt
  have hN : cfg0.N = 16 := N_0
  obtain ⟨t, ht⟩ : ∃ t : Fin cfg0.N, t.val = (i 1).val / 512 := ⟨⟨(i 1).val / 512, by omega⟩, rfl⟩
  have e0 : win0_8.index t (0 : Fin 2) = 0 := congrFun (out_at t).2.2.1 0
  have e1 : win0_8.index t (1 : Fin 2) = t.val := congrFun (out_at t).2.2.1 1
  generalize hp : (⟨(i 1).val % 512, Nat.mod_lt _ (by decide)⟩ : Fin 512) = p
  have hpv : p.val = (i 1).val % 512 := by rw [← hp]
  have hb := congrFun (Value.blocks8 m c t (flush_all t).2.2) (ix2 ⟨(i 0).val, hi0⟩ p : S16x512.Idx)
  have hemb : ((cfg0.win 8).blk t).view.emb (ix2 ⟨(i 0).val, hi0⟩ p : S16x512.Idx) = i := by
    funext a
    match a with
    | ⟨0, _⟩ => exact Fin.ext (by show win0_8.index t (0 : Fin 2) * 16 + 1 * (i 0).val = (i 0).val; omega)
    | ⟨1, _⟩ => exact Fin.ext (by show win0_8.index t (1 : Fin 2) * 512 + 1 * p.val = (i 1).val; omega)
  have hl : (dats m 0 c).arrAt 8 cfg0.N (((cfg0.win 8).blk t).view.emb (ix2 ⟨(i 0).val, hi0⟩ p : S16x512.Idx)) = _ := hb
  rw [hemb, Value.flushed8] at hl
  exact hl.trans ((step_delta m c t (ix2 ⟨(i 0).val, hi0⟩ p)).trans (lanes_at m c t p _ (i 1) (by omega)))

/-- The point that writes the weight gradient back writes all of it. -/
theorem flushed9 (t : Fin cfg0.N) (hf : (cfg0.win 9).flush t = true) :
    (dats m 0 c).flushed 9 t = ((cfg0.win 9).blk t).view.read (Elt Ideal) (G9 m c) := by
  rw [Value.flushed9]
  have e0 : win0_9.index t (0 : Fin 2) = 0 := congrFun (out_at t).2.2.2.1 0
  have e1 : win0_9.index t (1 : Fin 2) = 0 := congrFun (out_at t).2.2.2.1 1
  funext y
  refine (w_last m c t ((flush_last t).1.1 hf) ((cfg0.win 9).xinj (grid0.coords t) y)).trans ?_
  refine congrArg₂ (fun i j : Fin 1024 => ∑ r : Fin 8192, mixAt m c r i * argD m c (ix2 r j)) (Fin.ext ?_) (Fin.ext ?_)
  · show (y 0).val = win0_9.index t (0 : Fin 2) * 1024 + 1 * (y 0).val
    omega
  · show (y 1).val = win0_9.index t (1 : Fin 2) * 1024 + 1 * (y 1).val
    omega

/-- The point that writes the gain gradient back writes all of it. -/
theorem flushed10 (t : Fin cfg0.N) (hf : (cfg0.win 10).flush t = true) :
    (dats m 0 c).flushed 10 t = ((cfg0.win 10).blk t).view.read (Elt Ideal) (G10 m c) := by
  rw [Value.flushed10]
  have e1 : win0_10.index t (1 : Fin 2) = 0 := congrFun (out_at t).2.2.2.2.1 1
  funext y
  refine (gain_last m c t ((flush_last t).2.1.1 hf) ((cfg0.win 10).xinj (grid0.coords t) y)).trans ?_
  refine congrArg (fun j : Fin 384 => ∑ r : Fin 8192, dlnAt m c r j * std (fun k => argX m c (ix2 r k)) j) (Fin.ext ?_)
  show (y 1).val = win0_10.index t (1 : Fin 2) * 384 + 1 * (y 1).val
  omega

/-- The point that writes the shift gradient back writes all of it. -/
theorem flushed11 (t : Fin cfg0.N) (hf : (cfg0.win 11).flush t = true) :
    (dats m 0 c).flushed 11 t = ((cfg0.win 11).blk t).view.read (Elt Ideal) (G11 m c) := by
  rw [Value.flushed11]
  have e1 : win0_11.index t (1 : Fin 2) = 0 := congrFun (out_at t).2.2.2.2.2 1
  funext y
  refine (shift_last m c t ((flush_last t).2.2.1 hf) ((cfg0.win 11).xinj (grid0.coords t) y)).trans ?_
  refine congrArg (fun j : Fin 384 => ∑ r : Fin 8192, dlnAt m c r j) (Fin.ext ?_)
  show (y 1).val = win0_11.index t (1 : Fin 2) * 384 + 1 * (y 1).val
  omega

/-- The indices of point `t`'s block of the weight gradient. -/
theorem mem_blk9 (t : Fin cfg0.N) (i : S1024x1024.Idx) :
    i ∈ ((cfg0.win 9).blk t).view.set ↔ ∀ a : Fin 2, win0_9.index t a * S1024x1024.size a ≤ (i a).val ∧ (i a).val < win0_9.index t a * S1024x1024.size a + S1024x1024.size a := by
  show i ∈ ((View.whole main_v30_3).slice (win0_9.rect t)).set ↔ _
  rw [View.set_slice_whole, Rect.mem_set_unit]
  exact Iff.rfl

/-- The indices of point `t`'s block of the gain gradient. -/
theorem mem_blk10 (t : Fin cfg0.N) (i : S1x384.Idx) :
    i ∈ ((cfg0.win 10).blk t).view.set ↔ ∀ a : Fin 2, win0_10.index t a * S1x384.size a ≤ (i a).val ∧ (i a).val < win0_10.index t a * S1x384.size a + S1x384.size a := by
  show i ∈ ((View.whole main_v30_4).slice (win0_10.rect t)).set ↔ _
  rw [View.set_slice_whole, Rect.mem_set_unit]
  exact Iff.rfl

/-- The indices of point `t`'s block of the shift gradient. -/
theorem mem_blk11 (t : Fin cfg0.N) (i : S1x384.Idx) :
    i ∈ ((cfg0.win 11).blk t).view.set ↔ ∀ a : Fin 2, win0_11.index t a * S1x384.size a ≤ (i a).val ∧ (i a).val < win0_11.index t a * S1x384.size a + S1x384.size a := by
  show i ∈ ((View.whole main_v30_5).slice (win0_11.rect t)).set ↔ _
  rw [View.set_slice_whole, Rect.mem_set_unit]
  exact Iff.rfl

/-- There is a last point. -/
theorem last_point : ∃ t : Fin cfg0.N, t.val = 15 := by
  have hN : cfg0.N = 16 := N_0
  exact ⟨⟨15, by omega⟩, rfl⟩

/-- The weight gradient after the run. -/
theorem final9 : (dats m 0 c).arrAt 9 cfg0.N = G9 m c := by
  refine (dats m 0 c).arrAt_eq_of_cover 9 _ (fun t hf => flushed9 m c t hf) fun i => ?_
  have hi0 : (i 0).val < 1024 := (i 0).isLt
  have hi1 : (i 1).val < 1024 := (i 1).isLt
  obtain ⟨t, ht⟩ := last_point
  have e0 : win0_9.index t (0 : Fin 2) = 0 := congrFun (out_at t).2.2.2.1 0
  have e1 : win0_9.index t (1 : Fin 2) = 0 := congrFun (out_at t).2.2.2.1 1
  refine ⟨t, (flush_last t).1.2 ht, ?_⟩
  rw [mem_blk9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 1024 ≤ (i 1).val ∧ (i 1).val < win0_9.index t (1 : Fin 2) * 1024 + 1024; omega

/-- The gain gradient after the run. -/
theorem final10 : (dats m 0 c).arrAt 10 cfg0.N = G10 m c := by
  refine (dats m 0 c).arrAt_eq_of_cover 10 _ (fun t hf => flushed10 m c t hf) fun i => ?_
  have hi0 : (i 0).val < 1 := (i 0).isLt
  have hi1 : (i 1).val < 384 := (i 1).isLt
  obtain ⟨t, ht⟩ := last_point
  have e0 : win0_10.index t (0 : Fin 2) = 0 := congrFun (out_at t).2.2.2.2.1 0
  have e1 : win0_10.index t (1 : Fin 2) = 0 := congrFun (out_at t).2.2.2.2.1 1
  refine ⟨t, (flush_last t).2.1.2 ht, ?_⟩
  rw [mem_blk10]
  intro a
  match a with
  | ⟨0, _⟩ => show win0_10.index t (0 : Fin 2) * 1 ≤ (i 0).val ∧ (i 0).val < win0_10.index t (0 : Fin 2) * 1 + 1; omega
  | ⟨1, _⟩ => show win0_10.index t (1 : Fin 2) * 384 ≤ (i 1).val ∧ (i 1).val < win0_10.index t (1 : Fin 2) * 384 + 384; omega

/-- The shift gradient after the run. -/
theorem final11 : (dats m 0 c).arrAt 11 cfg0.N = G11 m c := by
  refine (dats m 0 c).arrAt_eq_of_cover 11 _ (fun t hf => flushed11 m c t hf) fun i => ?_
  have hi0 : (i 0).val < 1 := (i 0).isLt
  have hi1 : (i 1).val < 384 := (i 1).isLt
  obtain ⟨t, ht⟩ := last_point
  have e0 : win0_11.index t (0 : Fin 2) = 0 := congrFun (out_at t).2.2.2.2.2 0
  have e1 : win0_11.index t (1 : Fin 2) = 0 := congrFun (out_at t).2.2.2.2.2 1
  refine ⟨t, (flush_last t).2.2.2 ht, ?_⟩
  rw [mem_blk11]
  intro a
  match a with
  | ⟨0, _⟩ => show win0_11.index t (0 : Fin 2) * 1 ≤ (i 0).val ∧ (i 0).val < win0_11.index t (0 : Fin 2) * 1 + 1; omega
  | ⟨1, _⟩ => show win0_11.index t (1 : Fin 2) * 384 ≤ (i 1).val ∧ (i 1).val < win0_11.index t (1 : Fin 2) * 384 + 384; omega

/-- The run with the six output arrays named, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v30_0) = G6 m c
      ∧ r.2.mem ((c : Thread nD τ).loc main_v30_1) = G7 m c
      ∧ r.2.mem ((c : Thread nD τ).loc main_v30_2) = G8 m c
      ∧ r.2.mem ((c : Thread nD τ).loc main_v30_3) = G9 m c
      ∧ r.2.mem ((c : Thread nD τ).loc main_v30_4) = G10 m c
      ∧ r.2.mem ((c : Thread nD τ).loc main_v30_5) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2.1.trans (final8 m c),
      (h c).2.2.2.1.trans (final9 m c), (h c).2.2.2.2.1.trans (final10 m c), (h c).2.2.2.2.2.1.trans (final11 m c), (h c).2.2.2.2.2.2⟩)
    (Value.run_blocks m ρ)

end Cert.Kernel6Ideal.O

end
-- ==== Proof.ORef.lean ====
/-
What the six results of the mixer output's backward reference hold at an index, in differentiation's form: the gradients of
the convolution's rows and of the attention's, the sums over the heads, and the gradients of the output weight, of the gain
and of the shift.
-/
module

public import proofs.«01_k».proof.Proof.OValue
public import proofs.«01_k».proof.Proof.Gen.Reference6Ideal.Read

@[expose] public section

set_option maxRecDepth 16384

noncomputable section

namespace Cert.Kernel6Ideal.O

open Idealize.ShloMosaic Idealize.ShloMosaic.TcCoe Cert.Kernel6Ideal.Gen
open Cert.KernelIdeal.A (gateGrad')
open Cert.Reference6Ideal.Read

/-- The gradients of the layer-normed rows, as differentiation writes them. -/
def dln' (X : S8192x384.Idx → EReal) (G B : S384.Idx → EReal) (W : S1024x1024.Idx → EReal) (D : S8192x1024.Idx → EReal) (r : Fin 8192) (q : Fin 384) : EReal :=
  gateGrad' (dmix D W r ⟨q.val, by omega⟩) (layer (fun k => X (ix2 r k)) (fun k => G (ix1 k)) (fun k => B (ix1 k)) q) 1

variable (x0 : (⟨S8192x384, .f32⟩ : BufTy).Contents (Elt Ideal)) (x1 : (⟨S8192x640, .f32⟩ : BufTy).Contents (Elt Ideal))
    (x2 x3 : (⟨S384, .f32⟩ : BufTy).Contents (Elt Ideal)) (x4 : (⟨S1024x1024, .f32⟩ : BufTy).Contents (Elt Ideal))
    (x5 : (⟨S8192x1024, .f32⟩ : BufTy).Contents (Elt Ideal))

/-- The rows less their means, as the variance takes them. -/
theorem ref_dev_sq (r : Fin 8192) (k : Fin 384) :
    (val_main_v5 (F := Ideal) x0 : S8192x384.Idx → EReal) (ix2 r k) = dev (fun k => x0 (ix2 r k)) k := by
  unfold val_main_v5 val_main_v4 val_main_v3 val_main_v2 val_main_v1 val_main_v0 val_main_cst_0 val_main_cst
  pointwise
  rfl

/-- The rows less their means. -/
theorem ref_dev (r : Fin 8192) (k : Fin 384) :
    (val_main_v14 (F := Ideal) x0 : S8192x384.Idx → EReal) (ix2 r k) = dev (fun k => x0 (ix2 r k)) k := by
  unfold val_main_v14 val_main_v13 val_main_v3 val_main_v2 val_main_v1 val_main_v0 val_main_cst_0 val_main_cst
  pointwise
  rfl

/-- The variances of the rows. -/
theorem ref_var (r : Fin 8192) (k : Fin 1) :
    (val_main_v16 (F := Ideal) x0 : S8192x1.Idx → EReal) (ix2 r k) = var (fun k => x0 (ix2 r k)) := by
  have h := ref_dev_sq x0 r
  unfold val_main_v16 val_main_v15 val_main_v12 val_main_v11 val_main_v10 val_main_v9 val_main_v6 val_main_cst_2 val_main_cst_3 val_main_cst_4
  generalize val_main_v5 (F := Ideal) x0 = A at h
  pointwise
  simp only [h]
  rfl

/-- The scales of the rows. -/
theorem ref_scale (r : Fin 8192) (k : Fin 1) :
    (val_main_v17 (F := Ideal) x0 : S8192x1.Idx → EReal) (ix2 r k) = scale (fun k => x0 (ix2 r k)) := by
  have h := ref_var x0 r k
  unfold val_main_v17
  generalize val_main_v16 (F := Ideal) x0 = A at h
  pointwise
  rw [h]
  rfl

/-- The rows less their means, scaled. -/
theorem ref_std (r : Fin 8192) (k : Fin 384) :
    (val_main_v22 (F := Ideal) x0 : S8192x384.Idx → EReal) (ix2 r k) = std (fun k => x0 (ix2 r k)) k := by
  have h1 := ref_dev x0 r k
  have h2 := ref_scale x0 r 0
  unfold val_main_v22 val_main_v21
  generalize val_main_v14 (F := Ideal) x0 = A at h1
  generalize val_main_v17 (F := Ideal) x0 = B at h2
  pointwise
  rw [h1, h2]
  rfl

/-- The layer norm of the rows. -/
theorem ref_layer (r : Fin 8192) (k : Fin 384) :
    (val_main_v28 (F := Ideal) x0 x2 x3 : S8192x384.Idx → EReal) (ix2 r k)
      = layer (fun k => x0 (ix2 r k)) (fun k => x2 (ix1 k)) (fun k => x3 (ix1 k)) k := by
  have h := ref_std x0 r k
  unfold val_main_v28 val_main_v27 val_main_v26 val_main_v25 val_main_v24 val_main_v23
  generalize val_main_v22 (F := Ideal) x0 = A at h
  pointwise
  rw [h]
  rfl

/-- The logistic function of the layer norm. -/
theorem ref_gate (r : Fin 8192) (k : Fin 384) :
    (val_main_v29_2 (F := Ideal) x0 x2 x3 : S8192x384.Idx → EReal) (ix2 r k)
      = Cert.KernelIdeal.A.logistic (layer (fun k => x0 (ix2 r k)) (fun k => x2 (ix1 k)) (fun k => x3 (ix1 k)) k) := by
  have h := ref_layer x0 x2 x3 r k
  unfold val_main_v29_2 val_main_call0_v4 val_main_call0_v3 val_main_call0_v2 val_main_call0_v1 val_main_call0_v0 val_main_call0_cst val_main_call0_cst_0
  generalize val_main_v28 (F := Ideal) x0 x2 x3 = A at h
  pointwise
  unfold Cert.KernelIdeal.A.logistic
  rw [h, zero_sub]

/-- The mixer's output. -/
theorem ref_mixed (r : Fin 8192) (j : Fin 1024) :
    (val_main_v30 (F := Ideal) x0 x1 x2 x3 : S8192x1024.Idx → EReal) (ix2 r j) = mixed x0 x1 x2 x3 r j := by
  have h1 := ref_layer x0 x2 x3 r
  have h2 := ref_gate x0 x2 x3 r
  unfold val_main_v30 val_main_v29_0
  generalize val_main_v28 (F := Ideal) x0 x2 x3 = A at h1
  generalize val_main_v29_2 (F := Ideal) x0 x2 x3 = B at h2
  pointwise
  unfold mixed mix
  split_ifs with hj h3
  · rw [h1, h2]
  · rfl
  · exact absurd rfl h3

/-- The gradient of the output weight. -/
theorem ref_w (i j : Fin 1024) :
    (val_main_v33 (F := Ideal) x0 x1 x2 x3 x5 : S1024x1024.Idx → EReal) (ix2 i j) = ∑ r : Fin 8192, mixed x0 x1 x2 x3 r i * x5 (ix2 r j) := by
  have h := ref_mixed x0 x1 x2 x3
  unfold val_main_v33 val_main_v32
  generalize val_main_v30 (F := Ideal) x0 x1 x2 x3 = A at h
  pointwise
  refine Finset.sum_congr rfl fun r _ => ?_
  rw [h, mul_comm]

/-- The gradients of the mixer's output. -/
theorem ref_dy (r : Fin 8192) (j : Fin 1024) :
    (val_main_v34 (F := Ideal) x4 x5 : S8192x1024.Idx → EReal) (ix2 r j) = dmix x5 x4 r j := by
  unfold val_main_v34
  pointwise
  rfl

/-- The gradients of the attention's rows. -/
theorem ref_att (r : Fin 8192) (k : Fin 640) :
    (val_main_v36 (F := Ideal) x4 x5 : S8192x640.Idx → EReal) (ix2 r k) = dmix x5 x4 r ⟨384 + k.val, by omega⟩ := by
  have h := ref_dy x4 x5 r
  unfold val_main_v36
  generalize val_main_v34 (F := Ideal) x4 x5 = A at h
  pointwise
  exact h _

/-- The gradients of the attention's rows, rounded. -/
theorem ref_att_out (r : Fin 8192) (k : Fin 640) :
    (val_main_v74 (F := Ideal) x4 x5 : S8192x640.Idx → EReal) (ix2 r k) = dmix x5 x4 r ⟨384 + k.val, by omega⟩ := by
  have h := ref_att x4 x5 r k
  unfold val_main_v74
  generalize val_main_v36 (F := Ideal) x4 x5 = A at h
  pointwise
  exact h

/-- The sums over the heads. -/
theorem ref_head (h : Fin 16) (r : Fin 8192) :
    (val_main_v76 (F := Ideal) x1 x4 x5 : Cert.Reference6Ideal.S16x8192.Idx → EReal) (ix2 h r) = headSum x1 x4 x5 h r := by
  have e := ref_att x4 x5 r
  unfold val_main_v76 val_main_v75 val_main_v73 val_main_v72 val_main_v71 val_main_call2_v0 val_main_c val_main_cst_17
  generalize val_main_v36 (F := Ideal) x4 x5 = A at e
  pointwise
  unfold headSum
  split_ifs with hh
  · refine Finset.sum_congr rfl fun j _ => ?_
    rw [e]
    have g : (⟨h.val * 64 + j.val, by omega⟩ : Fin 640) = ⟨64 * h.val + j.val, by omega⟩ := Fin.ext (by simp only [mul_comm])
    rw [g]
  · show (((0#32 : BitVec 32).toInt : ℝ) : EReal) = 0
    simp

/-- The gradients of the layer-normed rows. -/
theorem ref_ln (r : Fin 8192) (k : Fin 384) :
    (val_main_v37 (F := Ideal) x0 x2 x3 x4 x5 : S8192x384.Idx → EReal) (ix2 r k) = dln' x0 x2 x3 x4 x5 r k := by
  have h1 := ref_layer x0 x2 x3 r k
  have h2 := ref_gate x0 x2 x3 r k
  have h3 := ref_dy x4 x5 r ⟨k.val, by omega⟩
  unfold val_main_v37 val_main_call1_v2 val_main_call1_v1 val_main_call1_v0 val_main_v35 val_main_v29_1 val_main_call0_v7 val_main_call0_v6 val_main_call0_cst_1
  generalize val_main_v28 (F := Ideal) x0 x2 x3 = A at h1
  generalize val_main_v29_2 (F := Ideal) x0 x2 x3 = B at h2
  generalize val_main_v34 (F := Ideal) x4 x5 = C at h3
  pointwise
  unfold dln' gateGrad'
  rw [h1, h2, h3, mul_one]

/-- The gradient of the shift, as one row. -/
theorem ref_shift (p : Fin 1) (k : Fin 384) :
    (val_main_v78 (F := Ideal) x0 x2 x3 x4 x5 : S1x384.Idx → EReal) (ix2 p k) = ∑ r : Fin 8192, dln' x0 x2 x3 x4 x5 r k := by
  have h := fun r => ref_ln x0 x2 x3 x4 x5 r k
  unfold val_main_v78 val_main_v40 val_main_v39 val_main_v38 val_main_cst_6 val_main_cst_7
  generalize val_main_v37 (F := Ideal) x0 x2 x3 x4 x5 = A at h
  pointwise
  simp only [h]
  exact Fin.sum_univ_one _

/-- The gradient of the gain, as one row. -/
theorem ref_gain (p : Fin 1) (k : Fin 384) :
    (val_main_v77 (F := Ideal) x0 x2 x3 x4 x5 : S1x384.Idx → EReal) (ix2 p k)
      = ∑ r : Fin 8192, dln' x0 x2 x3 x4 x5 r k * std (fun k => x0 (ix2 r k)) k := by
  have h1 := fun r => ref_ln x0 x2 x3 x4 x5 r k
  have h2 := fun r => ref_std x0 r k
  unfold val_main_v77 val_main_v46 val_main_v43 val_main_v42 val_main_v41 val_main_cst_8 val_main_cst_9
  generalize val_main_v37 (F := Ideal) x0 x2 x3 x4 x5 = A at h1
  generalize val_main_v22 (F := Ideal) x0 = B at h2
  pointwise
  simp only [h1, h2]
  refine (Fin.sum_univ_one _).trans (Finset.sum_congr rfl fun r _ => mul_comm _ _)

/-- The gradients of the scaled rows. -/
theorem ref_e (r : Fin 8192) (k : Fin 384) :
    (val_main_v45 (F := Ideal) x0 x2 x3 x4 x5 : S8192x384.Idx → EReal) (ix2 r k) = dln' x0 x2 x3 x4 x5 r k * x2 (ix1 k) := by
  have h := ref_ln x0 x2 x3 x4 x5 r k
  unfold val_main_v45 val_main_v44 val_main_v23
  generalize val_main_v37 (F := Ideal) x0 x2 x3 x4 x5 = A at h
  pointwise
  rw [h]

/-- What the rows get back through the variance. -/
theorem ref_pull (r : Fin 8192) (k : Fin 384) :
    (val_main_v60 (F := Ideal) x0 x2 x3 x4 x5 : S8192x384.Idx → EReal) (ix2 r k)
      = varPull (fun k => x0 (ix2 r k)) (fun k => dln' x0 x2 x3 x4 x5 r k * x2 (ix1 k))
        * (Ideal.ofBits .f32 0x40000000#32 * dev (fun k => x0 (ix2 r k)) k) := by
  have h1 := ref_e x0 x2 x3 x4 x5 r
  have h2 := fun k => ref_scale x0 r k
  have h3 := fun k => ref_var x0 r k
  have h4 := ref_dev x0 r
  have h5 := ref_dev_sq x0 r
  unfold val_main_v60 val_main_v59 val_main_v58 val_main_v57 val_main_v56 val_main_v52 val_main_v49 val_main_v48 val_main_v47 val_main_v20 val_main_v19 val_main_v18 val_main_v8 val_main_v7 val_main_cst_1 val_main_cst_5 val_main_cst_10 val_main_cst_12 val_main_cst_13
  generalize val_main_v45 (F := Ideal) x0 x2 x3 x4 x5 = A at h1
  generalize val_main_v17 (F := Ideal) x0 = B at h2
  generalize val_main_v16 (F := Ideal) x0 = C at h3
  generalize val_main_v14 (F := Ideal) x0 = E at h4
  generalize val_main_v5 (F := Ideal) x0 = H at h5
  pointwise
  simp only [h1, h2, h3, h4, h5]
  unfold varPull
  exact congrArg (fun z : EReal => z * (Ideal.ofBits .f32 0x40000000#32 * dev (fun k => x0 (ix2 r k)) k)) (Fin.sum_univ_one _)

/-- What the rows get back through the scale. -/
theorem ref_direct (r : Fin 8192) (k : Fin 384) :
    (val_main_v51 (F := Ideal) x0 x2 x3 x4 x5 : S8192x384.Idx → EReal) (ix2 r k)
      = dln' x0 x2 x3 x4 x5 r k * x2 (ix1 k) * scale (fun k => x0 (ix2 r k)) := by
  have h1 := ref_e x0 x2 x3 x4 x5 r k
  have h2 := ref_scale x0 r 0
  unfold val_main_v51 val_main_v50
  generalize val_main_v45 (F := Ideal) x0 x2 x3 x4 x5 = A at h1
  generalize val_main_v17 (F := Ideal) x0 = B at h2
  pointwise
  rw [h1, h2]

/-- The gradients of the convolution's rows, in differentiation's form. -/
theorem ref_row (r : Fin 8192) (k : Fin 384) :
    (val_main_v70 (F := Ideal) x0 x2 x3 x4 x5 : S8192x384.Idx → EReal) (ix2 r k)
      = rowGrad' (fun k => x0 (ix2 r k)) (fun k => dln' x0 x2 x3 x4 x5 r k * x2 (ix1 k)) k := by
  have h1 := ref_direct x0 x2 x3 x4 x5 r
  have h2 := ref_pull x0 x2 x3 x4 x5 r
  unfold val_main_v70 val_main_v69 val_main_v68 val_main_v67 val_main_v66 val_main_v65 val_main_v64 val_main_v63 val_main_v62 val_main_v61 val_main_v55 val_main_v54 val_main_v53 val_main_cst_11 val_main_cst_14 val_main_cst_15 val_main_cst_16
  generalize val_main_v51 (F := Ideal) x0 x2 x3 x4 x5 = A at h1
  generalize val_main_v60 (F := Ideal) x0 x2 x3 x4 x5 = B at h2
  pointwise
  simp only [h1, h2]
  unfold rowGrad'
  exact congrArg (fun z : EReal => _ + z) (Fin.sum_univ_one _)

end Cert.Kernel6Ideal.O

end
-- ==== Proof.OClaim.lean ====
/-
The mixer output's backward kernel and its reference leave equal results where the gain, the weight rows of the convolution's
columns and the incoming gradients are real: the value claim of the sixth pair of programs.
-/
module

public import proofs.«01_k».proof.Defs
public import proofs.«01_k».proof.Proof.ORef
public import proofs.«01_k».proof.Proof.AFinite
public import proofs.«01_k».proof.Proof.Gen.Reference6Ideal.Run
public import proofs.«01_k».proof.Proof.Gen.Pre_bounded

@[expose] public section

set_option maxRecDepth 16384

noncomputable section

namespace Cert.Kernel6Ideal.O

open Idealize.ShloMosaic Idealize.ShloMosaic.TcCoe Idealize.SL.Sem Cert.Kernel6Ideal.Gen
open Cert.KernelIdeal.A (IsReal real_of_finite gateGrad_eq)
open Cert.Reference6Ideal.Read

variable (m : (ℓ : Loc nD τ sig) → Buf (Elt Ideal) ℓ) (c : Dev nD)

/-- The gain, the first 384 rows of the output weight and the incoming gradients hold real numbers. -/
structure Bounded : Prop where
  /-- The gain does. -/
  gain : ∀ k : Fin 384, IsReal (argG m c (ix1 k))
  /-- The first 384 rows of the output weight do. -/
  weight : ∀ (j : Fin 384) (k : Fin 1024), IsReal (argW m c (ix2 ⟨j.val, by omega⟩ k))
  /-- The incoming gradients do. -/
  grad : ∀ (r : Fin 8192) (k : Fin 1024), IsReal (argD m c (ix2 r k))

/-- The precondition says so. -/
theorem bounded_args (h : Cert.Pre_Kernel6Ideal_bounded m) : Bounded m c := by
  obtain ⟨hG, hW, hD⟩ := h c
  refine ⟨fun k => real_of_finite _ _ hG (ix1 k), fun j k => ?_, fun r k => real_of_finite _ _ hD (ix2 r k)⟩
  have e := real_of_finite _ _ hW (ix2 j k)
  revert e
  pointwise
  exact id

variable {m c} (h : Bounded m c)
include h

/-- The gradients of the mixer's first 384 columns are real. -/
theorem dmix_real (r : Fin 8192) (q : Fin 384) : IsReal (dmix (argD m c) (argW m c) r ⟨q.val, by omega⟩) :=
  IsReal.sum _ _ fun k => (h.grad r k).mul (h.weight q k)

/-- The two forms of the gradients of the layer-normed rows agree. -/
theorem dln_eq (r : Fin 8192) (q : Fin 384) : dlnAt m c r q = dln' (argX m c) (argG m c) (argB m c) (argW m c) (argD m c) r q :=
  gateGrad_eq (dmix_real h r q) ⟨1, rfl⟩

/-- The gradients of the scaled rows are real. -/
theorem e_real (r : Fin 8192) (q : Fin 384) : IsReal (dlnAt m c r q * argG m c (ix1 q)) :=
  (gate_real (dmix_real h r q) _).mul (h.gain q)

/-- The kernel's gradients of the convolution's rows are the reference's. -/
theorem G6_eq : G6 m c = val_main_v70 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  funext i
  refine (rowGrad_eq _ _ (e_real h (i 0)) (i 1)).trans ?_
  have e : (fun k => dlnAt m c (i 0) k * argG m c (ix1 k))
      = fun k => dln' (argX m c) (argG m c) (argB m c) (argW m c) (argD m c) (i 0) k * argG m c (ix1 k) :=
    funext fun k => congrArg (fun z : EReal => z * argG m c (ix1 k)) (dln_eq h (i 0) k)
  rw [e]
  refine (ref_row _ _ _ _ _ (i 0) (i 1)).symm.trans ?_
  exact congrArg _ (ix2_eta i)

/-- The kernel's gain gradient is the reference's. -/
theorem G10_eq : G10 m c = val_main_v77 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  funext i
  refine (Finset.sum_congr rfl fun r _ => congrArg (fun z : EReal => z * std (fun k => argX m c (ix2 r k)) (i 1)) (dln_eq h r (i 1))).trans ?_
  refine (ref_gain _ _ _ _ _ (i 0) (i 1)).symm.trans ?_
  exact congrArg _ (ix2_eta i)

/-- The kernel's shift gradient is the reference's. -/
theorem G11_eq : G11 m c = val_main_v78 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  funext i
  refine (Finset.sum_congr rfl fun r _ => dln_eq h r (i 1)).trans ?_
  refine (ref_shift _ _ _ _ _ (i 0) (i 1)).symm.trans ?_
  exact congrArg _ (ix2_eta i)

omit h
variable (m c)

/-- The kernel's gradients of the attention's rows are the reference's. -/
theorem G7_eq : G7 m c = val_main_v74 (F := Ideal) (m ((c : Thread nD τ).loc main_arg4)) (m ((c : Thread nD τ).loc main_arg5)) := by
  funext i
  refine (ref_att_out _ _ (i 0) (i 1)).symm.trans ?_
  exact congrArg _ (ix2_eta i)

/-- The kernel's sums over the heads are the reference's. -/
theorem G8_eq : G8 m c = val_main_v76 (F := Ideal) (m ((c : Thread nD τ).loc main_arg1)) (m ((c : Thread nD τ).loc main_arg4)) (m ((c : Thread nD τ).loc main_arg5)) := by
  funext i
  refine (ref_head _ _ _ (i 0) (i 1)).symm.trans ?_
  exact congrArg _ (ix2_eta i)

/-- The kernel's gradient of the output weight is the reference's. -/
theorem G9_eq : G9 m c = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  funext i
  refine (ref_w _ _ _ _ _ (i 0) (i 1)).symm.trans ?_
  exact congrArg _ (ix2_eta i)

omit m c

/-- On equal arguments, under the precondition, the kernel and the reference end with equal results, and unchanged arguments. -/
theorem algebraic : Cert.algebraic_Kernel6Ideal_Reference6Ideal_pre_bounded := by
  intro m g m' g' hpre h
  refine ⟨fun c => G6 m c, fun c => G7 m c, fun c => G8 m c, fun c => G9 m c, fun c => G10 m c, fun c => G11 m c, run m g, ?_⟩
  refine (θ_run Cert.Reference6Ideal.defs _ _).mono (fun r hr c => ?_) (Cert.Reference6Ideal.Value.run m' g')
  have hb := bounded_args m c hpre
  obtain ⟨h0, h1, h2, h3, h4, h5⟩ := h c
  obtain ⟨r6, r7, r8, r9, r10, r11, rest⟩ := hr c
  refine ⟨r6.trans ?_, r7.trans ?_, r8.trans ?_, r9.trans ?_, r10.trans ?_, r11.trans ?_, rest⟩
  · refine (val_main_v70_eq m' c).trans ?_
    rw [h0, h2, h3, h4, h5]
    exact (G6_eq hb).symm
  · rw [h4, h5]
    exact (val_main_v74_eq _ _).trans (G7_eq m c).symm
  · rw [h1, h4, h5]
    exact (val_main_v76_eq _ _ _).trans (G8_eq m c).symm
  · refine (val_main_v33_eq m' c).trans ?_
    rw [h0, h1, h2, h3, h5]
    exact (G9_eq m c).symm
  · refine (val_main_v77_eq m' c).trans ?_
    rw [h0, h2, h3, h4, h5]
    exact (G10_eq hb).symm
  · refine (val_main_v78_eq m' c).trans ?_
    rw [h0, h2, h3, h4, h5]
    exact (G11_eq hb).symm

end Cert.Kernel6Ideal.O

end
-- ==== Proof.NBlock.lean ====
/-
What one grid point of the norm's backward kernel computes from the blocks before it: the gradients of its rows and what it
adds to the gain gradient.
-/
module

public import proofs.«01_k».proof.Proof.ABlock
public import proofs.«01_k».proof.Proof.Gen.Kernel7Ideal.Frame

@[expose] public section

set_option maxRecDepth 16384

noncomputable section

namespace Cert.Kernel7Ideal.N

open Idealize.ShloMosaic Idealize.ShloMosaic.TcCoe Cert.Kernel7Ideal.Gen
open Cert.KernelIdeal.A (rowScale inGrad)

variable (m : (ℓ : Loc nD τ sig) → Buf (Elt Ideal) ℓ)

/-- The gradients of the rows a point stores: those through the norm, with none there before. -/
theorem pay4 (X D : Vec Ideal S512x1024 .f32) (G : Vec Ideal S1x1024 .f32) (y : S512x1024.Idx) :
    (k0_pay4 X D G : Vec Ideal S512x1024 .f32) y
      = inGrad (fun k => X (ix2 (y 0) k)) (fun k => D (ix2 (y 0) k)) (fun k => G (ix2 0 k)) 0 (y 1) := by
  obtain ⟨p, q, rfl⟩ : ∃ p q, y = ix2 p q := ⟨y 0, y 1, eq_ix2 y⟩
  unfold k0_pay4 k0_pay3 k0_pay2
  pointwise
  unfold inGrad
  exact (zero_add _).symm

/-- What a point adds to the gain gradient: the incoming gradients against the rows before the gain, summed over the block's
    rows. -/
def gainAdd (X D : Vec Ideal S512x1024 .f32) (q : Fin 1024) : EReal :=
  ∑ p : Fin 512, D (ix2 p q) * (X (ix2 p q) * rowScale (fun k => X (ix2 p k)))

/-- The gain gradient a point stores. -/
theorem pay5 (X D : Vec Ideal S512x1024 .f32) (g : Vec Ideal S1x1024 .f32) (y : S1x1024.Idx) :
    (k0_pay5 X D g : Vec Ideal S1x1024 .f32) y = g y + gainAdd X D (y 1) := by
  unfold k0_pay5 k0_pay3 k0_pay2
  pointwise
  rfl

/-- The zero row the gain gradient starts from. -/
theorem pay1 (y : S1x1024.Idx) : k0_pay1 (F := Ideal) y = 0 := by
  unfold k0_pay1
  pointwise

/-- Every point leaves the gradients of its rows in the first output's block. -/
theorem step_in (c : Dev nD) (t : Fin cfg0.N) (y : S512x1024.Idx) :
    (outsAt0 m c t.val t.isLt).1 y = inGrad (fun k => (iblk m c 1 t : Vec Ideal S512x1024 .f32) (ix2 (y 0) k))
      (fun k => (iblk m c 0 t : Vec Ideal S512x1024 .f32) (ix2 (y 0) k)) (fun k => (iblk m c 2 t : Vec Ideal S1x1024 .f32) (ix2 0 k)) 0 (y 1) := by
  by_cases h0 : t.val % 16 = 0
  · rw [outsAt0_A m c t h0]
    frame_out
    exact pay4 (iblk m c 1 t) (iblk m c 0 t) (iblk m c 2 t) y
  · rw [outsAt0_B m c t h0]
    frame_out
    exact pay4 (iblk m c 1 t) (iblk m c 0 t) (iblk m c 2 t) y

/-- The first point leaves its own addend in the gain gradient. -/
theorem gain_reset (c : Dev nD) (t : Fin cfg0.N) (h0 : t.val % 16 = 0) (y : S1x1024.Idx) :
    (outsAt0 m c t.val t.isLt).2 y = 0 + gainAdd (iblk m c 1 t) (iblk m c 0 t) (y 1) := by
  rw [outsAt0_A m c t h0]
  frame_out
  exact (pay5 (iblk m c 1 t) (iblk m c 0 t) (k0_pay1 (F := Ideal)) y).trans (congrArg (· + _) (pay1 y))

/-- Every other point adds its addend to the gain gradient the point before left. -/
theorem gain_add (c : Dev nD) (t : Fin cfg0.N) (h0 : ¬t.val % 16 = 0) (y : S1x1024.Idx) :
    (outsAt0 m c t.val t.isLt).2 y = (outsAt0 m c (t.val - 1) (Nat.lt_of_le_of_lt (Nat.sub_le _ _) t.isLt)).2 y
      + gainAdd (iblk m c 1 t) (iblk m c 0 t) (y 1) := by
  rw [outsAt0_B m c t h0]
  frame_out
  exact pay5 (iblk m c 1 t) (iblk m c 0 t) _ y

end Cert.Kernel7Ideal.N

end
-- ==== Proof.NValue.lean ====
/-
What the norm's backward kernel reads at each grid point and what its two output arrays hold after the run: the gradients of
the rows and of the gain.
-/
module

public import proofs.«01_k».proof.Proof.NBlock
public import proofs.«01_k».proof.Proof.Gen.Kernel7Ideal.Value
public import Idealize.ShloMosaic.Lib.StableHlo.RunRead

@[expose] public section

set_option maxRecDepth 16384

noncomputable section

namespace Cert.Kernel7Ideal.N

open Idealize.ShloMosaic Idealize.ShloMosaic.TcCoe Idealize.ShloMosaic.StableHlo Cert.Kernel7Ideal.Gen Idealize.SL.Sem
open Cert.KernelIdeal.A (rowScale inGrad)

variable (m : (ℓ : Loc nD τ sig) → Buf (Elt Ideal) ℓ) (c : Dev nD)

/-- The rows. -/
def argX : S8192x1024.Idx → EReal := m ((c : Thread nD τ).loc main_arg0)
/-- The gain vector. -/
def argG : S1024.Idx → EReal := m ((c : Thread nD τ).loc main_arg1)
/-- The gradients of the normed rows. -/
def argD : S8192x1024.Idx → EReal := m ((c : Thread nD τ).loc main_arg2)

/-- The gain operand is the gain vector as one row. -/
theorem v0_at (k : Fin 1024) : (Gen.V m c main_v0 : S1x1024.Idx → EReal) (ix2 0 k) = argG m c (ix1 k) := by
  have e : Gen.V m c main_v0 = broadcastInDim S1x1024 ![1] bcast_S1024_S1x1024_1 (m ((c : Thread nD τ).loc main_arg1)) := by
    unfold Gen.V
    simp only [hostOps0, List.flatten, List.cons_append, List.nil_append, List.append_nil, TRef.binary, TRef.nullary,
      TRef.unary, TRef.toBuf, TRef.ofBuf, cast_eq]
    after_reads_simp
  rw [e]
  pointwise
  rfl

/-- The blocks point `t` takes: its own rows of the gradients and of the input, and the whole gain. -/
theorem idx_at : ∀ t : Fin cfg0.N, win0_0.index t = ![t.val, 0] ∧ win0_1.index t = ![t.val, 0] ∧ win0_2.index t = ![0, 0] :=
  (by decide +kernel : ∀ t : Fin grid0.N, _)

/-- The gradients of the normed rows at point `t`. -/
theorem blk0 (t : Fin cfg0.N) (p : Fin 512) (k : Fin 1024) (r : Fin 8192) (hr : r.val = t.val * 512 + p.val) :
    (iblk m c 0 t : Vec Ideal S512x1024 .f32) (ix2 p k) = argD m c (ix2 r k) := by
  obtain ⟨e, -⟩ := idx_at t
  have h : (iblk m c 0 t : Vec Ideal S512x1024 .f32) (ix2 p k) = (V m c main_arg2 : Vec Ideal S8192x1024 .f32) (ix2 r k) := by
    blk_ext [iblk, V, e]
  rw [h, V_main_arg2]
  rfl

/-- The rows at point `t`. -/
theorem blk1 (t : Fin cfg0.N) (p : Fin 512) (k : Fin 1024) (r : Fin 8192) (hr : r.val = t.val * 512 + p.val) :
    (iblk m c 1 t : Vec Ideal S512x1024 .f32) (ix2 p k) = argX m c (ix2 r k) := by
  obtain ⟨-, e, -⟩ := idx_at t
  have h : (iblk m c 1 t : Vec Ideal S512x1024 .f32) (ix2 p k) = (V m c main_arg0 : Vec Ideal S8192x1024 .f32) (ix2 r k) := by
    blk_ext [iblk, V, e]
  rw [h, V_main_arg0]
  rfl

/-- The gain row at point `t`. -/
theorem blk2 (t : Fin cfg0.N) (k : Fin 1024) : (iblk m c 2 t : Vec Ideal S1x1024 .f32) (ix2 0 k) = argG m c (ix1 k) := by
  obtain ⟨-, -, e⟩ := idx_at t
  have h : (iblk m c 2 t : Vec Ideal S1x1024 .f32) (ix2 0 k) = (V m c main_v0 : Vec Ideal S1x1024 .f32) (ix2 0 k) := by
    blk_ext [iblk, V, e]
  exact h.trans (v0_at m c k)

/-- The gradient of the gain. -/
def gainGrad (X D : S8192x1024.Idx → EReal) (j : Fin 1024) : EReal :=
  ∑ r : Fin 8192, D (ix2 r j) * (X (ix2 r j) * rowScale (fun k => X (ix2 r k)))

/-- The gain gradient after the last point. -/
theorem gain_last (t : Fin cfg0.N) (h : t.val = 15) (y : S1x1024.Idx) :
    (outsAt0 m c t.val t.isLt).2 y = gainGrad (argX m c) (argD m c) (y 1) := by
  have h3 : t.val % 16 = 15 := by omega
  rw [Pipeline.eq_sum_fin_of_reset_step_apply_of_flush (fun n h => (outsAt0 m c n h).2) 16 (fun _ => 0)
    (fun t y => gainAdd (iblk m c 1 t) (iblk m c 0 t) (y 1))
    (fun t h0 y => gain_reset m c t h0 y) (fun t h0 y => gain_add m c t h0 y) t h3 y, zero_add]
  unfold gainAdd gainGrad
  refine Fin.sum_mul_add_congr (S := 16) (n := 512) fun s p hl => ?_
  have hr : (⟨s.val * 512 + p.val, hl⟩ : Fin 8192).val = (⟨16 * (t.val / 16) + s.val, Pipeline.run_point_lt_of_flush t h3 s⟩ : Fin cfg0.N).val * 512 + p.val := by
    show s.val * 512 + p.val = (16 * (t.val / 16) + s.val) * 512 + p.val
    omega
  refine congrArg₂ (fun y z : EReal => y * z) (blk0 m c _ p (y 1) _ hr) (congrArg₂ (fun y z : EReal => y * z) (blk1 m c _ p (y 1) _ hr) ?_)
  exact congrArg rowScale (funext fun k => blk1 m c _ p k _ hr)

/-- The gradients of the rows, as an array. -/
def G3 : Buf (Elt Ideal) ((c : Thread nD τ).loc main_v1_0) := fun i : S8192x1024.Idx =>
  (inGrad (fun k => argX m c (ix2 (i 0) k)) (fun k => argD m c (ix2 (i 0) k)) (fun k => argG m c (ix1 k)) 0 (i 1) : EReal)

/-- The gradient of the gain, as an array. -/
def G4 : Buf (Elt Ideal) ((c : Thread nD τ).loc main_v1_1) := fun i : S1x1024.Idx => (gainGrad (argX m c) (argD m c) (i 1) : EReal)

/-- The blocks point `t` writes: its own rows of the gradients and the whole gain gradient. -/
theorem out_at : ∀ t : Fin cfg0.N, win0_3.index t = ![t.val, 0] ∧ win0_4.index t = ![0, 0] :=
  (by decide +kernel : ∀ t : Fin grid0.N, _)

/-- The last point alone writes the gain gradient back. -/
theorem flush4 : ∀ t : Fin cfg0.N, (cfg0.win 4).flush t = true ↔ t.val = 15 :=
  (by decide +kernel : ∀ t : Fin grid0.N, win0_4.flush t = true ↔ t.val = 15)

/-- The gradients of the rows after the run. -/
theorem final3 : (dats m 0 c).arrAt 3 cfg0.N = G3 m c := by
  funext i
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by omega⟩, rfl⟩
  have e : win0_3.index t = ![t.val, 0] := (out_at t).1
  have e0 : win0_3.index t (0 : Fin 2) = t.val := congrFun e 0
  have e1 : win0_3.index t (1 : Fin 2) = 0 := congrFun e 1
  have hb := congrFun (Value.blocks3 m c t (flush0_3 t)) (ix2 ⟨(i 0).val % 512, Nat.mod_lt _ (by decide)⟩ ⟨(i 1).val, hi1⟩ : S512x1024.Idx)
  have hemb : ((cfg0.win 3).blk t).view.emb (ix2 ⟨(i 0).val % 512, Nat.mod_lt _ (by decide)⟩ ⟨(i 1).val, hi1⟩ : S512x1024.Idx) = i := by
    funext a
    match a with
    | ⟨0, _⟩ => exact Fin.ext (by show win0_3.index t (0 : Fin 2) * 512 + 1 * ((i 0).val % 512) = (i 0).val; omega)
    | ⟨1, _⟩ => exact Fin.ext (by show win0_3.index t (1 : Fin 2) * 1024 + 1 * (i 1).val = (i 1).val; omega)
  have hl : (dats m 0 c).arrAt 3 cfg0.N (((cfg0.win 3).blk t).view.emb (ix2 ⟨(i 0).val % 512, Nat.mod_lt _ (by decide)⟩ ⟨(i 1).val, hi1⟩ : S512x1024.Idx)) = _ := hb
  rw [hemb, Value.flushed3] at hl
  refine hl.trans ?_
  have hr : (i 0).val = t.val * 512 + (i 0).val % 512 := by omega
  refine (step_in m c t (ix2 ⟨(i 0).val % 512, Nat.mod_lt _ (by decide)⟩ ⟨(i 1).val, hi1⟩)).trans ?_
  have q1 : (fun k => (iblk m c 1 t : Vec Ideal S512x1024 .f32) (ix2 ⟨(i 0).val % 512, Nat.mod_lt _ (by decide)⟩ k)) = fun k => argX m c (ix2 (i 0) k) :=
    funext fun k => blk1 m c t _ k (i 0) hr
  have q2 : (fun k => (iblk m c 0 t : Vec Ideal S512x1024 .f32) (ix2 ⟨(i 0).val % 512, Nat.mod_lt _ (by decide)⟩ k)) = fun k => argD m c (ix2 (i 0) k) :=
    funext fun k => blk0 m c t _ k (i 0) hr
  have q3 : (fun k => (iblk m c 2 t : Vec Ideal S1x1024 .f32) (ix2 0 k)) = fun k => argG m c (ix1 k) := funext fun k => blk2 m c t k
  show inGrad (fun k => (iblk m c 1 t : Vec Ideal S512x1024 .f32) (ix2 ⟨(i 0).val % 512, Nat.mod_lt _ (by decide)⟩ k))
    (fun k => (iblk m c 0 t : Vec Ideal S512x1024 .f32) (ix2 ⟨(i 0).val % 512, Nat.mod_lt _ (by decide)⟩ k))
    (fun k => (iblk m c 2 t : Vec Ideal S1x1024 .f32) (ix2 0 k)) 0 (i 1) = _
  rw [q1, q2, q3]
  rfl

/-- The point that writes the gain gradient back writes all of it. -/
theorem flushed4 (t : Fin cfg0.N) (hf : (cfg0.win 4).flush t = true) :
    (dats m 0 c).flushed 4 t = ((cfg0.win 4).blk t).view.read (Elt Ideal) (G4 m c) := by
  rw [Value.flushed4]
  have e : win0_4.index t = ![0, 0] := (out_at t).2
  have e1 : win0_4.index t (1 : Fin 2) = 0 := congrFun e 1
  funext y
  refine (gain_last m c t ((flush4 t).1 hf) ((cfg0.win 4).xinj (grid0.coords t) y)).trans ?_
  show gainGrad _ _ _ = gainGrad _ _ _
  refine congrArg _ (Fin.ext ?_)
  show (y 1).val = win0_4.index t (1 : Fin 2) * 1024 + 1 * (y 1).val
  omega

/-- The indices of point `t`'s block of the gain gradient. -/
theorem mem_blk4 (t : Fin cfg0.N) (i : S1x1024.Idx) :
    i ∈ ((cfg0.win 4).blk t).view.set ↔ ∀ a : Fin 2, win0_4.index t a * S1x1024.size a ≤ (i a).val ∧ (i a).val < win0_4.index t a * S1x1024.size a + S1x1024.size a := by
  show i ∈ ((View.whole main_v1_1).slice (win0_4.rect t)).set ↔ _
  rw [View.set_slice_whole, Rect.mem_set_unit]
  exact Iff.rfl

/-- The gain gradient after the run. -/
theorem final4 : (dats m 0 c).arrAt 4 cfg0.N = G4 m c := by
  refine (dats m 0 c).arrAt_eq_of_cover 4 _ (fun t hf => flushed4 m c t hf) fun i => ?_
  have hi0 : (i 0).val < 1 := (i 0).isLt
  have hi1 : (i 1).val < 1024 := (i 1).isLt
  have hN : cfg0.N = 16 := N_0
  obtain ⟨t, ht⟩ : ∃ t : Fin cfg0.N, t.val = 15 := ⟨⟨15, by omega⟩, rfl⟩
  have e : win0_4.index t = ![0, 0] := (out_at t).2
  have e0 : win0_4.index t (0 : Fin 2) = 0 := congrFun e 0
  have e1 : win0_4.index t (1 : Fin 2) = 0 := congrFun e 1
  refine ⟨t, (flush4 t).2 ht, ?_⟩
  rw [mem_blk4]
  intro a
  match a with
  | ⟨0, _⟩ => show win0_4.index t (0 : Fin 2) * 1 ≤ (i 0).val ∧ (i 0).val < win0_4.index t (0 : Fin 2) * 1 + 1; omega
  | ⟨1, _⟩ => show win0_4.index t (1 : Fin 2) * 1024 ≤ (i 1).val ∧ (i 1).val < win0_4.index t (1 : Fin 2) * 1024 + 1024; omega

/-- The run with the two output arrays named, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1_0) = G3 m c
      ∧ r.2.mem ((c : Thread nD τ).loc main_v1_1) = G4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.Kernel7Ideal.N

end
-- ==== Proof.NRef.lean ====
/-
What the norm's backward reference's two results hold at an index: the gradients of the rows and of the gain, in
differentiation's form.
-/
module

public import proofs.«01_k».proof.Proof.AReal
public import proofs.«01_k».proof.Proof.NValue
public import proofs.«01_k».proof.Proof.Gen.Reference7Ideal.Read

@[expose] public section

set_option maxRecDepth 16384

noncomputable section

namespace Cert.Kernel7Ideal.N

open Idealize.ShloMosaic Idealize.ShloMosaic.TcCoe Cert.Kernel7Ideal.Gen
open Cert.KernelIdeal.A (rowScale inGrad' meanSq meanPull)
open Cert.Reference7Ideal.Read

variable (x0 : (⟨S8192x1024, .f32⟩ : BufTy).Contents (Elt Ideal)) (x1 : (⟨S1024, .f32⟩ : BufTy).Contents (Elt Ideal))
    (x2 : (⟨S8192x1024, .f32⟩ : BufTy).Contents (Elt Ideal))

/-- The mean square of a row, with the small constant. -/
theorem ref_meanSq (r : Fin 8192) (k : Fin 1) :
    (val_main_v6 (F := Ideal) x0 : Cert.Reference7Ideal.S8192x1.Idx → EReal) (ix2 r k) = meanSq (fun k => x0 (ix2 r k)) := by
  unfold val_main_v6 val_main_v5 val_main_v4 val_main_v3 val_main_v2 val_main_v1 val_main_v0 val_main_cst_1 val_main_cst_0 val_main_cst
  pointwise
  unfold meanSq
  rfl

/-- The scale of a row. -/
theorem ref_scale (r : Fin 8192) (k : Fin 1) :
    (val_main_v7 (F := Ideal) x0 : Cert.Reference7Ideal.S8192x1.Idx → EReal) (ix2 r k) = rowScale (fun k => x0 (ix2 r k)) := by
  have h := ref_meanSq x0 r k
  unfold val_main_v7
  generalize val_main_v6 (F := Ideal) x0 = M at h
  pointwise
  rw [h]
  rfl

/-- The gradient of the gain, as one row. -/
theorem ref_gain (p : Fin 1) (j : Fin 1024) :
    (val_main_v36 (F := Ideal) x0 x2 : S1x1024.Idx → EReal) (ix2 p j) = gainGrad x0 x2 j := by
  have h1 := fun r => ref_scale x0 r 0
  unfold val_main_v36 val_main_v21 val_main_v18 val_main_v17 val_main_v16 val_main_v12 val_main_v11 val_main_cst_3 val_main_cst_4
  generalize val_main_v7 (F := Ideal) x0 = A at h1
  pointwise
  unfold gainGrad
  refine (Fin.sum_univ_one _).trans (Finset.sum_congr rfl fun r _ => ?_)
  rw [h1, mul_comm]

/-- A row's sum against its gradients through the gain. -/
theorem ref_pull (r : Fin 8192) (k : Fin 1024) :
    (val_main_v31 (F := Ideal) x0 x1 x2 : S8192x1024.Idx → EReal) (ix2 r k)
      = meanPull (fun k => x0 (ix2 r k)) (fun k => x2 (ix2 r k)) (fun k => x1 (ix1 k)) := by
  have h2 := fun k => ref_scale x0 r k
  have h3 := fun k => ref_meanSq x0 r k
  unfold val_main_v31 val_main_v30 val_main_v29 val_main_v28 val_main_v27 val_main_v24 val_main_v23 val_main_v22 val_main_v20 val_main_v19 val_main_v13 val_main_v10 val_main_v9 val_main_v8 val_main_cst_2 val_main_cst_5 val_main_cst_6 val_main_cst_7
  generalize val_main_v7 (F := Ideal) x0 = B at h2
  generalize val_main_v6 (F := Ideal) x0 = C at h3
  pointwise
  unfold meanPull
  simp only [h2, h3]
  exact Fin.sum_univ_one _

/-- The gradients of the rows, in differentiation's form. -/
theorem ref_in (r : Fin 8192) (k : Fin 1024) :
    (val_main_v35 (F := Ideal) x0 x1 x2 : S8192x1024.Idx → EReal) (ix2 r k)
      = inGrad' (fun k => x0 (ix2 r k)) (fun k => x2 (ix2 r k)) (fun k => x1 (ix1 k)) 0 k := by
  have h2 := ref_pull x0 x1 x2 r k
  have h3 := ref_scale x0 r 0
  unfold val_main_v35 val_main_v34 val_main_v33 val_main_v32 val_main_v26 val_main_v25 val_main_v20 val_main_v19 val_main_v13
  generalize val_main_v31 (F := Ideal) x0 x1 x2 = P at h2
  generalize val_main_v7 (F := Ideal) x0 = B at h3
  pointwise
  unfold inGrad'
  rw [h2, h3, zero_add]

end Cert.Kernel7Ideal.N

end
-- ==== Proof.NClaim.lean ====
/-
The norm's backward kernel and its reference leave equal gradients: the value claim of the seventh pair of programs.
-/
module

public import proofs.«01_k».proof.Defs
public import proofs.«01_k».proof.Proof.NRef
public import proofs.«01_k».proof.Proof.Gen.Reference7Ideal.Run

@[expose] public section

set_option maxRecDepth 16384

noncomputable section

namespace Cert.Kernel7Ideal.N

open Idealize.ShloMosaic Idealize.ShloMosaic.TcCoe Idealize.SL.Sem Cert.Kernel7Ideal.Gen
open Cert.KernelIdeal.A (inGrad_eq)
open Cert.Reference7Ideal.Read

variable (m : (ℓ : Loc nD τ sig) → Buf (Elt Ideal) ℓ) (c : Dev nD)

/-- The kernel's gradients of the rows are the reference's. -/
theorem G3_eq : G3 m c = val_main_v35 (F := Ideal) (m ((c : Thread nD τ).loc main_arg0)) (m ((c : Thread nD τ).loc main_arg1)) (m ((c : Thread nD τ).loc main_arg2)) := by
  funext i
  refine (inGrad_eq _ _ _ _ _).trans ((ref_in _ _ _ (i 0) (i 1)).symm.trans ?_)
  exact congrArg _ (ix2_eta i)

/-- The kernel's gain gradient is the reference's. -/
theorem G4_eq : G4 m c = val_main_v36 (F := Ideal) (m ((c : Thread nD τ).loc main_arg0)) (m ((c : Thread nD τ).loc main_arg2)) := by
  funext i
  refine (ref_gain _ _ (i 0) (i 1)).symm.trans ?_
  exact congrArg _ (ix2_eta i)

/-- On equal arguments the kernel and the reference end with equal gradients, and unchanged arguments. -/
theorem algebraic : Cert.algebraic_Kernel7Ideal_Reference7Ideal := by
  intro m g m' g' _ h
  refine ⟨fun c => G3 m c, fun c => G4 m c, run m g, ?_⟩
  refine (θ_run Cert.Reference7Ideal.defs _ _).mono (fun r hr c => ?_) (Cert.Reference7Ideal.Value.run m' g')
  obtain ⟨h0, h1, h2⟩ := h c
  obtain ⟨r3, r4, rest⟩ := hr c
  refine ⟨r3.trans ?_, r4.trans ?_, rest⟩
  · rw [h0, h1, h2]
    exact (val_main_v35_eq _ _ _).trans (G3_eq m c).symm
  · rw [h0, h2]
    exact (val_main_v36_eq _ _).trans (G4_eq m c).symm

end Cert.Kernel7Ideal.N

end
-- ==== Proof.LBlock.lean ====
/-
What one grid point of the loss head's kernel computes from the blocks before it: the gradients of its rows, and what it adds
to the loss and to the gain gradient.
-/
module

public import proofs.«01_k».proof.Proof.AReal
public import proofs.«01_k».proof.Proof.Gen.Kernel8Ideal.Frame

@[expose] public section

set_option maxRecDepth 16384

noncomputable section

namespace Cert.Kernel8Ideal.L

open Idealize.ShloMosaic Idealize.ShloMosaic.TcCoe Cert.Kernel8Ideal.Gen
open Cert.KernelIdeal.A (rowScale inGrad ofBits_half)

/-- A half of a sum is the sum of the halves. -/
theorem half_sum {n : ℕ} (f : Fin n → EReal) :
    Ideal.ofBits .f32 0x3F000000#32 * ∑ p, f p = ∑ p, Ideal.ofBits .f32 0x3F000000#32 * f p := by
  rw [ofBits_half]
  generalize (Finset.univ : Finset (Fin n)) = s
  classical
  induction s using Finset.induction_on with
  | empty => simp
  | insert a s ha ih =>
    rw [Finset.sum_insert ha, Finset.sum_insert ha, ← ih]
    exact EReal.left_distrib_of_nonneg_of_ne_top (by exact_mod_cast (by norm_num : (0 : ℝ) ≤ 1 / 2)) (EReal.coe_ne_top _) _ _

/-- The half of a row's mean square difference. -/
def rowLoss (e : Fin 1024 → EReal) : EReal :=
  Ideal.ofBits .f32 0x3F000000#32 * Ideal.div (∑ k, e k * e k) (Ideal.ofBits .f32 0x44800000#32)

variable (m : (ℓ : Loc nD τ sig) → Buf (Elt Ideal) ℓ)

/-- The differences of the rows of a point from their targets, over the width. -/
theorem pay8 (Y T : Vec Ideal S512x1024 .f32) (p : Fin 512) (q : Fin 1024) :
    (k0_pay8 Y T : FVec Ideal S512x1024 .f32) (ix2 p q) = (Y (ix2 p q) - T (ix2 p q)) * Ideal.ofBits .f32 0x3A800000#32 := by
  unfold k0_pay8 k0_pay6
  pointwise

/-- The scale of a row. -/
theorem pay9 (X : Vec Ideal S512x1024 .f32) (p : Fin 512) (k : Fin 1) :
    (k0_pay9 X : FVec Ideal S512x1 .f32) (ix2 p k) = rowScale (fun k => X (ix2 p k)) := by
  unfold k0_pay9
  pointwise
  rfl

/-- The gradients of the rows a point stores, from the gradients `D` of the normed rows. -/
theorem pay2 (X D : Vec Ideal S512x1024 .f32) (G : Vec Ideal S1x1024 .f32) (y : S512x1024.Idx) :
    (k0_pay2 X D (k0_pay9 X) (k0_pay10 G) (k0_pay11 X) : Vec Ideal S512x1024 .f32) y
      = inGrad (fun k => X (ix2 (y 0) k)) (fun k => D (ix2 (y 0) k)) (fun k => G (ix2 0 k)) 0 (y 1) := by
  obtain ⟨p, q, rfl⟩ : ∃ p q, y = ix2 p q := ⟨y 0, y 1, eq_ix2 y⟩
  have h := pay9 X p
  unfold k0_pay2 k0_pay1 k0_pay10 k0_pay11
  generalize k0_pay9 X = R at h
  pointwise
  simp only [h]
  unfold inGrad
  exact (zero_add _).symm

/-- What a point adds to the gain gradient: the gradients of the normed rows against the rows before the gain, summed over the
    block's rows. -/
def gainAdd (X D : Vec Ideal S512x1024 .f32) (q : Fin 1024) : EReal :=
  ∑ p : Fin 512, D (ix2 p q) * (X (ix2 p q) * rowScale (fun k => X (ix2 p k)))

/-- The gain gradient a point stores. -/
theorem pay3 (X D : Vec Ideal S512x1024 .f32) (g : Vec Ideal S1x1024 .f32) (y : S1x1024.Idx) :
    (k0_pay3 X D (k0_pay11 X) g : Vec Ideal S1x1024 .f32) y = g y + gainAdd X D (y 1) := by
  have h := fun p => pay9 X p
  unfold k0_pay3 k0_pay1 k0_pay11
  generalize k0_pay9 X = R at h
  pointwise
  simp only [h]
  rfl

/-- What a point adds to the loss: that of its rows. -/
def lossAdd (Y T : Vec Ideal S512x1024 .f32) : EReal := ∑ p : Fin 512, rowLoss (fun k => Y (ix2 p k) - T (ix2 p k))

/-- The loss a point stores, the same in all lanes. -/
theorem pay7 (Y T : Vec Ideal S512x1024 .f32) (l : Vec Ideal S1x128 .f32) (y : S1x128.Idx) :
    (k0_pay7 Y T l : Vec Ideal S1x128 .f32) y = l y + lossAdd Y T := by
  unfold k0_pay7 k0_pay6
  pointwise
  unfold lossAdd rowLoss
  rw [← half_sum]

/-- The zero row the gain gradient starts from. -/
theorem pay4 (y : S1x1024.Idx) : k0_pay4 (F := Ideal) y = 0 := by
  unfold k0_pay4
  pointwise

/-- The zero row the loss starts from. -/
theorem pay5 (y : S1x128.Idx) : k0_pay5 (F := Ideal) y = 0 := by
  unfold k0_pay5
  pointwise

/-- The gradients of the normed rows at point `t`. -/
def ctAt (c : Dev nD) (t : Fin cfg0.N) : Vec Ideal S512x1024 .f32 := k0_pay8 (F := Ideal) (iblk m c 0 t) (iblk m c 3 t)

/-- Every point leaves the gradients of its rows in the second output's block. -/
theorem step_in (c : Dev nD) (t : Fin cfg0.N) (y : S512x1024.Idx) :
    (outsAt0 m c t.val t.isLt).2.1 y = inGrad (fun k => (iblk m c 1 t : Vec Ideal S512x1024 .f32) (ix2 (y 0) k))
      (fun k => ctAt m c t (ix2 (y 0) k)) (fun k => (iblk m c 2 t : Vec Ideal S1x1024 .f32) (ix2 0 k)) 0 (y 1) := by
  by_cases h0 : t.val % 16 = 0
  · rw [outsAt0_A m c t h0]
    frame_out
    exact pay2 (iblk m c 1 t) (ctAt m c t) (iblk m c 2 t) y
  · rw [outsAt0_B m c t h0]
    frame_out
    exact pay2 (iblk m c 1 t) (ctAt m c t) (iblk m c 2 t) y

/-- The first point leaves its own addend in the gain gradient. -/
theorem gain_reset (c : Dev nD) (t : Fin cfg0.N) (h0 : t.val % 16 = 0) (y : S1x1024.Idx) :
    (outsAt0 m c t.val t.isLt).2.2 y = 0 + gainAdd (iblk m c 1 t) (ctAt m c t) (y 1) := by
  rw [outsAt0_A m c t h0]
  frame_out
  exact (pay3 (iblk m c 1 t) (ctAt m c t) (k0_pay4 (F := Ideal)) y).trans (congrArg (· + _) (pay4 y))

/-- Every other point adds its addend to the gain gradient the point before left. -/
theorem gain_add (c : Dev nD) (t : Fin cfg0.N) (h0 : ¬t.val % 16 = 0) (y : S1x1024.Idx) :
    (outsAt0 m c t.val t.isLt).2.2 y = (outsAt0 m c (t.val - 1) (Nat.lt_of_le_of_lt (Nat.sub_le _ _) t.isLt)).2.2 y
      + gainAdd (iblk m c 1 t) (ctAt m c t) (y 1) := by
  rw [outsAt0_B m c t h0]
  frame_out
  exact pay3 (iblk m c 1 t) (ctAt m c t) _ y

/-- The first point leaves its own addend in the loss. -/
theorem loss_reset (c : Dev nD) (t : Fin cfg0.N) (h0 : t.val % 16 = 0) (y : S1x128.Idx) :
    (outsAt0 m c t.val t.isLt).1 y = 0 + lossAdd (iblk m c 0 t) (iblk m c 3 t) := by
  rw [outsAt0_A m c t h0]
  frame_out
  exact (pay7 (iblk m c 0 t) (iblk m c 3 t) (k0_pay5 (F := Ideal)) y).trans (congrArg (· + _) (pay5 y))

/-- Every other point adds its addend to the loss the point before left. -/
theorem loss_add (c : Dev nD) (t : Fin cfg0.N) (h0 : ¬t.val % 16 = 0) (y : S1x128.Idx) :
    (outsAt0 m c t.val t.isLt).1 y = (outsAt0 m c (t.val - 1) (Nat.lt_of_le_of_lt (Nat.sub_le _ _) t.isLt)).1 y
      + lossAdd (iblk m c 0 t) (iblk m c 3 t) := by
  rw [outsAt0_B m c t h0]
  frame_out
  exact pay7 (iblk m c 0 t) (iblk m c 3 t) _ y

end Cert.Kernel8Ideal.L

end
-- ==== Proof.LValue.lean ====
/-
What the loss head's kernel reads at each grid point and what its three output arrays hold after the run: the loss, the
gradients of the rows and the gradient of the gain.
-/
module

public import proofs.«01_k».proof.Proof.LBlock
public import proofs.«01_k».proof.Proof.Gen.Kernel8Ideal.Value
public import Idealize.ShloMosaic.Lib.StableHlo.RunRead

@[expose] public section

set_option maxRecDepth 16384

noncomputable section

namespace Cert.Kernel8Ideal.L

open Idealize.ShloMosaic Idealize.ShloMosaic.TcCoe Idealize.ShloMosaic.StableHlo Cert.Kernel8Ideal.Gen Idealize.SL.Sem
open Cert.KernelIdeal.A (rowScale inGrad normed)

/-- The difference of a normed row from its target. -/
def err (X : S8192x1024.Idx → EReal) (G : S1024.Idx → EReal) (T : S8192x1024.Idx → EReal) (r : Fin 8192) (k : Fin 1024) : EReal :=
  normed (fun k => X (ix2 r k)) (fun k => G (ix1 k)) k - T (ix2 r k)

/-- The gradient of the loss in a normed row: the difference over the width. -/
def ct (X : S8192x1024.Idx → EReal) (G : S1024.Idx → EReal) (T : S8192x1024.Idx → EReal) (r : Fin 8192) (k : Fin 1024) : EReal :=
  err X G T r k * Ideal.ofBits .f32 0x3A800000#32

variable (m : (ℓ : Loc nD τ sig) → Buf (Elt Ideal) ℓ) (c : Dev nD)

/-- The rows. -/
def argX : S8192x1024.Idx → EReal := m ((c : Thread nD τ).loc main_arg0)
/-- The gain vector. -/
def argG : S1024.Idx → EReal := m ((c : Thread nD τ).loc main_arg1)
/-- The targets. -/
def argT : S8192x1024.Idx → EReal := m ((c : Thread nD τ).loc main_arg2)

/-- The gain operand is the gain vector as one row. -/
theorem v13_at (k : Fin 1024) : (Gen.V m c main_v13 : S1x1024.Idx → EReal) (ix2 0 k) = argG m c (ix1 k) := by
  have e : Gen.V m c main_v13 = broadcastInDim S1x1024 ![1] bcast_S1024_S1x1024_1 (m ((c : Thread nD τ).loc main_arg1)) := by
    unfold Gen.V
    simp only [hostOps0, List.flatten, List.cons_append, List.nil_append, List.append_nil, TRef.binary, TRef.nullary,
      TRef.unary, TRef.toBuf, TRef.ofBuf, cast_eq]
    after_reads_simp
  rw [e]
  pointwise
  rfl

/-- The operand of normed rows holds them. -/
theorem v12_at (r : Fin 8192) (k : Fin 1024) : (Gen.V m c main_v12 : S8192x1024.Idx → EReal) (ix2 r k)
    = normed (fun k => argX m c (ix2 r k)) (fun k => argG m c (ix1 k)) k := by
  unfold Gen.V
  simp only [hostOps0, List.flatten, List.cons_append, List.nil_append, List.append_nil, TRef.binary, TRef.nullary,
    TRef.unary, TRef.toBuf, TRef.ofBuf, cast_eq]
  after_reads_simp
  pointwise
  unfold normed rowScale
  rfl

/-- The blocks point `t` takes: its own rows of the normed rows, of the input and of the targets, and the whole gain. -/
theorem idx_at : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

/-- The normed rows at point `t`. -/
theorem blk0 (t : Fin cfg0.N) (p : Fin 512) (k : Fin 1024) (r : Fin 8192) (hr : r.val = t.val * 512 + p.val) :
    (iblk m c 0 t : Vec Ideal S512x1024 .f32) (ix2 p k) = normed (fun k => argX m c (ix2 r k)) (fun k => argG m c (ix1 k)) k := by
  obtain ⟨e, -⟩ := idx_at t
  have h : (iblk m c 0 t : Vec Ideal S512x1024 .f32) (ix2 p k) = (V m c main_v12 : Vec Ideal S8192x1024 .f32) (ix2 r k) := by
    blk_ext [iblk, V, e]
  exact h.trans (v12_at m c r k)

/-- The rows at point `t`. -/
theorem blk1 (t : Fin cfg0.N) (p : Fin 512) (k : Fin 1024) (r : Fin 8192) (hr : r.val = t.val * 512 + p.val) :
    (iblk m c 1 t : Vec Ideal S512x1024 .f32) (ix2 p k) = argX m c (ix2 r k) := by
  obtain ⟨-, e, -⟩ := idx_at t
  have h : (iblk m c 1 t : Vec Ideal S512x1024 .f32) (ix2 p k) = (V m c main_arg0 : Vec Ideal S8192x1024 .f32) (ix2 r k) := by
    blk_ext [iblk, V, e]
  rw [h, V_main_arg0]
  rfl

/-- The gain row at point `t`. -/
theorem blk2 (t : Fin cfg0.N) (k : Fin 1024) : (iblk m c 2 t : Vec Ideal S1x1024 .f32) (ix2 0 k) = argG m c (ix1 k) := by
  obtain ⟨-, -, e, -⟩ := idx_at t
  have h : (iblk m c 2 t : Vec Ideal S1x1024 .f32) (ix2 0 k) = (V m c main_v13 : Vec Ideal S1x1024 .f32) (ix2 0 k) := by
    blk_ext [iblk, V, e]
  exact h.trans (v13_at m c k)

/-- The targets at point `t`. -/
theorem blk3 (t : Fin cfg0.N) (p : Fin 512) (k : Fin 1024) (r : Fin 8192) (hr : r.val = t.val * 512 + p.val) :
    (iblk m c 3 t : Vec Ideal S512x1024 .f32) (ix2 p k) = argT m c (ix2 r k) := by
  obtain ⟨-, -, -, e⟩ := idx_at t
  have h : (iblk m c 3 t : Vec Ideal S512x1024 .f32) (ix2 p k) = (V m c main_arg2 : Vec Ideal S8192x1024 .f32) (ix2 r k) := by
    blk_ext [iblk, V, e]
  rw [h, V_main_arg2]
  rfl

/-- The differences at point `t`. -/
theorem err_at (t : Fin cfg0.N) (p : Fin 512) (k : Fin 1024) (r : Fin 8192) (hr : r.val = t.val * 512 + p.val) :
    @HSub.hSub EReal EReal EReal _ ((iblk m c 0 t : Vec Ideal S512x1024 .f32) (ix2 p k)) ((iblk m c 3 t : Vec Ideal S512x1024 .f32) (ix2 p k))
      = err (argX m c) (argG m c) (argT m c) r k :=
  congrArg₂ (fun y z : EReal => y - z) (blk0 m c t p k r hr) (blk3 m c t p k r hr)

/-- The gradients of the normed rows at point `t`. -/
theorem ct_at (t : Fin cfg0.N) (p : Fin 512) (k : Fin 1024) (r : Fin 8192) (hr : r.val = t.val * 512 + p.val) :
    ctAt m c t (ix2 p k) = ct (argX m c) (argG m c) (argT m c) r k :=
  (pay8 (iblk m c 0 t) (iblk m c 3 t) p k).trans
    (congrArg (fun z : EReal => z * Ideal.ofBits .f32 0x3A800000#32) (err_at m c t p k r hr))

/-- The gradient of the gain, from the gradients `D` of the normed rows. -/
def gainGrad (X : S8192x1024.Idx → EReal) (D : Fin 8192 → Fin 1024 → EReal) (j : Fin 1024) : EReal :=
  ∑ r : Fin 8192, D r j * (X (ix2 r j) * rowScale (fun k => X (ix2 r k)))

/-- The loss. -/
def loss (X : S8192x1024.Idx → EReal) (G : S1024.Idx → EReal) (T : S8192x1024.Idx → EReal) : EReal :=
  ∑ r : Fin 8192, rowLoss (fun k => err X G T r k)

/-- The gain gradient after the last point. -/
theorem gain_last (t : Fin cfg0.N) (h : t.val = 15) (y : S1x1024.Idx) :
    (outsAt0 m c t.val t.isLt).2.2 y = gainGrad (argX m c) (ct (argX m c) (argG m c) (argT m c)) (y 1) := by
  have h3 : t.val % 16 = 15 := by omega
  rw [Pipeline.eq_sum_fin_of_reset_step_apply_of_flush (fun n h => (outsAt0 m c n h).2.2) 16 (fun _ => 0)
    (fun t y => gainAdd (iblk m c 1 t) (ctAt m c t) (y 1))
    (fun t h0 y => gain_reset m c t h0 y) (fun t h0 y => gain_add m c t h0 y) t h3 y, zero_add]
  unfold gainAdd gainGrad
  refine Fin.sum_mul_add_congr (S := 16) (n := 512) fun s p hl => ?_
  have hr : (⟨s.val * 512 + p.val, hl⟩ : Fin 8192).val = (⟨16 * (t.val / 16) + s.val, Pipeline.run_point_lt_of_flush t h3 s⟩ : Fin cfg0.N).val * 512 + p.val := by
    show s.val * 512 + p.val = (16 * (t.val / 16) + s.val) * 512 + p.val
    omega
  refine congrArg₂ (fun y z : EReal => y * z) (ct_at m c _ p (y 1) _ hr) (congrArg₂ (fun y z : EReal => y * z) (blk1 m c _ p (y 1) _ hr) ?_)
  exact congrArg rowScale (funext fun k => blk1 m c _ p k _ hr)

/-- The loss after the last point. -/
theorem loss_last (t : Fin cfg0.N) (h : t.val = 15) (y : S1x128.Idx) :
    (outsAt0 m c t.val t.isLt).1 y = loss (argX m c) (argG m c) (argT m c) := by
  have h3 : t.val % 16 = 15 := by omega
  rw [Pipeline.eq_sum_fin_of_reset_step_apply_of_flush (fun n h => (outsAt0 m c n h).1) 16 (fun _ => 0)
    (fun t _ => lossAdd (iblk m c 0 t) (iblk m c 3 t))
    (fun t h0 y => loss_reset m c t h0 y) (fun t h0 y => loss_add m c t h0 y) t h3 y, zero_add]
  unfold lossAdd loss
  refine Fin.sum_mul_add_congr (S := 16) (n := 512) fun s p hl => ?_
  have hr : (⟨s.val * 512 + p.val, hl⟩ : Fin 8192).val = (⟨16 * (t.val / 16) + s.val, Pipeline.run_point_lt_of_flush t h3 s⟩ : Fin cfg0.N).val * 512 + p.val := by
    show s.val * 512 + p.val = (16 * (t.val / 16) + s.val) * 512 + p.val
    omega
  exact congrArg rowLoss (funext fun k => err_at m c _ p k _ hr)

/-- The loss, as an array: the same in all lanes. -/
def G4 : Buf (Elt Ideal) ((c : Thread nD τ).loc main_v14_0) := fun _ : S1x128.Idx => (loss (argX m c) (argG m c) (argT m c) : EReal)

/-- The gradients of the rows, as an array. -/
def G5 : Buf (Elt Ideal) ((c : Thread nD τ).loc main_v14_1) := fun i : S8192x1024.Idx =>
  (inGrad (fun k => argX m c (ix2 (i 0) k)) (fun k => ct (argX m c) (argG m c) (argT m c) (i 0) k) (fun k => argG m c (ix1 k)) 0 (i 1) : EReal)

/-- The gradient of the gain, as an array. -/
def G6 : Buf (Elt Ideal) ((c : Thread nD τ).loc main_v14_2) := fun i : S1x1024.Idx =>
  (gainGrad (argX m c) (ct (argX m c) (argG m c) (argT m c)) (i 1) : EReal)

/-- The blocks point `t` writes: the whole loss, its own rows of the gradients and the whole gain gradient. -/
theorem out_at : ∀ t : Fin cfg0.N, win0_4.index t = ![0, 0] ∧ win0_5.index t = ![t.val, 0] ∧ win0_6.index t = ![0, 0] :=
  (by decide +kernel : ∀ t : Fin grid0.N, _)

/-- The last point alone writes the loss back. -/
theorem flush4 : ∀ t : Fin cfg0.N, (cfg0.win 4).flush t = true ↔ t.val = 15 :=
  (by decide +kernel : ∀ t : Fin grid0.N, win0_4.flush t = true ↔ t.val = 15)

/-- The last point alone writes the gain gradient back. -/
theorem flush6 : ∀ t : Fin cfg0.N, (cfg0.win 6).flush t = true ↔ t.val = 15 :=
  (by decide +kernel : ∀ t : Fin grid0.N, win0_6.flush t = true ↔ t.val = 15)

/-- The gradients of the rows after the run. -/
theorem final5 : (dats m 0 c).arrAt 5 cfg0.N = G5 m c := by
  funext i
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by omega⟩, rfl⟩
  have e : win0_5.index t = ![t.val, 0] := (out_at t).2.1
  have e0 : win0_5.index t (0 : Fin 2) = t.val := congrFun e 0
  have e1 : win0_5.index t (1 : Fin 2) = 0 := congrFun e 1
  have hb := congrFun (Value.blocks5 m c t (flush0_5 t)) (ix2 ⟨(i 0).val % 512, Nat.mod_lt _ (by decide)⟩ ⟨(i 1).val, hi1⟩ : S512x1024.Idx)
  have hemb : ((cfg0.win 5).blk t).view.emb (ix2 ⟨(i 0).val % 512, Nat.mod_lt _ (by decide)⟩ ⟨(i 1).val, hi1⟩ : S512x1024.Idx) = i := by
    funext a
    match a with
    | ⟨0, _⟩ => exact Fin.ext (by show win0_5.index t (0 : Fin 2) * 512 + 1 * ((i 0).val % 512) = (i 0).val; omega)
    | ⟨1, _⟩ => exact Fin.ext (by show win0_5.index t (1 : Fin 2) * 1024 + 1 * (i 1).val = (i 1).val; omega)
  have hl : (dats m 0 c).arrAt 5 cfg0.N (((cfg0.win 5).blk t).view.emb (ix2 ⟨(i 0).val % 512, Nat.mod_lt _ (by decide)⟩ ⟨(i 1).val, hi1⟩ : S512x1024.Idx)) = _ := hb
  rw [hemb, Value.flushed5] at hl
  refine hl.trans ?_
  have hr : (i 0).val = t.val * 512 + (i 0).val % 512 := by omega
  refine (step_in m c t (ix2 ⟨(i 0).val % 512, Nat.mod_lt _ (by decide)⟩ ⟨(i 1).val, hi1⟩)).trans ?_
  have q1 : (fun k => (iblk m c 1 t : Vec Ideal S512x1024 .f32) (ix2 ⟨(i 0).val % 512, Nat.mod_lt _ (by decide)⟩ k)) = fun k => argX m c (ix2 (i 0) k) :=
    funext fun k => blk1 m c t _ k (i 0) hr
  have q2 : (fun k => ctAt m c t (ix2 ⟨(i 0).val % 512, Nat.mod_lt _ (by decide)⟩ k)) = fun k => ct (argX m c) (argG m c) (argT m c) (i 0) k :=
    funext fun k => ct_at m c t _ k (i 0) hr
  have q3 : (fun k => (iblk m c 2 t : Vec Ideal S1x1024 .f32) (ix2 0 k)) = fun k => argG m c (ix1 k) := funext fun k => blk2 m c t k
  show inGrad (fun k => (iblk m c 1 t : Vec Ideal S512x1024 .f32) (ix2 ⟨(i 0).val % 512, Nat.mod_lt _ (by decide)⟩ k))
    (fun k => ctAt m c t (ix2 ⟨(i 0).val % 512, Nat.mod_lt _ (by decide)⟩ k))
    (fun k => (iblk m c 2 t : Vec Ideal S1x1024 .f32) (ix2 0 k)) 0 (i 1) = _
  rw [q1, q2, q3]
  rfl

/-- The point that writes the loss back writes all of it. -/
theorem flushed4 (t : Fin cfg0.N) (hf : (cfg0.win 4).flush t = true) :
    (dats m 0 c).flushed 4 t = ((cfg0.win 4).blk t).view.read (Elt Ideal) (G4 m c) := by
  rw [Value.flushed4]
  funext y
  exact loss_last m c t ((flush4 t).1 hf) ((cfg0.win 4).xinj (grid0.coords t) y)

/-- The point that writes the gain gradient back writes all of it. -/
theorem flushed6 (t : Fin cfg0.N) (hf : (cfg0.win 6).flush t = true) :
    (dats m 0 c).flushed 6 t = ((cfg0.win 6).blk t).view.read (Elt Ideal) (G6 m c) := by
  rw [Value.flushed6]
  have e : win0_6.index t = ![0, 0] := (out_at t).2.2
  have e1 : win0_6.index t (1 : Fin 2) = 0 := congrFun e 1
  funext y
  refine (gain_last m c t ((flush6 t).1 hf) ((cfg0.win 6).xinj (grid0.coords t) y)).trans ?_
  show gainGrad _ _ _ = gainGrad _ _ _
  refine congrArg _ (Fin.ext ?_)
  show (y 1).val = win0_6.index t (1 : Fin 2) * 1024 + 1 * (y 1).val
  omega

/-- The indices of point `t`'s block of the loss. -/
theorem mem_blk4 (t : Fin cfg0.N) (i : S1x128.Idx) :
    i ∈ ((cfg0.win 4).blk t).view.set ↔ ∀ a : Fin 2, win0_4.index t a * S1x128.size a ≤ (i a).val ∧ (i a).val < win0_4.index t a * S1x128.size a + S1x128.size a := by
  show i ∈ ((View.whole main_v14_0).slice (win0_4.rect t)).set ↔ _
  rw [View.set_slice_whole, Rect.mem_set_unit]
  exact Iff.rfl

/-- The indices of point `t`'s block of the gain gradient. -/
theorem mem_blk6 (t : Fin cfg0.N) (i : S1x1024.Idx) :
    i ∈ ((cfg0.win 6).blk t).view.set ↔ ∀ a : Fin 2, win0_6.index t a * S1x1024.size a ≤ (i a).val ∧ (i a).val < win0_6.index t a * S1x1024.size a + S1x1024.size a := by
  show i ∈ ((View.whole main_v14_2).slice (win0_6.rect t)).set ↔ _
  rw [View.set_slice_whole, Rect.mem_set_unit]
  exact Iff.rfl

/-- The loss after the run. -/
theorem final4 : (dats m 0 c).arrAt 4 cfg0.N = G4 m c := by
  refine (dats m 0 c).arrAt_eq_of_cover 4 _ (fun t hf => flushed4 m c t hf) fun i => ?_
  have hi0 : (i 0).val < 1 := (i 0).isLt
  have hi1 : (i 1).val < 128 := (i 1).isLt
  have hN : cfg0.N = 16 := N_0
  obtain ⟨t, ht⟩ : ∃ t : Fin cfg0.N, t.val = 15 := ⟨⟨15, by omega⟩, rfl⟩
  have e : win0_4.index t = ![0, 0] := (out_at t).1
  have e0 : win0_4.index t (0 : Fin 2) = 0 := congrFun e 0
  have e1 : win0_4.index t (1 : Fin 2) = 0 := congrFun e 1
  refine ⟨t, (flush4 t).2 ht, ?_⟩
  rw [mem_blk4]
  intro a
  match a with
  | ⟨0, _⟩ => show win0_4.index t (0 : Fin 2) * 1 ≤ (i 0).val ∧ (i 0).val < win0_4.index t (0 : Fin 2) * 1 + 1; omega
  | ⟨1, _⟩ => show win0_4.index t (1 : Fin 2) * 128 ≤ (i 1).val ∧ (i 1).val < win0_4.index t (1 : Fin 2) * 128 + 128; omega

/-- The gain gradient after the run. -/
theorem final6 : (dats m 0 c).arrAt 6 cfg0.N = G6 m c := by
  refine (dats m 0 c).arrAt_eq_of_cover 6 _ (fun t hf => flushed6 m c t hf) fun i => ?_
  have hi0 : (i 0).val < 1 := (i 0).isLt
  have hi1 : (i 1).val < 1024 := (i 1).isLt
  have hN : cfg0.N = 16 := N_0
  obtain ⟨t, ht⟩ : ∃ t : Fin cfg0.N, t.val = 15 := ⟨⟨15, by omega⟩, rfl⟩
  have e : win0_6.index t = ![0, 0] := (out_at t).2.2
  have e0 : win0_6.index t (0 : Fin 2) = 0 := congrFun e 0
  have e1 : win0_6.index t (1 : Fin 2) = 0 := congrFun e 1
  refine ⟨t, (flush6 t).2 ht, ?_⟩
  rw [mem_blk6]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 1024 ≤ (i 1).val ∧ (i 1).val < win0_6.index t (1 : Fin 2) * 1024 + 1024; omega

/-- The run with the three output arrays named, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v14_0) = G4 m c
      ∧ r.2.mem ((c : Thread nD τ).loc main_v14_1) = G5 m c
      ∧ r.2.mem ((c : Thread nD τ).loc main_v14_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final4 m c), (h c).2.1.trans (final5 m c), (h c).2.2.1.trans (final6 m c), (h c).2.2.2⟩)
    (Value.run_blocks m ρ)

end Cert.Kernel8Ideal.L

end
-- ==== Proof.LRef.lean ====
/-
What the loss head's reference holds at an index of its three results: the loss, and the gradients of the rows and of the gain
in differentiation's form.
-/
module

public import proofs.«01_k».proof.Proof.LValue
public import proofs.«01_k».proof.Proof.Gen.Reference8Ideal.Read

@[expose] public section

set_option maxRecDepth 16384

noncomputable section

namespace Cert.Kernel8Ideal.L

open Idealize.ShloMosaic Idealize.ShloMosaic.TcCoe Cert.Kernel8Ideal.Gen
open Cert.KernelIdeal.A (rowScale normed inGrad' meanSq meanPull div_coe ofBits_half ofBits_1024)
open Cert.Reference8Ideal.Read

/-- The word for two. -/
theorem ofBits_two : Ideal.ofBits .f32 0x40000000#32 = ((2 : ℝ) : EReal) := by
  simp [Ideal.ofBits, Ideal.ieee, -EReal.coe_mul, -EReal.coe_neg]
  norm_num

/-- The word for one over 1024. -/
theorem ofBits_inv : Ideal.ofBits .f32 0x3A800000#32 = ((1 / 1024 : ℝ) : EReal) := by
  simp [Ideal.ofBits, Ideal.ieee, -EReal.coe_mul, -EReal.coe_neg]
  norm_num

/-- The derivative of half a mean square is the difference over the width. -/
theorem ct_eq (e : EReal) :
    Ideal.div (Ideal.ofBits .f32 0x3F000000#32) (Ideal.ofBits .f32 0x44800000#32)
      * (Ideal.ofBits .f32 0x40000000#32 * e) = e * Ideal.ofBits .f32 0x3A800000#32 := by
  rw [ofBits_half, ofBits_1024, ofBits_two, ofBits_inv, div_coe _ _ (by norm_num), ← mul_assoc,
    ← EReal.coe_mul, mul_comm]
  norm_num

variable (x0 : (⟨S8192x1024, .f32⟩ : BufTy).Contents (Elt Ideal)) (x1 : (⟨S1024, .f32⟩ : BufTy).Contents (Elt Ideal))
    (x2 : (⟨S8192x1024, .f32⟩ : BufTy).Contents (Elt Ideal))

/-- The mean square of a row, with the small constant. -/
theorem ref_meanSq (r : Fin 8192) (k : Fin 1) :
    (val_main_v6 (F := Ideal) x0 : Cert.Reference8Ideal.S8192x1.Idx → EReal) (ix2 r k) = meanSq (fun k => x0 (ix2 r k)) := by
  unfold val_main_v6 val_main_v5 val_main_v4 val_main_v3 val_main_v2 val_main_v1 val_main_v0 val_main_cst_1 val_main_cst_0 val_main_cst
  pointwise
  unfold meanSq
  rfl

/-- The scale of a row. -/
theorem ref_scale (r : Fin 8192) (k : Fin 1) :
    (val_main_v7 (F := Ideal) x0 : Cert.Reference8Ideal.S8192x1.Idx → EReal) (ix2 r k) = rowScale (fun k => x0 (ix2 r k)) := by
  have h := ref_meanSq x0 r k
  unfold val_main_v7
  generalize val_main_v6 (F := Ideal) x0 = M at h
  pointwise
  rw [h]
  rfl

/-- The difference of a normed row from its target. -/
theorem ref_err (r : Fin 8192) (k : Fin 1024) :
    (val_main_v16 (F := Ideal) x0 x1 x2 : S8192x1024.Idx → EReal) (ix2 r k) = err x0 x1 x2 r k := by
  have h := ref_scale x0 r 0
  unfold val_main_v16 val_main_v15 val_main_v14 val_main_v13 val_main_v12 val_main_v11
  generalize val_main_v7 (F := Ideal) x0 = A at h
  pointwise
  rw [h]
  rfl

/-- The gradient of the loss in a normed row. -/
theorem ref_ct (r : Fin 8192) (k : Fin 1024) :
    (val_main_v30 (F := Ideal) x0 x1 x2 : S8192x1024.Idx → EReal) (ix2 r k) = ct x0 x1 x2 r k := by
  have h := ref_err x0 x1 x2 r k
  unfold val_main_v30 val_main_v29 val_main_v28 val_main_v27 val_main_v26 val_main_v25 val_main_v19 val_main_v18 val_main_cst_3 val_main_cst_8 val_main_cst_9 val_main_cst_10
  generalize val_main_v16 (F := Ideal) x0 x1 x2 = E at h
  pointwise
  rw [h]
  exact ct_eq _

/-- The loss, in every lane. -/
theorem ref_loss (p : Fin 1) (j : Fin 128) :
    (val_main_v51 (F := Ideal) x0 x1 x2 : S1x128.Idx → EReal) (ix2 p j) = loss x0 x1 x2 := by
  have h := ref_err x0 x1 x2
  unfold val_main_v51 val_main_v24 val_main_v23 val_main_v22 val_main_v21 val_main_v20 val_main_v17 val_main_cst_4 val_main_cst_5 val_main_cst_6 val_main_cst_7
  generalize val_main_v16 (F := Ideal) x0 x1 x2 = E at h
  pointwise
  simp only [h]
  unfold loss rowLoss
  exact half_sum _

/-- The gradient of the gain, as one row. -/
theorem ref_gain (p : Fin 1) (j : Fin 1024) :
    (val_main_v52 (F := Ideal) x0 x1 x2 : S1x1024.Idx → EReal) (ix2 p j) = gainGrad x0 (ct x0 x1 x2) j := by
  have h1 := fun r => ref_scale x0 r 0
  have h2 := fun r => ref_ct x0 x1 x2 r j
  unfold val_main_v52 val_main_v36 val_main_v33 val_main_v32 val_main_v31 val_main_v12 val_main_v11 val_main_cst_11 val_main_cst_12
  generalize val_main_v7 (F := Ideal) x0 = A at h1
  generalize val_main_v30 (F := Ideal) x0 x1 x2 = D at h2
  pointwise
  unfold gainGrad
  refine (Fin.sum_univ_one _).trans (Finset.sum_congr rfl fun r _ => ?_)
  rw [h1, h2, mul_comm]

/-- A row's sum against its gradients through the gain. -/
theorem ref_pull (r : Fin 8192) (k : Fin 1024) :
    (val_main_v46 (F := Ideal) x0 x1 x2 : S8192x1024.Idx → EReal) (ix2 r k)
      = meanPull (fun k => x0 (ix2 r k)) (fun k => ct x0 x1 x2 r k) (fun k => x1 (ix1 k)) := by
  have h1 := fun k => ref_ct x0 x1 x2 r k
  have h2 := fun k => ref_scale x0 r k
  have h3 := fun k => ref_meanSq x0 r k
  unfold val_main_v46 val_main_v45 val_main_v44 val_main_v43 val_main_v42 val_main_v39 val_main_v38 val_main_v37 val_main_v35 val_main_v34 val_main_v13 val_main_v10 val_main_v9 val_main_v8 val_main_cst_2 val_main_cst_13 val_main_cst_14 val_main_cst_15
  generalize val_main_v30 (F := Ideal) x0 x1 x2 = D at h1
  generalize val_main_v7 (F := Ideal) x0 = B at h2
  generalize val_main_v6 (F := Ideal) x0 = C at h3
  pointwise
  unfold meanPull
  simp only [h1, h2, h3]
  exact Fin.sum_univ_one _

/-- The gradients of the rows, in differentiation's form. -/
theorem ref_in (r : Fin 8192) (k : Fin 1024) :
    (val_main_v50 (F := Ideal) x0 x1 x2 : S8192x1024.Idx → EReal) (ix2 r k)
      = inGrad' (fun k => x0 (ix2 r k)) (fun k => ct x0 x1 x2 r k) (fun k => x1 (ix1 k)) 0 k := by
  have h1 := ref_ct x0 x1 x2 r k
  have h2 := ref_pull x0 x1 x2 r k
  have h3 := ref_scale x0 r 0
  unfold val_main_v50 val_main_v49 val_main_v48 val_main_v47 val_main_v41 val_main_v40 val_main_v35 val_main_v34 val_main_v13
  generalize val_main_v46 (F := Ideal) x0 x1 x2 = P at h2
  generalize val_main_v30 (F := Ideal) x0 x1 x2 = D at h1
  generalize val_main_v7 (F := Ideal) x0 = B at h3
  pointwise
  unfold inGrad'
  rw [h1, h2, h3, zero_add]

end Cert.Kernel8Ideal.L

end
-- ==== Proof.LClaim.lean ====
/-
The loss head's kernel and its reference leave equal losses and gradients: the value claim of the eighth pair of programs.
-/
module

public import proofs.«01_k».proof.Defs
public import proofs.«01_k».proof.Proof.LRef
public import proofs.«01_k».proof.Proof.Gen.Reference8Ideal.Run

@[expose] public section

set_option maxRecDepth 16384

noncomputable section

namespace Cert.Kernel8Ideal.L

open Idealize.ShloMosaic Idealize.ShloMosaic.TcCoe Idealize.SL.Sem Cert.Kernel8Ideal.Gen
open Cert.KernelIdeal.A (inGrad_eq)
open Cert.Reference8Ideal.Read

variable (m : (ℓ : Loc nD τ sig) → Buf (Elt Ideal) ℓ) (c : Dev nD)

/-- The kernel's loss is the reference's. -/
theorem G4_eq : G4 m c = val_main_v51 (F := Ideal) (m ((c : Thread nD τ).loc main_arg0)) (m ((c : Thread nD τ).loc main_arg1)) (m ((c : Thread nD τ).loc main_arg2)) := by
  funext i
  refine (ref_loss _ _ _ (i 0) (i 1)).symm.trans ?_
  exact congrArg _ (ix2_eta i)

/-- The kernel's gradients of the rows are the reference's. -/
theorem G5_eq : G5 m c = val_main_v50 (F := Ideal) (m ((c : Thread nD τ).loc main_arg0)) (m ((c : Thread nD τ).loc main_arg1)) (m ((c : Thread nD τ).loc main_arg2)) := by
  funext i
  refine (inGrad_eq _ _ _ _ _).trans ((ref_in _ _ _ (i 0) (i 1)).symm.trans ?_)
  exact congrArg _ (ix2_eta i)

/-- The kernel's gain gradient is the reference's. -/
theorem G6_eq : G6 m c = val_main_v52 (F := Ideal) (m ((c : Thread nD τ).loc main_arg0)) (m ((c : Thread nD τ).loc main_arg1)) (m ((c : Thread nD τ).loc main_arg2)) := by
  funext i
  refine (ref_gain _ _ _ (i 0) (i 1)).symm.trans ?_
  exact congrArg _ (ix2_eta i)

/-- On equal arguments the kernel and the reference end with equal losses and gradients, and unchanged arguments. -/
theorem algebraic : Cert.algebraic_Kernel8Ideal_Reference8Ideal := by
  intro m g m' g' _ h
  refine ⟨fun c => G4 m c, fun c => G5 m c, fun c => G6 m c, run m g, ?_⟩
  refine (θ_run Cert.Reference8Ideal.defs _ _).mono (fun r hr c => ?_) (Cert.Reference8Ideal.Value.run m' g')
  obtain ⟨h0, h1, h2⟩ := h c
  obtain ⟨r4, r5, r6, rest⟩ := hr c
  refine ⟨r4.trans ?_, r5.trans ?_, r6.trans ?_, rest⟩
  · rw [h0, h1, h2]
    exact (val_main_v51_eq _ _ _).trans (G4_eq m c).symm
  · refine (val_main_v50_eq m' c).trans ?_
    rw [h0, h1, h2]
    exact (G5_eq m c).symm
  · rw [h0, h1, h2]
    exact (val_main_v52_eq _ _ _).trans (G6_eq m c).symm

end Cert.Kernel8Ideal.L

end
-- ==== Proof.lean ====
/- The proof of the certificate: each program runs to quiescence and leaves its arguments, each idealized program
   preserves its source, and each idealized kernel computes what its idealized reference computes. -/
module

public import proofs.«01_k».proof.Defs
public import proofs.«01_k».proof.Proof.AClaim
public import proofs.«01_k».proof.Proof.WClaim
public import proofs.«01_k».proof.Proof.FClaim
public import proofs.«01_k».proof.Proof.PClaim
public import proofs.«01_k».proof.Proof.QClaim
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.OClaim
public import proofs.«01_k».proof.Proof.Gen.Pre_bounded
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.NClaim
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.LClaim
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run

@[expose] public section

noncomputable section

namespace Cert.Proof

open Idealize.ShloMosaic Idealize.SL.Sem

/-- The activation-gradient reference runs to quiescence and leaves its arguments. -/
theorem frame_ReferenceIdeal : Cert.quiescent_ReferenceIdeal := fun m ρ _ =>
  (θ_run Cert.ReferenceIdeal.defs _ _).mono (fun r h => ⟨fun c => (h c).2.2.2.2.2.2, sem_eq_zero_of_no_sems (by decide) r.2⟩) (Cert.ReferenceIdeal.Value.run m ρ)

/-- The same under the precondition. -/
theorem frame_ReferenceIdeal_finite : Cert.quiescent_ReferenceIdeal_pre_finite := fun m ρ _ =>
  frame_ReferenceIdeal m ρ trivial

/-- The weight-gradient reference runs to quiescence and leaves its arguments. -/
theorem frame_Reference2Ideal : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

/-- The feed-forward reference runs to quiescence and leaves its arguments. -/
theorem frame_Reference3Ideal : Cert.quiescent_Reference3Ideal := fun m ρ _ =>
  (θ_run Cert.Reference3Ideal.defs _ _).mono (fun r h => ⟨fun c => (h c).2.2.2.2, sem_eq_zero_of_no_sems (by decide) r.2⟩) (Cert.Reference3Ideal.Value.run m ρ)

/-- The input-projection gradient reference runs to quiescence and leaves its arguments. -/
theorem frame_Reference4Ideal : Cert.quiescent_Reference4Ideal := fun m ρ _ =>
  (θ_run Cert.Reference4Ideal.defs _ _).mono (fun r h => ⟨fun c => (h c).2.2.2, sem_eq_zero_of_no_sems (by decide) r.2⟩) (Cert.Reference4Ideal.Value.run m ρ)

/-- The input-projection reference runs to quiescence and leaves its arguments. -/
theorem frame_Reference5Ideal : Cert.quiescent_Reference5Ideal := fun m ρ _ =>
  (θ_run Cert.Reference5Ideal.defs _ _).mono (fun r h => ⟨fun c => (h c).2.2.2, sem_eq_zero_of_no_sems (by decide) r.2⟩) (Cert.Reference5Ideal.Value.run m ρ)

/-- The mixer-output gradient reference runs to quiescence and leaves its arguments. -/
theorem frame_Reference6Ideal : Cert.quiescent_Reference6Ideal := fun m ρ _ =>
  (θ_run Cert.Reference6Ideal.defs _ _).mono (fun r h => ⟨fun c => (h c).2.2.2.2.2.2, sem_eq_zero_of_no_sems (by decide) r.2⟩) (Cert.Reference6Ideal.Value.run m ρ)

/-- The same under the precondition. -/
theorem frame_Reference6Ideal_bounded : Cert.quiescent_Reference6Ideal_pre_bounded := fun m ρ _ =>
  frame_Reference6Ideal m ρ trivial

/-- The block-norm gradient reference runs to quiescence and leaves its arguments. -/
theorem frame_Reference7Ideal : Cert.quiescent_Reference7Ideal := fun m ρ _ =>
  (θ_run Cert.Reference7Ideal.defs _ _).mono (fun r h => ⟨fun c => (h c).2.2, sem_eq_zero_of_no_sems (by decide) r.2⟩) (Cert.Reference7Ideal.Value.run m ρ)

/-- The loss head reference runs to quiescence and leaves its arguments. -/
theorem frame_Reference8Ideal : Cert.quiescent_Reference8Ideal := fun m ρ _ =>
  (θ_run Cert.Reference8Ideal.defs _ _).mono (fun r h => ⟨fun c => (h c).2.2.2, sem_eq_zero_of_no_sems (by decide) r.2⟩) (Cert.Reference8Ideal.Value.run m ρ)

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.Gen.facts, Cert.Pre_bounded.Gen.facts,
  Cert.KernelIdeal.A.frame_bits,
  Cert.KernelIdeal.A.frame_ideal,
  Cert.KernelIdeal.A.frame_ideal_finite,
  frame_ReferenceIdeal,
  frame_ReferenceIdeal_finite,
  fun m ρ _ => Cert.Kernel2.Gen.frame m ρ,
  fun m ρ _ => Cert.Kernel2Ideal.Gen.frame m ρ,
  frame_Reference2Ideal,
  fun m ρ _ => Cert.Kernel3.Gen.frame m ρ,
  fun m ρ _ => Cert.Kernel3Ideal.Gen.frame m ρ,
  frame_Reference3Ideal,
  fun m ρ _ => Cert.Kernel4.Gen.frame m ρ,
  fun m ρ _ => Cert.Kernel4Ideal.Gen.frame m ρ,
  frame_Reference4Ideal,
  fun m ρ _ => Cert.Kernel5.Gen.frame m ρ,
  fun m ρ _ => Cert.Kernel5Ideal.Gen.frame m ρ,
  frame_Reference5Ideal,
  fun m ρ _ => Cert.Kernel6.Gen.frame m ρ,
  fun m ρ _ => Cert.Kernel6Ideal.Gen.frame m ρ,
  fun m ρ _ => Cert.Kernel6Ideal.Gen.frame m ρ,
  frame_Reference6Ideal,
  frame_Reference6Ideal_bounded,
  fun m ρ _ => Cert.Kernel7.Gen.frame m ρ,
  fun m ρ _ => Cert.Kernel7Ideal.Gen.frame m ρ,
  frame_Reference7Ideal,
  fun m ρ _ => Cert.Kernel8.Gen.frame m ρ,
  fun m ρ _ => Cert.Kernel8Ideal.Gen.frame m ρ,
  frame_Reference8Ideal,
  trivial,
  Cert.KernelIdeal.A.algebraic,
  trivial,
  Cert.Kernel2Ideal.W.algebraic,
  trivial,
  Cert.Kernel3Ideal.W.algebraic,
  trivial,
  Cert.Kernel4Ideal.P.algebraic,
  trivial,
  Cert.Kernel5Ideal.Q.algebraic,
  trivial,
  Cert.Kernel6Ideal.O.algebraic,
  trivial,
  Cert.Kernel7Ideal.N.algebraic,
  trivial,
  Cert.Kernel8Ideal.L.algebraic⟩

end Cert.Proof

end
